-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def preserves_Kernel_KernelIdeal : Prop :=
  IdealRules.named_const.Statement Cert.KernelIdeal.κ "scale2" .f32 0x3E0293EE#32 (((Real.log 2)⁻¹ * (11863283 / 134217728) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5_0)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5_0) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v5_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)) (v2 : (c : Dev Cert.Kernel2Ideal.nD) → Buf (Elt Ideal) ((c.tc : Thread Cert.Kernel2Ideal.nD Cert.Kernel2Ideal.τ).loc Cert.Kernel2Ideal.main_v20_2)) (v3 : (c : Dev Cert.Kernel2Ideal.nD) → Buf (Elt Ideal) ((c.tc : Thread Cert.Kernel2Ideal.nD Cert.Kernel2Ideal.τ).loc Cert.Kernel2Ideal.main_v20_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_v20_2) = v2 c
          ∧ r.2.mem ((c.tc : Thread Cert.Kernel2Ideal.nD Cert.Kernel2Ideal.τ).loc Cert.Kernel2Ideal.main_v20_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v51) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v42) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v70) = v0 c
          ∧ r.2.mem ((c.tc : Thread Cert.Reference5Ideal.nD Cert.Reference5Ideal.τ).loc Cert.Reference5Ideal.main_v72) = v1 c
          ∧ r.2.mem ((c.tc : Thread Cert.Reference5Ideal.nD Cert.Reference5Ideal.τ).loc Cert.Reference5Ideal.main_v73) = v2 c
          ∧ r.2.mem ((c.tc : Thread Cert.Reference5Ideal.nD Cert.Reference5Ideal.τ).loc Cert.Reference5Ideal.main_v74) = v3 c
          ∧ r.2.mem ((c.tc : Thread Cert.Reference5Ideal.nD Cert.Reference5Ideal.τ).loc Cert.Reference5Ideal.main_v71) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v48_0)) (v1 : (c : Dev Cert.Kernel6Ideal.nD) → Buf (Elt Ideal) ((c.tc : Thread Cert.Kernel6Ideal.nD Cert.Kernel6Ideal.τ).loc Cert.Kernel6Ideal.main_v48_1)) (v2 : (c : Dev Cert.Kernel6Ideal.nD) → Buf (Elt Ideal) ((c.tc : Thread Cert.Kernel6Ideal.nD Cert.Kernel6Ideal.τ).loc Cert.Kernel6Ideal.main_v48_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v48_0) = v0 c
          ∧ r.2.mem ((c.tc : Thread Cert.Kernel6Ideal.nD Cert.Kernel6Ideal.τ).loc Cert.Kernel6Ideal.main_v48_1) = v1 c
          ∧ r.2.mem ((c.tc : Thread Cert.Kernel6Ideal.nD Cert.Kernel6Ideal.τ).loc Cert.Kernel6Ideal.main_v48_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v274) = v0 c
          ∧ r.2.mem ((c.tc : Thread Cert.Reference6Ideal.nD Cert.Reference6Ideal.τ).loc Cert.Reference6Ideal.main_v270) = v1 c
          ∧ r.2.mem ((c.tc : Thread Cert.Reference6Ideal.nD Cert.Reference6Ideal.τ).loc Cert.Reference6Ideal.main_v248) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v18_0)) (v1 : (c : Dev Cert.Kernel7Ideal.nD) → Buf (Elt Ideal) ((c.tc : Thread Cert.Kernel7Ideal.nD Cert.Kernel7Ideal.τ).loc Cert.Kernel7Ideal.main_v18_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v18_0) = v0 c
          ∧ r.2.mem ((c.tc : Thread Cert.Kernel7Ideal.nD Cert.Kernel7Ideal.τ).loc Cert.Kernel7Ideal.main_v18_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v40) = v0 c
          ∧ r.2.mem ((c.tc : Thread Cert.Reference7Ideal.nD Cert.Reference7Ideal.τ).loc Cert.Reference7Ideal.main_v41) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v4_0)) (v1 : (c : Dev Cert.Kernel9Ideal.nD) → Buf (Elt Ideal) ((c.tc : Thread Cert.Kernel9Ideal.nD Cert.Kernel9Ideal.τ).loc Cert.Kernel9Ideal.main_v4_1)) (v2 : (c : Dev Cert.Kernel9Ideal.nD) → Buf (Elt Ideal) ((c.tc : Thread Cert.Kernel9Ideal.nD Cert.Kernel9Ideal.τ).loc Cert.Kernel9Ideal.main_v4_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4_0) = v0 c
          ∧ r.2.mem ((c.tc : Thread Cert.Kernel9Ideal.nD Cert.Kernel9Ideal.τ).loc Cert.Kernel9Ideal.main_v4_1) = v1 c
          ∧ r.2.mem ((c.tc : Thread Cert.Kernel9Ideal.nD Cert.Kernel9Ideal.τ).loc Cert.Kernel9Ideal.main_v4_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_v20) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v36_0)) (v1 : (c : Dev Cert.Kernel10Ideal.nD) → Buf (Elt Ideal) ((c.tc : Thread Cert.Kernel10Ideal.nD Cert.Kernel10Ideal.τ).loc Cert.Kernel10Ideal.main_v36_1)) (v2 : (c : Dev Cert.Kernel10Ideal.nD) → Buf (Elt Ideal) ((c.tc : Thread Cert.Kernel10Ideal.nD Cert.Kernel10Ideal.τ).loc Cert.Kernel10Ideal.main_v36_2)) (v3 : (c : Dev Cert.Kernel10Ideal.nD) → Buf (Elt Ideal) ((c.tc : Thread Cert.Kernel10Ideal.nD Cert.Kernel10Ideal.τ).loc Cert.Kernel10Ideal.main_v36_3)) (v4 : (c : Dev Cert.Kernel10Ideal.nD) → Buf (Elt Ideal) ((c.tc : Thread Cert.Kernel10Ideal.nD Cert.Kernel10Ideal.τ).loc Cert.Kernel10Ideal.main_v36_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v36_0) = v0 c
          ∧ r.2.mem ((c.tc : Thread Cert.Kernel10Ideal.nD Cert.Kernel10Ideal.τ).loc Cert.Kernel10Ideal.main_v36_1) = v1 c
          ∧ r.2.mem ((c.tc : Thread Cert.Kernel10Ideal.nD Cert.Kernel10Ideal.τ).loc Cert.Kernel10Ideal.main_v36_2) = v2 c
          ∧ r.2.mem ((c.tc : Thread Cert.Kernel10Ideal.nD Cert.Kernel10Ideal.τ).loc Cert.Kernel10Ideal.main_v36_3) = v3 c
          ∧ r.2.mem ((c.tc : Thread Cert.Kernel10Ideal.nD Cert.Kernel10Ideal.τ).loc Cert.Kernel10Ideal.main_v36_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v154) = v1 c
          ∧ r.2.mem ((c.tc : Thread Cert.Reference10Ideal.nD Cert.Reference10Ideal.τ).loc Cert.Reference10Ideal.main_v156) = v2 c
          ∧ r.2.mem ((c.tc : Thread Cert.Reference10Ideal.nD Cert.Reference10Ideal.τ).loc Cert.Reference10Ideal.main_v158) = v3 c
          ∧ r.2.mem ((c.tc : Thread Cert.Reference10Ideal.nD Cert.Reference10Ideal.τ).loc Cert.Reference10Ideal.main_v160) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v17)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v17) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4_0)) (v1 : (c : Dev Cert.Kernel13Ideal.nD) → Buf (Elt Ideal) ((c.tc : Thread Cert.Kernel13Ideal.nD Cert.Kernel13Ideal.τ).loc Cert.Kernel13Ideal.main_v4_1)) (v2 : (c : Dev Cert.Kernel13Ideal.nD) → Buf (Elt Ideal) ((c.tc : Thread Cert.Kernel13Ideal.nD Cert.Kernel13Ideal.τ).loc Cert.Kernel13Ideal.main_v4_2)) (v3 : (c : Dev Cert.Kernel13Ideal.nD) → Buf (Elt Ideal) ((c.tc : Thread Cert.Kernel13Ideal.nD Cert.Kernel13Ideal.τ).loc Cert.Kernel13Ideal.main_v4_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4_0) = v0 c
          ∧ r.2.mem ((c.tc : Thread Cert.Kernel13Ideal.nD Cert.Kernel13Ideal.τ).loc Cert.Kernel13Ideal.main_v4_1) = v1 c
          ∧ r.2.mem ((c.tc : Thread Cert.Kernel13Ideal.nD Cert.Kernel13Ideal.τ).loc Cert.Kernel13Ideal.main_v4_2) = v2 c
          ∧ r.2.mem ((c.tc : Thread Cert.Kernel13Ideal.nD Cert.Kernel13Ideal.τ).loc Cert.Kernel13Ideal.main_v4_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_v27) = v1 c
          ∧ r.2.mem ((c.tc : Thread Cert.Reference13Ideal.nD Cert.Reference13Ideal.τ).loc Cert.Reference13Ideal.main_v8) = v2 c
          ∧ r.2.mem ((c.tc : Thread Cert.Reference13Ideal.nD Cert.Reference13Ideal.τ).loc Cert.Reference13Ideal.main_v14) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v40) = v1 c
          ∧ r.2.mem ((c.tc : Thread Cert.Reference14Ideal.nD Cert.Reference14Ideal.τ).loc Cert.Reference14Ideal.main_v45) = v2 c
          ∧ r.2.mem ((c.tc : Thread Cert.Reference14Ideal.nD Cert.Reference14Ideal.τ).loc Cert.Reference14Ideal.main_v50) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v16) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x256 .f32) (main_arg2 : FVec F S4096x256 .f32) (main_arg3 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S4096x256 .f32 := Host.absf main_arg2
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  let main_c_3 : IVec S_ 1 := constantI S_ 1 1#1
  let main_v12 : IVec S_ 1 := (fun x v => Host.reduce IntOp.andi x v reducesTo_S4096x256_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_finite2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S1x1024 .f32) (main_arg3 : FVec F S1024x4096 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Pre_finite3.lean ====
abbrev S4096x1024 : Shape := ⟨2, ![4096, 1024]⟩
abbrev S4096x1536 : Shape := ⟨2, ![4096, 1536]⟩
abbrev S1x1024 : Shape := ⟨2, ![1, 1024]⟩
abbrev S1024x1536 : Shape := ⟨2, ![1024, 1536]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x1536 : S_.BroadcastsInDim S4096x1536 (![] : Fin 0 → Fin S4096x1536.rank)
  reducesTo_S4096x1536_S_d0_1 : S4096x1536.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_

variable [Facts]

def fn_part1 {F : FTy → Type} [FloatOps F] (main_v13 : IVec S_ 1) (main_v16 : IVec S1024x1536 1) : IVec S_ 1 :=
  let main_c_5 : IVec S_ 1 := constantI S_ 1 1#1
  let main_v17 : IVec S_ 1 := (fun x v => Host.reduce IntOp.andi x v reducesTo_S1024x1536_S_d0_1 h_S_) main_v16 main_c_5
  let main_v18 : IVec S_ 1 := andi main_v13 main_v17
  main_v18

def fn {F : FTy → Type} [FloatOps F] (main_arg0 : FVec F S4096x1024 .f32) (main_arg1 : FVec F S4096x1536 .f32) (main_arg2 : FVec F S4096x1024 .f32) (main_arg3 : FVec F S1x1024 .f32) (main_arg4 : FVec F S1024x1536 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1536 .f32 := Host.absf main_arg1
  let main_cst_0 : FVec F S_ .f32 := constant S_ .f32 0x7F800000#32
  let main_v5 : FVec F S4096x1536 .f32 := broadcastInDim S4096x1536 ![] bcast_S_S4096x1536 main_cst_0
  let main_v6 : IVec S4096x1536 1 := cmpf .olt main_v4 main_v5
  let main_c_1 : IVec S_ 1 := constantI S_ 1 1#1
  let main_v7 : IVec S_ 1 := (fun x v => Host.reduce IntOp.andi x v reducesTo_S4096x1536_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1536 .f32 := Host.absf main_arg4
  let main_cst_4 : FVec F S_ .f32 := constant S_ .f32 0x7F800000#32
  let main_v15 : FVec F S1024x1536 .f32 := broadcastInDim S1024x1536 ![] bcast_S_S1024x1536 main_cst_4
  let main_v16 : IVec S1024x1536 1 := cmpf .olt main_v14 main_v15
  fn_part1 (F := F) main_v13 main_v16
-- ==== Pre_finite4.lean ====
abbrev S4096x1024 : Shape := ⟨2, ![4096, 1024]⟩
abbrev S1x1024 : Shape := ⟨2, ![1, 1024]⟩
abbrev S1024x2048 : Shape := ⟨2, ![1024, 2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2048 : S_.BroadcastsInDim S1024x2048 (![] : Fin 0 → Fin S1024x2048.rank)
  reducesTo_S1024x2048_S_d0_1 : S1024x2048.ReducesTo [0, 1] S_

variable [Facts]

def fn_part1 {F : FTy → Type} [FloatOps F] (main_arg5 : FVec F S1024x2048 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x2048 .f32 := Host.absf main_arg5
  let main_cst_6 : FVec F S_ .f32 := constant S_ .f32 0x7F800000#32
  let main_v20 : FVec F S1024x2048 .f32 := broadcastInDim S1024x2048 ![] bcast_S_S1024x2048 main_cst_6
  let main_v21 : IVec S1024x2048 1 := cmpf .olt main_v19 main_v20
  let main_c_7 : IVec S_ 1 := constantI S_ 1 1#1
  let main_v22 : IVec S_ 1 := (fun x v => Host.reduce IntOp.andi x v reducesTo_S1024x2048_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x1024 .f32) (main_arg5 : FVec F S1024x2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1x1024 .f32 := Host.absf main_arg4
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_v13 main_v16
-- ==== Pre_finite5.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x1024 .f32) (main_arg5 : FVec F S1x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  main_v28

def fn {F : FTy → Type} [FloatOps F] (main_arg0 : FVec F S4096x1024 .f32) (main_arg1 : FVec F S1x1024 .f32) (main_arg2 : FVec F S1024x4096 .f32) (main_arg3 : FVec F S4096x1024 .f32) (main_arg4 : FVec F S4096x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v13 main_v16
-- ==== Pre_finite6.lean ====
abbrev S4096x1024 : Shape := ⟨2, ![4096, 1024]⟩
abbrev S1x1024 : Shape := ⟨2, ![1, 1024]⟩
abbrev S1024x1536 : Shape := ⟨2, ![1024, 1536]⟩
abbrev S4096x256 : Shape := ⟨2, ![4096, 256]⟩
abbrev S1x128 : Shape := ⟨2, ![1, 128]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1536 : S_.BroadcastsInDim S1024x1536 (![] : Fin 0 → Fin S1024x1536.rank)
  reducesTo_S1024x1536_S_d0_1 : S1024x1536.ReducesTo [0, 1] S_
  bcast_S_S4096x256 : S_.BroadcastsInDim S4096x256 (![] : Fin 0 → Fin S4096x256.rank)
  reducesTo_S4096x256_S_d0_1 : S4096x256.ReducesTo [0, 1] S_
  bcast_S_S1x128 : S_.BroadcastsInDim S1x128 (![] : Fin 0 → Fin S1x128.rank)
  reducesTo_S1x128_S_d0_1 : S1x128.ReducesTo [0, 1] S_

variable [Facts]

def fn_part2 {F : FTy → Type} [FloatOps F] (main_arg7 : FVec F S1x128 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  main_v38

def fn_part1 {F : FTy → Type} [FloatOps F] (main_arg4 : FVec F S4096x256 .f32) (main_arg5 : FVec F S4096x256 .f32) (main_arg6 : FVec F S1x128 .f32) (main_arg7 : FVec F S1x128 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x256 .f32 := Host.absf main_arg4
  let main_cst_6 : FVec F S_ .f32 := constant S_ .f32 0x7F800000#32
  let main_v20 : FVec F S4096x256 .f32 := broadcastInDim S4096x256 ![] bcast_S_S4096x256 main_cst_6
  let main_v21 : IVec S4096x256 1 := cmpf .olt main_v19 main_v20
  let main_c_7 : IVec S_ 1 := constantI S_ 1 1#1
  let main_v22 : IVec S_ 1 := (fun x v => Host.reduce IntOp.andi x v reducesTo_S4096x256_S_d0_1 h_S_) main_v21 main_c_7
  let main_v23 : IVec S_ 1 := andi main_v18 main_v22
  let main_v24 : FVec F S4096x256 .f32 := Host.absf main_arg5
  let main_cst_8 : FVec F S_ .f32 := constant S_ .f32 0x7F800000#32
  let main_v25 : FVec F S4096x256 .f32 := broadcastInDim S4096x256 ![] bcast_S_S4096x256 main_cst_8
  let main_v26 : IVec S4096x256 1 := cmpf .olt main_v24 main_v25
  let main_c_9 : IVec S_ 1 := constantI S_ 1 1#1
  let main_v27 : IVec S_ 1 := (fun x v => Host.reduce IntOp.andi x v reducesTo_S4096x256_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1x1024 .f32) (main_arg2 : FVec F S1024x1536 .f32) (main_arg3 : FVec F S4096x1024 .f32) (main_arg4 : FVec F S4096x256 .f32) (main_arg5 : FVec F S4096x256 .f32) (main_arg6 : FVec F S1x128 .f32) (main_arg7 : FVec F S1x128 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1536 .f32 := Host.absf main_arg2
  let main_cst_2 : FVec F S_ .f32 := constant S_ .f32 0x7F800000#32
  let main_v10 : FVec F S1024x1536 .f32 := broadcastInDim S1024x1536 ![] bcast_S_S1024x1536 main_cst_2
  let main_v11 : IVec S1024x1536 1 := cmpf .olt main_v9 main_v10
  let main_c_3 : IVec S_ 1 := constantI S_ 1 1#1
  let main_v12 : IVec S_ 1 := (fun x v => Host.reduce IntOp.andi x v reducesTo_S1024x1536_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Kernel.lean ====
abbrev S4096x1024 : Shape := ⟨2, ![4096, 1024]⟩
abbrev S4096x256 : Shape := ⟨2, ![4096, 256]⟩
abbrev S2048x128 : Shape := ⟨2, ![2048, 128]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩
abbrev S2048x2048 : Shape := ⟨2, ![2048, 2048]⟩

abbrev nBuf : Space → Nat
  | .hbm => 12
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S4096x1024, .bf16⟩
  | .hbm, ⟨5, _⟩ => ⟨S4096x256, .bf16⟩
  | .hbm, ⟨6, _⟩ => ⟨S4096x256, .bf16⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x256, .f32⟩
  | .hbm, ⟨11, _⟩ => ⟨S4096x256, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x2048, .bf16⟩
  | .local _ .vmem, ⟨25, _⟩ => ⟨S2048x2048, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_scratch0 : Ref sig .tc := ⟨.vmem, 24, rfl⟩
abbrev cc1_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23

abbrev nD : Nat := 1
abbrev τ : Topo := Topo.v7x

variable {F : FTy → Type} [FloatOps F]

abbrev grid0 : Pipeline.Grid := ⟨4, ![2, 2, 4, 1], ![false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]

abbrev grid1 : Pipeline.Grid := ⟨4, ![2, 2, 4, 1], ![false, false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c1_i32 : BitVec 32 := 1#32
  let v0 : BitVec 32 := Scalar.muli arg0 c1_i32
  let v1 : BitVec 32 := Scalar.addi v0 arg3
  let c4_i32 : BitVec 32 := 4#32
  let v2 : BitVec 32 := Scalar.muli arg1 c4_i32
  let v3 : BitVec 32 := Scalar.addi v2 arg2
  let c0_i32 : BitVec 32 := 0#32
  ![v1.toNat, v3.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false, false]

abbrev stage1_3 : Fin 2 → Memref sig .tc .vmem S2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true, true]

abbrev stage1_4 : Fin 2 → Memref sig .tc .vmem S2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true, true]

abbrev stage1_5 : Fin 2 → Memref sig .tc .vmem S2048x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true, true]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false, false]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false, false]
-- ==== KernelIdeal.lean ====
variable {F : FTy → Type} [FloatOps F] [Named F]
def κ : String → Option EReal := fun
  | "scale2" => some (((Real.log 2)⁻¹ * (11863283 / 134217728) : ℝ) : EReal)
  | _ => none
-- ==== ReferenceIdeal.lean ====
abbrev S4096x1024 : Shape := ⟨2, ![4096, 1024]⟩
abbrev S4096x256 : Shape := ⟨2, ![4096, 256]⟩
abbrev S2x2048x2x4x128 : Shape := ⟨5, ![2, 2048, 2, 4, 128]⟩
abbrev S2x2048x2x128 : Shape := ⟨4, ![2, 2048, 2, 128]⟩
abbrev S2x2x2048x2048x4 : Shape := ⟨5, ![2, 2, 2048, 2048, 4]⟩
abbrev S2x2x4x2048x2048 : Shape := ⟨5, ![2, 2, 4, 2048, 2048]⟩
abbrev S_ : Shape := ⟨0, ![]⟩
abbrev S2x2x4x2048 : Shape := ⟨4, ![2, 2, 4, 2048]⟩
abbrev S2x2x4x2048x1 : Shape := ⟨5, ![2, 2, 4, 2048, 1]⟩
abbrev S2x2x128x4x2048 : Shape := ⟨5, ![2, 2, 128, 4, 2048]⟩
abbrev S2x2x128x2048 : Shape := ⟨4, ![2, 2, 128, 2048]⟩
abbrev S2x2x2048x4x128 : Shape := ⟨5, ![2, 2, 2048, 4, 128]⟩
abbrev S2x2x2048x128 : Shape := ⟨4, ![2, 2, 2048, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S2x2048x2x4x128, .f32⟩
  | .hbm, ⟨5, _⟩ => ⟨S2x2048x2x128, .f32⟩
  | .hbm, ⟨6, _⟩ => ⟨S2x2048x2x128, .f32⟩
  | .hbm, ⟨7, _⟩ => ⟨S2x2x2048x2048x4, .f32⟩
  | .hbm, ⟨8, _⟩ => ⟨S2x2x4x2048x2048, .f32⟩
  | .hbm, ⟨9, _⟩ => ⟨S_, .f32⟩
  | .hbm, ⟨10, _⟩ => ⟨S2x2x4x2048x2048, .f32⟩
  | .hbm, ⟨11, _⟩ => ⟨S2x2x4x2048x2048, .f32⟩
  | .hbm, ⟨12, _⟩ => ⟨S_, .f32⟩
  | .hbm, ⟨13, _⟩ => ⟨S2x2x4x2048, .f32⟩
  | .hbm, ⟨14, _⟩ => ⟨S2x2x4x2048x1, .f32⟩
  | .hbm, ⟨15, _⟩ => ⟨S2x2x4x2048x2048, .f32⟩
  | .hbm, ⟨16, _⟩ => ⟨S2x2x4x2048x2048, .i1⟩
  | .hbm, ⟨17, _⟩ => ⟨S2x2x4x2048x2048, .f32⟩
  | .hbm, ⟨18, _⟩ => ⟨S_, .f32⟩
  | .hbm, ⟨19, _⟩ => ⟨S2x2x4x2048, .f32⟩
  | .hbm, ⟨20, _⟩ => ⟨S_, .f32⟩
  | .hbm, ⟨21, _⟩ => ⟨S2x2x4x2048, .f32⟩
  | .hbm, ⟨22, _⟩ => ⟨S2x2x4x2048, .f32⟩
  | .hbm, ⟨23, _⟩ => ⟨S_, .f32⟩
  | .hbm, ⟨24, _⟩ => ⟨S2x2x4x2048, .f32⟩
  | .hbm, ⟨25, _⟩ => ⟨S2x2x4x2048, .i1⟩
  | .hbm, ⟨26, _⟩ => ⟨S_, .f32⟩
  | .hbm, ⟨27, _⟩ => ⟨S2x2x4x2048, .f32⟩
  | .hbm, ⟨28, _⟩ => ⟨S2x2x4x2048, .i1⟩
  | .hbm, ⟨29, _⟩ => ⟨S_, .f32⟩
  | .hbm, ⟨30, _⟩ => ⟨S2x2x4x2048, .f32⟩
  | .hbm, ⟨31, _⟩ => ⟨S_, .f32⟩
  | .hbm, ⟨32, _⟩ => ⟨S2x2x4x2048, .f32⟩
  | .hbm, ⟨33, _⟩ => ⟨S_, .f32⟩
  | .hbm, ⟨34, _⟩ => ⟨S2x2x4x2048, .f32⟩
  | .hbm, ⟨35, _⟩ => ⟨S2x2x4x2048, .f32⟩
  | .hbm, ⟨36, _⟩ => ⟨S2x2x4x2048, .f32⟩
  | .hbm, ⟨37, _⟩ => ⟨S2x2x4x2048x1, .f32⟩
  | .hbm, ⟨38, _⟩ => ⟨S2x2x4x2048x2048, .f32⟩
  | .hbm, ⟨39, _⟩ => ⟨S2x2x4x2048x2048, .f32⟩
  | .hbm, ⟨40, _⟩ => ⟨S2x2x4x2048x2048, .f32⟩
  | .hbm, ⟨41, _⟩ => ⟨S_, .f32⟩
  | .hbm, ⟨42, _⟩ => ⟨S2x2x4x2048, .f32⟩
  | .hbm, ⟨43, _⟩ => ⟨S2x2x4x2048x1, .f32⟩
  | .hbm, ⟨44, _⟩ => ⟨S2x2x4x2048x2048, .f32⟩
  | .hbm, ⟨45, _⟩ => ⟨S2x2x4x2048x2048, .f32⟩
  | .hbm, ⟨46, _⟩ => ⟨S2x2x4x2048x1, .f32⟩
  | .hbm, ⟨47, _⟩ => ⟨S_, .f32⟩
  | .hbm, ⟨48, _⟩ => ⟨S2x2x4x2048x1, .f32⟩
  | .hbm, ⟨49, _⟩ => ⟨S2x2x4x2048x1, .f32⟩
  | .hbm, ⟨50, _⟩ => ⟨S2x2x128x4x2048, .f32⟩
  | .hbm, ⟨51, _⟩ => ⟨S2x2048x2x4x128, .f32⟩
  | .hbm, ⟨52, _⟩ => ⟨S4096x1024, .f32⟩
  | .hbm, ⟨53, _⟩ => ⟨S2x2048x2x4x128, .f32⟩
  | .hbm, ⟨54, _⟩ => ⟨S2x2x128x4x2048, .f32⟩
  | .hbm, ⟨55, _⟩ => ⟨S2x2x4x2048x2048, .f32⟩
  | .hbm, ⟨56, _⟩ => ⟨S2x2x128x2048, .f32⟩
  | .hbm, ⟨57, _⟩ => ⟨S2x2048x2x128, .f32⟩
  | .hbm, ⟨58, _⟩ => ⟨S2x2x4x2048x2048, .f32⟩
  | .hbm, ⟨59, _⟩ => ⟨S2x2x4x2048x2048, .f32⟩
  | .hbm, ⟨60, _⟩ => ⟨S2x2x4x2048x2048, .f32⟩
  | .hbm, ⟨61, _⟩ => ⟨S_, .f32⟩
  | .hbm, ⟨62, _⟩ => ⟨S2x2x4x2048, .f32⟩
  | .hbm, ⟨63, _⟩ => ⟨S2x2x4x2048x1, .f32⟩
  | .hbm, ⟨64, _⟩ => ⟨S2x2x4x2048x1, .f32⟩
  | .hbm, ⟨65, _⟩ => ⟨S2x2x4x2048x2048, .f32⟩
  | .hbm, ⟨66, _⟩ => ⟨S2x2x4x2048x2048, .f32⟩
  | .hbm, ⟨67, _⟩ => ⟨S_, .f32⟩
  | .hbm, ⟨68, _⟩ => ⟨S2x2x4x2048, .f32⟩
  | .hbm, ⟨69, _⟩ => ⟨S2x2x4x2048x2048, .f32⟩
  | .hbm, ⟨70, _⟩ => ⟨S2x2x4x2048x2048, .f32⟩
  | .hbm, ⟨71, _⟩ => ⟨S2x2x4x2048x2048, .f32⟩
  | .hbm, ⟨72, _⟩ => ⟨S_, .f32⟩
  | .hbm, ⟨73, _⟩ => ⟨S2x2x4x2048x2048, .f32⟩
  | .hbm, ⟨74, _⟩ => ⟨S2x2x4x2048x2048, .f32⟩
  | .hbm, ⟨75, _⟩ => ⟨S2x2x2048x2048x4, .f32⟩
  | .hbm, ⟨76, _⟩ => ⟨S2x2x2048x4x128, .f32⟩
  | .hbm, ⟨77, _⟩ => ⟨S2x2048x2x4x128, .f32⟩
  | .hbm, ⟨78, _⟩ => ⟨S2x2x2048x128, .f32⟩
  | .hbm, ⟨79, _⟩ => ⟨S2x2048x2x128, .f32⟩
  | .hbm, ⟨80, _⟩ => ⟨S4096x256, .f32⟩
  | .hbm, ⟨81, _⟩ => ⟨S4096x256, .f32⟩
  | .hbm, ⟨82, _⟩ => ⟨S4096x1024, .f32⟩
  | .hbm, ⟨83, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x8x512 : Shape := ⟨3, ![1024, 8, 512]⟩
abbrev S8x1024x512 : Shape := ⟨3, ![8, 1024, 512]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 32
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S4096x4096, .f32⟩
  | .hbm, ⟨23, _⟩ => ⟨S4096x4096, .bf16⟩
  | .hbm, ⟨24, _⟩ => ⟨S1024x4096, .bf16⟩
  | .hbm, ⟨25, _⟩ => ⟨S1024x8x512, .bf16⟩
  | .hbm, ⟨26, _⟩ => ⟨S8x1024x512, .bf16⟩
  | .hbm, ⟨27, _⟩ => ⟨S4096x1024, .bf16⟩
  | .hbm, ⟨28, _⟩ => ⟨S4096x1024, .f32⟩
  | .hbm, ⟨29, _⟩ => ⟨S4096x4096, .bf16⟩
  | .hbm, ⟨30, _⟩ => ⟨S4096x1024, .bf16⟩
  | .hbm, ⟨31, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1x1024, .f32⟩
  | .local _ .vmem, ⟨7, _⟩ => ⟨S8x1024x512, .bf16⟩
  | .local _ .vmem, ⟨8, _⟩ => ⟨S4096x1024, .bf16⟩
  | .local _ .vmem, ⟨9, _⟩ => ⟨S512x1024, .f32⟩
  | .local _ .vmem, ⟨10, _⟩ => ⟨S512x1024, .f32⟩
  | .local _ .vmem, ⟨11, _⟩ => ⟨S512x4096, .bf16⟩
  | .local _ .vmem, ⟨12, _⟩ => ⟨S512x4096, .bf16⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev main_v20_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .i1⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S4096x1024, .f32⟩
  | .hbm, ⟨72, _⟩ => ⟨S4096x4096, .bf16⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel3.lean ====
abbrev S4096x1024 : Shape := ⟨2, ![4096, 1024]⟩
abbrev S4096x1536 : Shape := ⟨2, ![4096, 1536]⟩
abbrev S1x1024 : Shape := ⟨2, ![1, 1024]⟩
abbrev S1024x1536 : Shape := ⟨2, ![1024, 1536]⟩
abbrev S1536x1024 : Shape := ⟨2, ![1536, 1024]⟩
abbrev S3x512x1024 : Shape := ⟨3, ![3, 512, 1024]⟩
abbrev S1x4096x1536 : Shape := ⟨3, ![1, 4096, 1536]⟩
abbrev S1x1024x1536 : Shape := ⟨3, ![1, 1024, 1536]⟩
abbrev S1024x1024 : Shape := ⟨2, ![1024, 1024]⟩
abbrev S1x512x512 : Shape := ⟨3, ![1, 512, 512]⟩
abbrev S512x512 : Shape := ⟨2, ![512, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x1024, .f32⟩
  | .hbm, ⟨4, _⟩ => ⟨S1024x1536, .f32⟩
  | .hbm, ⟨5, _⟩ => ⟨S1024x1536, .bf16⟩
  | .hbm, ⟨6, _⟩ => ⟨S1536x1024, .bf16⟩
  | .hbm, ⟨7, _⟩ => ⟨S3x512x1024, .bf16⟩
  | .hbm, ⟨8, _⟩ => ⟨S4096x1536, .bf16⟩
  | .hbm, ⟨9, _⟩ => ⟨S1x4096x1536, .bf16⟩
  | .hbm, ⟨10, _⟩ => ⟨S4096x1024, .f32⟩
  | .hbm, ⟨11, _⟩ => ⟨S1x1024, .f32⟩
  | .local _ .vmem, ⟨0, _⟩ => ⟨S1x1024x1536, .bf16⟩
  | .local _ .vmem, ⟨1, _⟩ => ⟨S1x1024x1536, .bf16⟩
  | .local _ .vmem, ⟨2, _⟩ => ⟨S3x512x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x1024 : Shape := ⟨2, ![4096, 1024]⟩
abbrev S4096x1536 : Shape := ⟨2, ![4096, 1536]⟩
abbrev S1x1024 : Shape := ⟨2, ![1, 1024]⟩
abbrev S1024x1536 : Shape := ⟨2, ![1024, 1536]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x1024, .f32⟩
  | .hbm, ⟨4, _⟩ => ⟨S1024x1536, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1536, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2048 : Shape := ⟨2, ![1024, 2048]⟩
abbrev S1x4096x1024 : Shape := ⟨3, ![1, 4096, 1024]⟩
abbrev S2x4096x1024 : Shape := ⟨3, ![2, 4096, 1024]⟩
abbrev S1024x8x256 : Shape := ⟨3, ![1024, 8, 256]⟩
abbrev S8x1024x256 : Shape := ⟨3, ![8, 1024, 256]⟩
abbrev S2x1024x1024 : Shape := ⟨3, ![2, 1024, 1024]⟩
abbrev S1024x1024 : Shape := ⟨2, ![1024, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x2048, .f32⟩
  | .hbm, ⟨6, _⟩ => ⟨S4096x1024, .bf16⟩
  | .hbm, ⟨7, _⟩ => ⟨S4096x1024, .bf16⟩
  | .hbm, ⟨8, _⟩ => ⟨S1x4096x1024, .bf16⟩
  | .hbm, ⟨9, _⟩ => ⟨S1x4096x1024, .bf16⟩
  | .hbm, ⟨10, _⟩ => ⟨S2x4096x1024, .bf16⟩
  | .hbm, ⟨11, _⟩ => ⟨S1024x2048, .bf16⟩
  | .hbm, ⟨12, _⟩ => ⟨S1024x8x256, .bf16⟩
  | .hbm, ⟨13, _⟩ => ⟨S8x1024x256, .bf16⟩
  | .hbm, ⟨14, _⟩ => ⟨S4096x1024, .f32⟩
  | .hbm, ⟨15, _⟩ => ⟨S1x1024, .f32⟩
  | .local _ .vmem, ⟨0, _⟩ => ⟨S2x1024x1024, .bf16⟩
  | .local _ .vmem, ⟨1, _⟩ => ⟨S2x1024x1024, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1024 : Shape := ⟨2, ![4096, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024x2048, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x2048, .f32⟩
  | .hbm, ⟨28, _⟩ => ⟨S4096x1024, .f32⟩
  | .hbm, ⟨29, _⟩ => ⟨S4096x1024, .f32⟩
  | .hbm, ⟨30, _⟩ => ⟨S4096x2048, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S1x1024, .f32⟩
  | .hbm, ⟨58, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S1x128 : Shape := ⟨2, ![1, 128]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1 : Shape := ⟨1, ![1]⟩
abbrev S1x1 : Shape := ⟨2, ![1, 1]⟩
abbrev S1024 : Shape := ⟨1, ![1024]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S4096x1024, .f32⟩
  | .hbm, ⟨11, _⟩ => ⟨S4096x4096, .bf16⟩
  | .hbm, ⟨12, _⟩ => ⟨S4096x1024, .bf16⟩
  | .hbm, ⟨13, _⟩ => ⟨S1x128, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | .local _ .vmem, ⟨14, _⟩ => ⟨S1x128, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x128 : Shape := ⟨2, ![1, 128]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S1x1024, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x1024, .f32⟩
  | .hbm, ⟨29, _⟩ => ⟨S4096x1024, .f32⟩
  | .hbm, ⟨30, _⟩ => ⟨S1024, .f32⟩
  | .hbm, ⟨31, _⟩ => ⟨S4096x1024, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S4096x1024, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S4096x4096, .bf16⟩
  | .hbm, ⟨101, _⟩ => ⟨S4096x1024, .bf16⟩
  | .hbm, ⟨102, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_cst : Ref sig .tc := ⟨.hbm, 24, rfl⟩
abbrev main_call0_v0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_cst_11 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_15 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_17 : Ref sig .tc := ⟨.hbm, 89, rfl⟩
abbrev main_v63 : Ref sig .tc := ⟨.hbm, 90, rfl⟩
abbrev main_v64 : Ref sig .tc := ⟨.hbm, 91, rfl⟩
abbrev main_cst_18 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x1536 : Shape := ⟨2, ![1024, 1536]⟩
abbrev S4096x256 : Shape := ⟨2, ![4096, 256]⟩
abbrev S1x128 : Shape := ⟨2, ![1, 128]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x1024 : Shape := ⟨2, ![1024, 1024]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S128 : Shape := ⟨1, ![128]⟩

abbrev nBuf : Space → Nat
  | .hbm => 102
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S1x128, .f32⟩
  | .hbm, ⟨7, _⟩ => ⟨S1x128, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S1024x1536, .bf16⟩
  | .hbm, ⟨25, _⟩ => ⟨S4096x1536, .f32⟩
  | .hbm, ⟨26, _⟩ => ⟨S2048, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S2048, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S_, .i32⟩
  | .hbm, ⟨55, _⟩ => ⟨S2048, .i32⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i1⟩
  | .hbm, ⟨60, _⟩ => ⟨S_, .i32⟩
  | .hbm, ⟨61, _⟩ => ⟨S_, .i1⟩
  | .hbm, ⟨62, _⟩ => ⟨S2048, .i1⟩
  | .hbm, ⟨63, _⟩ => ⟨S2048, .i1⟩
  | .hbm, ⟨64, _⟩ => ⟨S2048, .i1⟩
  | .hbm, ⟨65, _⟩ => ⟨S2048, .i32⟩
  | .hbm, ⟨66, _⟩ => ⟨S2048, .i32⟩
  | .hbm, ⟨67, _⟩ => ⟨S2048, .i32⟩
  | .hbm, ⟨68, _⟩ => ⟨S2048, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S2048x1, .f32⟩
  | .hbm, ⟨78, _⟩ => ⟨S1x32, .f32⟩
  | .hbm, ⟨79, _⟩ => ⟨S2048x32, .f32⟩
  | .hbm, ⟨80, _⟩ => ⟨S2048x32, .f32⟩
  | .hbm, ⟨81, _⟩ => ⟨S2048x32, .f32⟩
  | .hbm, ⟨82, _⟩ => ⟨S2048x1, .f32⟩
  | .hbm, ⟨83, _⟩ => ⟨S1x32, .f32⟩
  | .hbm, ⟨84, _⟩ => ⟨S2048x32, .f32⟩
  | .hbm, ⟨85, _⟩ => ⟨S2048x32, .f32⟩
  | .hbm, ⟨86, _⟩ => ⟨S2048x32, .f32⟩
  | .hbm, ⟨87, _⟩ => ⟨S2048x32, .f32⟩
  | .hbm, ⟨88, _⟩ => ⟨S2048x32, .f32⟩
  | .hbm, ⟨89, _⟩ => ⟨S2048x32, .f32⟩
  | .hbm, ⟨90, _⟩ => ⟨S2048x32, .f32⟩
  | .hbm, ⟨91, _⟩ => ⟨S2048x128, .f32⟩
  | .hbm, ⟨92, _⟩ => ⟨S2048x32, .f32⟩
  | .hbm, ⟨93, _⟩ => ⟨S2048x32, .f32⟩
  | .hbm, ⟨94, _⟩ => ⟨S2048x32, .f32⟩
  | .hbm, ⟨95, _⟩ => ⟨S2048x32, .f32⟩
  | .hbm, ⟨96, _⟩ => ⟨S2048x32, .f32⟩
  | .hbm, ⟨97, _⟩ => ⟨S2048x32, .f32⟩
  | .hbm, ⟨98, _⟩ => ⟨S2048x128, .f32⟩
  | .hbm, ⟨99, _⟩ => ⟨S4096x1536, .bf16⟩
  | .hbm, ⟨100, _⟩ => ⟨S1x128, .f32⟩
  | .hbm, ⟨101, _⟩ => ⟨S1x128, .f32⟩
  | .local _ .vmem, ⟨0, _⟩ => ⟨S1024x1536, .f32⟩
  | .local _ .vmem, ⟨1, _⟩ => ⟨S1024x1536, .f32⟩
  | .local _ .vmem, ⟨2, _⟩ => ⟨S1024x1024, .f32⟩
  | .local _ .vmem, ⟨3, _⟩ => ⟨S1024x1024, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x1536, .bf16⟩
  | .local _ .vmem, ⟨15, _⟩ => ⟨S1024x1536, .bf16⟩
  | .local _ .vmem, ⟨16, _⟩ => ⟨S1x128, .f32⟩
  | .local _ .vmem, ⟨17, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_v17 : Ref sig .tc := ⟨.hbm, 45, rfl⟩
abbrev main_c_2 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_cst_3 : Ref sig .tc := ⟨.hbm, 71, rfl⟩
abbrev main_v22 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48_0 : Ref sig .tc := ⟨.hbm, 99, rfl⟩
abbrev main_v48_1 : Ref sig .tc := ⟨.hbm, 100, rfl⟩
abbrev main_v48_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference6Ideal.lean ====
abbrev S4096x1024 : Shape := ⟨2, ![4096, 1024]⟩
abbrev S1x1024 : Shape := ⟨2, ![1, 1024]⟩
abbrev S1024x1536 : Shape := ⟨2, ![1024, 1536]⟩
abbrev S4096x256 : Shape := ⟨2, ![4096, 256]⟩
abbrev S1x128 : Shape := ⟨2, ![1, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S2x2048x1536 : Shape := ⟨3, ![2, 2048, 1536]⟩
abbrev S2x2048x1024 : Shape := ⟨3, ![2, 2048, 1024]⟩
abbrev S2x2048x256 : Shape := ⟨3, ![2, 2048, 256]⟩
abbrev S2x2048x8x128 : Shape := ⟨4, ![2, 2048, 8, 128]⟩
abbrev S128 : Shape := ⟨1, ![128]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x2048x2x128 : Shape := ⟨4, ![2, 2048, 2, 128]⟩
abbrev S2x2048x2 : Shape := ⟨3, ![2, 2048, 2]⟩
abbrev S2x2048x2x1 : Shape := ⟨4, ![2, 2048, 2, 1]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2x2048x8x64 : Shape := ⟨4, ![2, 2048, 8, 64]⟩
abbrev S2x2048x8x32 : Shape := ⟨4, ![2, 2048, 8, 32]⟩
abbrev S1x2048x1x32 : Shape := ⟨4, ![1, 2048, 1, 32]⟩
abbrev S2x2048x2x64 : Shape := ⟨4, ![2, 2048, 2, 64]⟩
abbrev S2x2048x2x32 : Shape := ⟨4, ![2, 2048, 2, 32]⟩

abbrev nBuf : Space → Nat
  | .hbm => 306
  | .vmem => 0
  | .smem => 0
  | _ => 0

abbrev hbmTy0_0 (i : Nat) : BufTy := match i % 128 with
  | 0 => ⟨S4096x1024, .f32⟩
  | 1 => ⟨S1x1024, .f32⟩
  | 2 => ⟨S1024x1536, .f32⟩
  | 3 => ⟨S4096x1024, .f32⟩
  | 4 => ⟨S4096x256, .f32⟩
  | 5 => ⟨S4096x256, .f32⟩
  | 6 => ⟨S1x128, .f32⟩
  | 7 => ⟨S1x128, .f32⟩
  | 8 => ⟨S1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x1536, .f32⟩
  | 26 => ⟨S2x2048x1536, .f32⟩
  | 27 => ⟨S2x2048x1024, .f32⟩
  | 28 => ⟨S2x2048x256, .f32⟩
  | 29 => ⟨S2x2048x256, .f32⟩
  | 30 => ⟨S2x2048x8x128, .f32⟩
  | 31 => ⟨S128, .f32⟩
  | 32 => ⟨S2x2048x8x128, .f32⟩
  | 33 => ⟨S_, .f32⟩
  | 34 => ⟨S2x2048x8, .f32⟩
  | 35 => ⟨S2x2048x8x1, .f32⟩
  | 36 => ⟨S_, .f32⟩
  | 37 => ⟨S2x2048x8x1, .f32⟩
  | 38 => ⟨S2x2048x8x1, .f32⟩
  | 39 => ⟨S_, .f32⟩
  | 40 => ⟨S2x2048x8x1, .f32⟩
  | 41 => ⟨S2x2048x8x1, .f32⟩
  | 42 => ⟨S2x2048x8x1, .f32⟩
  | 43 => ⟨S2x2048x8x1, .f32⟩
  | 44 => ⟨S_, .f32⟩
  | 45 => ⟨S2x2048x8x1, .f32⟩
  | 46 => ⟨S2x2048x8x1, .f32⟩
  | 47 => ⟨S2x2048x8x128, .f32⟩
  | 48 => ⟨S2x2048x8x128, .f32⟩
  | 49 => ⟨S1x1x1x128, .f32⟩
  | 50 => ⟨S2x2048x8x128, .f32⟩
  | 51 => ⟨S2x2048x8x128, .f32⟩
  | 52 => ⟨S2x2048x2x128, .f32⟩
  | 53 => ⟨S128, .f32⟩
  | 54 => ⟨S2x2048x2x128, .f32⟩
  | 55 => ⟨S_, .f32⟩
  | 56 => ⟨S2x2048x2, .f32⟩
  | 57 => ⟨S2x2048x2x1, .f32⟩
  | 58 => ⟨S_, .f32⟩
  | 59 => ⟨S2x2048x2x1, .f32⟩
  | 60 => ⟨S2x2048x2x1, .f32⟩
  | 61 => ⟨S_, .f32⟩
  | 62 => ⟨S2x2048x2x1, .f32⟩
  | 63 => ⟨S2x2048x2x1, .f32⟩
  | 64 => ⟨S2x2048x2x1, .f32⟩
  | 65 => ⟨S2x2048x2x1, .f32⟩
  | 66 => ⟨S_, .f32⟩
  | 67 => ⟨S2x2048x2x1, .f32⟩
  | 68 => ⟨S2x2048x2x1, .f32⟩
  | 69 => ⟨S2x2048x2x128, .f32⟩
  | 70 => ⟨S2x2048x2x128, .f32⟩
  | 71 => ⟨S1x1x1x128, .f32⟩
  | 72 => ⟨S2x2048x2x128, .f32⟩
  | 73 => ⟨S2x2048x2x128, .f32⟩
  | 74 => ⟨S32, .f32⟩
  | 75 => ⟨S32x64, .f32⟩
  | 76 => ⟨S2048, .f32⟩
  | 77 => ⟨S64, .f32⟩
  | 78 => ⟨S1x64, .f32⟩
  | 79 => ⟨S32x64, .f32⟩
  | 80 => ⟨S2048, .f32⟩
  | 81 => ⟨S32, .f32⟩
  | 82 => ⟨S32, .f32⟩
  | 83 => ⟨S_, .f32⟩
  | 84 => ⟨S32, .f32⟩
  | 85 => ⟨S32, .f32⟩
  | 86 => ⟨S_, .f32⟩
  | 87 => ⟨S32, .f32⟩
  | 88 => ⟨S32, .f32⟩
  | 89 => ⟨S2048x1, .f32⟩
  | 90 => ⟨S1x32, .f32⟩
  | 91 => ⟨S2048x32, .f32⟩
  | 92 => ⟨S2048x32, .f32⟩
  | 93 => ⟨S2048x32, .f32⟩
  | 94 => ⟨S2048x1, .f32⟩
  | 95 => ⟨S1x32, .f32⟩
  | 96 => ⟨S2048x32, .f32⟩
  | 97 => ⟨S2048x32, .f32⟩
  | 98 => ⟨S2048x32, .f32⟩
  | 99 => ⟨S2048x32, .f32⟩
  | 100 => ⟨S2048x1x32, .f32⟩
  | 101 => ⟨S2048x32, .f32⟩
  | 102 => ⟨S2048x1x32, .f32⟩
  | 103 => ⟨S2048x32, .f32⟩
  | 104 => ⟨S2048x1x32, .f32⟩
  | 105 => ⟨S2048x32, .f32⟩
  | 106 => ⟨S2048x1x32, .f32⟩
  | 107 => ⟨S2x2048x8x64, .f32⟩
  | 108 => ⟨S2x2048x8x64, .f32⟩
  | 109 => ⟨S2x2048x8x32, .f32⟩
  | 110 => ⟨S2x2048x8x32, .f32⟩
  | 111 => ⟨S1x2048x1x32, .f32⟩
  | 112 => ⟨S2x2048x8x32, .f32⟩
  | 113 => ⟨S2x2048x8x32, .f32⟩
  | 114 => ⟨S1x2048x1x32, .f32⟩
  | 115 => ⟨S2x2048x8x32, .f32⟩
  | 116 => ⟨S2x2048x8x32, .f32⟩
  | 117 => ⟨S2x2048x8x32, .f32⟩
  | 118 => ⟨S1x2048x1x32, .f32⟩
  | 119 => ⟨S2x2048x8x32, .f32⟩
  | 120 => ⟨S2x2048x8x32, .f32⟩
  | 121 => ⟨S1x2048x1x32, .f32⟩
  | 122 => ⟨S2x2048x8x32, .f32⟩
  | 123 => ⟨S2x2048x8x32, .f32⟩
  | 124 => ⟨S2x2048x8x32, .f32⟩
  | 125 => ⟨S2x2048x8x64, .f32⟩
  | 126 => ⟨S2x2048x8x32, .f32⟩
  | 127 => ⟨S2x2048x8x32, .f32⟩
  | _ => ⟨S4096x1024, .f32⟩

abbrev hbmTy0_1 (i : Nat) : BufTy := match i % 128 with
  | 0 => ⟨S1x2048x1x32, .f32⟩
  | 1 => ⟨S2x2048x8x32, .f32⟩
  | 2 => ⟨S2x2048x8x32, .f32⟩
  | 3 => ⟨S1x2048x1x32, .f32⟩
  | 4 => ⟨S2x2048x8x32, .f32⟩
  | 5 => ⟨S2x2048x8x32, .f32⟩
  | 6 => ⟨S2x2048x8x32, .f32⟩
  | 7 => ⟨S1x2048x1x32, .f32⟩
  | 8 => ⟨S2x2048x8x32, .f32⟩
  | 9 => ⟨S2x2048x8x32, .f32⟩
  | 10 => ⟨S1x2048x1x32, .f32⟩
  | 11 => ⟨S2x2048x8x32, .f32⟩
  | 12 => ⟨S2x2048x8x32, .f32⟩
  | 13 => ⟨S2x2048x8x32, .f32⟩
  | 14 => ⟨S2x2048x8x64, .f32⟩
  | 15 => ⟨S2x2048x8x128, .f32⟩
  | 16 => ⟨S2x2048x2x64, .f32⟩
  | 17 => ⟨S2x2048x2x64, .f32⟩
  | 18 => ⟨S2x2048x2x32, .f32⟩
  | 19 => ⟨S2x2048x2x32, .f32⟩
  | 20 => ⟨S1x2048x1x32, .f32⟩
  | 21 => ⟨S2x2048x2x32, .f32⟩
  | 22 => ⟨S2x2048x2x32, .f32⟩
  | 23 => ⟨S1x2048x1x32, .f32⟩
  | 24 => ⟨S2x2048x2x32, .f32⟩
  | 25 => ⟨S2x2048x2x32, .f32⟩
  | 26 => ⟨S2x2048x2x32, .f32⟩
  | 27 => ⟨S1x2048x1x32, .f32⟩
  | 28 => ⟨S2x2048x2x32, .f32⟩
  | 29 => ⟨S2x2048x2x32, .f32⟩
  | 30 => ⟨S1x2048x1x32, .f32⟩
  | 31 => ⟨S2x2048x2x32, .f32⟩
  | 32 => ⟨S2x2048x2x32, .f32⟩
  | 33 => ⟨S2x2048x2x32, .f32⟩
  | 34 => ⟨S2x2048x2x64, .f32⟩
  | 35 => ⟨S2x2048x2x32, .f32⟩
  | 36 => ⟨S2x2048x2x32, .f32⟩
  | 37 => ⟨S1x2048x1x32, .f32⟩
  | 38 => ⟨S2x2048x2x32, .f32⟩
  | 39 => ⟨S2x2048x2x32, .f32⟩
  | 40 => ⟨S1x2048x1x32, .f32⟩
  | 41 => ⟨S2x2048x2x32, .f32⟩
  | 42 => ⟨S2x2048x2x32, .f32⟩
  | 43 => ⟨S2x2048x2x32, .f32⟩
  | 44 => ⟨S1x2048x1x32, .f32⟩
  | 45 => ⟨S2x2048x2x32, .f32⟩
  | 46 => ⟨S2x2048x2x32, .f32⟩
  | 47 => ⟨S1x2048x1x32, .f32⟩
  | 48 => ⟨S2x2048x2x32, .f32⟩
  | 49 => ⟨S2x2048x2x32, .f32⟩
  | 50 => ⟨S2x2048x2x32, .f32⟩
  | 51 => ⟨S2x2048x2x64, .f32⟩
  | 52 => ⟨S2x2048x2x128, .f32⟩
  | 53 => ⟨S4096x1024, .f32⟩
  | 54 => ⟨S4096x256, .f32⟩
  | 55 => ⟨S4096x256, .f32⟩
  | 56 => ⟨S2x2048x256, .f32⟩
  | 57 => ⟨S2x2048x2x128, .f32⟩
  | 58 => ⟨S2x2048x8x128, .f32⟩
  | 59 => ⟨S2x2048x2x64, .f32⟩
  | 60 => ⟨S2x2048x2x64, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x32, .f32⟩
  | 71 => ⟨S2x2048x2x32, .f32⟩
  | 72 => ⟨S2x2048x2x32, .f32⟩
  | 73 => ⟨S2x2048x2x32, .f32⟩
  | 74 => ⟨S2x2048x2x64, .f32⟩
  | 75 => ⟨S2x2048x2x32, .f32⟩
  | 76 => ⟨S2x2048x2x32, .f32⟩
  | 77 => ⟨S2x2048x2x32, .f32⟩
  | 78 => ⟨S2x2048x2x32, .f32⟩
  | 79 => ⟨S2x2048x2x32, .f32⟩
  | 80 => ⟨S2x2048x2x32, .f32⟩
  | 81 => ⟨S2x2048x2x32, .f32⟩
  | 82 => ⟨S2x2048x2x32, .f32⟩
  | 83 => ⟨S2x2048x2x32, .f32⟩
  | 84 => ⟨S2x2048x2x32, .f32⟩
  | 85 => ⟨S2x2048x2x32, .f32⟩
  | 86 => ⟨S2x2048x2x32, .f32⟩
  | 87 => ⟨S2x2048x2x32, .f32⟩
  | 88 => ⟨S2x2048x2x64, .f32⟩
  | 89 => ⟨S2x2048x2x128, .f32⟩
  | 90 => ⟨S2x2048x8x64, .f32⟩
  | 91 => ⟨S2x2048x8x64, .f32⟩
  | 92 => ⟨S2x2048x8x32, .f32⟩
  | 93 => ⟨S2x2048x8x32, .f32⟩
  | 94 => ⟨S2x2048x8x32, .f32⟩
  | 95 => ⟨S2x2048x8x32, .f32⟩
  | 96 => ⟨S2x2048x8x32, .f32⟩
  | 97 => ⟨S2x2048x8x32, .f32⟩
  | 98 => ⟨S2x2048x8x32, .f32⟩
  | 99 => ⟨S2x2048x8x32, .f32⟩
  | 100 => ⟨S2x2048x8x32, .f32⟩
  | 101 => ⟨S2x2048x8x32, .f32⟩
  | 102 => ⟨S2x2048x8x32, .f32⟩
  | 103 => ⟨S2x2048x8x32, .f32⟩
  | 104 => ⟨S2x2048x8x32, .f32⟩
  | 105 => ⟨S2x2048x8x64, .f32⟩
  | 106 => ⟨S2x2048x8x32, .f32⟩
  | 107 => ⟨S2x2048x8x32, .f32⟩
  | 108 => ⟨S2x2048x8x32, .f32⟩
  | 109 => ⟨S2x2048x8x32, .f32⟩
  | 110 => ⟨S2x2048x8x32, .f32⟩
  | 111 => ⟨S2x2048x8x32, .f32⟩
  | 112 => ⟨S2x2048x8x32, .f32⟩
  | 113 => ⟨S2x2048x8x32, .f32⟩
  | 114 => ⟨S2x2048x8x32, .f32⟩
  | 115 => ⟨S2x2048x8x32, .f32⟩
  | 116 => ⟨S2x2048x8x32, .f32⟩
  | 117 => ⟨S2x2048x8x32, .f32⟩
  | 118 => ⟨S2x2048x8x32, .f32⟩
  | 119 => ⟨S2x2048x8x64, .f32⟩
  | 120 => ⟨S2x2048x8x128, .f32⟩
  | 121 => ⟨S2x2048x2x128, .f32⟩
  | 122 => ⟨S_, .f32⟩
  | 123 => ⟨S128, .f32⟩
  | 124 => ⟨S1x1x1x128, .f32⟩
  | 125 => ⟨S2x2048x2x128, .f32⟩
  | 126 => ⟨S2x2048x2x128, .f32⟩
  | 127 => ⟨S_, .f32⟩
  | _ => ⟨S4096x1024, .f32⟩

abbrev hbmTy0_2 (i : Nat) : BufTy := match i % 128 with
  | 0 => ⟨S128, .f32⟩
  | 1 => ⟨S2x2048x2x128, .f32⟩
  | 2 => ⟨S_, .f32⟩
  | 3 => ⟨S2x2048x2, .f32⟩
  | 4 => ⟨S2x2048x2x1, .f32⟩
  | 5 => ⟨S2x2048x2x128, .f32⟩
  | 6 => ⟨S2x2048x2x128, .f32⟩
  | 7 => ⟨S2x2048x2x1, .f32⟩
  | 8 => ⟨S_, .f32⟩
  | 9 => ⟨S2x2048x2x1, .f32⟩
  | 10 => ⟨S2x2048x2x1, .f32⟩
  | 11 => ⟨S_, .f32⟩
  | 12 => ⟨S2x2048x2, .f32⟩
  | 13 => ⟨S2x2048x2x128, .f32⟩
  | 14 => ⟨S2x2048x2x128, .f32⟩
  | 15 => ⟨S2x2048x2x128, .f32⟩
  | 16 => ⟨S2x2048x2x128, .f32⟩
  | 17 => ⟨S2x2048x2x128, .f32⟩
  | 18 => ⟨S1x128, .f32⟩
  | 19 => ⟨S2x2048x256, .f32⟩
  | 20 => ⟨S2x2048x8x128, .f32⟩
  | 21 => ⟨S_, .f32⟩
  | 22 => ⟨S128, .f32⟩
  | 23 => ⟨S1x1x1x128, .f32⟩
  | 24 => ⟨S2x2048x8x128, .f32⟩
  | 25 => ⟨S2x2048x8x128, .f32⟩
  | 26 => ⟨S_, .f32⟩
  | 27 => ⟨S128, .f32⟩
  | 28 => ⟨S2x2048x8x128, .f32⟩
  | 29 => ⟨S_, .f32⟩
  | 30 => ⟨S2x2048x8, .f32⟩
  | 31 => ⟨S2x2048x8x1, .f32⟩
  | 32 => ⟨S2x2048x8x128, .f32⟩
  | 33 => ⟨S2x2048x8x128, .f32⟩
  | 34 => ⟨S2x2048x8x1, .f32⟩
  | 35 => ⟨S_, .f32⟩
  | 36 => ⟨S2x2048x8x1, .f32⟩
  | 37 => ⟨S2x2048x8x1, .f32⟩
  | 38 => ⟨S_, .f32⟩
  | 39 => ⟨S2x2048x8, .f32⟩
  | 40 => ⟨S2x2048x8x128, .f32⟩
  | 41 => ⟨S2x2048x8x128, .f32⟩
  | 42 => ⟨S2x2048x8x128, .f32⟩
  | 43 => ⟨S2x2048x8x128, .f32⟩
  | 44 => ⟨S2x2048x8x128, .f32⟩
  | 45 => ⟨S1x128, .f32⟩
  | 46 => ⟨S2x2048x1024, .f32⟩
  | 47 => ⟨S2x2048x1536, .f32⟩
  | 48 => ⟨S4096x1536, .f32⟩
  | 49 => ⟨S4096x1536, .bf16⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_10 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_cst_12 : Ref sig .tc := ⟨.hbm, 250, rfl⟩
abbrev main_v229 : Ref sig .tc := ⟨.hbm, 251, rfl⟩
abbrev main_v230 : Ref sig .tc := ⟨.hbm, 252, rfl⟩
abbrev main_v231 : Ref sig .tc := ⟨.hbm, 253, rfl⟩
abbrev main_v232 : Ref sig .tc := ⟨.hbm, 254, rfl⟩
abbrev main_cst_13 : Ref sig .tc := ⟨.hbm, 255, rfl⟩
abbrev main_v233 : Ref sig .tc := ⟨.hbm, 256, rfl⟩
abbrev main_v234 : Ref sig .tc := ⟨.hbm, 257, rfl⟩
abbrev main_cst_14 : Ref sig .tc := ⟨.hbm, 258, rfl⟩
abbrev main_v235 : Ref sig .tc := ⟨.hbm, 259, rfl⟩
abbrev main_v236 : Ref sig .tc := ⟨.hbm, 260, rfl⟩
abbrev main_v237 : Ref sig .tc := ⟨.hbm, 261, rfl⟩
abbrev main_v238 : Ref sig .tc := ⟨.hbm, 262, rfl⟩
abbrev main_v239 : Ref sig .tc := ⟨.hbm, 263, rfl⟩
abbrev main_cst_15 : Ref sig .tc := ⟨.hbm, 264, rfl⟩
abbrev main_v240 : Ref sig .tc := ⟨.hbm, 265, rfl⟩
abbrev main_v241 : Ref sig .tc := ⟨.hbm, 266, rfl⟩
abbrev main_cst_16 : Ref sig .tc := ⟨.hbm, 267, rfl⟩
abbrev main_v242 : Ref sig .tc := ⟨.hbm, 268, rfl⟩
abbrev main_v243 : Ref sig .tc := ⟨.hbm, 269, rfl⟩
abbrev main_v244 : Ref sig .tc := ⟨.hbm, 270, rfl⟩
abbrev main_v245 : Ref sig .tc := ⟨.hbm, 271, rfl⟩
abbrev main_v246 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_cst_17 : Ref sig .tc := ⟨.hbm, 277, rfl⟩
abbrev main_v251 : Ref sig .tc := ⟨.hbm, 278, rfl⟩
abbrev main_v252 : Ref sig .tc := ⟨.hbm, 279, rfl⟩
abbrev main_v253 : Ref sig .tc := ⟨.hbm, 280, rfl⟩
abbrev main_v254 : Ref sig .tc := ⟨.hbm, 281, rfl⟩
abbrev main_cst_18 : Ref sig .tc := ⟨.hbm, 282, rfl⟩
abbrev main_v255 : Ref sig .tc := ⟨.hbm, 283, rfl⟩
abbrev main_v256 : Ref sig .tc := ⟨.hbm, 284, rfl⟩
abbrev main_cst_19 : Ref sig .tc := ⟨.hbm, 285, rfl⟩
abbrev main_v257 : Ref sig .tc := ⟨.hbm, 286, rfl⟩
abbrev main_v258 : Ref sig .tc := ⟨.hbm, 287, rfl⟩
abbrev main_v259 : Ref sig .tc := ⟨.hbm, 288, rfl⟩
abbrev main_v260 : Ref sig .tc := ⟨.hbm, 289, rfl⟩
abbrev main_v261 : Ref sig .tc := ⟨.hbm, 290, rfl⟩
abbrev main_cst_20 : Ref sig .tc := ⟨.hbm, 291, rfl⟩
abbrev main_v262 : Ref sig .tc := ⟨.hbm, 292, rfl⟩
abbrev main_v263 : Ref sig .tc := ⟨.hbm, 293, rfl⟩
abbrev main_cst_21 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_v267 : Ref sig .tc := ⟨.hbm, 298, rfl⟩
abbrev main_v268 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_v272 : Ref sig .tc := ⟨.hbm, 303, rfl⟩
abbrev main_v273 : Ref sig .tc := ⟨.hbm, 304, rfl⟩
abbrev main_v274 : Ref sig .tc := ⟨.hbm, 305, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S4096x512 : Shape := ⟨2, ![4096, 512]⟩
abbrev S1x1024x512 : Shape := ⟨3, ![1, 1024, 512]⟩
abbrev S512x1024 : Shape := ⟨2, ![512, 1024]⟩
abbrev S1024x1024 : Shape := ⟨2, ![1024, 1024]⟩
abbrev S1024x512 : Shape := ⟨2, ![1024, 512]⟩

abbrev nBuf : Space → Nat
  | .hbm => 28
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S1024x4096, .bf16⟩
  | .hbm, ⟨22, _⟩ => ⟨S4096x4096, .f32⟩
  | .hbm, ⟨23, _⟩ => ⟨S4096x4096, .bf16⟩
  | .hbm, ⟨24, _⟩ => ⟨S4096x4096, .bf16⟩
  | .hbm, ⟨25, _⟩ => ⟨S4096x1024, .bf16⟩
  | .hbm, ⟨26, _⟩ => ⟨S8x1024x512, .bf16⟩
  | .hbm, ⟨27, _⟩ => ⟨S4096x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18_0 : Ref sig .tc := ⟨.hbm, 26, rfl⟩
abbrev main_v18_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4096x1024 : Shape := ⟨2, ![4096, 1024]⟩
abbrev S1x1024 : Shape := ⟨2, ![1, 1024]⟩
abbrev S1024x4096 : Shape := ⟨2, ![1024, 4096]⟩
abbrev S4096x4096 : Shape := ⟨2, ![4096, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x8x512 : Shape := ⟨3, ![1024, 8, 512]⟩
abbrev S8x1024x512 : Shape := ⟨3, ![8, 1024, 512]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x4096, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x4096, .f32⟩
  | .hbm, ⟨23, _⟩ => ⟨S4096x1024, .f32⟩
  | .hbm, ⟨24, _⟩ => ⟨S1024x4096, .f32⟩
  | .hbm, ⟨25, _⟩ => ⟨S_, .f32⟩
  | .hbm, ⟨26, _⟩ => ⟨S4096x1024, .f32⟩
  | .hbm, ⟨27, _⟩ => ⟨S1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x1024, .f32⟩
  | .hbm, ⟨50, _⟩ => ⟨S1024x4096, .f32⟩
  | .hbm, ⟨51, _⟩ => ⟨S4096x1024, .f32⟩
  | .hbm, ⟨52, _⟩ => ⟨S1024x8x512, .f32⟩
  | .hbm, ⟨53, _⟩ => ⟨S8x1024x512, .f32⟩
  | .hbm, ⟨54, _⟩ => ⟨S8x1024x512, .bf16⟩
  | .hbm, ⟨55, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_cst : Ref sig .tc := ⟨.hbm, 45, rfl⟩
abbrev main_call0_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S4096x2048 : Shape := ⟨2, ![4096, 2048]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1024x2048, .bf16⟩
  | .hbm, ⟨4, _⟩ => ⟨S1024x8x256, .bf16⟩
  | .hbm, ⟨5, _⟩ => ⟨S8x1024x256, .bf16⟩
  | .hbm, ⟨6, _⟩ => ⟨S4096x2048, .f32⟩
  | .hbm, ⟨7, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S8x1024x256, .bf16⟩
  | .local _ .vmem, ⟨4, _⟩ => ⟨S1024x2048, .f32⟩
  | .local _ .vmem, ⟨5, _⟩ => ⟨S1024x2048, .f32⟩
  | .local _ .vmem, ⟨6, _⟩ => ⟨S1024x1024, .bf16⟩
  | .local _ .vmem, ⟨7, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference8Ideal.lean ====
abbrev S4096x1024 : Shape := ⟨2, ![4096, 1024]⟩
abbrev S1x1024 : Shape := ⟨2, ![1, 1024]⟩
abbrev S1024x2048 : Shape := ⟨2, ![1024, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S1024x4096 : Shape := ⟨2, ![1024, 4096]⟩
abbrev S1024x8x512 : Shape := ⟨3, ![1024, 8, 512]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024x4096, .bf16⟩
  | .hbm, ⟨5, _⟩ => ⟨S1024x8x512, .bf16⟩
  | .hbm, ⟨6, _⟩ => ⟨S8x1024x512, .bf16⟩
  | .hbm, ⟨7, _⟩ => ⟨S4096x1024, .bf16⟩
  | .hbm, ⟨8, _⟩ => ⟨S4096x1024, .f32⟩
  | .hbm, ⟨9, _⟩ => ⟨S4096x4096, .bf16⟩
  | .hbm, ⟨10, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S8x1024x512, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | .local _ .vmem, ⟨8, _⟩ => ⟨S512x4096, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1x1024 : Shape := ⟨2, ![1, 1024]⟩
abbrev S1024x4096 : Shape := ⟨2, ![1024, 4096]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x1024, .f32⟩
  | .hbm, ⟨27, _⟩ => ⟨S4096x1024, .f32⟩
  | .hbm, ⟨28, _⟩ => ⟨S4096x4096, .bf16⟩
  | .hbm, ⟨29, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_cst : Ref sig .tc := ⟨.hbm, 22, rfl⟩
abbrev main_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S1024x1536 : Shape := ⟨2, ![1024, 1536]⟩
abbrev S1x128 : Shape := ⟨2, ![1, 128]⟩
abbrev S1536x1024 : Shape := ⟨2, ![1536, 1024]⟩
abbrev S3x512x1024 : Shape := ⟨3, ![3, 512, 1024]⟩
abbrev S2048 : Shape := ⟨1, ![2048]⟩
abbrev S_ : Shape := ⟨0, ![]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S4096x1536 : Shape := ⟨2, ![4096, 1536]⟩
abbrev S4096x256 : Shape := ⟨2, ![4096, 256]⟩
abbrev S1024x1024 : Shape := ⟨2, ![1024, 1024]⟩
abbrev S1024x128 : Shape := ⟨2, ![1024, 128]⟩
abbrev S1024x256 : Shape := ⟨2, ![1024, 256]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩
abbrev S512x128 : Shape := ⟨2, ![512, 128]⟩
abbrev S512x256 : Shape := ⟨2, ![512, 256]⟩

abbrev nBuf : Space → Nat
  | .hbm => 86
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1536, .f32⟩
  | .hbm, ⟨3, _⟩ => ⟨S1x128, .f32⟩
  | .hbm, ⟨4, _⟩ => ⟨S1x128, .f32⟩
  | .hbm, ⟨5, _⟩ => ⟨S1024x1536, .bf16⟩
  | .hbm, ⟨6, _⟩ => ⟨S1536x1024, .bf16⟩
  | .hbm, ⟨7, _⟩ => ⟨S3x512x1024, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S_, .i1⟩
  | .hbm, ⟨44, _⟩ => ⟨S2048, .i1⟩
  | .hbm, ⟨45, _⟩ => ⟨S2048, .i1⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S2048x1, .f32⟩
  | .hbm, ⟨60, _⟩ => ⟨S1x32, .f32⟩
  | .hbm, ⟨61, _⟩ => ⟨S2048x32, .f32⟩
  | .hbm, ⟨62, _⟩ => ⟨S2048x32, .f32⟩
  | .hbm, ⟨63, _⟩ => ⟨S2048x32, .f32⟩
  | .hbm, ⟨64, _⟩ => ⟨S2048x1, .f32⟩
  | .hbm, ⟨65, _⟩ => ⟨S1x32, .f32⟩
  | .hbm, ⟨66, _⟩ => ⟨S2048x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x32, .f32⟩
  | .hbm, ⟨71, _⟩ => ⟨S2048x32, .f32⟩
  | .hbm, ⟨72, _⟩ => ⟨S2048x32, .f32⟩
  | .hbm, ⟨73, _⟩ => ⟨S2048x128, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S2048x32, .f32⟩
  | .hbm, ⟨78, _⟩ => ⟨S2048x32, .f32⟩
  | .hbm, ⟨79, _⟩ => ⟨S2048x32, .f32⟩
  | .hbm, ⟨80, _⟩ => ⟨S2048x128, .f32⟩
  | .hbm, ⟨81, _⟩ => ⟨S4096x1536, .f32⟩
  | .hbm, ⟨82, _⟩ => ⟨S4096x1024, .bf16⟩
  | .hbm, ⟨83, _⟩ => ⟨S4096x1024, .bf16⟩
  | .hbm, ⟨84, _⟩ => ⟨S4096x256, .bf16⟩
  | .hbm, ⟨85, _⟩ => ⟨S4096x256, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S3x512x1024, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x1536, .f32⟩
  | .local _ .vmem, ⟨11, _⟩ => ⟨S1024x1536, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36_0 : Ref sig .tc := ⟨.hbm, 81, rfl⟩
abbrev main_v36_1 : Ref sig .tc := ⟨.hbm, 82, rfl⟩
abbrev main_v36_2 : Ref sig .tc := ⟨.hbm, 83, rfl⟩
abbrev main_v36_3 : Ref sig .tc := ⟨.hbm, 84, rfl⟩
abbrev main_v36_4 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference10Ideal.lean ====
abbrev S4096x1024 : Shape := ⟨2, ![4096, 1024]⟩
abbrev S1x1024 : Shape := ⟨2, ![1, 1024]⟩
abbrev S1024x1536 : Shape := ⟨2, ![1024, 1536]⟩
abbrev S1x128 : Shape := ⟨2, ![1, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x1536 : Shape := ⟨2, ![4096, 1536]⟩
abbrev S2x2048x1536 : Shape := ⟨3, ![2, 2048, 1536]⟩
abbrev S2x2048x1024 : Shape := ⟨3, ![2, 2048, 1024]⟩
abbrev S2x2048x256 : Shape := ⟨3, ![2, 2048, 256]⟩
abbrev S2x2048x8x128 : Shape := ⟨4, ![2, 2048, 8, 128]⟩
abbrev S128 : Shape := ⟨1, ![128]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩
abbrev S2x2048x2x128 : Shape := ⟨4, ![2, 2048, 2, 128]⟩
abbrev S2x2048x2 : Shape := ⟨3, ![2, 2048, 2]⟩
abbrev S2x2048x2x1 : Shape := ⟨4, ![2, 2048, 2, 1]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2x2048x8x64 : Shape := ⟨4, ![2, 2048, 8, 64]⟩
abbrev S2x2048x8x32 : Shape := ⟨4, ![2, 2048, 8, 32]⟩
abbrev S1x2048x1x32 : Shape := ⟨4, ![1, 2048, 1, 32]⟩
abbrev S2x2048x2x64 : Shape := ⟨4, ![2, 2048, 2, 64]⟩
abbrev S2x2048x2x32 : Shape := ⟨4, ![2, 2048, 2, 32]⟩
abbrev S4096x256 : Shape := ⟨2, ![4096, 256]⟩

abbrev nBuf : Space → Nat
  | .hbm => 177
  | .vmem => 0
  | .smem => 0
  | _ => 0

abbrev hbmTy0_0 (i : Nat) : BufTy := match i % 128 with
  | 0 => ⟨S4096x1024, .f32⟩
  | 1 => ⟨S1x1024, .f32⟩
  | 2 => ⟨S1024x1536, .f32⟩
  | 3 => ⟨S1x128, .f32⟩
  | 4 => ⟨S1x128, .f32⟩
  | 5 => ⟨S1024, .f32⟩
  | 6 => ⟨S4096x1024, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096x1, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S4096x1536, .f32⟩
  | 23 => ⟨S2x2048x1536, .f32⟩
  | 24 => ⟨S2x2048x1024, .f32⟩
  | 25 => ⟨S2x2048x256, .f32⟩
  | 26 => ⟨S2x2048x256, .f32⟩
  | 27 => ⟨S2x2048x8x128, .f32⟩
  | 28 => ⟨S128, .f32⟩
  | 29 => ⟨S2x2048x8x128, .f32⟩
  | 30 => ⟨S_, .f32⟩
  | 31 => ⟨S2x2048x8, .f32⟩
  | 32 => ⟨S2x2048x8x1, .f32⟩
  | 33 => ⟨S_, .f32⟩
  | 34 => ⟨S2x2048x8x1, .f32⟩
  | 35 => ⟨S2x2048x8x1, .f32⟩
  | 36 => ⟨S_, .f32⟩
  | 37 => ⟨S2x2048x8x1, .f32⟩
  | 38 => ⟨S2x2048x8x1, .f32⟩
  | 39 => ⟨S2x2048x8x1, .f32⟩
  | 40 => ⟨S2x2048x8x128, .f32⟩
  | 41 => ⟨S2x2048x8x128, .f32⟩
  | 42 => ⟨S1x1x1x128, .f32⟩
  | 43 => ⟨S2x2048x8x128, .f32⟩
  | 44 => ⟨S2x2048x8x128, .f32⟩
  | 45 => ⟨S2x2048x2x128, .f32⟩
  | 46 => ⟨S128, .f32⟩
  | 47 => ⟨S2x2048x2x128, .f32⟩
  | 48 => ⟨S_, .f32⟩
  | 49 => ⟨S2x2048x2, .f32⟩
  | 50 => ⟨S2x2048x2x1, .f32⟩
  | 51 => ⟨S_, .f32⟩
  | 52 => ⟨S2x2048x2x1, .f32⟩
  | 53 => ⟨S2x2048x2x1, .f32⟩
  | 54 => ⟨S_, .f32⟩
  | 55 => ⟨S2x2048x2x1, .f32⟩
  | 56 => ⟨S2x2048x2x1, .f32⟩
  | 57 => ⟨S2x2048x2x1, .f32⟩
  | 58 => ⟨S2x2048x2x128, .f32⟩
  | 59 => ⟨S2x2048x2x128, .f32⟩
  | 60 => ⟨S1x1x1x128, .f32⟩
  | 61 => ⟨S2x2048x2x128, .f32⟩
  | 62 => ⟨S2x2048x2x128, .f32⟩
  | 63 => ⟨S32, .f32⟩
  | 64 => ⟨S32x64, .f32⟩
  | 65 => ⟨S2048, .f32⟩
  | 66 => ⟨S64, .f32⟩
  | 67 => ⟨S1x64, .f32⟩
  | 68 => ⟨S32x64, .f32⟩
  | 69 => ⟨S2048, .f32⟩
  | 70 => ⟨S32, .f32⟩
  | 71 => ⟨S32, .f32⟩
  | 72 => ⟨S_, .f32⟩
  | 73 => ⟨S32, .f32⟩
  | 74 => ⟨S32, .f32⟩
  | 75 => ⟨S_, .f32⟩
  | 76 => ⟨S32, .f32⟩
  | 77 => ⟨S32, .f32⟩
  | 78 => ⟨S2048x1, .f32⟩
  | 79 => ⟨S1x32, .f32⟩
  | 80 => ⟨S2048x32, .f32⟩
  | 81 => ⟨S2048x32, .f32⟩
  | 82 => ⟨S2048x32, .f32⟩
  | 83 => ⟨S2048x1, .f32⟩
  | 84 => ⟨S1x32, .f32⟩
  | 85 => ⟨S2048x32, .f32⟩
  | 86 => ⟨S2048x32, .f32⟩
  | 87 => ⟨S2048x32, .f32⟩
  | 88 => ⟨S2048x32, .f32⟩
  | 89 => ⟨S2048x1x32, .f32⟩
  | 90 => ⟨S2048x32, .f32⟩
  | 91 => ⟨S2048x1x32, .f32⟩
  | 92 => ⟨S2048x32, .f32⟩
  | 93 => ⟨S2048x1x32, .f32⟩
  | 94 => ⟨S2048x32, .f32⟩
  | 95 => ⟨S2048x1x32, .f32⟩
  | 96 => ⟨S2x2048x8x64, .f32⟩
  | 97 => ⟨S2x2048x8x64, .f32⟩
  | 98 => ⟨S2x2048x8x32, .f32⟩
  | 99 => ⟨S2x2048x8x32, .f32⟩
  | 100 => ⟨S1x2048x1x32, .f32⟩
  | 101 => ⟨S2x2048x8x32, .f32⟩
  | 102 => ⟨S2x2048x8x32, .f32⟩
  | 103 => ⟨S1x2048x1x32, .f32⟩
  | 104 => ⟨S2x2048x8x32, .f32⟩
  | 105 => ⟨S2x2048x8x32, .f32⟩
  | 106 => ⟨S2x2048x8x32, .f32⟩
  | 107 => ⟨S1x2048x1x32, .f32⟩
  | 108 => ⟨S2x2048x8x32, .f32⟩
  | 109 => ⟨S2x2048x8x32, .f32⟩
  | 110 => ⟨S1x2048x1x32, .f32⟩
  | 111 => ⟨S2x2048x8x32, .f32⟩
  | 112 => ⟨S2x2048x8x32, .f32⟩
  | 113 => ⟨S2x2048x8x32, .f32⟩
  | 114 => ⟨S2x2048x8x64, .f32⟩
  | 115 => ⟨S2x2048x8x32, .f32⟩
  | 116 => ⟨S2x2048x8x32, .f32⟩
  | 117 => ⟨S1x2048x1x32, .f32⟩
  | 118 => ⟨S2x2048x8x32, .f32⟩
  | 119 => ⟨S2x2048x8x32, .f32⟩
  | 120 => ⟨S1x2048x1x32, .f32⟩
  | 121 => ⟨S2x2048x8x32, .f32⟩
  | 122 => ⟨S2x2048x8x32, .f32⟩
  | 123 => ⟨S2x2048x8x32, .f32⟩
  | 124 => ⟨S1x2048x1x32, .f32⟩
  | 125 => ⟨S2x2048x8x32, .f32⟩
  | 126 => ⟨S2x2048x8x32, .f32⟩
  | 127 => ⟨S1x2048x1x32, .f32⟩
  | _ => ⟨S4096x1024, .f32⟩

abbrev hbmTy0_1 (i : Nat) : BufTy := match i % 128 with
  | 0 => ⟨S2x2048x8x32, .f32⟩
  | 1 => ⟨S2x2048x8x32, .f32⟩
  | 2 => ⟨S2x2048x8x32, .f32⟩
  | 3 => ⟨S2x2048x8x64, .f32⟩
  | 4 => ⟨S2x2048x8x128, .f32⟩
  | 5 => ⟨S2x2048x2x64, .f32⟩
  | 6 => ⟨S2x2048x2x64, .f32⟩
  | 7 => ⟨S2x2048x2x32, .f32⟩
  | 8 => ⟨S2x2048x2x32, .f32⟩
  | 9 => ⟨S1x2048x1x32, .f32⟩
  | 10 => ⟨S2x2048x2x32, .f32⟩
  | 11 => ⟨S2x2048x2x32, .f32⟩
  | 12 => ⟨S1x2048x1x32, .f32⟩
  | 13 => ⟨S2x2048x2x32, .f32⟩
  | 14 => ⟨S2x2048x2x32, .f32⟩
  | 15 => ⟨S2x2048x2x32, .f32⟩
  | 16 => ⟨S1x2048x1x32, .f32⟩
  | 17 => ⟨S2x2048x2x32, .f32⟩
  | 18 => ⟨S2x2048x2x32, .f32⟩
  | 19 => ⟨S1x2048x1x32, .f32⟩
  | 20 => ⟨S2x2048x2x32, .f32⟩
  | 21 => ⟨S2x2048x2x32, .f32⟩
  | 22 => ⟨S2x2048x2x32, .f32⟩
  | 23 => ⟨S2x2048x2x64, .f32⟩
  | 24 => ⟨S2x2048x2x32, .f32⟩
  | 25 => ⟨S2x2048x2x32, .f32⟩
  | 26 => ⟨S1x2048x1x32, .f32⟩
  | 27 => ⟨S2x2048x2x32, .f32⟩
  | 28 => ⟨S2x2048x2x32, .f32⟩
  | 29 => ⟨S1x2048x1x32, .f32⟩
  | 30 => ⟨S2x2048x2x32, .f32⟩
  | 31 => ⟨S2x2048x2x32, .f32⟩
  | 32 => ⟨S2x2048x2x32, .f32⟩
  | 33 => ⟨S1x2048x1x32, .f32⟩
  | 34 => ⟨S2x2048x2x32, .f32⟩
  | 35 => ⟨S2x2048x2x32, .f32⟩
  | 36 => ⟨S1x2048x1x32, .f32⟩
  | 37 => ⟨S2x2048x2x32, .f32⟩
  | 38 => ⟨S2x2048x2x32, .f32⟩
  | 39 => ⟨S2x2048x2x32, .f32⟩
  | 40 => ⟨S2x2048x2x64, .f32⟩
  | 41 => ⟨S2x2048x2x128, .f32⟩
  | 42 => ⟨S4096x1024, .bf16⟩
  | 43 => ⟨S4096x1024, .f32⟩
  | 44 => ⟨S4096x1024, .bf16⟩
  | 45 => ⟨S4096x256, .f32⟩
  | 46 => ⟨S4096x256, .bf16⟩
  | 47 => ⟨S4096x256, .f32⟩
  | 48 => ⟨S4096x256, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_cst_7 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_8 : Ref sig .tc := ⟨.hbm, 72, rfl⟩
abbrev main_v58 : Ref sig .tc := ⟨.hbm, 73, rfl⟩
abbrev main_v59 : Ref sig .tc := ⟨.hbm, 74, rfl⟩
abbrev main_cst_9 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S2x4096x1024 : Shape := ⟨3, ![2, 4096, 1024]⟩
abbrev S8x1024x256 : Shape := ⟨3, ![8, 1024, 256]⟩
abbrev S1x4096x512 : Shape := ⟨3, ![1, 4096, 512]⟩
abbrev S2x1024x256 : Shape := ⟨3, ![2, 1024, 256]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 25
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1x4096x1024, .f32⟩
  | .hbm, ⟨21, _⟩ => ⟨S1x4096x1024, .f32⟩
  | .hbm, ⟨22, _⟩ => ⟨S2x4096x1024, .f32⟩
  | .hbm, ⟨23, _⟩ => ⟨S2x4096x1024, .bf16⟩
  | .hbm, ⟨24, _⟩ => ⟨S8x1024x256, .bf16⟩
  | .local _ .vmem, ⟨0, _⟩ => ⟨S4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S2x1024x256, .bf16⟩
  | .local _ .vmem, ⟨4, _⟩ => ⟨S2x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli arg0 c2_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let v18 : BitVec 32 := Scalar.muli arg0 c2_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c2_i32_11 : BitVec 32 := 2#32
  let v29 : BitVec 32 := Scalar.divsi v28 c2_i32_11
  let c0_i32_12 : BitVec 32 := 0#32
  let v30 : BitVec 1 := Scalar.cmpi .sgt v28 c0_i32_12
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c0_i32_14 : BitVec 32 := 0#32
  let v35 : BitVec 1 := Scalar.cmpi .sgt c2_i32_11 c0_i32_14
  let v36 : BitVec 32 := Scalar.extui v35
  let c0_i32_15 : BitVec 32 := 0#32
  let v37 : BitVec 1 := Scalar.cmpi .slt c2_i32_11 c0_i32_15
  let v38 : BitVec 32 := Scalar.extui v37
  let v39 : BitVec 32 := Scalar.subi v36 v38
  let v40 : BitVec 1 := Scalar.cmpi .ne v34 v39
  let v41 : BitVec 32 := Scalar.remsi v28 c2_i32_11
  let c0_i32_16 : BitVec 32 := 0#32
  let v42 : BitVec 1 := Scalar.cmpi .ne v41 c0_i32_16
  let v43 : BitVec 1 := Scalar.andi v40 v42
  let c1_i32_17 : BitVec 32 := 1#32
  let v44 : BitVec 32 := Scalar.subi v29 c1_i32_17
  let v45 : BitVec 32 := Scalar.select v43 v44 v29
  let c0_i32_18 : BitVec 32 := 0#32
  let c0_i32_19 : BitVec 32 := 0#32
  ![v17.toNat, c0_i32_18.toNat, v45.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S1x1024 : Shape := ⟨2, ![1, 1024]⟩
abbrev S_ : Shape := ⟨0, ![]⟩
abbrev S1024x2048 : Shape := ⟨2, ![1024, 2048]⟩
abbrev S1024 : Shape := ⟨1, ![1024]⟩
abbrev S4096 : Shape := ⟨1, ![4096]⟩
abbrev S4096x1 : Shape := ⟨2, ![4096, 1]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x2048, .f32⟩
  | .hbm, ⟨6, _⟩ => ⟨S1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S2048x1024, .f32⟩
  | .hbm, ⟨32, _⟩ => ⟨S1024x2048, .f32⟩
  | .hbm, ⟨33, _⟩ => ⟨S1024x8x256, .f32⟩
  | .hbm, ⟨34, _⟩ => ⟨S8x1024x256, .f32⟩
  | .hbm, ⟨35, _⟩ => ⟨S8x1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel12.lean ====
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 3
  | .vmem => 2
  | .smem => 0
  | _ => 0

abbrev bufTy : (tb : Table) → Fin (tcTables nBuf tb) → BufTy
  | .hbm, ⟨0, _⟩ => ⟨S8x256x128, .f32⟩
  | .hbm, ⟨1, _⟩ => ⟨S8x256x128, .bf16⟩
  | .hbm, ⟨2, _⟩ => ⟨S256x128, .f32⟩
  | .local _ .vmem, ⟨0, _⟩ => ⟨S8x256x128, .bf16⟩
  | .local _ .vmem, ⟨1, _⟩ => ⟨S256x128, .f32⟩
  | _, _ => ⟨S8x256x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference12Ideal.lean ====
abbrev S8x256x128 : Shape := ⟨3, ![8, 256, 128]⟩
abbrev S_ : Shape := ⟨0, ![]⟩
abbrev S256x128 : Shape := ⟨2, ![256, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S_, .f32⟩
  | .hbm, ⟨2, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S8x1024x256 : Shape := ⟨3, ![8, 1024, 256]⟩
abbrev S1x1024x256 : Shape := ⟨3, ![1, 1024, 256]⟩
abbrev S1024x256 : Shape := ⟨2, ![1024, 256]⟩
abbrev S8x512x256 : Shape := ⟨3, ![8, 512, 256]⟩
abbrev S512x256 : Shape := ⟨2, ![512, 256]⟩
abbrev S1x512x256 : Shape := ⟨3, ![1, 512, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S8x1024x256, .bf16⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .local _ .vmem, ⟨0, _⟩ => ⟨S8x512x256, .bf16⟩
  | .local _ .vmem, ⟨1, _⟩ => ⟨S8x512x256, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x1024x256 : Shape := ⟨3, ![8, 1024, 256]⟩
abbrev S1x1024x256 : Shape := ⟨3, ![1, 1024, 256]⟩
abbrev S_ : Shape := ⟨0, ![]⟩
abbrev S1024x256 : Shape := ⟨2, ![1024, 256]⟩

abbrev nBuf : Space → Nat
  | .hbm => 42
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S1x1024x256, .f32⟩
  | .hbm, ⟨2, _⟩ => ⟨S1x1024x256, .f32⟩
  | .hbm, ⟨3, _⟩ => ⟨S1x1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel14.lean ====
abbrev S8x1024x512 : Shape := ⟨3, ![8, 1024, 512]⟩
abbrev S2x1024x512 : Shape := ⟨3, ![2, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 13
  | .vmem => 16
  | .smem => 0
  | _ => 0

abbrev bufTy : (tb : Table) → Fin (tcTables nBuf tb) → BufTy
  | .hbm, ⟨0, _⟩ => ⟨S8x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S8x1024x512, .bf16⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x1024x512 : Shape := ⟨3, ![8, 1024, 512]⟩
abbrev S2x1024x512 : Shape := ⟨3, ![2, 1024, 512]⟩
abbrev S_ : Shape := ⟨0, ![]⟩
abbrev S1024x512 : Shape := ⟨2, ![1024, 512]⟩
abbrev S1x1024x512 : Shape := ⟨3, ![1, 1024, 512]⟩

abbrev nBuf : Space → Nat
  | .hbm => 69
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S2x1024x512, .f32⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S_, .f32⟩
  | .hbm, ⟨9, _⟩ => ⟨S1024x512, .f32⟩
  | .hbm, ⟨10, _⟩ => ⟨S1x1024x512, .f32⟩
  | .hbm, ⟨11, _⟩ => ⟨S1024x512, .f32⟩
  | .hbm, ⟨12, _⟩ => ⟨S1x1024x512, .f32⟩
  | .hbm, ⟨13, _⟩ => ⟨S1024x512, .f32⟩
  | .hbm, ⟨14, _⟩ => ⟨S1x1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S_, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1x1024x512, .f32⟩
  | .hbm, ⟨50, _⟩ => ⟨S1024x512, .f32⟩
  | .hbm, ⟨51, _⟩ => ⟨S1x1024x512, .f32⟩
  | .hbm, ⟨52, _⟩ => ⟨S1x1024x512, .f32⟩
  | .hbm, ⟨53, _⟩ => ⟨S2x1024x512, .f32⟩
  | .hbm, ⟨54, _⟩ => ⟨S1x1024x512, .f32⟩
  | .hbm, ⟨55, _⟩ => ⟨S1024x512, .f32⟩
  | .hbm, ⟨56, _⟩ => ⟨S1x1024x512, .f32⟩
  | .hbm, ⟨57, _⟩ => ⟨S1x1024x512, .f32⟩
  | .hbm, ⟨58, _⟩ => ⟨S2x1024x512, .f32⟩
  | .hbm, ⟨59, _⟩ => ⟨S1x1024x512, .f32⟩
  | .hbm, ⟨60, _⟩ => ⟨S1024x512, .f32⟩
  | .hbm, ⟨61, _⟩ => ⟨S1x1024x512, .f32⟩
  | .hbm, ⟨62, _⟩ => ⟨S1x1024x512, .f32⟩
  | .hbm, ⟨63, _⟩ => ⟨S2x1024x512, .f32⟩
  | .hbm, ⟨64, _⟩ => ⟨S1x1024x512, .f32⟩
  | .hbm, ⟨65, _⟩ => ⟨S1024x512, .f32⟩
  | .hbm, ⟨66, _⟩ => ⟨S1x1024x512, .f32⟩
  | .hbm, ⟨67, _⟩ => ⟨S1x1024x512, .f32⟩
  | .hbm, ⟨68, _⟩ => ⟨S2x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]
-- ==== Kernel15.lean ====
abbrev S1x1024 : Shape := ⟨2, ![1, 1024]⟩
abbrev S1x128 : Shape := ⟨2, ![1, 128]⟩
abbrev S128x128 : Shape := ⟨2, ![128, 128]⟩

abbrev nBuf : Space → Nat
  | .hbm => 10
  | .vmem => 10
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S128x128, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S128x128, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference15Ideal.lean ====
abbrev S1x1024 : Shape := ⟨2, ![1, 1024]⟩
abbrev S1x128 : Shape := ⟨2, ![1, 128]⟩
abbrev S8x128 : Shape := ⟨2, ![8, 128]⟩
abbrev S_ : Shape := ⟨0, ![]⟩
abbrev S56x128 : Shape := ⟨2, ![56, 128]⟩
abbrev S128x128 : Shape := ⟨2, ![128, 128]⟩

abbrev nBuf : Space → Nat
  | .hbm => 45
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x128, .f32⟩
  | .hbm, ⟨7, _⟩ => ⟨S1x128, .f32⟩
  | .hbm, ⟨8, _⟩ => ⟨S1x128, .f32⟩
  | .hbm, ⟨9, _⟩ => ⟨S8x128, .f32⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S8x128, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S8x128, .f32⟩
  | .hbm, ⟨18, _⟩ => ⟨S_, .i32⟩
  | .hbm, ⟨19, _⟩ => ⟨S_, .f32⟩
  | .hbm, ⟨20, _⟩ => ⟨S8x128, .f32⟩
  | .hbm, ⟨21, _⟩ => ⟨S8x128, .f32⟩
  | .hbm, ⟨22, _⟩ => ⟨S_, .i32⟩
  | .hbm, ⟨23, _⟩ => ⟨S_, .f32⟩
  | .hbm, ⟨24, _⟩ => ⟨S8x128, .f32⟩
  | .hbm, ⟨25, _⟩ => ⟨S8x128, .f32⟩
  | .hbm, ⟨26, _⟩ => ⟨S_, .i32⟩
  | .hbm, ⟨27, _⟩ => ⟨S_, .f32⟩
  | .hbm, ⟨28, _⟩ => ⟨S8x128, .f32⟩
  | .hbm, ⟨29, _⟩ => ⟨S8x128, .f32⟩
  | .hbm, ⟨30, _⟩ => ⟨S_, .i32⟩
  | .hbm, ⟨31, _⟩ => ⟨S_, .f32⟩
  | .hbm, ⟨32, _⟩ => ⟨S8x128, .f32⟩
  | .hbm, ⟨33, _⟩ => ⟨S_, .i32⟩
  | .hbm, ⟨34, _⟩ => ⟨S_, .f32⟩
  | .hbm, ⟨35, _⟩ => ⟨S8x128, .f32⟩
  | .hbm, ⟨36, _⟩ => ⟨S_, .i32⟩
  | .hbm, ⟨37, _⟩ => ⟨S_, .f32⟩
  | .hbm, ⟨38, _⟩ => ⟨S8x128, .f32⟩
  | .hbm, ⟨39, _⟩ => ⟨S_, .i32⟩
  | .hbm, ⟨40, _⟩ => ⟨S_, .f32⟩
  | .hbm, ⟨41, _⟩ => ⟨S8x128, .f32⟩
  | .hbm, ⟨42, _⟩ => ⟨S_, .f32⟩
  | .hbm, ⟨43, _⟩ => ⟨S56x128, .f32⟩
  | .hbm, ⟨44, _⟩ => ⟨S128x128, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_call1_v0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_call2_v0 : Ref sig .tc := ⟨.hbm, 19, rfl⟩
abbrev main_v5 : Ref sig .tc := ⟨.hbm, 20, rfl⟩
abbrev main_v6 : Ref sig .tc := ⟨.hbm, 21, rfl⟩
abbrev main_c_2 : Ref sig .tc := ⟨.hbm, 22, rfl⟩
abbrev main_call3_v0 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_call4_v0 : Ref sig .tc := ⟨.hbm, 27, rfl⟩
abbrev main_v9 : Ref sig .tc := ⟨.hbm, 28, rfl⟩
abbrev main_v10 : Ref sig .tc := ⟨.hbm, 29, rfl⟩
abbrev main_c_4 : Ref sig .tc := ⟨.hbm, 30, rfl⟩
abbrev main_call5_v0 : Ref sig .tc := ⟨.hbm, 31, rfl⟩
abbrev main_v11 : Ref sig .tc := ⟨.hbm, 32, rfl⟩
abbrev main_c_5 : Ref sig .tc := ⟨.hbm, 33, rfl⟩
abbrev main_call6_v0 : Ref sig .tc := ⟨.hbm, 34, rfl⟩
abbrev main_v12 : Ref sig .tc := ⟨.hbm, 35, rfl⟩
abbrev main_c_6 : Ref sig .tc := ⟨.hbm, 36, rfl⟩
abbrev main_call7_v0 : Ref sig .tc := ⟨.hbm, 37, rfl⟩
abbrev main_v13 : Ref sig .tc := ⟨.hbm, 38, rfl⟩
abbrev main_c_7 : Ref sig .tc := ⟨.hbm, 39, rfl⟩
abbrev main_call8_v0 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩

abbrev nD : Nat := 1
abbrev τ : Topo := Topo.v7x

variable {F : FTy → Type} [FloatOps F]
-- ==== Proof.Common.lean ====
/- Between extended reals and reals: finite sums, maxima and quotients of reals are real, and an array of finite entries is a matrix of
   reals. -/
module

public import Idealize.ShloMosaic.PureOps.Ideal
public import Idealize.ShloMosaic.PureOps.Ideal.Laws
public import Idealize.ShloMosaic.Lib.Pointwise

@[expose] public section

noncomputable section

namespace Reals

open Idealize.ShloMosaic Idealize.ShloMosaic.Pointwise

/-- A finite sum of reals, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals, taken in the extended reals. -/
theorem sum_mul_coe {ι : Type*} (s : Finset ι) (f g : ι → ℝ) :
    ∑ i ∈ s, ((f i : ℝ) : EReal) * ((g i : ℝ) : EReal) = ((∑ i ∈ s, f i * g i : ℝ) : EReal) := by
  simp only [← EReal.coe_mul, sum_coe]

/-- The greatest of finitely many reals and `⊥` is a real, if there is one at all. -/
theorem fold_max_coe {ι : Type*} [Fintype ι] [Nonempty ι] (f : ι → ℝ) :
    ∃ x : ℝ, Finset.univ.fold max (⊥ : EReal) (fun k => ((f k : ℝ) : EReal)) = (x : EReal) := by
  refine ⟨Finset.univ.sup' Finset.univ_nonempty f, le_antisymm ?_ ?_⟩
  · exact (Finset.fold_max_le _).mpr ⟨bot_le, fun k hk => EReal.coe_le_coe_iff.mpr (Finset.le_sup' f hk)⟩
  · obtain ⟨k, hk, e⟩ := Finset.exists_mem_eq_sup' Finset.univ_nonempty f
    rw [e]; exact (Finset.le_fold_max _).mpr (.inr ⟨k, hk, le_rfl⟩)

/-- Division by a real that isn't zero. -/
theorem div_coe_coe (x y : ℝ) (h : y ≠ 0) : Ideal.div (x : EReal) (y : EReal) = ((x / y : ℝ) : EReal) := by
  rw [Ideal.div_coe h, ← EReal.coe_mul]; congr 1; ring

/-- The greater of two reals. -/
theorem max_coe (x y : ℝ) : max (x : EReal) (y : EReal) = ((max x y : ℝ) : EReal) := (EReal.coe_strictMono.monotone.map_max).symm

theorem hz : (![0, 0] : Fin 2 → ℕ) = fun _ => 0 := by funext a; fin_cases a <;> rfl

/-- A matrix of reals, addressed by plain numbers, as a buffer's contents. -/
def vecN {m n : ℕ} (A : ℕ → ℕ → ℝ) : (⟨2, ![m, n]⟩ : Shape).Idx → EReal := fun y => ((A (y 0).val (y 1).val : ℝ) : EReal)

/-- An entry of a matrix of reals at a known place. -/
theorem vecN_eq {m n : ℕ} (A : ℕ → ℕ → ℝ) (y : (⟨2, ![m, n]⟩ : Shape).Idx) (i k : ℕ) (e0 : (y 0).val = i) (e1 : (y 1).val = k) :
    vecN A y = ((A i k : ℝ) : EReal) := by
  unfold vecN
  rw [e0, e1]

theorem vecN_ix2 {m n : ℕ} (A : ℕ → ℕ → ℝ) (i : Fin m) (k : Fin n) : vecN A (ix2 i k) = ((A i.val k.val : ℝ) : EReal) := rfl

/-- The matrix of reals an array of finite extended reals is. -/
def realOf {a b : ℕ} (x : (⟨2, ![a, b]⟩ : Shape).Idx → EReal) (r e : ℕ) : ℝ :=
  if h : r < a ∧ e < b then (x (ix2 ⟨r, h.1⟩ ⟨e, h.2⟩)).toReal else 0

theorem eq_vecN {a b : ℕ} (x : (⟨2, ![a, b]⟩ : Shape).Idx → EReal) (hx : ∀ y, x y ≠ ⊤ ∧ x y ≠ ⊥) : x = vecN (realOf x) := by
  funext y
  unfold vecN realOf
  have h0 : (y 0).val < a := (y 0).isLt
  have h1 : (y 1).val < b := (y 1).isLt
  rw [dif_pos ⟨h0, h1⟩]
  refine Eq.trans (EReal.coe_toReal (hx y).1 (hx y).2).symm (congrArg (fun z => ((x z).toReal : EReal)) ?_)
  exact eq_ix2 y

/-- A single finite row. -/
theorem eq_row (x : (⟨2, ![1, 1024]⟩ : Shape).Idx → EReal) (hx : ∀ y, x y ≠ ⊤ ∧ x y ≠ ⊥) : ∃ G : ℕ → ℝ, x = vecN fun _ k => G k := by
  refine ⟨realOf x 0, (eq_vecN x hx).trans (funext fun y => ?_)⟩
  have e : (y 0).val = 0 := Nat.lt_one_iff.mp (y 0).isLt
  show ((realOf x (y 0).val (y 1).val : ℝ) : EReal) = ((realOf x 0 (y 1).val : ℝ) : EReal)
  rw [e]

/-- An extended real whose absolute value compares below `+∞` is finite. -/
theorem finite_of_lt (x : Ideal .f32)
    (h : FloatOps.cmpf (F := Ideal) (φ := .f32) .olt (FloatOps.hostAbsf (F := Ideal) (φ := .f32) x) (FloatOps.ofBits .f32 0x7F800000#32) = 1#1) :
    x ≠ (⊤ : EReal) ∧ x ≠ (⊥ : EReal) := by
  have e : Ideal.ofBits .f32 0x7F800000#32 = (⊤ : EReal) := by simp [Ideal.ofBits, Ideal.ieee]
  change Ideal.cmp .olt (max x (-x) : EReal) (Ideal.ofBits .f32 0x7F800000#32) = 1#1 at h
  rw [e] at h
  constructor
  · rintro rfl
    simp [Ideal.cmp] at h
  · rintro rfl
    simp [Ideal.cmp] at h

/-- The whole buffer's rectangle keeps every index. -/
theorem whole_idx {m n : ℕ} (h) (y : (⟨2, ![m, n]⟩ : Shape).Idx) : (Rect.unit (s := ⟨2, ![m, n]⟩) ![0, 0] ![m, n] h).toLoadRect.idx y = y := by
  funext a
  apply Fin.ext
  match a with
  | ⟨0, _⟩ => show 0 + 1 * (y 0).val = (y 0).val; rw [zero_add, one_mul]
  | ⟨1, _⟩ => show 0 + 1 * (y 1).val = (y 1).val; rw [zero_add, one_mul]

/-- Reading pieces back through the whole buffer's rectangle. -/
theorem whole_canon {m n : ℕ} {φ : EltTy} (L : List (View.Piece (Elt Ideal) ⟨2, ![m, n]⟩ φ)) (h) :
    (fun j => View.canon L ((Rect.unit (s := ⟨2, ![m, n]⟩) ![0, 0] ![m, n] h).toLoadRect.idx j)) = View.canon L := by
  funext j
  rw [whole_idx]

end Reals

end
-- ==== Proof.Attn.Real.lean ====
/- One attention head on real numbers: the softmax of the scaled scores, its product with the values, and the three gradients of that
   product. The programs' extended reals meet these formulas through the lemmas at the end: a finite sum of reals, a maximum of reals
   and an exponential of a real are reals again, and a softmax does not change when one number is taken off every score. -/
module

public import proofs.«01_k».proof.Proof.Common
public import Idealize.ShloMosaic.PureOps.Ideal
public import Idealize.ShloMosaic.PureOps.Ideal.Laws

@[expose] public section

noncomputable section

namespace Attn

open Reals
open Idealize.ShloMosaic

/-- The scale of the scores: the number of single precision nearest to one over the root of the head's width. -/
def σ : ℝ := 11863283 / 134217728

variable {n d : ℕ}

/-- Row `i` of `a` times row `j` of `b`. -/
def rowDot (a b : Fin n → Fin d → ℝ) (i j : Fin n) : ℝ := ∑ c, a i c * b j c

/-- The unnormalised weight of key `j` for query `i`. -/
def wt (q k : Fin n → Fin d → ℝ) (i j : Fin n) : ℝ := Real.exp (σ * rowDot q k i j)

/-- The softmax of query `i`'s scaled scores at key `j`. -/
def prob (q k : Fin n → Fin d → ℝ) (i j : Fin n) : ℝ := wt q k i j / ∑ j', wt q k i j'

/-- The head's output. -/
def out (q k v : Fin n → Fin d → ℝ) (i : Fin n) (c : Fin d) : ℝ := ∑ j, prob q k i j * v j c

/-- The gradient of the unscaled scores, before the scale. -/
def dscore (q k v o : Fin n → Fin d → ℝ) (i j : Fin n) : ℝ :=
  prob q k i j * (rowDot o v i j - ∑ c, o i c * out q k v i c)

/-- The gradient of the queries. -/
def dq (q k v o : Fin n → Fin d → ℝ) (i : Fin n) (c : Fin d) : ℝ := (∑ j, dscore q k v o i j * k j c) * σ

/-- One head's part of the gradient of the keys, before the scale. -/
def dk (q k v o : Fin n → Fin d → ℝ) (j : Fin n) (c : Fin d) : ℝ := ∑ i, dscore q k v o i j * q i c

/-- One head's part of the gradient of the values. -/
def dv (q k o : Fin n → Fin d → ℝ) (j : Fin n) (c : Fin d) : ℝ := ∑ i, prob q k i j * o i c

theorem wt_pos (q k : Fin n → Fin d → ℝ) (i j : Fin n) : 0 < wt q k i j := Real.exp_pos _

theorem sum_wt_pos [NeZero n] (q k : Fin n → Fin d → ℝ) (i : Fin n) : 0 < ∑ j, wt q k i j :=
  Finset.sum_pos (fun j _ => wt_pos q k i j) Finset.univ_nonempty

/-- The kernels' exponential: the base-two exponential of the score less `x`, scaled by `log₂ e` times the scale. -/
theorem exp2_coe (s x : ℝ) :
    Ideal.exp2 (((s : EReal) - (x : EReal)) * (((Real.log 2)⁻¹ * (11863283 / 134217728) : ℝ) : EReal))
      = ((Real.exp (-(σ * x)) * Real.exp (σ * s) : ℝ) : EReal) := by
  rw [← EReal.coe_sub, ← EReal.coe_mul]
  show ((Real.rpow 2 _ : ℝ) : EReal) = _
  congr 1
  have h2 : Real.log 2 ≠ 0 := by positivity
  rw [← Real.exp_add]
  change (2 : ℝ) ^ ((s - x) * ((Real.log 2)⁻¹ * (11863283 / 134217728)) : ℝ) = _
  rw [Real.rpow_def_of_pos two_pos]
  congr 1
  unfold σ
  field_simp
  ring

/-- The reference's exponential, of the scaled score less `x`. -/
theorem exp_coe (s x : ℝ) :
    Ideal.exp ((s : EReal) * ((σ : ℝ) : EReal) - (x : EReal)) = ((Real.exp (-x) * Real.exp (σ * s) : ℝ) : EReal) := by
  rw [← EReal.coe_mul, ← EReal.coe_sub]
  show ((Real.exp _ : ℝ) : EReal) = _
  rw [← Real.exp_add]
  congr 2
  ring

/-- A softmax whose weights all carry one factor `a`. -/
theorem prob_of_scaled [NeZero n] (q k : Fin n → Fin d → ℝ) (i j : Fin n) {a : ℝ} (ha : 0 < a) :
    (a * wt q k i j) / (∑ j', a * wt q k i j') = prob q k i j := by
  rw [← Finset.mul_sum, mul_div_mul_left _ _ ha.ne', prob]

/-- The output of a softmax whose weights all carry one factor `a`, divided last. -/
theorem out_of_scaled [NeZero n] (q k v : Fin n → Fin d → ℝ) (i : Fin n) (c : Fin d) {a : ℝ} (ha : 0 < a) :
    (∑ j, (a * wt q k i j) * v j c) / (∑ j', a * wt q k i j') = out q k v i c := by
  rw [out, Finset.sum_div]
  refine Finset.sum_congr rfl fun j _ => ?_
  rw [← prob_of_scaled q k i j ha]; ring

/-- The sum of a row's gradient against its output is the sum of its probabilities against their gradients. -/
theorem sum_mul_out (q k v o : Fin n → Fin d → ℝ) (i : Fin n) :
    ∑ c, o i c * out q k v i c = ∑ j, prob q k i j * rowDot o v i j := by
  simp only [out, rowDot, Finset.mul_sum]
  rw [Finset.sum_comm]
  refine Finset.sum_congr rfl fun j _ => Finset.sum_congr rfl fun c _ => by ring

end Attn

end
-- ==== Proof.Attn.Block.lean ====
/- What the two kernels' payloads compute on a block of 256 query rows whose entries are real numbers: one head's formulas of Real.lean,
   at the rows the block holds. Region 0's body and region 1's body are each eight copies of one computation, which the program's parts
   cut at different places; every copy is, by unfolding, the one named here. -/
module

public import proofs.«01_k».proof.Proof.Attn.Real
public import proofs.«01_k».proof.Proof.Gen.KernelIdeal.Skeleton
public import Idealize.ShloMosaic.Lib.Pointwise
public import Idealize.ShloMosaic.PureOps.IdealRules

@[expose] public section

noncomputable section

namespace Attn

open Reals
open Idealize.ShloMosaic Idealize.ShloMosaic.Pointwise Cert.KernelIdeal Cert.KernelIdeal.Gen

theorem named_scale2 : Named.named (F := Ideal) (φ := .f32) Cert.KernelIdeal.κ "scale2" 0x3E0293EE#32
    = (((Real.log 2)⁻¹ * (11863283 / 134217728) : ℝ) : EReal) :=
  IdealRules.named_const.ideal_named_scalar _ _ _ _ rfl

theorem scale_eq : Ideal.ofBits .f32 0x3DB504F3#32 = ((σ : ℝ) : EReal) := by
  simp [Ideal.ofBits, Ideal.ieee, σ]
  norm_num
  rw [← EReal.coe_mul]
  congr 1
  norm_num

theorem negInf : Ideal.ofBits .f32 0xFF800000#32 = (⊥ : EReal) := by
  simp [Ideal.ofBits, Ideal.ieee]

theorem exp2_eq (x : Ideal .f32) : FloatOps.exp2 (F := Ideal) (φ := .f32) x = Ideal.exp2 x := rfl

variable {q o oo : Vec Ideal S256x128 .bf16} {k v : Vec Ideal S2048x128 .bf16} {Q K V D : Fin 2048 → Fin 128 → ℝ} {ρ : Fin 256 → Fin 2048}

/-- A block's rows of the output. -/
theorem pay_out (hq : ∀ r c, q (ix2 r c) = ((Q (ρ r) c : ℝ) : EReal)) (hk : ∀ j c, k (ix2 j c) = ((K j c : ℝ) : EReal))
    (hv : ∀ j c, v (ix2 j c) = ((V j c : ℝ) : EReal)) (r : Fin 256) (c : Fin 128) :
    k0_pay1 (F := Ideal) (k0_pay12 q k) v (ix2 r c) = ((out Q K V (ρ r) c : ℝ) : EReal) := by
  pointwise [k0_pay1, k0_pay12]
  simp only [hq, hk, hv, named_scale2, sum_mul_coe, negInf]
  obtain ⟨x, hx⟩ := fold_max_coe fun j => rowDot Q K (ρ r) j
  have e : ∀ j, ∑ c, Q (ρ r) c * K j c = rowDot Q K (ρ r) j := fun _ => rfl
  simp only [e, hx, exp2_eq, exp2_coe, sum_mul_coe, sum_coe]
  rw [div_coe_coe _ _ (by rw [← Finset.mul_sum]; exact (mul_pos (Real.exp_pos _) (sum_wt_pos Q K _)).ne'),
    ← out_of_scaled Q K V (ρ r) c (Real.exp_pos (-(σ * x)))]
  rfl

/-- A block's rows of the softmax. -/
theorem pay_prob (hq : ∀ r c, q (ix2 r c) = ((Q (ρ r) c : ℝ) : EReal)) (hk : ∀ j c, k (ix2 j c) = ((K j c : ℝ) : EReal))
    (r : Fin 256) (j : Fin 2048) :
    k1_pay8 (F := Ideal) q k (ix2 r j) = ((prob Q K (ρ r) j : ℝ) : EReal) := by
  pointwise [k1_pay8]
  simp only [hq, hk, named_scale2, sum_mul_coe, negInf]
  obtain ⟨x, hx⟩ := fold_max_coe fun j => rowDot Q K (ρ r) j
  have e : ∀ j, ∑ c, Q (ρ r) c * K j c = rowDot Q K (ρ r) j := fun _ => rfl
  simp only [e, hx, exp2_eq, exp2_coe, sum_mul_coe, sum_coe]
  rw [show (1 : EReal) = ((1 : ℝ) : EReal) from rfl,
    div_coe_coe _ _ (by rw [← Finset.mul_sum]; exact (mul_pos (Real.exp_pos _) (sum_wt_pos Q K _)).ne'), ← EReal.coe_mul,
    ← prob_of_scaled Q K (ρ r) j (Real.exp_pos (-(σ * x))), mul_one_div]
  rfl

/-- A block's rows of the gradient of the scores. -/
theorem pay_dscore (hq : ∀ r c, q (ix2 r c) = ((Q (ρ r) c : ℝ) : EReal)) (hk : ∀ j c, k (ix2 j c) = ((K j c : ℝ) : EReal))
    (hv : ∀ j c, v (ix2 j c) = ((V j c : ℝ) : EReal)) (ho : ∀ r c, o (ix2 r c) = ((D (ρ r) c : ℝ) : EReal))
    (hoo : ∀ r c, oo (ix2 r c) = ((out Q K V (ρ r) c : ℝ) : EReal)) (r : Fin 256) (j : Fin 2048) :
    k1_pay10 (F := Ideal) (k1_pay7 o) (k1_pay8 q k) (k1_pay9 o oo) v (ix2 r j) = ((dscore Q K V D (ρ r) j : ℝ) : EReal) := by
  have hp := pay_prob hq hk r j
  generalize k1_pay8 (F := Ideal) q k = p at hp ⊢
  pointwise [k1_pay10, k1_pay7, k1_pay9]
  simp only [hp, hv, ho, hoo, sum_mul_coe, ← EReal.coe_sub, ← EReal.coe_mul, ← EReal.coe_add, zero_add]
  rfl

end Attn

end
-- ==== Proof.Attn.Body0.lean ====
/- What the forward kernel's body leaves in its block: one head's output, eight blocks of 256 rows together. -/
module

public import proofs.«01_k».proof.Proof.Attn.Block
public import proofs.«01_k».proof.Proof.Gen.KernelIdeal.Frame

@[expose] public section

noncomputable section

namespace Attn

open Reals
open Idealize.ShloMosaic Idealize.ShloMosaic.Pointwise Cert.KernelIdeal Cert.KernelIdeal.Gen

/-- The row of a head that row `r` of the block starting at row `b` is. -/
def rowAt (b : ℕ) (hb : b + 256 ≤ 2048) (r : Fin 256) : Fin 2048 := ⟨b + r.val, by omega⟩

/-- A matrix of a head, read at the block of 256 rows starting at row `b`. -/
theorem ld_rows {n : ℕ} {φ : EltTy} (x : Vec Ideal ⟨2, ![2048, n]⟩ φ) (b : ℕ) (hb : b + 256 ≤ 2048) (h) (r : Fin 256) (c : Fin n) :
    View.ld x (Rect.unit (s := ⟨2, ![2048, n]⟩) ![b, 0] ![256, n] h) (ix2 r c) = x (ix2 (rowAt b hb r) c) := by
  show x _ = x _
  congr 1
  funext a
  apply Fin.ext
  match a with
  | ⟨0, _⟩ => show b + 1 * r.val = b + r.val; omega
  | ⟨1, _⟩ => show 0 + 1 * c.val = c.val; omega

/-- The position in the whole matrix of an entry of that block. -/
theorem emb_rows {n : ℕ} (b : ℕ) (hb : b + 256 ≤ 2048) (h) (r : Fin 256) (c : Fin n) :
    (Rect.unit (s := ⟨2, ![2048, n]⟩) ![b, 0] ![256, n] h).emb (ix2 r c) = ix2 (rowAt b hb r) c := by
  funext a
  apply Fin.ext
  match a with
  | ⟨0, _⟩ => show b + 1 * r.val = b + r.val; omega
  | ⟨1, _⟩ => show 0 + 1 * c.val = c.val; omega

/-- A matrix of reals as a buffer's contents. -/
def vecOf {m n : ℕ} (A : Fin m → Fin n → ℝ) : (⟨2, ![m, n]⟩ : Shape).Idx → EReal := fun y => ((A (y 0) (y 1) : ℝ) : EReal)

variable {Q K V : Fin 2048 → Fin 128 → ℝ} {x0 x1 x2 : Vec Ideal S2048x128 .bf16}

/-- One block of rows, wherever it starts. -/
theorem block_out (hq : ∀ i c, x0 (ix2 i c) = ((Q i c : ℝ) : EReal)) (hk : ∀ j c, x1 (ix2 j c) = ((K j c : ℝ) : EReal))
    (hv : ∀ j c, x2 (ix2 j c) = ((V j c : ℝ) : EReal)) (b : ℕ) (hb : b + 256 ≤ 2048) (h) (x : S256x128.Idx) :
    k0_pay1 (F := Ideal) (k0_pay12 (View.ld x0 (Rect.unit (s := S2048x128) ![b, 0] S256x128.size h)) (View.ld x1 r0_1)) (View.ld x2 r0_1) x
      = vecOf (out Q K V) ((Rect.unit (s := S2048x128) ![b, 0] S256x128.size h).emb x) := by
  rw [eq_ix2 x]
  refine (pay_out (Q := Q) (K := K) (V := V) (ρ := rowAt b hb) (fun r c => ?_) (fun j c => ?_) (fun j c => ?_) (x 0) (x 1)).trans ?_
  · exact (ld_rows x0 b hb h r c).trans (hq _ _)
  · rw [View.ld_unit_zero hz]; exact hk j c
  · rw [View.ld_unit_zero hz]; exact hv j c
  · exact (congrArg (vecOf (out Q K V)) (emb_rows b hb h (x 0) (x 1))).symm

/-- The forward kernel's block. -/
theorem out0_3_apply (hq : ∀ i c, x0 (ix2 i c) = ((Q i c : ℝ) : EReal)) (hk : ∀ j c, x1 (ix2 j c) = ((K j c : ℝ) : EReal))
    (hv : ∀ j c, x2 (ix2 j c) = ((V j c : ℝ) : EReal)) (i : Fin 2048) (c : Fin 128) :
    out0_3 (F := Ideal) x0 x1 x2 (ix2 i c) = ((out Q K V i c : ℝ) : EReal) := by
  refine View.canon_apply_of_pieces (G := (show Vec Ideal S2048x128 .bf16 from vecOf (out Q K V))) _ ?_ (ix2 i c) (cover0_3 _ _ _ _ _ _ _ _ _)
  simp only [List.forall_mem_cons]
  refine ⟨block_out hq hk hv 1792 (by decide) _, block_out hq hk hv 1536 (by decide) _, block_out hq hk hv 1280 (by decide) _,
    block_out hq hk hv 1024 (by decide) _, block_out hq hk hv 768 (by decide) _, block_out hq hk hv 512 (by decide) _,
    block_out hq hk hv 256 (by decide) _, block_out hq hk hv 0 (by decide) _, by simp⟩

end Attn

end
-- ==== Proof.Attn.Body1.lean ====
/- What the backward kernel's body leaves in its three blocks at a grid point, in each of its three cases: the first of a key head's four
   query heads (which starts the sums from zero), a middle one, and the last one (which scales the gradient of the keys). -/
module

public import proofs.«01_k».proof.Proof.Attn.Body0

@[expose] public section

noncomputable section

namespace Attn

open Reals
open Idealize.ShloMosaic Idealize.ShloMosaic.Pointwise Cert.KernelIdeal Cert.KernelIdeal.Gen

section Values

variable {q : Vec Ideal S2048x128 .bf16} {ds : Vec Ideal S2048x2048 .bf16} {DS : Fin 2048 → Fin 2048 → ℝ} {Q : Fin 2048 → Fin 128 → ℝ}

/-- The gradient of the queries. -/
theorem pay_dq (hds : ds = vecOf DS) (hq : ∀ j c, q (ix2 j c) = ((Q j c : ℝ) : EReal)) (i : Fin 2048) (c : Fin 128) :
    k1_pay1 (F := Ideal) (k1_pay50 ds q) (Scalar.ofBits (F := Ideal) .f32 0x3DB504F3#32) (ix2 i c)
      = (((∑ j, DS i j * Q j c) * σ : ℝ) : EReal) := by
  subst hds
  pointwise [k1_pay1, k1_pay50]
  simp only [hq, scale_eq, vecOf, ix2_0, ix2_1, sum_mul_coe]
  rw [EReal.coe_mul]

/-- A step of the sum that is the gradient of the keys, before the scale. -/
theorem pay_dk (hds : ds = vecOf DS) (hq : ∀ j c, q (ix2 j c) = ((Q j c : ℝ) : EReal)) (x : Vec Ideal S2048x128 .f32) (j : Fin 2048) (c : Fin 128) :
    k1_pay2 (F := Ideal) ds x q (ix2 j c) = x (ix2 j c) + ((∑ i, DS i j * Q i c : ℝ) : EReal) := by
  subst hds
  pointwise [k1_pay2]
  simp only [hq, vecOf, ix2_0, ix2_1, sum_mul_coe]

/-- A step of the sum that is the gradient of the values. -/
theorem pay_dv (hds : ds = vecOf DS) (hq : ∀ j c, q (ix2 j c) = ((Q j c : ℝ) : EReal)) (x : Vec Ideal S2048x128 .f32) (j : Fin 2048) (c : Fin 128) :
    k1_pay3 (F := Ideal) x ds q (ix2 j c) = x (ix2 j c) + ((∑ i, DS i j * Q i c : ℝ) : EReal) := by
  subst hds
  pointwise [k1_pay3]
  simp only [hq, vecOf, ix2_0, ix2_1, sum_mul_coe]

/-- The last head's scaling. -/
theorem pay_scale (x : Vec Ideal S2048x128 .f32) (j : Fin 2048) (c : Fin 128) :
    k1_pay4 (F := Ideal) x (ix2 j c) = x (ix2 j c) * ((σ : ℝ) : EReal) := by
  pointwise [k1_pay4]
  rw [scale_eq]

theorem pay_zero (j : Fin 2048) (c : Fin 128) : k1_pay5 (F := Ideal) (ix2 j c) = 0 := by
  pointwise [k1_pay5]

theorem pay_zero' (j : Fin 2048) (c : Fin 128) : k1_pay6 (F := Ideal) (ix2 j c) = 0 := by
  pointwise [k1_pay6]

/-- A cast of a float to a narrower one is, on the extended reals, no operation. -/
theorem pay_cast (p : FVec Ideal S256x2048 .f32) : k1_pay11 (F := Ideal) p = p := by
  funext x
  rw [eq_ix2 x]
  pointwise [k1_pay11]

end Values

section Blocks

variable {Q K V D : Fin 2048 → Fin 128 → ℝ} {x0 x1 x2 x3 x4 : Vec Ideal S2048x128 .bf16}
  (hq : ∀ i c, x0 (ix2 i c) = ((Q i c : ℝ) : EReal)) (hk : ∀ j c, x1 (ix2 j c) = ((K j c : ℝ) : EReal))
  (hv : ∀ j c, x2 (ix2 j c) = ((V j c : ℝ) : EReal)) (hd : ∀ i c, x3 (ix2 i c) = ((D i c : ℝ) : EReal))
  (ho : ∀ i c, x4 (ix2 i c) = ((out Q K V i c : ℝ) : EReal))

include hq hk in
/-- A block of the softmax's rows, wherever it starts. -/
theorem block_prob (b : ℕ) (hb : b + 256 ≤ 2048) (h) (h') (x : S256x2048.Idx) :
    k1_pay11 (F := Ideal) (k1_pay8 (View.ld x0 (Rect.unit (s := S2048x128) ![b, 0] S256x128.size h)) x1) x
      = vecOf (prob Q K) ((Rect.unit (s := S2048x2048) ![b, 0] S256x2048.size h').emb x) := by
  rw [pay_cast, eq_ix2 x]
  refine (pay_prob (Q := Q) (K := K) (ρ := rowAt b hb) (fun r c => ?_) (fun j c => ?_) (x 0) (x 1)).trans ?_
  · exact (ld_rows x0 b hb h r c).trans (hq _ _)
  · exact hk j c
  · exact (congrArg (vecOf (prob Q K)) (emb_rows b hb h' (x 0) (x 1))).symm

include hq hk hv hd ho in
/-- A block of rows of the gradient of the scores, wherever it starts. -/
theorem block_dscore (b : ℕ) (hb : b + 256 ≤ 2048) (h) (h') (x : S256x2048.Idx) :
    k1_pay10 (F := Ideal) (k1_pay7 (View.ld x3 (Rect.unit (s := S2048x128) ![b, 0] S256x128.size h)))
        (k1_pay8 (View.ld x0 (Rect.unit (s := S2048x128) ![b, 0] S256x128.size h)) x1)
        (k1_pay9 (View.ld x3 (Rect.unit (s := S2048x128) ![b, 0] S256x128.size h)) (View.ld x4 (Rect.unit (s := S2048x128) ![b, 0] S256x128.size h)))
        x2 x
      = vecOf (dscore Q K V D) ((Rect.unit (s := S2048x2048) ![b, 0] S256x2048.size h').emb x) := by
  rw [eq_ix2 x]
  refine (pay_dscore (Q := Q) (K := K) (V := V) (D := D) (ρ := rowAt b hb) (fun r c => ?_) (fun j c => ?_) (fun j c => ?_) (fun r c => ?_)
    (fun r c => ?_) (x 0) (x 1)).trans ?_
  · exact (ld_rows x0 b hb h r c).trans (hq _ _)
  · exact hk j c
  · exact hv j c
  · exact (ld_rows x3 b hb h r c).trans (hd _ _)
  · exact (ld_rows x4 b hb h r c).trans (ho _ _)
  · exact (congrArg (vecOf (dscore Q K V D)) (emb_rows b hb h' (x 0) (x 1))).symm

/-- Eight blocks of rows make the whole matrix. -/
theorem canon_rows (M : Fin 2048 → Fin 2048 → ℝ) {p0 p1 p2 p3 p4 p5 p6 p7 : Vec Ideal S256x2048 .bf16}
    (h0 : ∀ x, p0 x = vecOf M ((Rect.unit (s := S2048x2048) ![1792, 0] S256x2048.size (by decide)).emb x))
    (h1 : ∀ x, p1 x = vecOf M ((Rect.unit (s := S2048x2048) ![1536, 0] S256x2048.size (by decide)).emb x))
    (h2 : ∀ x, p2 x = vecOf M ((Rect.unit (s := S2048x2048) ![1280, 0] S256x2048.size (by decide)).emb x))
    (h3 : ∀ x, p3 x = vecOf M ((Rect.unit (s := S2048x2048) ![1024, 0] S256x2048.size (by decide)).emb x))
    (h4 : ∀ x, p4 x = vecOf M ((Rect.unit (s := S2048x2048) ![768, 0] S256x2048.size (by decide)).emb x))
    (h5 : ∀ x, p5 x = vecOf M ((Rect.unit (s := S2048x2048) ![512, 0] S256x2048.size (by decide)).emb x))
    (h6 : ∀ x, p6 x = vecOf M ((Rect.unit (s := S2048x2048) ![256, 0] S256x2048.size (by decide)).emb x))
    (h7 : ∀ x, p7 x = vecOf M ((Rect.unit (s := S2048x2048) ![0, 0] S256x2048.size (by decide)).emb x)) :
    View.canon [⟨Rect.unit (s := S2048x2048) ![1792, 0] S256x2048.size (by decide), p0⟩, ⟨Rect.unit (s := S2048x2048) ![1536, 0] S256x2048.size (by decide), p1⟩, ⟨Rect.unit (s := S2048x2048) ![1280, 0] S256x2048.size (by decide), p2⟩, ⟨Rect.unit (s := S2048x2048) ![1024, 0] S256x2048.size (by decide), p3⟩, ⟨Rect.unit (s := S2048x2048) ![768, 0] S256x2048.size (by decide), p4⟩, ⟨Rect.unit (s := S2048x2048) ![512, 0] S256x2048.size (by decide), p5⟩, ⟨Rect.unit (s := S2048x2048) ![256, 0] S256x2048.size (by decide), p6⟩, ⟨Rect.unit (s := S2048x2048) ![0, 0] S256x2048.size (by decide), p7⟩]
      = (show Vec Ideal S2048x2048 .bf16 from vecOf M) := by
  funext y
  refine View.canon_apply_of_pieces (S := S2048x2048) (G := (show Vec Ideal S2048x2048 .bf16 from vecOf M)) _ ?_ y ?_
  · simp only [List.forall_mem_cons]
    exact ⟨h0, h1, h2, h3, h4, h5, h6, h7, by simp⟩
  · refine View.cover_of_tiled (s := S2048x2048) _ S256x2048.size ?_ y
    rfl

end Blocks

end Attn

end
-- ==== Proof.Attn.Cases.lean ====
/- The backward kernel's three blocks at a grid point, in each of its three cases. -/
module

public import proofs.«01_k».proof.Proof.Attn.Body1

@[expose] public section

noncomputable section

namespace Attn

open Reals
open Idealize.ShloMosaic Idealize.ShloMosaic.Pointwise Cert.KernelIdeal Cert.KernelIdeal.Gen

variable (c : Dev nD) (i : grid1.Coords) (arg4 : Memref sig .tc .vmem S2048x128 .bf16) (harg4 : arg4.IsWhole)
  (arg5 : Memref sig .tc .vmem S2048x128 .bf16) (harg5 : arg5.IsWhole) (arg6 : Memref sig .tc .vmem S2048x128 .bf16) (harg6 : arg6.IsWhole)
  (arg7 : Memref sig .tc .vmem S2048x128 .bf16) (harg7 : arg7.IsWhole) (arg8 : Memref sig .tc .vmem S2048x128 .bf16) (harg8 : arg8.IsWhole)
  (arg9 : Memref sig .tc .vmem S2048x128 .f32) (harg9 : arg9.IsWhole) (arg10 : Memref sig .tc .vmem S2048x128 .f32) (harg10 : arg10.IsWhole)
  (arg11 : Memref sig .tc .vmem S2048x128 .f32) (harg11 : arg11.IsWhole) (arg12 : Memref sig .tc .vmem S2048x2048 .bf16)
  (harg12 : arg12.IsWhole) (arg13 : Memref sig .tc .vmem S2048x2048 .bf16) (harg13 : arg13.IsWhole)
  {Q K V D : Fin 2048 → Fin 128 → ℝ} {x0 x1 x2 x3 x4 : Vec Ideal S2048x128 .bf16} (xo6 xo7 : Vec Ideal S2048x128 .f32)
  (hq : ∀ i c, x0 (ix2 i c) = ((Q i c : ℝ) : EReal)) (hk : ∀ j c, x1 (ix2 j c) = ((K j c : ℝ) : EReal))
  (hv : ∀ j c, x2 (ix2 j c) = ((V j c : ℝ) : EReal)) (hd : ∀ i c, x3 (ix2 i c) = ((D i c : ℝ) : EReal))
  (ho : ∀ i c, x4 (ix2 i c) = ((out Q K V i c : ℝ) : EReal))

include hq hk hv hd ho in
theorem out1_A_5_apply (hc0 : cond1_0 i) (hc1 : ¬cond1_1 i) (j : Fin 2048) (e : Fin 128) :
    out1_A_5 (F := Ideal) c i arg4 harg4 arg5 harg5 arg6 harg6 arg7 harg7 arg8 harg8 arg9 harg9 arg10 harg10 arg11 harg11 arg12 harg12 arg13 harg13 hc0 hc1 x0 x1 x2 x3 x4 (ix2 j e)
      = ((dq Q K V D j e : ℝ) : EReal) := by
  unfold out1_A_5
  rw [View.read_writes_eq_canon _ _ _ (cover1_A_5 c i arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dq (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hk j e

include hq hk hv hd ho in
theorem out1_A_6_apply (hc0 : cond1_0 i) (hc1 : ¬cond1_1 i) (j : Fin 2048) (e : Fin 128) :
    out1_A_6 (F := Ideal) c i arg4 harg4 arg5 harg5 arg6 harg6 arg7 harg7 arg8 harg8 arg9 harg9 arg10 harg10 arg11 harg11 arg12 harg12 arg13 harg13 hc0 hc1 x0 x1 x2 x3 x4 (ix2 j e)
      = ((dk Q K V D j e : ℝ) : EReal) := by
  unfold out1_A_6
  rw [View.read_writes_eq_canon _ _ _ (cover1_A_6 c i arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  rw [View.canon_cons_unit_zero (S := S2048x128) hz]
  refine (pay_dk (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hq _ j e).trans ?_
  rw [pay_zero, zero_add]; rfl

include hq hk hd in
theorem out1_A_7_apply (hc0 : cond1_0 i) (hc1 : ¬cond1_1 i) (j : Fin 2048) (e : Fin 128) :
    out1_A_7 (F := Ideal) c i arg4 harg4 arg5 harg5 arg6 harg6 arg7 harg7 arg8 harg8 arg9 harg9 arg10 harg10 arg11 harg11 arg12 harg12 arg13 harg13 hc0 hc1 x0 x1 x2 x3 x4 (ix2 j e)
      = ((dv Q K D j e : ℝ) : EReal) := by
  unfold out1_A_7
  rw [View.read_writes_eq_canon _ _ _ (cover1_A_7 c i arg4 harg4 arg5 harg5 arg6 harg6 arg7 harg7 arg8 harg8 arg9 harg9 arg10 harg10 arg11 harg11 arg12 harg12 arg13 harg13 hc0 hc1 x0 x1 x2 x3 x4)]
  unfold kernelRun1_A
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  rw [View.canon_cons_unit_zero (S := S2048x128) hz]
  refine (pay_dv (canon_rows (prob Q K)
    (block_prob hq hk 1792 (by decide) _ _)
    (block_prob hq hk 1536 (by decide) _ _)
    (block_prob hq hk 1280 (by decide) _ _)
    (block_prob hq hk 1024 (by decide) _ _)
    (block_prob hq hk 768 (by decide) _ _)
    (block_prob hq hk 512 (by decide) _ _)
    (block_prob hq hk 256 (by decide) _ _)
    (block_prob hq hk 0 (by decide) _ _)) hd _ j e).trans ?_
  rw [pay_zero', zero_add]; rfl

include hq hk hv hd ho in
theorem out1_B_5_apply (hc0 : ¬cond1_0 i) (hc1 : ¬cond1_1 i) (j : Fin 2048) (e : Fin 128) :
    out1_B_5 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = ((dq Q K V D j e : ℝ) : EReal) := by
  unfold out1_B_5
  rw [View.read_writes_eq_canon _ _ _ (cover1_B_5 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_B
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dq (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hk j e

include hq hk hv hd ho in
theorem out1_B_6_apply (hc0 : ¬cond1_0 i) (hc1 : ¬cond1_1 i) (j : Fin 2048) (e : Fin 128) :
    out1_B_6 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = xo6 (ix2 j e) + ((dk Q K V D j e : ℝ) : EReal) := by
  unfold out1_B_6
  rw [View.read_writes_eq_canon _ _ _ (cover1_B_6 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_B
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dk (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hq _ j e

include hq hk hd in
theorem out1_B_7_apply (hc0 : ¬cond1_0 i) (hc1 : ¬cond1_1 i) (j : Fin 2048) (e : Fin 128) :
    out1_B_7 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = xo7 (ix2 j e) + ((dv Q K D j e : ℝ) : EReal) := by
  unfold out1_B_7
  rw [View.read_writes_eq_canon _ _ _ (cover1_B_7 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_B
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dv (canon_rows (prob Q K)
    (block_prob hq hk 1792 (by decide) _ _)
    (block_prob hq hk 1536 (by decide) _ _)
    (block_prob hq hk 1280 (by decide) _ _)
    (block_prob hq hk 1024 (by decide) _ _)
    (block_prob hq hk 768 (by decide) _ _)
    (block_prob hq hk 512 (by decide) _ _)
    (block_prob hq hk 256 (by decide) _ _)
    (block_prob hq hk 0 (by decide) _ _)) hd _ j e

include hq hk hv hd ho in
theorem out1_C_5_apply (hc0 : ¬cond1_0 i) (hc1 : cond1_1 i) (j : Fin 2048) (e : Fin 128) :
    out1_C_5 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = ((dq Q K V D j e : ℝ) : EReal) := by
  unfold out1_C_5
  rw [View.read_writes_eq_canon _ _ _ (cover1_C_5 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_C
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dq (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hk j e

include hq hk hv hd ho in
theorem out1_C_6_apply (hc0 : ¬cond1_0 i) (hc1 : cond1_1 i) (j : Fin 2048) (e : Fin 128) :
    out1_C_6 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = (xo6 (ix2 j e) + ((dk Q K V D j e : ℝ) : EReal)) * ((σ : ℝ) : EReal) := by
  unfold out1_C_6
  rw [View.read_writes_eq_canon _ _ _ (cover1_C_6 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_C
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  rw [View.canon_cons_unit_zero (S := S2048x128) hz, pay_scale]
  exact congrArg (· * ((σ : ℝ) : EReal)) (pay_dk (canon_rows (dscore Q K V D)
    (block_dscore hq hk hv hd ho 1792 (by decide) _ _)
    (block_dscore hq hk hv hd ho 1536 (by decide) _ _)
    (block_dscore hq hk hv hd ho 1280 (by decide) _ _)
    (block_dscore hq hk hv hd ho 1024 (by decide) _ _)
    (block_dscore hq hk hv hd ho 768 (by decide) _ _)
    (block_dscore hq hk hv hd ho 512 (by decide) _ _)
    (block_dscore hq hk hv hd ho 256 (by decide) _ _)
    (block_dscore hq hk hv hd ho 0 (by decide) _ _)) hq _ j e)

include hq hk hd in
theorem out1_C_7_apply (hc0 : ¬cond1_0 i) (hc1 : cond1_1 i) (j : Fin 2048) (e : Fin 128) :
    out1_C_7 (F := Ideal) c i arg4 harg4 arg5 harg5 arg6 harg6 arg7 harg7 arg8 harg8 arg9 harg9 arg10 harg10 arg11 harg11 arg12 harg12 arg13 harg13 hc0 hc1 x0 x1 x2 x3 x4 xo6 xo7 (ix2 j e)
      = xo7 (ix2 j e) + ((dv Q K D j e : ℝ) : EReal) := by
  unfold out1_C_7
  rw [View.read_writes_eq_canon _ _ _ (cover1_C_7 c i arg4 harg4 arg5 harg5 arg6 harg6 arg7 harg7 arg8 harg8 arg9 harg9 arg10 harg10 arg11 harg11 arg12 harg12 arg13 harg13 hc0 hc1 x0 x1 x2 x3 x4 xo6 xo7)]
  unfold kernelRun1_C
  dsimp only
  sl_unfold_words
  rw [View.canon_cons_unit_zero (S := S2048x128) hz]
  simp only [View.readAt_eq_ld, harg4.read_unread, harg5.read_unread, harg6.read_unread, harg7.read_unread, harg8.read_unread,
    harg10.read_unread, harg11.read_unread, View.readCov_eq_canon', View.ld_unit_zero (S := S2048x128) hz, whole_canon]
  exact pay_dv (canon_rows (prob Q K)
    (block_prob hq hk 1792 (by decide) _ _)
    (block_prob hq hk 1536 (by decide) _ _)
    (block_prob hq hk 1280 (by decide) _ _)
    (block_prob hq hk 1024 (by decide) _ _)
    (block_prob hq hk 768 (by decide) _ _)
    (block_prob hq hk 512 (by decide) _ _)
    (block_prob hq hk 256 (by decide) _ _)
    (block_prob hq hk 0 (by decide) _ _)) hd _ j e

end Attn

end
-- ==== Proof.Attn.Arrays.lean ====
/- From the blocks to the whole arrays: if the two regions find matrices of reals in their input arrays, the forward kernel's array ends
   holding the attention's output, and the backward kernel's three arrays end holding the gradients, the sums over a key head's four
   query heads taken from block to block. -/
module

public import proofs.«01_k».proof.Proof.Attn.Cases
public import Idealize.ShloMosaic.Lib.Pipeline.ValueKit

@[expose] public section

noncomputable section

namespace Attn

open Reals
open Idealize.ShloMosaic Idealize.ShloMosaic.Pointwise Cert.KernelIdeal Cert.KernelIdeal.Gen

/-- Head `h` of sequence `b`: its 2048 rows and 128 columns. -/
def hd (A : ℕ → ℕ → ℝ) (b h : ℕ) : Fin 2048 → Fin 128 → ℝ := fun i c => A (b * 2048 + i.val) (h * 128 + c.val)

def lo (r : ℕ) : Fin 2048 := ⟨r % 2048, Nat.mod_lt _ (by decide)⟩
def lc (e : ℕ) : Fin 128 := ⟨e % 128, Nat.mod_lt _ (by decide)⟩

section Spec

variable (q k v o : ℕ → ℕ → ℝ)

/-- The attention's output. -/
def outA (r e : ℕ) : ℝ := out (hd q (r / 2048) (e / 128)) (hd k (r / 2048) (e / 128 / 4)) (hd v (r / 2048) (e / 128 / 4)) (lo r) (lc e)

/-- The gradient of the queries. -/
def dqA (r e : ℕ) : ℝ :=
  dq (hd q (r / 2048) (e / 128)) (hd k (r / 2048) (e / 128 / 4)) (hd v (r / 2048) (e / 128 / 4)) (hd o (r / 2048) (e / 128)) (lo r) (lc e)

/-- Query head `g` of key head `h`: its part of the gradient of the keys, before the scale. -/
def dkG (b h g : ℕ) : Fin 2048 → Fin 128 → ℝ := dk (hd q b (h * 4 + g)) (hd k b h) (hd v b h) (hd o b (h * 4 + g))

/-- Query head `g` of key head `h`: its part of the gradient of the values. -/
def dvG (b h g : ℕ) : Fin 2048 → Fin 128 → ℝ := dv (hd q b (h * 4 + g)) (hd k b h) (hd o b (h * 4 + g))

/-- The gradient of the keys. -/
def dkA (r e : ℕ) : ℝ := (∑ g ∈ Finset.range 4, dkG q k v o (r / 2048) (e / 128) g (lo r) (lc e)) * σ

/-- The gradient of the values. -/
def dvA (r e : ℕ) : ℝ := ∑ g ∈ Finset.range 4, dvG q k o (r / 2048) (e / 128) g (lo r) (lc e)

theorem split_row (b : ℕ) (i : Fin 2048) : (b * 2048 + i.val) / 2048 = b ∧ lo (b * 2048 + i.val) = i := by
  have := i.isLt
  exact ⟨by omega, Fin.ext (by show (b * 2048 + i.val) % 2048 = i.val; omega)⟩

theorem split_col (h : ℕ) (c : Fin 128) : (h * 128 + c.val) / 128 = h ∧ lc (h * 128 + c.val) = c := by
  have := c.isLt
  exact ⟨by omega, Fin.ext (by show (h * 128 + c.val) % 128 = c.val; omega)⟩

theorem hd_outA (b h : ℕ) (i : Fin 2048) (c : Fin 128) : hd (outA q k v) b h i c = out (hd q b h) (hd k b (h / 4)) (hd v b (h / 4)) i c := by
  unfold hd outA
  rw [(split_row b i).1, (split_row b i).2, (split_col h c).1, (split_col h c).2]
  rfl

theorem hd_dqA (b h : ℕ) (i : Fin 2048) (c : Fin 128) :
    hd (dqA q k v o) b h i c = dq (hd q b h) (hd k b (h / 4)) (hd v b (h / 4)) (hd o b h) i c := by
  unfold hd dqA
  rw [(split_row b i).1, (split_row b i).2, (split_col h c).1, (split_col h c).2]
  rfl

theorem hd_dkA (b h : ℕ) (i : Fin 2048) (c : Fin 128) :
    hd (dkA q k v o) b h i c = (∑ g ∈ Finset.range 4, dkG q k v o b h g i c) * σ := by
  unfold hd dkA
  rw [(split_row b i).1, (split_row b i).2, (split_col h c).1, (split_col h c).2]

theorem hd_dvA (b h : ℕ) (i : Fin 2048) (c : Fin 128) : hd (dvA q k o) b h i c = ∑ g ∈ Finset.range 4, dvG q k o b h g i c := by
  unfold hd dvA
  rw [(split_row b i).1, (split_row b i).2, (split_col h c).1, (split_col h c).2]

end Spec

/-- Blocks at `(b, h)` of a matrix of reals hold that head. -/
theorem vecN_at {m n : ℕ} (A : ℕ → ℕ → ℝ) (b h : ℕ) (y : (⟨2, ![m, n]⟩ : Shape).Idx) (i : Fin 2048) (c : Fin 128)
    (h0 : (y 0).val = b * 2048 + i.val) (h1 : (y 1).val = h * 128 + c.val) : vecN A y = ((hd A b h i c : ℝ) : EReal) := by
  unfold vecN hd
  rw [h0, h1]

variable (V : (c : Dev nD) → (b : Ref sig .tc) → Buf (Elt Ideal) ((c.tc : Thread nD τ).loc b)) (c : Dev nD) {q k v o : ℕ → ℕ → ℝ}

section Region0

variable (hq : (V c main_v0 : S4096x1024.Idx → EReal) = vecN q) (hk : (V c main_v1 : S4096x256.Idx → EReal) = vecN k) (hv : (V c main_v2 : S4096x256.Idx → EReal) = vecN v)

theorem idx0_0 : ∀ t : Fin cfg0.N, win0_0.index t = ![t.val / 8, t.val % 8] := (by decide +kernel : ∀ t : Fin grid0.N, _)
theorem idx0_1 : ∀ t : Fin cfg0.N, win0_1.index t = ![t.val / 8, t.val % 8 / 4] := (by decide +kernel : ∀ t : Fin grid0.N, _)
theorem idx0_2 : ∀ t : Fin cfg0.N, win0_2.index t = ![t.val / 8, t.val % 8 / 4] := (by decide +kernel : ∀ t : Fin grid0.N, _)
theorem idx0_3 : ∀ t : Fin cfg0.N, win0_3.index t = ![t.val / 8, t.val % 8] := (by decide +kernel : ∀ t : Fin grid0.N, _)

include hq in
theorem iblk0_0 (t : Fin cfg0.N) (i : Fin 2048) (e : Fin 128) :
    (iblk0 V c 0 t : Vec Ideal S2048x128 .bf16) (ix2 i e) = ((hd q (t.val / 8) (t.val % 8) i e : ℝ) : EReal) := by
  blk_simp [iblk0]
  rw [hq]
  exact vecN_at _ _ _ _ i e (by blk_simp [idx0_0]) (by blk_simp [idx0_0])

include hk in
theorem iblk0_1 (t : Fin cfg0.N) (i : Fin 2048) (e : Fin 128) :
    (iblk0 V c 1 t : Vec Ideal S2048x128 .bf16) (ix2 i e) = ((hd k (t.val / 8) (t.val % 8 / 4) i e : ℝ) : EReal) := by
  blk_simp [iblk0]
  rw [hk]
  exact vecN_at _ _ _ _ i e (by blk_simp [idx0_1]) (by blk_simp [idx0_1])

include hv in
theorem iblk0_2 (t : Fin cfg0.N) (i : Fin 2048) (e : Fin 128) :
    (iblk0 V c 2 t : Vec Ideal S2048x128 .bf16) (ix2 i e) = ((hd v (t.val / 8) (t.val % 8 / 4) i e : ℝ) : EReal) := by
  blk_simp [iblk0]
  rw [hv]
  exact vecN_at _ _ _ _ i e (by blk_simp [idx0_2]) (by blk_simp [idx0_2])

include hq hk hv in
/-- The forward kernel's array. -/
theorem final_o : ((dat0 V c).arrAt 3 cfg0.N : S4096x1024.Idx → EReal) = vecN (outA q k v) := by
  refine (dat0 V c).arrAt_eq_of_covers 3 _ (by decide +kernel) fun t hf y => ?_
  blk_simp
  rw [after0_3, eq_ix2 y]
  refine (out0_3_apply (iblk0_0 V c hq t) (iblk0_1 V c hk t) (iblk0_2 V c hv t) (y 0) (y 1)).trans ?_
  refine Eq.trans ?_ (vecN_at _ (t.val / 8) (t.val % 8) _ (y 0) (y 1) (by blk_simp [idx0_3]) (by blk_simp [idx0_3])).symm
  exact (congrArg Real.toEReal (hd_outA q k v _ _ (y 0) (y 1))).symm

end Region0

section Region1

variable (hq : (V c main_v0 : S4096x1024.Idx → EReal) = vecN q) (hk : (V c main_v1 : S4096x256.Idx → EReal) = vecN k)
  (hv : (V c main_v2 : S4096x256.Idx → EReal) = vecN v) (hd' : (V c main_v3 : S4096x1024.Idx → EReal) = vecN o)
  (ho : (V c main_v4 : S4096x1024.Idx → EReal) = vecN (outA q k v))

theorem idx1_0 : ∀ t : Fin cfg1.N, win1_0.index t = ![t.val / 8, t.val % 8] := (by decide +kernel : ∀ t : Fin grid1.N, _)
theorem idx1_1 : ∀ t : Fin cfg1.N, win1_1.index t = ![t.val / 8, t.val % 8 / 4] := (by decide +kernel : ∀ t : Fin grid1.N, _)
theorem idx1_2 : ∀ t : Fin cfg1.N, win1_2.index t = ![t.val / 8, t.val % 8 / 4] := (by decide +kernel : ∀ t : Fin grid1.N, _)
theorem idx1_3 : ∀ t : Fin cfg1.N, win1_3.index t = ![t.val / 8, t.val % 8] := (by decide +kernel : ∀ t : Fin grid1.N, _)
theorem idx1_4 : ∀ t : Fin cfg1.N, win1_4.index t = ![t.val / 8, t.val % 8] := (by decide +kernel : ∀ t : Fin grid1.N, _)
theorem idx1_5 : ∀ t : Fin cfg1.N, win1_5.index t = ![t.val / 8, t.val % 8] := (by decide +kernel : ∀ t : Fin grid1.N, _)
theorem idx1_6 : ∀ t : Fin cfg1.N, win1_6.index t = ![t.val / 8, t.val % 8 / 4] := (by decide +kernel : ∀ t : Fin grid1.N, _)
theorem idx1_7 : ∀ t : Fin cfg1.N, win1_7.index t = ![t.val / 8, t.val % 8 / 4] := (by decide +kernel : ∀ t : Fin grid1.N, _)

include hq in
theorem iblk1_0 (t : Fin cfg1.N) (i : Fin 2048) (e : Fin 128) :
    (iblk1 V c 0 t : Vec Ideal S2048x128 .bf16) (ix2 i e) = ((hd q (t.val / 8) (t.val % 8) i e : ℝ) : EReal) := by
  blk_simp [iblk1]
  rw [hq]
  exact vecN_at _ _ _ _ i e (by blk_simp [idx1_0]) (by blk_simp [idx1_0])

include hk in
theorem iblk1_1 (t : Fin cfg1.N) (i : Fin 2048) (e : Fin 128) :
    (iblk1 V c 1 t : Vec Ideal S2048x128 .bf16) (ix2 i e) = ((hd k (t.val / 8) (t.val % 8 / 4) i e : ℝ) : EReal) := by
  blk_simp [iblk1]
  rw [hk]
  exact vecN_at _ _ _ _ i e (by blk_simp [idx1_1]) (by blk_simp [idx1_1])

include hv in
theorem iblk1_2 (t : Fin cfg1.N) (i : Fin 2048) (e : Fin 128) :
    (iblk1 V c 2 t : Vec Ideal S2048x128 .bf16) (ix2 i e) = ((hd v (t.val / 8) (t.val % 8 / 4) i e : ℝ) : EReal) := by
  blk_simp [iblk1]
  rw [hv]
  exact vecN_at _ _ _ _ i e (by blk_simp [idx1_2]) (by blk_simp [idx1_2])

include hd' in
theorem iblk1_3 (t : Fin cfg1.N) (i : Fin 2048) (e : Fin 128) :
    (iblk1 V c 3 t : Vec Ideal S2048x128 .bf16) (ix2 i e) = ((hd o (t.val / 8) (t.val % 8) i e : ℝ) : EReal) := by
  blk_simp [iblk1]
  rw [hd']
  exact vecN_at _ _ _ _ i e (by blk_simp [idx1_3]) (by blk_simp [idx1_3])

include ho in
theorem iblk1_4 (t : Fin cfg1.N) (i : Fin 2048) (e : Fin 128) :
    (iblk1 V c 4 t : Vec Ideal S2048x128 .bf16) (ix2 i e) = ((hd (outA q k v) (t.val / 8) (t.val % 8) i e : ℝ) : EReal) := by
  blk_simp [iblk1]
  rw [ho]
  exact vecN_at _ _ _ _ i e (by blk_simp [idx1_4]) (by blk_simp [idx1_4])

include ho in
theorem blk_o (t : Fin cfg1.N) (i : Fin 2048) (e : Fin 128) :
    (iblk1 V c 4 t : Vec Ideal S2048x128 .bf16) (ix2 i e)
      = ((out (hd q (t.val / 8) (t.val % 8)) (hd k (t.val / 8) (t.val % 8 / 4)) (hd v (t.val / 8) (t.val % 8 / 4)) i e : ℝ) : EReal) := by
  rw [iblk1_4 V c ho t i e, hd_outA]

include hq hk hv hd' ho in
/-- What a point leaves in the block of the gradient of the queries. -/
theorem at_dq (t : Fin cfg1.N) (j : Fin 2048) (e : Fin 128) :
    (outsAt1 V c t.val t.isLt).1 (ix2 j e) = ((hd (dqA q k v o) (t.val / 8) (t.val % 8) j e : ℝ) : EReal) := by
  rw [hd_dqA]
  by_cases h0 : t.val % 4 = 0
  · have h1 : ¬t.val % 4 = 3 := by omega
    rw [outsAt1_A V c t h0 h1]
    dsimp only
    exact out1_A_5_apply (hq := iblk1_0 V c hq t) (hk := iblk1_1 V c hk t) (hv := iblk1_2 V c hv t) (hd := iblk1_3 V c hd' t)
      (ho := blk_o V c ho t) (j := j) (e := e) ..
  · by_cases h1 : t.val % 4 = 3
    · rw [outsAt1_C V c t h0 h1]
      dsimp only
      exact out1_C_5_apply (hq := iblk1_0 V c hq t) (hk := iblk1_1 V c hk t) (hv := iblk1_2 V c hv t) (hd := iblk1_3 V c hd' t)
        (ho := blk_o V c ho t) (j := j) (e := e) ..
    · rw [outsAt1_B V c t h0 h1]
      dsimp only
      exact out1_B_5_apply (hq := iblk1_0 V c hq t) (hk := iblk1_1 V c hk t) (hv := iblk1_2 V c hv t) (hd := iblk1_3 V c hd' t)
        (ho := blk_o V c ho t) (j := j) (e := e) ..

theorem head_eq (n : ℕ) : n % 8 / 4 * 4 + n % 4 = n % 8 := by omega

/-- The heads summed by point `n`, of a function of a sequence, a key head and a query head of it. -/
def upto (f : ℕ → ℕ → ℕ → Fin 2048 → Fin 128 → ℝ) (n : ℕ) (j : Fin 2048) (e : Fin 128) : ℝ :=
  ∑ g ∈ Finset.range (n % 4 + 1), f (n / 8) (n % 8 / 4) g j e

theorem upto_first (f : ℕ → ℕ → ℕ → Fin 2048 → Fin 128 → ℝ) (n : ℕ) (h : n % 4 = 0) (j : Fin 2048) (e : Fin 128) :
    upto f n j e = f (n / 8) (n % 8 / 4) (n % 4) j e := by
  unfold upto
  rw [h]
  simp

theorem upto_next (f : ℕ → ℕ → ℕ → Fin 2048 → Fin 128 → ℝ) (n : ℕ) (h : ¬n % 4 = 0) (j : Fin 2048) (e : Fin 128) :
    upto f n j e = upto f (n - 1) j e + f (n / 8) (n % 8 / 4) (n % 4) j e := by
  unfold upto
  rw [Finset.sum_range_succ, show (n - 1) % 4 + 1 = n % 4 by omega, show (n - 1) / 8 = n / 8 by omega,
    show (n - 1) % 8 / 4 = n % 8 / 4 by omega]

include hq hk hv hd' ho in
/-- What a point that isn't a key head's last leaves in the block of the gradient of the keys. -/
theorem at_dk : ∀ (n : ℕ) (hn : n < cfg1.N) (_ : ¬n % 4 = 3) (j : Fin 2048) (e : Fin 128),
    (outsAt1 V c n hn).2.1 (ix2 j e) = ((upto (dkG q k v o) n j e : ℝ) : EReal) := by
  intro n
  induction n using Nat.strong_induction_on with
  | _ n ih =>
    intro hn h1 j e
    by_cases h0 : n % 4 = 0
    · rw [outsAt1_A V c ⟨n, hn⟩ h0 h1, upto_first _ _ h0, dkG, head_eq]
      dsimp only
      exact out1_A_6_apply (hq := iblk1_0 V c hq ⟨n, hn⟩) (hk := iblk1_1 V c hk ⟨n, hn⟩) (hv := iblk1_2 V c hv ⟨n, hn⟩)
        (hd := iblk1_3 V c hd' ⟨n, hn⟩) (ho := blk_o V c ho ⟨n, hn⟩) (j := j) (e := e) ..
    · rw [outsAt1_B V c ⟨n, hn⟩ h0 h1, upto_next _ _ h0, EReal.coe_add, ← ih (n - 1) (by omega) (by omega) (by omega) j e, dkG, head_eq]
      dsimp only
      exact out1_B_6_apply (hq := iblk1_0 V c hq ⟨n, hn⟩) (hk := iblk1_1 V c hk ⟨n, hn⟩) (hv := iblk1_2 V c hv ⟨n, hn⟩)
        (hd := iblk1_3 V c hd' ⟨n, hn⟩) (ho := blk_o V c ho ⟨n, hn⟩) (j := j) (e := e) ..

include hq hk hv hd' ho in
/-- What a key head's last point leaves there. -/
theorem at_dk_last (t : Fin cfg1.N) (h1 : t.val % 4 = 3) (j : Fin 2048) (e : Fin 128) :
    (outsAt1 V c t.val t.isLt).2.1 (ix2 j e) = ((hd (dkA q k v o) (t.val / 8) (t.val % 8 / 4) j e : ℝ) : EReal) := by
  have h0 : ¬t.val % 4 = 0 := by omega
  have hs : ∑ g ∈ Finset.range 4, dkG q k v o (t.val / 8) (t.val % 8 / 4) g j e = upto (dkG q k v o) t.val j e := by
    unfold upto; rw [h1]
  rw [hd_dkA, hs, outsAt1_C V c t h0 h1, upto_next _ _ h0, EReal.coe_mul, EReal.coe_add,
    ← at_dk V c hq hk hv hd' ho (t.val - 1) (by omega) (by omega) j e, dkG, head_eq]
  dsimp only
  exact out1_C_6_apply (hq := iblk1_0 V c hq t) (hk := iblk1_1 V c hk t) (hv := iblk1_2 V c hv t)
    (hd := iblk1_3 V c hd' t) (ho := blk_o V c ho t) (j := j) (e := e) ..

include hq hk hd' in
/-- What a point leaves in the block of the gradient of the values. -/
theorem at_dv : ∀ (n : ℕ) (hn : n < cfg1.N) (j : Fin 2048) (e : Fin 128),
    (outsAt1 V c n hn).2.2 (ix2 j e) = ((upto (dvG q k o) n j e : ℝ) : EReal) := by
  intro n
  induction n using Nat.strong_induction_on with
  | _ n ih =>
    intro hn j e
    by_cases h0 : n % 4 = 0
    · have h1 : ¬n % 4 = 3 := by omega
      rw [outsAt1_A V c ⟨n, hn⟩ h0 h1, upto_first _ _ h0, dvG, head_eq]
      dsimp only
      exact out1_A_7_apply (hq := iblk1_0 V c hq ⟨n, hn⟩) (hk := iblk1_1 V c hk ⟨n, hn⟩) (hd := iblk1_3 V c hd' ⟨n, hn⟩)
        (j := j) (e := e) ..
    · rw [upto_next _ _ h0, EReal.coe_add, ← ih (n - 1) (by omega) (by omega) j e, dvG, head_eq]
      by_cases h1 : n % 4 = 3
      · rw [outsAt1_C V c ⟨n, hn⟩ h0 h1]
        dsimp only
        exact out1_C_7_apply (hq := iblk1_0 V c hq ⟨n, hn⟩) (hk := iblk1_1 V c hk ⟨n, hn⟩) (hd := iblk1_3 V c hd' ⟨n, hn⟩)
          (j := j) (e := e) ..
      · rw [outsAt1_B V c ⟨n, hn⟩ h0 h1]
        dsimp only
        exact out1_B_7_apply (hq := iblk1_0 V c hq ⟨n, hn⟩) (hk := iblk1_1 V c hk ⟨n, hn⟩) (hd := iblk1_3 V c hd' ⟨n, hn⟩)
          (j := j) (e := e) ..

include hq hk hv hd' ho in
theorem final_dq : ((dat1 V c).arrAt 5 cfg1.N : S4096x1024.Idx → EReal) = vecN (dqA q k v o) := by
  refine (dat1 V c).arrAt_eq_of_covers 5 _ (by decide +kernel) fun t hf y => ?_
  blk_simp
  rw [after1_5, eq_ix2 y]
  refine (at_dq V c hq hk hv hd' ho t (y 0) (y 1)).trans ?_
  exact (vecN_at _ _ _ _ (y 0) (y 1) (by blk_simp [idx1_5]) (by blk_simp [idx1_5])).symm

include hq hk hv hd' ho in
theorem final_dk : ((dat1 V c).arrAt 6 cfg1.N : S4096x256.Idx → EReal) = vecN (dkA q k v o) := by
  refine (dat1 V c).arrAt_eq_of_covers 6 _ (by decide +kernel) fun t hf y => ?_
  blk_simp
  rw [after1_6, eq_ix2 y]
  refine (at_dk_last V c hq hk hv hd' ho t ((flush1_6 t).mp hf) (y 0) (y 1)).trans ?_
  exact (vecN_at _ _ _ _ (y 0) (y 1) (by blk_simp [idx1_6]) (by blk_simp [idx1_6])).symm

include hq hk hd' in
theorem final_dv : ((dat1 V c).arrAt 7 cfg1.N : S4096x256.Idx → EReal) = vecN (dvA q k o) := by
  refine (dat1 V c).arrAt_eq_of_covers 7 _ (by decide +kernel) fun t hf y => ?_
  blk_simp
  rw [after1_7, eq_ix2 y]
  refine (at_dv V c hq hk hd' t.val t.isLt (y 0) (y 1)).trans ?_
  refine Eq.trans ?_ (vecN_at _ (t.val / 8) (t.val % 8 / 4) _ (y 0) (y 1) (by blk_simp [idx1_7]) (by blk_simp [idx1_7])).symm
  refine (congrArg Real.toEReal ((hd_dvA q k o _ _ (y 0) (y 1)).trans ?_)).symm
  unfold upto
  rw [(flush1_7 t).mp hf]

end Region1

end Attn

end
-- ==== Proof.Attn.Ref.lean ====
/- The reference, operation by operation, on matrices of reals: its scores, its softmax, its output, and the three gradients that
   `jax.vjp` makes of them are the formulas of Real.lean, head by head. -/
module

public import proofs.«01_k».proof.Proof.Gen.ReferenceIdeal.Read
public import proofs.«01_k».proof.Proof.Attn.Arrays

@[expose] public section

noncomputable section

namespace Attn

open Reals
open Idealize.ShloMosaic Idealize.ShloMosaic.Pointwise Cert.ReferenceIdeal Cert.ReferenceIdeal.Gen Cert.ReferenceIdeal.Read

/-- A matrix of reals as an argument with all the query heads, and as one with the key heads. -/
abbrev argQ (A : ℕ → ℕ → ℝ) : (⟨S4096x1024, .f32⟩ : BufTy).Contents (Elt Ideal) := vecN A
abbrev argK (A : ℕ → ℕ → ℝ) : (⟨S4096x256, .f32⟩ : BufTy).Contents (Elt Ideal) := vecN A

variable (q k v o : ℕ → ℕ → ℝ)

theorem v0_at (y : S2x2048x2x4x128.Idx) :
    val_main_v0 (F := Ideal) (argQ q) y = ((hd q (y 0).val ((y 2).val * 4 + (y 3).val) (y 1) (y 4) : ℝ) : EReal) := by
  rw [val_main_v0_apply]
  have h0 : (y 0).val < 2 := (y 0).isLt
  have h1 : (y 1).val < 2048 := (y 1).isLt
  have h2 : (y 2).val < 2 := (y 2).isLt
  have h3 : (y 3).val < 4 := (y 3).isLt
  have h4 : (y 4).val < 128 := (y 4).isLt
  refine vecN_at _ _ _ _ (y 1) (y 4) ?_ ?_
  · show (((((y 0).val * 2048 + (y 1).val) * 2 + (y 2).val) * 4 + (y 3).val) * 128 + (y 4).val) / 1024 = (y 0).val * 2048 + (y 1).val
    omega
  · show (((((y 0).val * 2048 + (y 1).val) * 2 + (y 2).val) * 4 + (y 3).val) * 128 + (y 4).val) % 1024 = ((y 2).val * 4 + (y 3).val) * 128 + (y 4).val
    omega

theorem v38_at (y : S2x2048x2x4x128.Idx) :
    val_main_v38 (F := Ideal) (argQ o) y = ((hd o (y 0).val ((y 2).val * 4 + (y 3).val) (y 1) (y 4) : ℝ) : EReal) := v0_at o y

theorem v1_at (y : S2x2048x2x128.Idx) :
    val_main_v1 (F := Ideal) (argK k) y = ((hd k (y 0).val (y 2).val (y 1) (y 3) : ℝ) : EReal) := by
  rw [val_main_v1_apply]
  have h0 : (y 0).val < 2 := (y 0).isLt
  have h1 : (y 1).val < 2048 := (y 1).isLt
  have h2 : (y 2).val < 2 := (y 2).isLt
  have h3 : (y 3).val < 128 := (y 3).isLt
  refine vecN_at _ _ _ _ (y 1) (y 3) ?_ ?_
  · show ((((y 0).val * 2048 + (y 1).val) * 2 + (y 2).val) * 128 + (y 3).val) / 256 = (y 0).val * 2048 + (y 1).val
    omega
  · show ((((y 0).val * 2048 + (y 1).val) * 2 + (y 2).val) * 128 + (y 3).val) % 256 = (y 2).val * 128 + (y 3).val
    omega

theorem v2_at (y : S2x2048x2x128.Idx) :
    val_main_v2 (F := Ideal) (argK v) y = ((hd v (y 0).val (y 2).val (y 1) (y 3) : ℝ) : EReal) := v1_at v y

/-- The scaled scores. -/
theorem v6_at (y : S2x2x4x2048x2048.Idx) :
    val_main_v6 (F := Ideal) (argQ q) (argK k) y
      = ((rowDot (hd q (y 0).val ((y 1).val * 4 + (y 2).val)) (hd k (y 0).val (y 1).val) (y 3) (y 4) : ℝ) : EReal) * ((σ : ℝ) : EReal) := by
  rw [val_main_v6_apply, val_main_v4_apply, val_main_v3_apply, val_main_v5_apply, val_main_cst_apply]
  refine congrArg₂ (· * ·) ?_ scale_eq
  simp only [v0_at, v1_at, sum_mul_coe]
  refine congrArg Real.toEReal ?_
  unfold rowDot
  exact Finset.sum_congr rfl fun c _ => mul_comm _ _

/-- A row's greatest score, and `⊥`, is a real. -/
theorem v14_at (y : S2x2x4x2048.Idx) : ∃ x : ℝ, val_main_v14 (F := Ideal) (argQ q) (argK k) y = (x : EReal) := by
  rw [val_main_v14_apply, val_main_v13_apply, val_main_cst_2_apply]
  have e : val_main_v7 (F := Ideal) (argQ q) (argK k) y
      = Finset.univ.fold max (⊥ : EReal) fun j : Fin 2048 => val_main_v6 (F := Ideal) (argQ q) (argK k) (ix5 (y 0) (y 1) (y 2) (y 3) j) := by
    unfold val_main_v7
    generalize val_main_v6 (F := Ideal) (argQ q) (argK k) = A
    pointwise
    rw [val_main_cst_0_apply]
    exact congrArg (fun b => Finset.univ.fold max b _) negInf
  simp only [v6_at, ← EReal.coe_mul] at e
  obtain ⟨x, hx⟩ := fold_max_coe fun j : Fin 2048 =>
    rowDot (hd q (y 0).val ((y 1).val * 4 + (y 2).val)) (hd k (y 0).val (y 1).val) (y 3) j * σ
  refine ⟨x, ?_⟩
  rw [show val_main_v7 (F := Ideal) (argQ q) (argK k) y = (x : EReal) from e.trans hx]
  show max (Ideal.ofBits .f32 0xFF800000#32) _ = _
  rw [negInf]
  exact max_eq_right bot_le

/-- What the reference takes off a row's scores before it exponentiates them. -/
def rowMax (y : S2x2x4x2048.Idx) : ℝ := (val_main_v14 (F := Ideal) (argQ q) (argK k) y).toReal

theorem v14_eq (y : S2x2x4x2048.Idx) : val_main_v14 (F := Ideal) (argQ q) (argK k) y = ((rowMax q k y : ℝ) : EReal) := by
  obtain ⟨x, hx⟩ := v14_at q k y
  rw [rowMax, hx, EReal.toReal_coe]

section Rows

variable (b kv : Fin 2) (g : Fin 4) (i : Fin 2048)

/-- The weights, each with its row's factor. -/
theorem v27_at (j : Fin 2048) :
    val_main_v27 (F := Ideal) (argQ q) (argK k) (ix5 b kv g i j)
      = ((Real.exp (-rowMax q k (ix4 b kv g i)) * wt (hd q b (kv.val * 4 + g.val)) (hd k b kv) i j : ℝ) : EReal) := by
  rw [val_main_v27_apply, val_main_v26_apply, v6_at, val_main_v25_apply, val_main_v24_apply, v14_eq]
  exact (congrArg (fun z => Ideal.exp (_ - ((rowMax q k z : ℝ) : EReal))) (eq_ix4 _)).trans (exp_coe _ _)

/-- A row's weights added up. -/
def rowSum : ℝ := ∑ j, Real.exp (-rowMax q k (ix4 b kv g i)) * wt (hd q b (kv.val * 4 + g.val)) (hd k b kv) i j

theorem rowSum_pos : 0 < rowSum q k b kv g i := by
  rw [rowSum, ← Finset.mul_sum]
  exact mul_pos (Real.exp_pos _) (sum_wt_pos _ _ _)

theorem v28_at : val_main_v28 (F := Ideal) (argQ q) (argK k) (ix4 b kv g i) = ((rowSum q k b kv g i : ℝ) : EReal) := by
  rw [val_main_v28_apply, val_main_cst_8_apply]
  rw [show FloatOps.ofBits (F := Ideal) .f32 0x00000000#32 = (0 : EReal) from Ideal.ofBits_zero_f32, zero_add, rowSum, ← sum_coe]
  refine Finset.sum_congr rfl fun j _ => ?_
  rw [← v27_at]
  exact congrArg _ (eq_ix5 _)

theorem v29_at (z : Fin 1) : val_main_v29 (F := Ideal) (argQ q) (argK k) (ix5 b kv g i z) = ((rowSum q k b kv g i : ℝ) : EReal) := by
  rw [val_main_v29_apply, ← v28_at]
  exact congrArg _ (eq_ix4 _)

/-- The softmax. -/
theorem v31_row (j : Fin 2048) :
    val_main_v31 (F := Ideal) (argQ q) (argK k) (ix5 b kv g i j)
      = ((prob (hd q b (kv.val * 4 + g.val)) (hd k b kv) i j : ℝ) : EReal) := by
  have h30 : val_main_v30 (F := Ideal) (argQ q) (argK k) (ix5 b kv g i j) = ((rowSum q k b kv g i : ℝ) : EReal) := by
    rw [val_main_v30_apply, ← v29_at q k b kv g i 0]
    exact congrArg _ (eq_ix5 _)
  rw [val_main_v31_apply, v27_at, h30]
  refine (div_coe_coe _ _ (rowSum_pos q k b kv g i).ne').trans ?_
  exact congrArg Real.toEReal (prob_of_scaled _ _ _ _ (Real.exp_pos _))

end Rows

theorem v31_at (y : S2x2x4x2048x2048.Idx) :
    val_main_v31 (F := Ideal) (argQ q) (argK k) y
      = ((prob (hd q (y 0).val ((y 1).val * 4 + (y 2).val)) (hd k (y 0).val (y 1).val) (y 3) (y 4) : ℝ) : EReal) :=
  (congrArg _ (eq_ix5 y)).trans (v31_row q k _ _ _ _ _)

/-- The attention's output, by head. -/
theorem v36_at (y : S2x2048x2x4x128.Idx) :
    val_main_v36 (F := Ideal) (argQ q) (argK k) (argK v) y
      = ((out (hd q (y 0).val ((y 2).val * 4 + (y 3).val)) (hd k (y 0).val (y 2).val) (hd v (y 0).val (y 2).val) (y 1) (y 4) : ℝ) : EReal) := by
  rw [val_main_v36_apply, val_main_v35_apply]
  simp only [v31_at, v2_at, sum_mul_coe]
  refine congrArg Real.toEReal ?_
  unfold out
  exact Finset.sum_congr rfl fun j _ => mul_comm _ _

/-- The gradient of the probabilities. -/
theorem v40_at (y : S2x2x4x2048x2048.Idx) :
    val_main_v40 (F := Ideal) (argK v) (argQ o) y
      = ((rowDot (hd o (y 0).val ((y 1).val * 4 + (y 2).val)) (hd v (y 0).val (y 1).val) (y 3) (y 4) : ℝ) : EReal) := by
  rw [val_main_v40_apply]
  simp only [val_main_v39_apply, v38_at, v2_at, sum_mul_coe]
  rfl

/-- `jax.vjp`'s gradient of a softmax, with the row's factor `a`: the sum of the row, then the quotient, then the weight. -/
theorem dscore_of_scaled (Q K V O : Fin 2048 → Fin 128 → ℝ) (i j : Fin 2048) {a : ℝ} (ha : 0 < a) :
    (rowDot O V i j / (∑ j', a * wt Q K i j')
        + -∑ j', rowDot O V i j' * (1 / ((∑ j', a * wt Q K i j') * ∑ j', a * wt Q K i j')) * (a * wt Q K i j')) * (a * wt Q K i j)
      = dscore Q K V O i j := by
  rw [dscore, sum_mul_out, ← prob_of_scaled Q K i j ha]
  simp only [← prob_of_scaled Q K i _ ha]
  generalize ∑ j', a * wt Q K i j' = l
  have e : ∑ j', rowDot O V i j' * (1 / (l * l)) * (a * wt Q K i j') = (∑ j', a * wt Q K i j' / l * rowDot O V i j') / l := by
    rw [Finset.sum_div]
    exact Finset.sum_congr rfl fun j' _ => by ring
  rw [e]
  ring

section RowGradients

variable (b kv : Fin 2) (g : Fin 4) (i : Fin 2048)

theorem v34_at (z : Fin 1) : val_main_v34 (F := Ideal) (argQ q) (argK k) (ix5 b kv g i z)
    = ((1 / (rowSum q k b kv g i * rowSum q k b kv g i) : ℝ) : EReal) := by
  have hl := (rowSum_pos q k b kv g i).ne'
  rw [val_main_v34_apply, val_main_v33_apply, val_main_cst_9_apply, val_main_v32_apply, v29_at]
  rw [show FloatOps.ofBits (F := Ideal) .f32 0x3F800000#32 = ((1 : ℝ) : EReal) from Ideal.ofBits_one_f32]
  refine Eq.trans ?_ (div_coe_coe 1 _ (mul_ne_zero hl hl))
  rw [EReal.coe_mul]
  rfl

/-- The sum of a row that the softmax's gradient takes off the row. -/
theorem v46_at : val_main_v46 (F := Ideal) (argQ q) (argK k) (argK v) (argQ o) (ix4 b kv g i)
    = ((∑ j, rowDot (hd o b (kv.val * 4 + g.val)) (hd v b kv) i j * (1 / (rowSum q k b kv g i * rowSum q k b kv g i))
        * (Real.exp (-rowMax q k (ix4 b kv g i)) * wt (hd q b (kv.val * 4 + g.val)) (hd k b kv) i j) : ℝ) : EReal) := by
  rw [val_main_v46_apply, val_main_cst_10_apply, ← sum_coe]
  rw [show FloatOps.ofBits (F := Ideal) .f32 0x00000000#32 = (0 : EReal) from Ideal.ofBits_zero_f32, zero_add]
  refine Finset.sum_congr rfl fun j _ => ?_
  rw [show idx_main_v46 (ix4 b kv g i) j = ix5 b kv g i j from eq_ix5 _]
  have h43 : val_main_v43 (F := Ideal) (argQ q) (argK k) (ix5 b kv g i j) = ((1 / (rowSum q k b kv g i * rowSum q k b kv g i) : ℝ) : EReal) := by
    rw [val_main_v43_apply, ← v34_at q k b kv g i 0]
    exact congrArg _ (eq_ix5 _)
  rw [val_main_v45_apply, val_main_v44_apply, v27_at, v40_at, h43, EReal.coe_mul, EReal.coe_mul]
  rfl

theorem v48_at (z : Fin 1) : val_main_v48 (F := Ideal) (argQ q) (argK k) (argK v) (argQ o) (ix5 b kv g i z)
    = -val_main_v46 (F := Ideal) (argQ q) (argK k) (argK v) (argQ o) (ix4 b kv g i) := by
  rw [val_main_v48_apply, val_main_v47_apply]
  refine congrArg (fun u => -val_main_v46 (F := Ideal) (argQ q) (argK k) (argK v) (argQ o) u) ?_
  funext a
  match a with
  | ⟨0, _⟩ => refine Fin.ext ?_; show ((((b.val * 2 + kv.val) * 4 + g.val) * 2048 + i.val) * 1 + z.val) / 16384 = b.val; omega
  | ⟨1, _⟩ => refine Fin.ext ?_; show ((((b.val * 2 + kv.val) * 4 + g.val) * 2048 + i.val) * 1 + z.val) / 8192 % 2 = kv.val; omega
  | ⟨2, _⟩ => refine Fin.ext ?_; show ((((b.val * 2 + kv.val) * 4 + g.val) * 2048 + i.val) * 1 + z.val) / 2048 % 4 = g.val; omega
  | ⟨3, _⟩ => refine Fin.ext ?_; show ((((b.val * 2 + kv.val) * 4 + g.val) * 2048 + i.val) * 1 + z.val) % 2048 = i.val; omega

theorem v52_at (j : Fin 2048) : val_main_v52 (F := Ideal) (argQ q) (argK k) (argK v) (argQ o) (ix5 b kv g i j)
    = -val_main_v46 (F := Ideal) (argQ q) (argK k) (argK v) (argQ o) (ix4 b kv g i) := by
  rw [val_main_v52_apply, val_main_v51_apply, val_main_cst_11_apply, Fin.sum_univ_one, ← v48_at q k v o b kv g i 0]
  rw [show FloatOps.ofBits (F := Ideal) .f32 0x00000000#32 = (0 : EReal) from Ideal.ofBits_zero_f32, zero_add]
  exact congrArg _ (eq_ix5 _)

/-- The gradient of the scaled scores. -/
theorem v54_row (j : Fin 2048) :
    val_main_v54 (F := Ideal) (argQ q) (argK k) (argK v) (argQ o) (ix5 b kv g i j)
      = ((dscore (hd q b (kv.val * 4 + g.val)) (hd k b kv) (hd v b kv) (hd o b (kv.val * 4 + g.val)) i j : ℝ) : EReal) := by
  have hl := (rowSum_pos q k b kv g i).ne'
  have h49 : val_main_v49 (F := Ideal) (argQ q) (argK k) (ix5 b kv g i j) = ((rowSum q k b kv g i : ℝ) : EReal) := by
    rw [val_main_v49_apply, ← v29_at q k b kv g i 0]
    exact congrArg _ (eq_ix5 _)
  rw [val_main_v54_apply, val_main_v53_apply, val_main_v50_apply, h49, v52_at, v46_at, v40_at, v27_at]
  refine Eq.trans ?_ (congrArg Real.toEReal (dscore_of_scaled _ _ _ _ i j (Real.exp_pos (-rowMax q k (ix4 b kv g i)))))
  refine Eq.trans ?_ (EReal.coe_mul _ _).symm
  refine congrArg₂ (· * ·) (Eq.trans ?_ (EReal.coe_add _ _).symm) rfl
  exact congrArg₂ (· + ·) (div_coe_coe _ _ hl) (EReal.coe_neg _).symm

end RowGradients

theorem v54_at (y : S2x2x4x2048x2048.Idx) :
    val_main_v54 (F := Ideal) (argQ q) (argK k) (argK v) (argQ o) y
      = ((dscore (hd q (y 0).val ((y 1).val * 4 + (y 2).val)) (hd k (y 0).val (y 1).val) (hd v (y 0).val (y 1).val)
          (hd o (y 0).val ((y 1).val * 4 + (y 2).val)) (y 3) (y 4) : ℝ) : EReal) :=
  (congrArg _ (eq_ix5 y)).trans (v54_row q k v o _ _ _ _ _)

theorem v57_at (y : S2x2x2048x2048x4.Idx) :
    val_main_v57 (F := Ideal) (argQ q) (argK k) (argK v) (argQ o) y
      = ((dscore (hd q (y 0).val ((y 1).val * 4 + (y 4).val)) (hd k (y 0).val (y 1).val) (hd v (y 0).val (y 1).val)
          (hd o (y 0).val ((y 1).val * 4 + (y 4).val)) (y 3) (y 2) * σ : ℝ) : EReal) := by
  rw [val_main_v57_apply, val_main_v56_apply, v54_at, val_main_v55_apply, val_main_cst_12_apply, EReal.coe_mul]
  exact congrArg₂ (· * ·) rfl scale_eq

/-- The gradient of the queries, by head. -/
theorem v59_at (y : S2x2048x2x4x128.Idx) :
    val_main_v59 (F := Ideal) (argQ q) (argK k) (argK v) (argQ o) y
      = ((dq (hd q (y 0).val ((y 2).val * 4 + (y 3).val)) (hd k (y 0).val (y 2).val) (hd v (y 0).val (y 2).val)
          (hd o (y 0).val ((y 2).val * 4 + (y 3).val)) (y 1) (y 4) : ℝ) : EReal) := by
  rw [val_main_v59_apply, val_main_v58_apply]
  simp only [v57_at, v1_at, sum_mul_coe]
  refine congrArg Real.toEReal ?_
  unfold dq
  rw [Finset.sum_mul]
  exact Finset.sum_congr rfl fun j _ => mul_right_comm _ _ _

/-- The gradient of the keys, by head: the sum over the queries and over the key head's four query heads. -/
theorem v61_at (y : S2x2048x2x128.Idx) :
    val_main_v61 (F := Ideal) (argQ q) (argK k) (argK v) (argQ o) y
      = (((∑ g ∈ Finset.range 4, dkG q k v o (y 0).val (y 2).val g (y 1) (y 3)) * σ : ℝ) : EReal) := by
  rw [val_main_v61_apply]
  have e : val_main_v60 (F := Ideal) (argQ q) (argK k) (argK v) (argQ o) (idx_main_v61 y)
      = ∑ i : Fin 2048, ∑ g : Fin 4, val_main_v57 (F := Ideal) (argQ q) (argK k) (argK v) (argQ o) (ix5 (y 0) (y 2) (y 1) i g)
          * val_main_v0 (F := Ideal) (argQ q) (ix5 (y 0) i (y 2) g (y 3)) := by
    unfold val_main_v60
    generalize val_main_v57 (F := Ideal) (argQ q) (argK k) (argK v) (argQ o) = A
    generalize val_main_v0 (F := Ideal) (argQ q) = B
    pointwise
    rfl
  rw [e]
  simp only [v57_at, v0_at, sum_mul_coe, sum_coe]
  refine congrArg Real.toEReal ?_
  rw [Finset.sum_comm, Finset.sum_range, Finset.sum_mul]
  refine Finset.sum_congr rfl fun g _ => ?_
  unfold dkG dk
  rw [Finset.sum_mul]
  exact Finset.sum_congr rfl fun i _ => mul_right_comm _ _ _

/-- The gradient of the values, by head. -/
theorem v42_at (y : S2x2048x2x128.Idx) :
    val_main_v42 (F := Ideal) (argQ q) (argK k) (argQ o) y
      = ((∑ g ∈ Finset.range 4, dvG q k o (y 0).val (y 2).val g (y 1) (y 3) : ℝ) : EReal) := by
  rw [val_main_v42_apply]
  have e : val_main_v41 (F := Ideal) (argQ q) (argK k) (argQ o) (idx_main_v42 y)
      = ∑ g : Fin 4, ∑ i : Fin 2048, val_main_v39 (F := Ideal) (argQ o) (ix5 (y 0) (y 2) (y 3) g i)
          * val_main_v31 (F := Ideal) (argQ q) (argK k) (ix5 (y 0) (y 2) g i (y 1)) := by
    unfold val_main_v41
    generalize val_main_v39 (F := Ideal) (argQ o) = A
    generalize val_main_v31 (F := Ideal) (argQ q) (argK k) = B
    pointwise
    rfl
  rw [e]
  simp only [v31_at, val_main_v39_apply, v38_at, sum_mul_coe, sum_coe]
  refine congrArg Real.toEReal ?_
  rw [Finset.sum_range]
  refine Finset.sum_congr rfl fun g _ => ?_
  unfold dvG dv
  exact Finset.sum_congr rfl fun i _ => mul_comm _ _

/-- A function of a head's place read at equal places. -/
theorem at_place {f : ℕ → ℕ → ℕ → Fin 2048 → Fin 128 → ℝ} {b h kv b' h' kv' : ℕ} {i i' : Fin 2048} {c c' : Fin 128}
    (eb : b = b') (eh : h = h') (ek : kv = kv') (ei : i = i') (ec : c = c') : f b h kv i c = f b' h' kv' i' c' := by
  subst eb eh ek ei ec; rfl

/-- The reference's four results. -/
theorem ref_o : val_main_v65 (F := Ideal) (argQ q) (argK k) (argK v) = vecN (outA q k v) := by
  funext y
  show val_main_v37 (F := Ideal) (argQ q) (argK k) (argK v) y = _
  rw [val_main_v37_apply, v36_at]
  have h0 : (y 0).val < 4096 := (y 0).isLt
  have h1 : (y 1).val < 1024 := (y 1).isLt
  refine congrArg Real.toEReal (at_place (f := fun b h kv i c => out (hd q b h) (hd k b kv) (hd v b kv) i c) ?_ ?_ ?_ (Fin.ext ?_) (Fin.ext ?_))
  · show ((y 0).val * 1024 + (y 1).val) / 2097152 = (y 0).val / 2048; omega
  · show ((y 0).val * 1024 + (y 1).val) / 512 % 2 * 4 + ((y 0).val * 1024 + (y 1).val) / 128 % 4 = (y 1).val / 128; omega
  · show ((y 0).val * 1024 + (y 1).val) / 512 % 2 = (y 1).val / 128 / 4; omega
  · show ((y 0).val * 1024 + (y 1).val) / 1024 % 2048 = (y 0).val % 2048; omega
  · show ((y 0).val * 1024 + (y 1).val) % 128 = (y 1).val % 128; omega

theorem ref_dq : val_main_v64 (F := Ideal) (argQ q) (argK k) (argK v) (argQ o) = vecN (dqA q k v o) := by
  funext y
  rw [val_main_v64_apply, v59_at]
  have h0 : (y 0).val < 4096 := (y 0).isLt
  have h1 : (y 1).val < 1024 := (y 1).isLt
  refine congrArg Real.toEReal (at_place (f := fun b h kv i c => dq (hd q b h) (hd k b kv) (hd v b kv) (hd o b h) i c) ?_ ?_ ?_ (Fin.ext ?_) (Fin.ext ?_))
  · show ((y 0).val * 1024 + (y 1).val) / 2097152 = (y 0).val / 2048; omega
  · show ((y 0).val * 1024 + (y 1).val) / 512 % 2 * 4 + ((y 0).val * 1024 + (y 1).val) / 128 % 4 = (y 1).val / 128; omega
  · show ((y 0).val * 1024 + (y 1).val) / 512 % 2 = (y 1).val / 128 / 4; omega
  · show ((y 0).val * 1024 + (y 1).val) / 1024 % 2048 = (y 0).val % 2048; omega
  · show ((y 0).val * 1024 + (y 1).val) % 128 = (y 1).val % 128; omega

theorem ref_dk : val_main_v63 (F := Ideal) (argQ q) (argK k) (argK v) (argQ o) = vecN (dkA q k v o) := by
  funext y
  rw [val_main_v63_apply, v61_at]
  have h0 : (y 0).val < 4096 := (y 0).isLt
  have h1 : (y 1).val < 256 := (y 1).isLt
  refine congrArg Real.toEReal (at_place (f := fun b _ kv i c => (∑ g ∈ Finset.range 4, dkG q k v o b kv g i c) * σ) (h := 0) (h' := 0)
    ?_ rfl ?_ (Fin.ext ?_) (Fin.ext ?_))
  · show ((y 0).val * 256 + (y 1).val) / 524288 = (y 0).val / 2048; omega
  · show ((y 0).val * 256 + (y 1).val) / 128 % 2 = (y 1).val / 128; omega
  · show ((y 0).val * 256 + (y 1).val) / 256 % 2048 = (y 0).val % 2048; omega
  · show ((y 0).val * 256 + (y 1).val) % 128 = (y 1).val % 128; omega

theorem ref_dv : val_main_v62 (F := Ideal) (argQ q) (argK k) (argQ o) = vecN (dvA q k o) := by
  funext y
  rw [val_main_v62_apply, v42_at]
  have h0 : (y 0).val < 4096 := (y 0).isLt
  have h1 : (y 1).val < 256 := (y 1).isLt
  refine congrArg Real.toEReal (at_place (f := fun b _ kv i c => ∑ g ∈ Finset.range 4, dvG q k o b kv g i c) (h := 0) (h' := 0)
    ?_ rfl ?_ (Fin.ext ?_) (Fin.ext ?_))
  · show ((y 0).val * 256 + (y 1).val) / 524288 = (y 0).val / 2048; omega
  · show ((y 0).val * 256 + (y 1).val) / 128 % 2 = (y 1).val / 128; omega
  · show ((y 0).val * 256 + (y 1).val) / 256 % 2048 = (y 0).val % 2048; omega
  · show ((y 0).val * 256 + (y 1).val) % 128 = (y 1).val % 128; omega

end Attn

end
-- ==== Proof.Attn.Run.lean ====
/- The two programs' runs: the kernel's ends with its four results at the attention's output and gradients, whenever its arguments are
   matrices of reals, and so does the reference's. -/
module

public import proofs.«01_k».proof.Proof.Attn.Ref
public import proofs.«01_k».proof.Proof.Gen.KernelIdeal.Frame
public import proofs.«01_k».proof.Pre_finite
public import Idealize.ShloMosaic.Lib.ReduceAll
public import Idealize.ShloMosaic.Lib.Affine

@[expose] public section

noncomputable section

namespace Attn

open Reals
open Idealize.ShloMosaic Idealize.ShloMosaic.TcCoe Idealize.ShloMosaic.Tactic Idealize.ShloMosaic.Pointwise
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

section Kernel

variable (m : (ℓ : Loc nD τ sig) → Buf (Elt Ideal) ℓ) (ρ : Dev nD → PrngReg)

set_option backward.isDefEq.respectTransparency.types false in
/-- Every weakly fair execution of the kernel program ends with each array at what the last region leaves in it. -/
theorem run_all : θ_run defs (onTc (τ := τ) (main (F := Ideal))) ⟨m, fun _ => 0, ρ⟩ (fun r => ∀ c : Dev nD,
    ∀ b : Ref sig .tc, ¬ (Proc.devRef .tc b : DevRef τ sig).isScoped → r.2.mem ((c.tc : Thread nD τ).loc b) = W3 m ρ c (Proc.devRef .tc b)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c b hb => h c _ (mem_uc b hb))

variable (q k v o : ℕ → ℕ → ℝ)

section Values

variable (c : Dev nD)
  (h0 : (m ((c.tc : Thread nD τ).loc main_arg0) : S4096x1024.Idx → EReal) = vecN q)
  (h1 : (m ((c.tc : Thread nD τ).loc main_arg1) : S4096x256.Idx → EReal) = vecN k)
  (h2 : (m ((c.tc : Thread nD τ).loc main_arg2) : S4096x256.Idx → EReal) = vecN v)
  (h3 : (m ((c.tc : Thread nD τ).loc main_arg3) : S4096x1024.Idx → EReal) = vecN o)

include h0 in
theorem entry_q : (V1 m ρ c main_v0 : S4096x1024.Idx → EReal) = vecN q := by
  rw [← h0]; show StableHlo.after hostOps0 (W0 m ρ c) (Proc.devRef .tc main_v0) = _; after_results_simp; rfl
include h1 in
theorem entry_k : (V1 m ρ c main_v1 : S4096x256.Idx → EReal) = vecN k := by
  rw [← h1]; show StableHlo.after hostOps0 (W0 m ρ c) (Proc.devRef .tc main_v1) = _; after_results_simp; rfl
include h2 in
theorem entry_v : (V1 m ρ c main_v2 : S4096x256.Idx → EReal) = vecN v := by
  rw [← h2]; show StableHlo.after hostOps0 (W0 m ρ c) (Proc.devRef .tc main_v2) = _; after_results_simp; rfl
include h3 in
theorem entry_o : (V1 m ρ c main_v3 : S4096x1024.Idx → EReal) = vecN o := by
  rw [← h3]; show StableHlo.after hostOps0 (W0 m ρ c) (Proc.devRef .tc main_v3) = _; after_results_simp; rfl

include h0 h1 h2 in
/-- The forward call's array, which the backward call reads. -/
theorem mid_out : (V2 m ρ c main_v4 : S4096x1024.Idx → EReal) = vecN (outA q k v) :=
  (W2_arr m ρ c 3).trans (final_o (V1 m ρ) c (entry_q m ρ q c h0) (entry_k m ρ k c h1) (entry_v m ρ v c h2))

include h0 h1 h2 h3 in
theorem end_o : (W3 m ρ c (Proc.devRef .tc main_v4) : S4096x1024.Idx → EReal) = vecN (outA q k v) :=
  (W3_of m ρ c main_v4 (by decide)).trans (mid_out m ρ q k v c h0 h1 h2)

/-- An array the forward call does not write holds at the backward call what it held at the forward call. -/
theorem kept (r : Ref sig .tc) (h : ∀ w : Fin cfg0.W, Pipeline.arrRef spec0 w = r → (cfg0.win w).isOut = false) : V2 m ρ c r = V1 m ρ c r :=
  W2_of m ρ c r h

include h0 h1 h2 h3 in
theorem end_dq : (W3 m ρ c (Proc.devRef .tc main_v5_0) : S4096x1024.Idx → EReal) = vecN (dqA q k v o) :=
  (W3_arr m ρ c 5).trans (final_dq (V2 m ρ) c ((kept m ρ c main_v0 (by decide)).trans (entry_q m ρ q c h0))
    ((kept m ρ c main_v1 (by decide)).trans (entry_k m ρ k c h1)) ((kept m ρ c main_v2 (by decide)).trans (entry_v m ρ v c h2))
    ((kept m ρ c main_v3 (by decide)).trans (entry_o m ρ o c h3)) (mid_out m ρ q k v c h0 h1 h2))

include h0 h1 h2 h3 in
theorem end_dk : (W3 m ρ c (Proc.devRef .tc main_v5_1) : S4096x256.Idx → EReal) = vecN (dkA q k v o) :=
  (W3_arr m ρ c 6).trans (final_dk (V2 m ρ) c ((kept m ρ c main_v0 (by decide)).trans (entry_q m ρ q c h0))
    ((kept m ρ c main_v1 (by decide)).trans (entry_k m ρ k c h1)) ((kept m ρ c main_v2 (by decide)).trans (entry_v m ρ v c h2))
    ((kept m ρ c main_v3 (by decide)).trans (entry_o m ρ o c h3)) (mid_out m ρ q k v c h0 h1 h2))

include h0 h1 h3 in
theorem end_dv : (W3 m ρ c (Proc.devRef .tc main_v5_2) : S4096x256.Idx → EReal) = vecN (dvA q k o) :=
  (W3_arr m ρ c 7).trans (final_dv (V2 m ρ) c ((kept m ρ c main_v0 (by decide)).trans (entry_q m ρ q c h0))
    ((kept m ρ c main_v1 (by decide)).trans (entry_k m ρ k c h1)) ((kept m ρ c main_v3 (by decide)).trans (entry_o m ρ o c h3)))

end Values

end Kernel

instance : Subsingleton Cert.Pre_finite.S_.Idx := ⟨fun a b => funext fun i => i.elim0⟩

/-- What the precondition says of each argument. -/
theorem finite_args [Cert.Pre_finite.Facts] {x0 x3 : FVec Ideal Cert.Pre_finite.S4096x1024 .f32} {x1 x2 : FVec Ideal Cert.Pre_finite.S4096x256 .f32}
    (h : Cert.Pre_finite.fn (F := Ideal) x0 x1 x2 x3 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x2 y ≠ (⊤ : EReal) ∧ x2 y ≠ (⊥ : EReal)) ∧ (∀ y, x3 y ≠ (⊤ : EReal) ∧ x3 y ≠ (⊥ : EReal)) := by
  have h' := congrFun h (Shape.Idx.first Cert.Pre_finite.Facts.h_S_)
  dsimp only [Cert.Pre_finite.fn, Cert.Pre_finite.fn_part1] at h'
  obtain ⟨h', h3⟩ := IntOp.andi_eq_one.mp h'
  obtain ⟨h', h2⟩ := IntOp.andi_eq_one.mp h'
  obtain ⟨h0, h1⟩ := IntOp.andi_eq_one.mp h'
  exact ⟨fun y => finite_of_lt _ (Host.reduce_andi_all _ _ _ _ _ h0 y), fun y => finite_of_lt _ (Host.reduce_andi_all _ _ _ _ _ h1 y),
    fun y => finite_of_lt _ (Host.reduce_andi_all _ _ _ _ _ h2 y), fun y => finite_of_lt _ (Host.reduce_andi_all _ _ _ _ _ h3 y)⟩

end Attn

end
-- ==== Proof.Attn.Claim.lean ====
/- The claims about the attention's two calls: the reference's frame, and the four results equal to the reference's. -/
module

public import proofs.«01_k».proof.Defs
public import proofs.«01_k».proof.Proof.Attn.Run
public import proofs.«01_k».proof.Proof.Gen.ReferenceIdeal.Run
public import proofs.«01_k».proof.Proof.Gen.Pre_finite

@[expose] public section

noncomputable section

namespace Attn

open Reals
open Idealize.ShloMosaic Idealize.SL.Sem

section Reference

open Cert.ReferenceIdeal Cert.ReferenceIdeal.Gen

variable (m : (ℓ : Loc nD τ sig) → Buf (Elt Ideal) ℓ) (ρ : Dev nD → PrngReg)

theorem ref_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2.2, funext fun g => nomatch g.2⟩) (Cert.ReferenceIdeal.Value.run m ρ)

end Reference

/-- The four results, from arguments that are finite. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have real : ∀ c : Dev Cert.KernelIdeal.nD, ∃ q k v o : ℕ → ℕ → ℝ,
      (m ((c.tc : Thread Cert.KernelIdeal.nD Cert.KernelIdeal.τ).loc Cert.KernelIdeal.main_arg0) : Cert.KernelIdeal.S4096x1024.Idx → EReal) = vecN q
      ∧ (m ((c.tc : Thread Cert.KernelIdeal.nD Cert.KernelIdeal.τ).loc Cert.KernelIdeal.main_arg1) : Cert.KernelIdeal.S4096x256.Idx → EReal) = vecN k
      ∧ (m ((c.tc : Thread Cert.KernelIdeal.nD Cert.KernelIdeal.τ).loc Cert.KernelIdeal.main_arg2) : Cert.KernelIdeal.S4096x256.Idx → EReal) = vecN v
      ∧ (m ((c.tc : Thread Cert.KernelIdeal.nD Cert.KernelIdeal.τ).loc Cert.KernelIdeal.main_arg3) : Cert.KernelIdeal.S4096x1024.Idx → EReal) = vecN o := by
    intro c
    obtain ⟨f0, f1, f2, f3⟩ := finite_args (hpre c)
    exact ⟨_, _, _, _, eq_vecN _ f0, eq_vecN _ f1, eq_vecN _ f2, eq_vecN _ f3⟩
  choose q k v o h0 h1 h2 h3 using real
  refine ⟨fun c => vecN (outA (q c) (k c) (v c)), fun c => vecN (dqA (q c) (k c) (v c) (o c)), fun c => vecN (dkA (q c) (k c) (v c) (o c)),
    fun c => vecN (dvA (q c) (k c) (o c)), ?_, ?_⟩
  · refine (θ_run _ _ _).mono (fun r h c => ?_) (run_all m g)
    exact ⟨(h c Cert.KernelIdeal.main_v4 (by decide)).trans (end_o m g _ _ _ (o c) c (h0 c) (h1 c) (h2 c) (h3 c)),
      (h c Cert.KernelIdeal.main_v5_0 (by decide)).trans (end_dq m g _ _ _ _ c (h0 c) (h1 c) (h2 c) (h3 c)),
      (h c Cert.KernelIdeal.main_v5_1 (by decide)).trans (end_dk m g _ _ _ _ c (h0 c) (h1 c) (h2 c) (h3 c)),
      (h c Cert.KernelIdeal.main_v5_2 (by decide)).trans (end_dv m g _ _ _ c (h0 c) (h1 c) (h3 c)),
      (h c Cert.KernelIdeal.main_arg0 (by decide)).trans (Cert.KernelIdeal.Gen.W3_main_arg0 m g c),
      (h c Cert.KernelIdeal.main_arg1 (by decide)).trans (Cert.KernelIdeal.Gen.W3_main_arg1 m g c),
      (h c Cert.KernelIdeal.main_arg2 (by decide)).trans (Cert.KernelIdeal.Gen.W3_main_arg2 m g c),
      (h c Cert.KernelIdeal.main_arg3 (by decide)).trans (Cert.KernelIdeal.Gen.W3_main_arg3 m g c)⟩
  · refine (θ_run _ _ _).mono (fun r h c => ?_) (Cert.ReferenceIdeal.Value.run m' g')
    have a0 : m' ((c.tc : Thread Cert.ReferenceIdeal.nD Cert.ReferenceIdeal.τ).loc Cert.ReferenceIdeal.main_arg0) = argQ (q c) := (hagree c).1.trans (h0 c)
    have a1 : m' ((c.tc : Thread Cert.ReferenceIdeal.nD Cert.ReferenceIdeal.τ).loc Cert.ReferenceIdeal.main_arg1) = argK (k c) := (hagree c).2.1.trans (h1 c)
    have a2 : m' ((c.tc : Thread Cert.ReferenceIdeal.nD Cert.ReferenceIdeal.τ).loc Cert.ReferenceIdeal.main_arg2) = argK (v c) := (hagree c).2.2.1.trans (h2 c)
    have a3 : m' ((c.tc : Thread Cert.ReferenceIdeal.nD Cert.ReferenceIdeal.τ).loc Cert.ReferenceIdeal.main_arg3) = argQ (o c) := (hagree c).2.2.2.trans (h3 c)
    obtain ⟨r0, r1, r2, r3, hargs⟩ := h c
    refine ⟨?_, ?_, ?_, ?_, hargs⟩
    · refine r0.trans ((Cert.ReferenceIdeal.Read.val_main_v65_eq _ _ _).trans ?_)
      rw [a0, a1, a2]; exact ref_o _ _ _
    · refine r1.trans ((Cert.ReferenceIdeal.Read.val_main_v64_eq _ _).trans ?_)
      rw [a0, a1, a2, a3]; exact ref_dq _ _ _ _
    · refine r2.trans ((Cert.ReferenceIdeal.Read.val_main_v63_eq _ _).trans ?_)
      rw [a0, a1, a2, a3]; exact ref_dk _ _ _ _
    · refine r3.trans ((Cert.ReferenceIdeal.Read.val_main_v62_eq _ _ _).trans ?_)
      rw [a0, a1, a3]; exact ref_dv _ _ _

end Attn

end
-- ==== Proof.Norm.Real.lean ====
/- The root-mean-square norm of a row of reals, and its gradient: the kernels' formula, which takes the part along the row off, and the
   one that differentiating the norm term by term gives, are the same. -/
module

public import proofs.«01_k».proof.Proof.Common

@[expose] public section

noncomputable section

namespace Norm

open Reals
open Idealize.ShloMosaic

/-- What both programs add under the root: the number of single precision nearest to a millionth. -/
def ε : ℝ := 8796093 / 8796093022208

theorem ε_pos : 0 < ε := by unfold ε; norm_num

theorem eps_eq : Ideal.ofBits .f32 0x358637BD#32 = ((ε : ℝ) : EReal) := by
  simp [Ideal.ofBits, Ideal.ieee, ε]
  norm_num
  rw [← EReal.coe_mul]
  congr 1
  norm_num

theorem n1024_eq : Ideal.ofBits .f32 0x44800000#32 = (((1024 : ℕ) : ℝ) : EReal) := by
  simp [Ideal.ofBits, Ideal.ieee]
  norm_num
  rw [← EReal.coe_mul]
  congr 1
  norm_num

theorem two_eq : Ideal.ofBits .f32 0x40000000#32 = ((2 : ℝ) : EReal) := by
  simp [Ideal.ofBits, Ideal.ieee]
  norm_num
  rw [← EReal.coe_mul]
  congr 1
  norm_num

theorem neg_half_eq : Ideal.ofBits .f32 0xBF000000#32 = ((-(1 / 2) : ℝ) : EReal) := by
  simp [Ideal.ofBits, Ideal.ieee]
  norm_num
  rw [← EReal.coe_mul]
  congr 1
  norm_num

variable (n : ℕ) (x d : ℕ → ℝ)

/-- The mean square of the first `n` entries of a row, with the small number added. -/
def ms : ℝ := (∑ k : Fin n, x k * x k) / (n : ℝ) + ε

theorem ms_pos : 0 < ms n x :=
  add_pos_of_nonneg_of_pos (div_nonneg (Finset.sum_nonneg fun k _ => mul_self_nonneg _) (Nat.cast_nonneg n)) ε_pos

/-- One over its root. -/
def rs : ℝ := (Real.sqrt (ms n x))⁻¹

/-- The normed row. -/
def xh (k : ℕ) : ℝ := x k * rs n x

/-- The gradient at the row, of the normed row's gradient `d`. -/
def back (k : ℕ) : ℝ := rs n x * (d k - xh n x k * ((∑ j : Fin n, d j * xh n x j) / (n : ℝ)))

theorem rsqrt_coe {a : ℝ} (h : 0 < a) : Ideal.rsqrt (a : EReal) = (((Real.sqrt a)⁻¹ : ℝ) : EReal) := by
  rw [Ideal.rsqrt_coe, if_neg (not_lt.mpr h.le), if_neg h.ne']

/-- The norm's scale, as both programs compute it. -/
theorem rs_coe : Ideal.rsqrt ((ms n x : ℝ) : EReal) = ((rs n x : ℝ) : EReal) := rsqrt_coe (ms_pos n x)

/-- The same from the row itself. -/
theorem rs_row (x : ℕ → ℝ) :
    Ideal.rsqrt (Ideal.div ((∑ k : Fin 1024, x k * x k : ℝ) : EReal) (((1024 : ℕ) : ℝ) : EReal) + ((ε : ℝ) : EReal)) = ((rs 1024 x : ℝ) : EReal) := by
  rw [Reals.div_coe_coe _ _ (by norm_num), ← EReal.coe_add]
  exact rs_coe 1024 x

theorem rs_sq : rs n x * rs n x = (ms n x)⁻¹ := by
  unfold rs
  rw [← mul_inv, Real.mul_self_sqrt (ms_pos n x).le]

/-- Differentiated term by term: through the row itself, and twice through its square under the root. -/
theorem back_eq (k : ℕ) :
    d k * rs n x + x k * ((∑ j : Fin n, x j * d j) * (-(1 / 2) * (rs n x / ms n x)) / (n : ℝ))
      + (∑ j : Fin n, x j * d j) * (-(1 / 2) * (rs n x / ms n x)) / (n : ℝ) * x k = back n x d k := by
  unfold back xh
  have h : ∑ j : Fin n, d j * (x j * rs n x) = (∑ j : Fin n, x j * d j) * rs n x := by
    rw [Finset.sum_mul]; exact Finset.sum_congr rfl fun j _ => by ring
  rw [h, div_eq_mul_inv (rs n x) (ms n x), ← rs_sq]
  ring

end Norm

end
-- ==== Proof.Mlp.Spec.lean ====
/- The multilayer block on real numbers: the hidden layer, and the gradients at the hidden layer, at the normed input, at the input and at
   the norm's gain. Rows are tokens; matrices are addressed by plain numbers. -/
module

public import proofs.«01_k».proof.Proof.Norm.Real

@[expose] public section

noncomputable section

namespace Mlp

open Reals Norm

variable (x d : ℕ → ℕ → ℝ) (g : ℕ → ℝ) (u w : ℕ → ℕ → ℝ)

/-- The hidden layer before its activation. -/
def hid (t f : ℕ) : ℝ := ∑ k : Fin 1024, xh 1024 (x t) k * g k * u k f

/-- The gradient there: the activation is the square of the positive part. -/
def dA (t f : ℕ) : ℝ := (∑ k : Fin 1024, d t k * w f k) * (2 * max (hid x g u t f) 0)

/-- The gradient at the normed input. -/
def dH (t k : ℕ) : ℝ := ∑ f : Fin 4096, dA x d g u w t f * u k f

/-- The gradient at the input: what comes through the residual and what comes through the norm. -/
def dX (t k : ℕ) : ℝ := d t k + back 1024 (x t) (fun j => dH x d g u w t j * g j) k

/-- One token's part of the gradient at the gain. -/
def gT (k t : ℕ) : ℝ := dH x d g u w t k * xh 1024 (x t) k

/-- The gradient at the gain. -/
def dG (k : ℕ) : ℝ := ∑ t : Fin 4096, gT x d g u w k t

/-- A sum over the hidden layer, taken a block of 512 at a time. -/
theorem sum_blocks (F : ℕ → ℝ) : ∑ f : Fin 4096, F f
    = (∑ c : Fin 512, F (0 + c)) + (∑ c : Fin 512, F (512 + c)) + (∑ c : Fin 512, F (1024 + c)) + (∑ c : Fin 512, F (1536 + c))
      + (∑ c : Fin 512, F (2048 + c)) + (∑ c : Fin 512, F (2560 + c)) + (∑ c : Fin 512, F (3072 + c)) + (∑ c : Fin 512, F (3584 + c)) := by
  rw [Fin.sum_univ_eq_sum_range F 4096]
  have e : ∀ b, ∑ c : Fin 512, F (b + c) = ∑ c ∈ Finset.range 512, F (b + c) := fun b => Fin.sum_univ_eq_sum_range (fun c => F (b + c)) 512
  rw [e 0]
  simp only [e, zero_add]
  rw [show 4096 = 3584 + 512 from rfl, Finset.sum_range_add, show 3584 = 3072 + 512 from rfl, Finset.sum_range_add,
    show 3072 = 2560 + 512 from rfl, Finset.sum_range_add, show 2560 = 2048 + 512 from rfl, Finset.sum_range_add,
    show 2048 = 1536 + 512 from rfl, Finset.sum_range_add, show 1536 = 1024 + 512 from rfl, Finset.sum_range_add,
    show 1024 = 512 + 512 from rfl, Finset.sum_range_add]

/-- The tokens summed before block `n` of 512 rows, and that block. -/
theorem sum_rows (F : ℕ → ℝ) (n : ℕ) :
    ∑ t ∈ Finset.range ((n + 1) * 512), F t = ∑ t ∈ Finset.range (n * 512), F t + ∑ r : Fin 512, F (n * 512 + r) := by
  rw [Fin.sum_univ_eq_sum_range (fun r => F (n * 512 + r)) 512, ← Finset.sum_range_add, Nat.succ_mul]

end Mlp

end
-- ==== Proof.Mlp.Block.lean ====
/- What the payloads of the multilayer block's backward kernel compute on a block of 512 rows whose entries are reals. The body is eight
   copies of one computation, one for each block of the hidden layer, which the program's parts cut at different places; every copy is,
   by unfolding, the one named here. -/
module

public import proofs.«01_k».proof.Proof.Mlp.Spec
public import proofs.«01_k».proof.Proof.Gen.Kernel2Ideal.Skeleton
public import Idealize.ShloMosaic.Lib.Pointwise

@[expose] public section

noncomputable section

namespace Mlp

open Reals Norm
open Idealize.ShloMosaic Idealize.ShloMosaic.Pointwise Cert.Kernel2Ideal Cert.Kernel2Ideal.Gen

section Hidden

variable {o : Vec Ideal S512x1024 .f32} {w : Vec Ideal S512x1024 .bf16} {a : Vec Ideal S512x512 .bf16} {D W : ℕ → ℕ → ℝ} {A : ℕ → ℕ → ℝ}

/-- A block of the hidden layer's gradient. -/
theorem pay_da (ρ : ℕ) (b : ℕ) (ho : ∀ r k, o (ix2 r k) = ((D (ρ + r.val) k.val : ℝ) : EReal))
    (hw : ∀ c k, w (ix2 c k) = ((W (b + c.val) k.val : ℝ) : EReal)) (ha : ∀ r c, a (ix2 r c) = ((A (ρ + r.val) (b + c.val) : ℝ) : EReal))
    (r : Fin 512) (c : Fin 512) :
    k0_pay9 (F := Ideal) (k0_pay3 o) w a (ix2 r c)
      = (((∑ k : Fin 1024, D (ρ + r.val) k * W (b + c.val) k) * (2 * max (A (ρ + r.val) (b + c.val)) 0) : ℝ) : EReal) := by
  pointwise [k0_pay9, k0_pay3]
  simp only [ho, hw, ha, sum_mul_coe, two_eq, zero_add]
  rw [← EReal.coe_zero, max_coe, ← EReal.coe_mul, ← EReal.coe_mul]

end Hidden

section Sum

variable {u u' : Vec Ideal S1x1024x512 .bf16} {P P' : Fin 512 → Fin 512 → ℝ} {Q Q' : Fin 1024 → Fin 512 → ℝ}

/-- The first block's part of the gradient at the normed input. -/
theorem pay_first {o : Vec Ideal S512x1024 .f32} {w : Vec Ideal S512x1024 .bf16} {a : Vec Ideal S512x512 .bf16}
    (hp : ∀ r c, k0_pay9 (F := Ideal) (k0_pay3 o) w a (ix2 r c) = ((P r c : ℝ) : EReal)) (hu : ∀ k c, u (ix3 0 k c) = ((Q k c : ℝ) : EReal))
    (r : Fin 512) (k : Fin 1024) : k0_pay5 (F := Ideal) o w a u (ix2 r k) = ((∑ c, P r c * Q k c : ℝ) : EReal) := by
  have e : k0_pay4 (F := Ideal) o w a = k0_pay9 (k0_pay3 o) w a := rfl
  pointwise [k0_pay5]
  simp only [e, hp, hu, sum_mul_coe, zero_add]

/-- Two more blocks' parts. -/
theorem pay_two {o : FVec Ideal S512x1024 .bf16} {w w' : Vec Ideal S512x1024 .bf16} {a a' : Vec Ideal S512x512 .bf16} {v : FVec Ideal S512x1024 .f32}
    {s : Fin 512 → Fin 1024 → ℝ} (hv : ∀ r k, v (ix2 r k) = ((s r k : ℝ) : EReal))
    (hp : ∀ r c, k0_pay9 (F := Ideal) o w a (ix2 r c) = ((P r c : ℝ) : EReal)) (hu : ∀ k c, u (ix3 0 k c) = ((Q k c : ℝ) : EReal))
    (hp' : ∀ r c, k0_pay9 (F := Ideal) o w' a' (ix2 r c) = ((P' r c : ℝ) : EReal)) (hu' : ∀ k c, u' (ix3 0 k c) = ((Q' k c : ℝ) : EReal))
    (r : Fin 512) (k : Fin 1024) :
    k0_pay16 (F := Ideal) o v (k0_pay11 o w) (k0_pay12 a) k0_pay13 u w' a' u' (ix2 r k)
      = ((s r k + (∑ c, P r c * Q k c) + (∑ c, P' r c * Q' k c) : ℝ) : EReal) := by
  have e : k0_pay14 (F := Ideal) (k0_pay11 o w) (k0_pay12 a) k0_pay13 = k0_pay9 o w a := rfl
  have e' : k0_pay15 (F := Ideal) o w' a' = k0_pay9 o w' a' := rfl
  pointwise [k0_pay16]
  simp only [e, e', hv, hp, hu, hp', hu', sum_mul_coe, zero_add, ← EReal.coe_add]

/-- The last block's part. -/
theorem pay_last {o : FVec Ideal S512x1024 .bf16} {w : Vec Ideal S512x1024 .bf16} {a : Vec Ideal S512x512 .bf16} {v : FVec Ideal S512x1024 .f32}
    {s : Fin 512 → Fin 1024 → ℝ} (hv : ∀ r k, v (ix2 r k) = ((s r k : ℝ) : EReal))
    (hp : ∀ r c, k0_pay9 (F := Ideal) o w a (ix2 r c) = ((P r c : ℝ) : EReal)) (hu : ∀ k c, u (ix3 0 k c) = ((Q k c : ℝ) : EReal))
    (r : Fin 512) (k : Fin 1024) :
    k0_pay24 (F := Ideal) v (k0_pay22 o w) a u (ix2 r k) = ((s r k + (∑ c, P r c * Q k c) : ℝ) : EReal) := by
  have e : k0_pay23 (F := Ideal) (k0_pay22 o w) a = k0_pay9 o w a := rfl
  pointwise [k0_pay24]
  simp only [e, hv, hp, hu, sum_mul_coe, zero_add, ← EReal.coe_add]

end Sum

section Norm

variable {x : Vec Ideal S512x1024 .f32} {g : Vec Ideal S1x1024 .f32} {X H : ℕ → ℕ → ℝ} {G : ℕ → ℝ} (ρ : ℕ)

theorem pay_rs (hx : ∀ r k, x (ix2 r k) = ((X (ρ + r.val) k.val : ℝ) : EReal)) (r : Fin 512) (z : Fin 1) :
    k0_pay25 (F := Ideal) x (ix2 r z) = ((rs 1024 (X (ρ + r.val)) : ℝ) : EReal) := by
  pointwise [k0_pay25]
  simp only [hx, sum_mul_coe, eps_eq, n1024_eq]
  rw [div_coe_coe _ _ (by norm_num), ← EReal.coe_add]
  exact rs_coe 1024 (X (ρ + r.val))

theorem pay_xh (hx : ∀ r k, x (ix2 r k) = ((X (ρ + r.val) k.val : ℝ) : EReal)) (r : Fin 512) (k : Fin 1024) :
    k0_pay26 (F := Ideal) x (ix2 r k) = ((xh 1024 (X (ρ + r.val)) k.val : ℝ) : EReal) := by
  pointwise [k0_pay26]
  simp only [hx, pay_rs ρ hx, ← EReal.coe_mul]
  rfl

variable {o : Vec Ideal S512x1024 .f32} {D : ℕ → ℕ → ℝ} {v : FVec Ideal S512x1024 .f32} {p : FVec Ideal S512x512 .f32}
  {a : Vec Ideal S512x512 .bf16} {u : Vec Ideal S1x1024x512 .bf16}

/-- The gradient at the input. -/
theorem pay_dx (hx : ∀ r k, x (ix2 r k) = ((X (ρ + r.val) k.val : ℝ) : EReal)) (ho : ∀ r k, o (ix2 r k) = ((D (ρ + r.val) k.val : ℝ) : EReal))
    (hg : ∀ k, g (ix2 0 k) = ((G k.val : ℝ) : EReal))
    (hh : ∀ r k, k0_pay24 (F := Ideal) v p a u (ix2 r k) = ((H (ρ + r.val) k.val : ℝ) : EReal)) (r : Fin 512) (k : Fin 1024) :
    k0_pay28 (F := Ideal) o v p a u x g (ix2 r k)
      = ((D (ρ + r.val) k.val + back 1024 (X (ρ + r.val)) (fun j => H (ρ + r.val) j * G j) k.val : ℝ) : EReal) := by
  have hr := pay_rs ρ hx
  have hn := pay_xh ρ hx
  pointwise [k0_pay28]
  simp only [hh, hr, hn, ho, hg, n1024_eq, ← EReal.coe_mul, sum_coe]
  rw [div_coe_coe _ _ (by norm_num)]
  simp only [← EReal.coe_mul, ← EReal.coe_sub, ← EReal.coe_add]
  rfl

/-- The block's part of the gradient at the gain, onto what was summed before. -/
theorem pay_dg (hx : ∀ r k, x (ix2 r k) = ((X (ρ + r.val) k.val : ℝ) : EReal))
    (hh : ∀ r k, k0_pay24 (F := Ideal) v p a u (ix2 r k) = ((H (ρ + r.val) k.val : ℝ) : EReal)) (q : Vec Ideal S1x1024 .f32) (k : Fin 1024) :
    k0_pay1 (F := Ideal) (k0_pay27 v p a u x) q (ix2 0 k)
      = q (ix2 0 k) + ((∑ r : Fin 512, H (ρ + r.val) k.val * xh 1024 (X (ρ + r.val)) k.val : ℝ) : EReal) := by
  have hn := pay_xh ρ hx
  pointwise [k0_pay1, k0_pay27]
  simp only [hh, hn, sum_mul_coe]

theorem pay_zero (k : Fin 1024) : k0_pay2 (F := Ideal) (ix2 0 k) = (0 : EReal) := by
  pointwise [k0_pay2]

/-- The incoming gradient, in the narrower format. -/
theorem pay_do (y : S512x1024.Idx) : k0_pay3 (F := Ideal) o y = o y := rfl

end Norm

end Mlp

end
-- ==== Proof.Mlp.Cases.lean ====
/- What the multilayer block's backward kernel leaves in its four output blocks at one grid point. -/
module

public import proofs.«01_k».proof.Proof.Mlp.Block
public import proofs.«01_k».proof.Proof.Gen.Kernel2Ideal.Frame

@[expose] public section

noncomputable section

namespace Mlp

open Reals Norm
open Idealize.ShloMosaic Idealize.ShloMosaic.Pointwise Idealize.ShloMosaic.Tactic Cert.Kernel2Ideal Cert.Kernel2Ideal.Gen

/-- Rows `b … b + 511` of the down projection. -/
theorem ld_down (x : Vec Ideal S4096x1024 .bf16) (b : ℕ) (hb : b + 512 ≤ 4096) (h) (r : Fin 512) (k : Fin 1024) :
    View.ld x (Rect.unit (s := S4096x1024) ![b, 0] ![512, 1024] h) (ix2 r k) = x (ix2 ⟨b + r.val, by omega⟩ k) := by
  show x _ = x _
  congr 1
  funext a
  apply Fin.ext
  match a with
  | ⟨0, _⟩ => show b + 1 * r.val = b + r.val; omega
  | ⟨1, _⟩ => show 0 + 1 * k.val = k.val; omega

/-- Columns `b … b + 511` of the hidden layer. -/
theorem ld_hid (x : Vec Ideal S512x4096 .bf16) (b : ℕ) (hb : b + 512 ≤ 4096) (h) (r : Fin 512) (f : Fin 512) :
    View.ld x (Rect.unit (s := S512x4096) ![0, b] ![512, 512] h) (ix2 r f) = x (ix2 r ⟨b + f.val, by omega⟩) := by
  show x _ = x _
  congr 1
  funext a
  apply Fin.ext
  match a with
  | ⟨0, _⟩ => show 0 + 1 * r.val = r.val; omega
  | ⟨1, _⟩ => show b + 1 * f.val = b + f.val; omega

/-- Where those columns lie in the whole block. -/
theorem emb_hid (b : ℕ) (hb : b + 512 ≤ 4096) (h) (r : Fin 512) (f : Fin 512) :
    (Rect.unit (s := S512x4096) ![0, b] ![512, 512] h).emb (ix2 r f) = ix2 r ⟨b + f.val, by omega⟩ := by
  funext a
  apply Fin.ext
  match a with
  | ⟨0, _⟩ => show 0 + 1 * r.val = r.val; omega
  | ⟨1, _⟩ => show b + 1 * f.val = b + f.val; omega

/-- Block `j` of the up projection. -/
theorem ld_up (x : Vec Ideal S8x1024x512 .bf16) (j : ℕ) (hj : j < 8) (h) (k : Fin 1024) (f : Fin 512) :
    View.ld x (Rect.unit (s := S8x1024x512) ![j, 0, 0] ![1, 1024, 512] h) (ix3 0 k f) = x (ix3 ⟨j, hj⟩ k f) := by
  show x _ = x _
  congr 1
  funext a
  apply Fin.ext
  match a with
  | ⟨0, _⟩ => show j + 1 * 0 = j; omega
  | ⟨1, _⟩ => show 0 + 1 * k.val = k.val; omega
  | ⟨2, _⟩ => show 0 + 1 * f.val = f.val; omega

variable (c : Dev nD) (i : grid0.Coords) (arg1 : Memref sig .tc .vmem S512x1024 .f32) (harg1 : arg1.IsWhole)
  (arg2 : Memref sig .tc .vmem S512x1024 .f32) (harg2 : arg2.IsWhole) (arg3 : Memref sig .tc .vmem S512x4096 .bf16) (harg3 : arg3.IsWhole)
  (arg4 : Memref sig .tc .vmem S1x1024 .f32) (harg4 : arg4.IsWhole) (arg5 : Memref sig .tc .vmem S8x1024x512 .bf16) (harg5 : arg5.IsWhole)
  (arg6 : Memref sig .tc .vmem S4096x1024 .bf16) (harg6 : arg6.IsWhole) (arg7 : Memref sig .tc .vmem S512x1024 .f32) (harg7 : arg7.IsWhole)
  (arg8 : Memref sig .tc .vmem S512x4096 .bf16) (harg8 : arg8.IsWhole) (arg9 : Memref sig .tc .vmem S512x1024 .bf16) (harg9 : arg9.IsWhole)
  (arg10 : Memref sig .tc .vmem S1x1024 .f32) (harg10 : arg10.IsWhole)
  {X D U W : ℕ → ℕ → ℝ} {G : ℕ → ℝ} (ρ : ℕ)
  {x0 x1 : Vec Ideal S512x1024 .f32} {x2 : Vec Ideal S512x4096 .bf16} {x3 : Vec Ideal S1x1024 .f32} {x4 : Vec Ideal S8x1024x512 .bf16}
  {x5 : Vec Ideal S4096x1024 .bf16} (xo9 : Vec Ideal S1x1024 .f32)
  (hx : ∀ r k, x0 (ix2 r k) = ((X (ρ + r.val) k.val : ℝ) : EReal)) (hd : ∀ r k, x1 (ix2 r k) = ((D (ρ + r.val) k.val : ℝ) : EReal))
  (ha : ∀ r f, x2 (ix2 r f) = ((hid X G U (ρ + r.val) f.val : ℝ) : EReal)) (hg : ∀ k, x3 (ix2 0 k) = ((G k.val : ℝ) : EReal))
  (hu : ∀ j k f, x4 (ix3 j k f) = ((U k.val (j.val * 512 + f.val) : ℝ) : EReal)) (hw : ∀ f k, x5 (ix2 f k) = ((W f.val k.val : ℝ) : EReal))

include hd ha hw in
/-- One block of the gradient at the hidden layer. -/
theorem da_apply (b : ℕ) (hb : b + 512 ≤ 4096) (h h') (r c : Fin 512) :
    k0_pay9 (F := Ideal) (k0_pay3 x1) (View.ld x5 (Rect.unit (s := S4096x1024) ![b, 0] ![512, 1024] h))
        (View.ld x2 (Rect.unit (s := S512x4096) ![0, b] ![512, 512] h')) (ix2 r c)
      = ((dA X D G U W (ρ + r.val) (b + c.val) : ℝ) : EReal) :=
  pay_da (A := hid X G U) ρ b hd (fun c k => (ld_down x5 b hb h c k).trans (hw _ _)) (fun r c => (ld_hid x2 b hb h' r c).trans (ha _ _)) r c

variable (X D G U W) in
/-- The hidden layer's gradient as the block's contents. -/
def daVec : S512x4096.Idx → EReal := fun y => ((dA X D G U W (ρ + (y 0).val) (y 1).val : ℝ) : EReal)

include hd ha hw in
theorem da_piece (b : ℕ) (hb : b + 512 ≤ 4096) (h h') (y : S512x512.Idx) :
    k0_pay9 (F := Ideal) (k0_pay3 x1) (View.ld x5 (Rect.unit (s := S4096x1024) ![b, 0] ![512, 1024] h))
        (View.ld x2 (Rect.unit (s := S512x4096) ![0, b] ![512, 512] h')) y
      = daVec X D U W G ρ ((Rect.unit (s := S512x4096) ![0, b] ![512, 512] h').emb y) := by
  rw [eq_ix2 y]
  exact (da_apply ρ hd ha hw b hb h h' (y 0) (y 1)).trans (congrArg (daVec X D U W G ρ) (emb_hid b hb h' (y 0) (y 1))).symm

include hu in
theorem up_apply (j : ℕ) (hj : j < 8) (h) (k : Fin 1024) (c : Fin 512) :
    View.ld x4 (Rect.unit (s := S8x1024x512) ![j, 0, 0] ![1, 1024, 512] h) (ix3 0 k c) = ((U k.val (j * 512 + c.val) : ℝ) : EReal) :=
  (ld_up x4 j hj h k c).trans (hu _ _ _)

/-- The gradient at the normed input as the body adds it up. -/
def dhv (x1 : Vec Ideal S512x1024 .f32) (x2 : Vec Ideal S512x4096 .bf16) (x4 : Vec Ideal S8x1024x512 .bf16) (x5 : Vec Ideal S4096x1024 .bf16) :
    FVec Ideal S512x1024 .f32 :=
  k0_pay21 (k0_pay3 x1)
      (k0_pay16 (k0_pay3 x1)
        (k0_pay10 (k0_pay3 x1)
          (k0_pay5 x1 (View.ld x5 (Rect.unit ![0, 0] ![512, 1024] inb_S4096x1024_S512x1024_0_0))
            (View.ld x2 (Rect.unit ![0, 0] ![512, 512] inb_S512x4096_S512x512_0_0))
            (View.ld x4 (Rect.unit ![0, 0, 0] ![1, 1024, 512] inb_S8x1024x512_S1x1024x512_0_0_0)))
          (k0_pay6 x1 (View.ld x5 (Rect.unit ![512, 0] ![512, 1024] inb_S4096x1024_S512x1024_512_0)))
          (k0_pay7 (View.ld x2 (Rect.unit ![0, 512] ![512, 512] inb_S512x4096_S512x512_0_512)))
          (FloatOps.ofBits FTy.f32 1073741824#32)
          (View.ld x4 (Rect.unit ![1, 0, 0] ![1, 1024, 512] inb_S8x1024x512_S1x1024x512_1_0_0))
          (View.ld x5 (Rect.unit ![1024, 0] ![512, 1024] inb_S4096x1024_S512x1024_1024_0))
          (View.ld x2 (Rect.unit ![0, 1024] ![512, 512] inb_S512x4096_S512x512_0_1024))
          (View.ld x4 (Rect.unit ![2, 0, 0] ![1, 1024, 512] inb_S8x1024x512_S1x1024x512_2_0_0)))
        (k0_pay11 (k0_pay3 x1) (View.ld x5 (Rect.unit ![1536, 0] ![512, 1024] inb_S4096x1024_S512x1024_1536_0)))
        (k0_pay12 (View.ld x2 (Rect.unit ![0, 1536] ![512, 512] inb_S512x4096_S512x512_0_1536))) k0_pay13
        (View.ld x4 (Rect.unit ![3, 0, 0] ![1, 1024, 512] inb_S8x1024x512_S1x1024x512_3_0_0))
        (View.ld x5 (Rect.unit ![2048, 0] ![512, 1024] inb_S4096x1024_S512x1024_2048_0))
        (View.ld x2 (Rect.unit ![0, 2048] ![512, 512] inb_S512x4096_S512x512_0_2048))
        (View.ld x4 (Rect.unit ![4, 0, 0] ![1, 1024, 512] inb_S8x1024x512_S1x1024x512_4_0_0)))
      (k0_pay17 (k0_pay3 x1) (View.ld x5 (Rect.unit ![2560, 0] ![512, 1024] inb_S4096x1024_S512x1024_2560_0)))
      (k0_pay18 (View.ld x2 (Rect.unit ![0, 2560] ![512, 512] inb_S512x4096_S512x512_0_2560)))
      (View.ld x4 (Rect.unit ![5, 0, 0] ![1, 1024, 512] inb_S8x1024x512_S1x1024x512_5_0_0))
      (View.ld x5 (Rect.unit ![3072, 0] ![512, 1024] inb_S4096x1024_S512x1024_3072_0))
      (View.ld x2 (Rect.unit ![0, 3072] ![512, 512] inb_S512x4096_S512x512_0_3072))
      (View.ld x4 (Rect.unit ![6, 0, 0] ![1, 1024, 512] inb_S8x1024x512_S1x1024x512_6_0_0))

include hd ha hu hw in
theorem dhv_apply (r : Fin 512) (k : Fin 1024) :
    k0_pay24 (F := Ideal) (dhv x1 x2 x4 x5) (k0_pay22 (k0_pay3 x1) (View.ld x5 (Rect.unit ![3584, 0] ![512, 1024] inb_S4096x1024_S512x1024_3584_0)))
        (View.ld x2 (Rect.unit ![0, 3584] ![512, 512] inb_S512x4096_S512x512_0_3584))
        (View.ld x4 (Rect.unit ![7, 0, 0] ![1, 1024, 512] inb_S8x1024x512_S1x1024x512_7_0_0)) (ix2 r k)
      = ((dH X D G U W (ρ + r.val) k.val : ℝ) : EReal) := by
  have p := da_apply ρ hd ha hw
  have u := up_apply (x4 := x4) hu
  have h1 := pay_first (p 0 (by decide) inb_S4096x1024_S512x1024_0_0 inb_S512x4096_S512x512_0_0) (u 0 (by decide) inb_S8x1024x512_S1x1024x512_0_0_0)
  have h2 := pay_two h1 (p 512 (by decide) inb_S4096x1024_S512x1024_512_0 inb_S512x4096_S512x512_0_512) (u 1 (by decide) inb_S8x1024x512_S1x1024x512_1_0_0)
    (p 1024 (by decide) inb_S4096x1024_S512x1024_1024_0 inb_S512x4096_S512x512_0_1024) (u 2 (by decide) inb_S8x1024x512_S1x1024x512_2_0_0)
  have h3 := pay_two h2 (p 1536 (by decide) inb_S4096x1024_S512x1024_1536_0 inb_S512x4096_S512x512_0_1536) (u 3 (by decide) inb_S8x1024x512_S1x1024x512_3_0_0)
    (p 2048 (by decide) inb_S4096x1024_S512x1024_2048_0 inb_S512x4096_S512x512_0_2048) (u 4 (by decide) inb_S8x1024x512_S1x1024x512_4_0_0)
  have h4 := pay_two h3 (p 2560 (by decide) inb_S4096x1024_S512x1024_2560_0 inb_S512x4096_S512x512_0_2560) (u 5 (by decide) inb_S8x1024x512_S1x1024x512_5_0_0)
    (p 3072 (by decide) inb_S4096x1024_S512x1024_3072_0 inb_S512x4096_S512x512_0_3072) (u 6 (by decide) inb_S8x1024x512_S1x1024x512_6_0_0)
  have h5 := pay_last h4 (p 3584 (by decide) inb_S4096x1024_S512x1024_3584_0 inb_S512x4096_S512x512_0_3584) (u 7 (by decide) inb_S8x1024x512_S1x1024x512_7_0_0) r k
  refine Eq.trans ?_ (h5.trans (congrArg _ ?_))
  · rfl
  · unfold dH
    rw [sum_blocks fun f => dA X D G U W (ρ + r.val) f * U k.val f]

include hx hd ha hg hu hw in
theorem out0_A_6_apply (hc0 : cond0_0 i) (r : Fin 512) (k : Fin 1024) :
    out0_A_6 (F := Ideal) c i arg1 harg1 arg2 harg2 arg3 harg3 arg4 harg4 arg5 harg5 arg6 harg6 arg7 harg7 arg8 harg8 arg9 harg9 arg10 harg10 hc0 x0 x1 x2 x3 x4 x5
        (ix2 r k)
      = ((dX X D G U W (ρ + r.val) k.val : ℝ) : EReal) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10
    hc0 x0 x1 x2 x3 x4 x5)]
  unfold kernelRun0_A
  dsimp only
  sl_unfold_words
  rw [View.canon_cons_unit_zero (S := S512x1024) hz]
  simp only [View.readAt_eq_ld, harg1.read_unread, harg2.read_unread, harg3.read_unread, harg5.read_unread, harg6.read_unread, harg4.read_unread,
    View.ld_unit_zero (S := S512x1024) hz, View.ld_unit_zero (S := S1x1024) hz]
  exact pay_dx ρ hx hd hg (dhv_apply ρ hd ha hu hw) r k

include hd ha hw in
theorem out0_A_7_apply (hc0 : cond0_0 i) (r : Fin 512) (f : Fin 4096) :
    out0_A_7 (F := Ideal) c i arg1 harg1 arg2 harg2 arg3 harg3 arg4 harg4 arg5 harg5 arg6 harg6 arg7 harg7 arg8 harg8 arg9 harg9 arg10 harg10 hc0 x0 x1 x2 x3 x4 x5
        (ix2 r f)
      = ((dA X D G U W (ρ + r.val) f.val : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10
    hc0 x0 x1 x2 x3 x4 x5)]
  refine View.canon_apply_of_pieces (G := (show Vec Ideal S512x4096 .bf16 from daVec X D U W G ρ)) _ ?_ (ix2 r f) (cover0_A_7 c i arg1 harg1 arg2 harg2
    arg3 harg3 arg4 harg4 arg5 harg5 arg6 harg6 arg7 harg7 arg8 harg8 arg9 harg9 arg10 harg10 hc0 x0 x1 x2 x3 x4 x5 _)
  unfold kernelRun0_A
  dsimp only
  sl_unfold_words
  simp only [List.forall_mem_cons, View.readAt_eq_ld, harg2.read_unread, harg3.read_unread, harg6.read_unread,
    View.ld_unit_zero (S := S512x1024) hz]
  have p := da_piece ρ hd ha hw
  exact ⟨p 3584 (by decide) _ _, p 3072 (by decide) _ _, p 2560 (by decide) _ _, p 2048 (by decide) _ _, p 1536 (by decide) _ _,
    p 1024 (by decide) _ _, p 512 (by decide) _ _, p 0 (by decide) _ _, by simp⟩

include hd in
theorem out0_A_8_apply (hc0 : cond0_0 i) (r : Fin 512) (k : Fin 1024) :
    out0_A_8 (F := Ideal) c i arg1 harg1 arg2 harg2 arg3 harg3 arg4 harg4 arg5 harg5 arg6 harg6 arg7 harg7 arg8 harg8 arg9 harg9 arg10 harg10 hc0 x0 x1 x2 x3 x4 x5
        (ix2 r k)
      = ((D (ρ + r.val) k.val : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10
    hc0 x0 x1 x2 x3 x4 x5)]
  unfold kernelRun0_A
  dsimp only
  sl_unfold_words
  rw [View.canon_cons_unit_zero (S := S512x1024) hz]
  simp only [View.readAt_eq_ld, harg1.read_unread, harg2.read_unread, harg3.read_unread, harg5.read_unread, harg6.read_unread,
    View.ld_unit_zero (S := S512x1024) hz]
  exact hd r k

include hx hd ha hu hw in
theorem out0_A_9_apply (hc0 : cond0_0 i) (k : Fin 1024) :
    out0_A_9 (F := Ideal) c i arg1 harg1 arg2 harg2 arg3 harg3 arg4 harg4 arg5 harg5 arg6 harg6 arg7 harg7 arg8 harg8 arg9 harg9 arg10 harg10 hc0 x0 x1 x2 x3 x4 x5
        (ix2 0 k)
      = 0 + ((∑ r : Fin 512, gT X D G U W k.val (ρ + r.val) : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10
    hc0 x0 x1 x2 x3 x4 x5)]
  unfold kernelRun0_A
  dsimp only
  sl_unfold_words
  rw [View.canon_cons_unit_zero (S := S1x1024) hz]
  simp only [View.readAt_eq_ld, harg1.read_unread, harg2.read_unread, harg3.read_unread, harg5.read_unread, harg6.read_unread, View.readCov_eq_canon', whole_canon, View.canon_cons_unit_zero (S := S1x1024) hz,
    View.ld_unit_zero (S := S512x1024) hz, View.ld_unit_zero (S := S1x1024) hz]
  refine (pay_dg ρ hx (dhv_apply ρ hd ha hu hw) (k0_pay2 (F := Ideal)) k).trans ?_
  rw [pay_zero]
  rfl

include hx hd ha hg hu hw in
theorem out0_B_6_apply (hc0 : ¬cond0_0 i) (r : Fin 512) (k : Fin 1024) :
    out0_B_6 (F := Ideal) c i arg1 harg1 arg2 harg2 arg3 harg3 arg4 harg4 arg5 harg5 arg6 harg6 arg7 harg7 arg8 harg8 arg9 harg9 arg10 harg10 hc0 x0 x1 x2 x3 x4 x5 xo9
        (ix2 r k)
      = ((dX X D G U W (ρ + r.val) k.val : ℝ) : EReal) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10
    hc0 x0 x1 x2 x3 x4 x5 xo9)]
  unfold kernelRun0_B
  dsimp only
  sl_unfold_words
  rw [View.canon_cons_unit_zero (S := S512x1024) hz]
  simp only [View.readAt_eq_ld, harg1.read_unread, harg2.read_unread, harg3.read_unread, harg5.read_unread, harg6.read_unread, harg4.read_unread,
    View.ld_unit_zero (S := S512x1024) hz, View.ld_unit_zero (S := S1x1024) hz]
  exact pay_dx ρ hx hd hg (dhv_apply ρ hd ha hu hw) r k

include hd ha hw in
theorem out0_B_7_apply (hc0 : ¬cond0_0 i) (r : Fin 512) (f : Fin 4096) :
    out0_B_7 (F := Ideal) c i arg1 harg1 arg2 harg2 arg3 harg3 arg4 harg4 arg5 harg5 arg6 harg6 arg7 harg7 arg8 harg8 arg9 harg9 arg10 harg10 hc0 x0 x1 x2 x3 x4 x5 xo9
        (ix2 r f)
      = ((dA X D G U W (ρ + r.val) f.val : ℝ) : EReal) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10
    hc0 x0 x1 x2 x3 x4 x5 xo9)]
  refine View.canon_apply_of_pieces (G := (show Vec Ideal S512x4096 .bf16 from daVec X D U W G ρ)) _ ?_ (ix2 r f) (cover0_B_7 c i arg1 harg1 arg2 harg2
    arg3 harg3 arg4 harg4 arg5 harg5 arg6 harg6 arg7 harg7 arg8 harg8 arg9 harg9 arg10 harg10 hc0 x0 x1 x2 x3 x4 x5 xo9 _)
  unfold kernelRun0_B
  dsimp only
  sl_unfold_words
  simp only [List.forall_mem_cons, View.readAt_eq_ld, harg2.read_unread, harg3.read_unread, harg6.read_unread,
    View.ld_unit_zero (S := S512x1024) hz]
  have p := da_piece ρ hd ha hw
  exact ⟨p 3584 (by decide) _ _, p 3072 (by decide) _ _, p 2560 (by decide) _ _, p 2048 (by decide) _ _, p 1536 (by decide) _ _,
    p 1024 (by decide) _ _, p 512 (by decide) _ _, p 0 (by decide) _ _, by simp⟩

include hd in
theorem out0_B_8_apply (hc0 : ¬cond0_0 i) (r : Fin 512) (k : Fin 1024) :
    out0_B_8 (F := Ideal) c i arg1 harg1 arg2 harg2 arg3 harg3 arg4 harg4 arg5 harg5 arg6 harg6 arg7 harg7 arg8 harg8 arg9 harg9 arg10 harg10 hc0 x0 x1 x2 x3 x4 x5 xo9
        (ix2 r k)
      = ((D (ρ + r.val) k.val : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10
    hc0 x0 x1 x2 x3 x4 x5 xo9)]
  unfold kernelRun0_B
  dsimp only
  sl_unfold_words
  rw [View.canon_cons_unit_zero (S := S512x1024) hz]
  simp only [View.readAt_eq_ld, harg1.read_unread, harg2.read_unread, harg3.read_unread, harg5.read_unread, harg6.read_unread,
    View.ld_unit_zero (S := S512x1024) hz]
  exact hd r k

include hx hd ha hu hw in
theorem out0_B_9_apply (hc0 : ¬cond0_0 i) (k : Fin 1024) :
    out0_B_9 (F := Ideal) c i arg1 harg1 arg2 harg2 arg3 harg3 arg4 harg4 arg5 harg5 arg6 harg6 arg7 harg7 arg8 harg8 arg9 harg9 arg10 harg10 hc0 x0 x1 x2 x3 x4 x5 xo9
        (ix2 0 k)
      = xo9 (ix2 0 k) + ((∑ r : Fin 512, gT X D G U W k.val (ρ + r.val) : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10
    hc0 x0 x1 x2 x3 x4 x5 xo9)]
  unfold kernelRun0_B
  dsimp only
  sl_unfold_words
  rw [View.canon_cons_unit_zero (S := S1x1024) hz]
  simp only [View.readAt_eq_ld, harg1.read_unread, harg2.read_unread, harg3.read_unread, harg5.read_unread, harg6.read_unread, harg10.read_unread,
    View.ld_unit_zero (S := S512x1024) hz, View.ld_unit_zero (S := S1x1024) hz]
  exact pay_dg ρ hx (dhv_apply ρ hd ha hu hw) xo9 k

end Mlp

end
-- ==== Proof.Mlp.Arrays.lean ====
/- The multilayer block's backward call: what its windows show the kernel, and what the call's four arrays hold at the end. -/
module

public import proofs.«01_k».proof.Proof.Mlp.Cases
public import proofs.«01_k».proof.Proof.Gen.Kernel2Ideal.Value
public import Idealize.ShloMosaic.Lib.Pipeline.ValueKit

@[expose] public section

noncomputable section

namespace Mlp

open Reals Norm
open Idealize.ShloMosaic Idealize.ShloMosaic.Pointwise Idealize.ShloMosaic.Tactic Cert.Kernel2Ideal Cert.Kernel2Ideal.Gen

variable (m : ∀ ℓ : Loc nD τ sig, Buf (Elt Ideal) ℓ) (c : Dev nD) {X D U W : ℕ → ℕ → ℝ} {G : ℕ → ℝ}
  (h0 : (m ((c.tc : Thread nD τ).loc main_arg0) : S4096x1024.Idx → EReal) = vecN X)
  (h1 : (m ((c.tc : Thread nD τ).loc main_arg1) : S4096x1024.Idx → EReal) = vecN D)
  (h2 : (m ((c.tc : Thread nD τ).loc main_arg2) : S1x1024.Idx → EReal) = vecN fun _ k => G k)
  (h3 : (m ((c.tc : Thread nD τ).loc main_arg3) : S1024x4096.Idx → EReal) = vecN U)
  (h4 : (m ((c.tc : Thread nD τ).loc main_arg4) : S4096x1024.Idx → EReal) = vecN W)

section Host

include h0 in
theorem entry_x : (V m c main_arg0 : S4096x1024.Idx → EReal) = vecN X := by
  rw [← h0]; show StableHlo.after hostOps0 _ (Proc.devRef .tc main_arg0) = _; after_results_simp; try rfl

include h1 in
theorem entry_d : (V m c main_arg1 : S4096x1024.Idx → EReal) = vecN D := by
  rw [← h1]; show StableHlo.after hostOps0 _ (Proc.devRef .tc main_arg1) = _; after_results_simp; try rfl

include h2 in
theorem entry_g : (V m c main_arg2 : S1x1024.Idx → EReal) = vecN fun _ k => G k := by
  rw [← h2]; show StableHlo.after hostOps0 _ (Proc.devRef .tc main_arg2) = _; after_results_simp; try rfl

include h4 in
theorem entry_w : (V m c main_v19 : S4096x1024.Idx → EReal) = vecN W := by
  rw [← h4]; show StableHlo.after hostOps0 _ (Proc.devRef .tc main_v19) = _; after_results_simp; try rfl

include h3 in
theorem entry_u (y : S8x1024x512.Idx) : (V m c main_v18 : S8x1024x512.Idx → EReal) y = ((U (y 1).val ((y 0).val * 512 + (y 2).val) : ℝ) : EReal) := by
  show StableHlo.after hostOps0 _ (Proc.devRef .tc main_v18) y = _
  after_results_simp
  rw [show m (c, Proc.tc.devRef main_arg3) = vecN U from h3]
  pointwise
  rfl

include h0 h2 h3 in
theorem entry_a : (V m c main_v15 : S4096x4096.Idx → EReal) = vecN (hid X G U) := by
  show StableHlo.after hostOps0 _ (Proc.devRef .tc main_v15) = _
  after_results_simp
  rw [show m (c, Proc.tc.devRef main_arg0) = vecN X from h0, show m (c, Proc.tc.devRef main_arg2) = vecN (fun _ k => G k) from h2,
    show m (c, Proc.tc.devRef main_arg3) = vecN U from h3]
  funext y
  obtain ⟨i, f, rfl⟩ : ∃ (i : Fin 4096) (f : Fin 4096), y = ix2 i f := ⟨y 0, y 1, eq_ix2 y⟩
  pointwise
  simp only [vecN_ix2, sum_mul_coe, eps_eq, n1024_eq, rs_row, ← EReal.coe_mul, sum_coe, ← EReal.coe_mul]
  rfl

end Host

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![0, 0] := (by decide +kernel : ∀ t : Fin grid0.N, _)

theorem flush0_9 : ∀ t : Fin cfg0.N, (cfg0.win 9).flush t = true → t.val = 7 := (by decide +kernel : ∀ t : Fin grid0.N, _)

include h0 in
theorem iblk_x (t : Fin cfg0.N) (r : Fin 512) (k : Fin 1024) :
    (iblk m c 0 t : Vec Ideal S512x1024 .f32) (ix2 r k) = ((X (t.val * 512 + r.val) k.val : ℝ) : EReal) := by
  blk_simp [iblk]
  rw [entry_x m c h0]
  exact vecN_eq _ _ _ _ (by blk_simp [idx0_0]) (by blk_simp [idx0_0])

include h1 in
theorem iblk_d (t : Fin cfg0.N) (r : Fin 512) (k : Fin 1024) :
    (iblk m c 1 t : Vec Ideal S512x1024 .f32) (ix2 r k) = ((D (t.val * 512 + r.val) k.val : ℝ) : EReal) := by
  blk_simp [iblk]
  rw [entry_d m c h1]
  exact vecN_eq _ _ _ _ (by blk_simp [idx0_1]) (by blk_simp [idx0_1])

include h0 h2 h3 in
theorem iblk_a (t : Fin cfg0.N) (r : Fin 512) (f : Fin 4096) :
    (iblk m c 2 t : Vec Ideal S512x4096 .bf16) (ix2 r f) = ((hid X G U (t.val * 512 + r.val) f.val : ℝ) : EReal) := by
  blk_simp [iblk]
  rw [entry_a m c h0 h2 h3]
  exact vecN_eq _ _ _ _ (by blk_simp [idx0_2]) (by blk_simp [idx0_2])

include h2 in
theorem iblk_g (t : Fin cfg0.N) (k : Fin 1024) : (iblk m c 3 t : Vec Ideal S1x1024 .f32) (ix2 0 k) = ((G k.val : ℝ) : EReal) := by
  blk_simp [iblk]
  rw [entry_g m c h2]
  exact vecN_eq _ _ 0 _ (by blk_simp [idx0_3]; rfl) (by blk_simp [idx0_3])

include h3 in
theorem iblk_u (t : Fin cfg0.N) (j : Fin 8) (k : Fin 1024) (f : Fin 512) :
    (iblk m c 4 t : Vec Ideal S8x1024x512 .bf16) (ix3 j k f) = ((U k.val (j.val * 512 + f.val) : ℝ) : EReal) := by
  blk_simp [iblk]
  refine (entry_u m c h3 _).trans (congrArg Real.toEReal (congrArg₂ U ?_ (congrArg₂ (fun a b => a * 512 + b) ?_ ?_)))
  · blk_simp [idx0_4]
  · blk_simp [idx0_4]
  · blk_simp [idx0_4]

include h4 in
theorem iblk_w (t : Fin cfg0.N) (f : Fin 4096) (k : Fin 1024) :
    (iblk m c 5 t : Vec Ideal S4096x1024 .bf16) (ix2 f k) = ((W f.val k.val : ℝ) : EReal) := by
  blk_simp [iblk]
  rw [entry_w m c h4]
  exact vecN_eq _ _ _ _ (by blk_simp [idx0_5]) (by blk_simp [idx0_5])

include h0 h1 h2 h3 h4 in
/-- What a point leaves in the block of the gradient at the input. -/
theorem at_dx (t : Fin cfg0.N) (r : Fin 512) (k : Fin 1024) :
    (outsAt0 m c t.val t.isLt).1 (ix2 r k) = ((dX X D G U W (t.val * 512 + r.val) k.val : ℝ) : EReal) := by
  by_cases h : t.val % 8 = 0
  · rw [outsAt0_A m c t h]
    dsimp only
    exact out0_A_6_apply (hx := iblk_x m c h0 t) (hd := iblk_d m c h1 t) (ha := iblk_a m c h0 h2 h3 t) (hg := iblk_g m c h2 t)
      (hu := iblk_u m c h3 t) (hw := iblk_w m c h4 t) (r := r) (k := k) ..
  · rw [outsAt0_B m c t h]
    dsimp only
    exact out0_B_6_apply (hx := iblk_x m c h0 t) (hd := iblk_d m c h1 t) (ha := iblk_a m c h0 h2 h3 t) (hg := iblk_g m c h2 t)
      (hu := iblk_u m c h3 t) (hw := iblk_w m c h4 t) (r := r) (k := k) ..

include h0 h1 h2 h3 h4 in
/-- What a point leaves in the block of the gradient at the hidden layer. -/
theorem at_da (t : Fin cfg0.N) (r : Fin 512) (f : Fin 4096) :
    (outsAt0 m c t.val t.isLt).2.1 (ix2 r f) = ((dA X D G U W (t.val * 512 + r.val) f.val : ℝ) : EReal) := by
  by_cases h : t.val % 8 = 0
  · rw [outsAt0_A m c t h]
    dsimp only
    exact out0_A_7_apply (hd := iblk_d m c h1 t) (ha := iblk_a m c h0 h2 h3 t) (hw := iblk_w m c h4 t) (r := r) (f := f) ..
  · rw [outsAt0_B m c t h]
    dsimp only
    exact out0_B_7_apply (hd := iblk_d m c h1 t) (ha := iblk_a m c h0 h2 h3 t) (hw := iblk_w m c h4 t) (r := r) (f := f) ..

include h1 in
/-- What a point leaves in the block of the incoming gradient. -/
theorem at_do (t : Fin cfg0.N) (r : Fin 512) (k : Fin 1024) :
    (outsAt0 m c t.val t.isLt).2.2.1 (ix2 r k) = ((D (t.val * 512 + r.val) k.val : ℝ) : EReal) := by
  by_cases h : t.val % 8 = 0
  · rw [outsAt0_A m c t h]
    dsimp only
    exact out0_A_8_apply (hd := iblk_d m c h1 t) (r := r) (k := k) ..
  · rw [outsAt0_B m c t h]
    dsimp only
    exact out0_B_8_apply (hd := iblk_d m c h1 t) (r := r) (k := k) ..

include h0 h1 h2 h3 h4 in
/-- What a point leaves in the gradient at the gain: the rows summed so far. -/
theorem at_dg : ∀ (n : ℕ) (hn : n < cfg0.N) (k : Fin 1024),
    (outsAt0 m c n hn).2.2.2 (ix2 0 k) = ((∑ t ∈ Finset.range ((n + 1) * 512), gT X D G U W k.val t : ℝ) : EReal) := by
  intro n
  induction n using Nat.strong_induction_on with
  | _ n ih =>
    intro hn k
    have hN : n < 8 := hn
    rw [sum_rows, EReal.coe_add]
    by_cases h : n % 8 = 0
    · have e : n = 0 := by omega
      subst e
      rw [outsAt0_A m c ⟨0, hn⟩ h, zero_mul, Finset.range_zero, Finset.sum_empty, EReal.coe_zero]
      dsimp only
      exact out0_A_9_apply (hx := iblk_x m c h0 ⟨0, hn⟩) (hd := iblk_d m c h1 ⟨0, hn⟩) (ha := iblk_a m c h0 h2 h3 ⟨0, hn⟩)
        (hu := iblk_u m c h3 ⟨0, hn⟩) (hw := iblk_w m c h4 ⟨0, hn⟩) (k := k) ..
    · have e := ih (n - 1) (by omega) (by omega) k
      rw [show n - 1 + 1 = n by omega] at e
      rw [outsAt0_B m c ⟨n, hn⟩ h, ← e]
      dsimp only
      exact out0_B_9_apply (hx := iblk_x m c h0 ⟨n, hn⟩) (hd := iblk_d m c h1 ⟨n, hn⟩) (ha := iblk_a m c h0 h2 h3 ⟨n, hn⟩)
        (hu := iblk_u m c h3 ⟨n, hn⟩) (hw := iblk_w m c h4 ⟨n, hn⟩) (k := k) ..

include h0 h1 h2 h3 h4 in
theorem final_dx : ((dats m 0 c).arrAt 6 cfg0.N : S4096x1024.Idx → EReal) = vecN (dX X D G U W) := by
  refine (dats m 0 c).arrAt_eq_of_covers 6 _ (by decide +kernel) fun t hf y => ?_
  blk_simp
  rw [after0_6, eq_ix2 y]
  refine (at_dx m c h0 h1 h2 h3 h4 t (y 0) (y 1)).trans ?_
  exact (vecN_eq _ _ _ _ (by blk_simp [idx0_6]) (by blk_simp [idx0_6])).symm

include h0 h1 h2 h3 h4 in
theorem final_da : ((dats m 0 c).arrAt 7 cfg0.N : S4096x4096.Idx → EReal) = vecN (dA X D G U W) := by
  refine (dats m 0 c).arrAt_eq_of_covers 7 _ (by decide +kernel) fun t hf y => ?_
  blk_simp
  rw [after0_7, eq_ix2 y]
  refine (at_da m c h0 h1 h2 h3 h4 t (y 0) (y 1)).trans ?_
  exact (vecN_eq _ _ _ _ (by blk_simp [idx0_7]) (by blk_simp [idx0_7])).symm

include h1 in
theorem final_do : ((dats m 0 c).arrAt 8 cfg0.N : S4096x1024.Idx → EReal) = vecN D := by
  refine (dats m 0 c).arrAt_eq_of_covers 8 _ (by decide +kernel) fun t hf y => ?_
  blk_simp
  rw [after0_8, eq_ix2 y]
  refine (at_do m c h1 t (y 0) (y 1)).trans ?_
  exact (vecN_eq _ _ _ _ (by blk_simp [idx0_8]) (by blk_simp [idx0_8])).symm

include h0 h1 h2 h3 h4 in
theorem final_dg : ((dats m 0 c).arrAt 9 cfg0.N : S1x1024.Idx → EReal) = vecN fun _ k => dG X D G U W k := by
  refine (dats m 0 c).arrAt_eq_of_covers 9 _ (by decide +kernel) fun t hf y => ?_
  blk_simp
  obtain ⟨z, k, rfl⟩ : ∃ (z : Fin 1) (k : Fin 1024), y = ix2 z k := ⟨y 0, y 1, eq_ix2 y⟩
  obtain rfl : z = 0 := Subsingleton.elim z 0
  rw [after0_9]
  refine (at_dg m c h0 h1 h2 h3 h4 t.val t.isLt k).trans ?_
  rw [flush0_9 t hf]
  refine Eq.trans (congrArg Real.toEReal ?_) (vecN_eq _ _ 0 k.val (by blk_simp [idx0_9]; rfl) (by blk_simp [idx0_9])).symm
  exact (Fin.sum_univ_eq_sum_range (gT X D G U W k.val) 4096).symm

end Mlp

end
-- ==== Proof.Mlp.Ref.lean ====
/- The reference of the multilayer block's backward call, on arguments that are matrices of reals. -/
module

public import proofs.«01_k».proof.Proof.Mlp.Spec
public import proofs.«01_k».proof.Proof.Gen.Reference2Ideal.Read

@[expose] public section

noncomputable section

namespace Mlp

open Reals Norm
open Idealize.ShloMosaic Idealize.ShloMosaic.Pointwise Cert.Reference2Ideal Cert.Reference2Ideal.Gen Cert.Reference2Ideal.Read

def argX (X : ℕ → ℕ → ℝ) : (⟨S4096x1024, .f32⟩ : BufTy).Contents (Elt Ideal) := vecN X
def argG (G : ℕ → ℝ) : (⟨S1x1024, .f32⟩ : BufTy).Contents (Elt Ideal) := vecN fun _ k => G k
def argU (U : ℕ → ℕ → ℝ) : (⟨S1024x4096, .f32⟩ : BufTy).Contents (Elt Ideal) := vecN U

variable (X D U W : ℕ → ℕ → ℝ) (G : ℕ → ℝ)

theorem argX_at (t : Fin 4096) (k : Fin 1024) : argX X (ix2 t k) = ((X t.val k.val : ℝ) : EReal) := rfl
theorem argG_at (z : Fin 1) (k : Fin 1024) : argG G (ix2 z k) = ((G k.val : ℝ) : EReal) := rfl
theorem argU_at (k : Fin 1024) (f : Fin 4096) : argU U (ix2 k f) = ((U k.val f.val : ℝ) : EReal) := rfl

theorem ref_ms (t : Fin 4096) (z : Fin 1) : val_main_v7 (F := Ideal) (argX X) (ix2 t z) = ((ms 1024 (X t.val) : ℝ) : EReal) := by
  pointwise [val_main_v7, val_main_v6, val_main_cst_1, val_main_v5, val_main_v4, val_main_cst_0, val_main_v3, val_main_v2,
    val_main_cst, val_main_v1]
  simp only [argX_at, sum_mul_coe, eps_eq, n1024_eq, zero_add]
  rw [div_coe_coe _ _ (by norm_num), ← EReal.coe_add]
  rfl

theorem ref_rs (t : Fin 4096) (z : Fin 1) : val_main_v8 (F := Ideal) (argX X) (ix2 t z) = ((rs 1024 (X t.val) : ℝ) : EReal) := by
  have h := ref_ms X
  pointwise [val_main_v8]
  simp only [h, rs_coe]

theorem ref_xh (t : Fin 4096) (k : Fin 1024) : val_main_v13 (F := Ideal) (argX X) (ix2 t k) = ((xh 1024 (X t.val) k.val : ℝ) : EReal) := by
  have h := ref_rs X
  pointwise [val_main_v13, val_main_v12]
  simp only [argX_at, h, ← EReal.coe_mul]
  rfl

theorem ref_hid (t : Fin 4096) (f : Fin 4096) :
    val_main_v17 (F := Ideal) (argX X) (argG G) (argU U) (ix2 t f) = ((hid X G U t.val f.val : ℝ) : EReal) := by
  have h := ref_xh X
  pointwise [val_main_v17, val_main_v16, val_main_v15, val_main_v14, val_main_v0]
  simp only [argG_at, argU_at, h, ← EReal.coe_mul, sum_coe]
  rfl

theorem ref_da (t : Fin 4096) (f : Fin 4096) :
    val_main_v29 (F := Ideal) (argX X) (argX D) (argG G) (argU U) (argX W) (ix2 t f) = ((dA X D G U W t.val f.val : ℝ) : EReal) := by
  have h := ref_hid X U G
  pointwise [val_main_v29, val_main_v28, val_main_v27, val_main_v26, val_main_v25, val_main_v24, val_main_v20, val_main_v19, val_main_v18,
    val_main_cst_3, val_main_cst_5, val_main_call0_v0, val_main_call0_cst]
  simp only [argX_at, h, sum_mul_coe]
  unfold dA
  by_cases hp : 0 < hid X G U t.val f.val
  · rw [if_pos (EReal.coe_pos.mpr hp), ← EReal.coe_zero, max_coe, ← EReal.coe_mul, ← EReal.coe_mul, ← EReal.coe_add]
    congr 1
    ring
  · rw [if_neg (fun h => hp (EReal.coe_pos.mp h)), max_eq_right (not_lt.mp hp), mul_zero, mul_zero, EReal.coe_zero]

theorem ref_dh (t : Fin 4096) (k : Fin 1024) :
    val_main_v30 (F := Ideal) (argX X) (argX D) (argG G) (argU U) (argX W) (ix2 t k) = ((dH X D G U W t.val k.val : ℝ) : EReal) := by
  have h := ref_da X D U W G
  pointwise [val_main_v30]
  simp only [argU_at, h, sum_mul_coe]
  rfl

theorem ref_dg (k : Fin 1024) :
    val_main_v51 (F := Ideal) (argX X) (argX D) (argG G) (argU U) (argX W) (ix2 0 k) = ((dG X D G U W k.val : ℝ) : EReal) := by
  have h := ref_dh X D U W G
  have h' := ref_xh X
  pointwise [val_main_v51, val_main_v36, val_main_v33, val_main_v32, val_main_v31, val_main_cst_6, val_main_cst_7]
  simp only [Fin.sum_univ_one, h, h', sum_mul_coe]
  refine congrArg Real.toEReal (Finset.sum_congr rfl fun t _ => ?_)
  unfold gT
  ring

theorem ref_dx (t : Fin 4096) (k : Fin 1024) :
    val_main_v52 (F := Ideal) (argX X) (argX D) (argG G) (argU U) (argX W) (ix2 t k) = ((dX X D G U W t.val k.val : ℝ) : EReal) := by
  have h := ref_dh X D U W G
  have h' := ref_rs X
  have hm := ref_ms X
  pointwise [val_main_v52, val_main_v50, val_main_v49, val_main_v48, val_main_v47, val_main_v46, val_main_v45, val_main_v44, val_main_v43,
    val_main_v42, val_main_v41, val_main_v40, val_main_v39, val_main_v38, val_main_v37, val_main_v35, val_main_v34, val_main_v14, val_main_v0,
    val_main_v11, val_main_v10, val_main_v9, val_main_cst_2, val_main_cst_8, val_main_cst_9, val_main_cst_10]
  simp only [Fin.sum_univ_one, argX_at, argG_at, h, h', hm, neg_half_eq, n1024_eq, div_coe_coe _ _ (ms_pos _ _).ne', ← EReal.coe_mul, sum_coe]
  rw [div_coe_coe _ _ (by norm_num)]
  simp only [← EReal.coe_mul, ← EReal.coe_add]
  unfold dX
  rw [← back_eq]

theorem ref_v52 : val_main_v52 (F := Ideal) (argX X) (argX D) (argG G) (argU U) (argX W) = vecN (dX X D G U W) := by
  funext y
  exact (congrArg _ (eq_ix2 y)).trans (ref_dx X D U W G (y 0) (y 1))

theorem ref_v53 : val_main_v53 (F := Ideal) (argX X) (argX D) (argG G) (argU U) (argX W) = vecN (dA X D G U W) := by
  funext y
  exact (congrArg (val_main_v29 (F := Ideal) (argX X) (argX D) (argG G) (argU U) (argX W)) (eq_ix2 y)).trans (ref_da X D U W G (y 0) (y 1))

theorem ref_v51 : val_main_v51 (F := Ideal) (argX X) (argX D) (argG G) (argU U) (argX W) = vecN fun _ k => dG X D G U W k := by
  funext y
  obtain ⟨z, k, rfl⟩ : ∃ (z : Fin 1) (k : Fin 1024), y = ix2 z k := ⟨y 0, y 1, eq_ix2 y⟩
  obtain rfl : z = 0 := Subsingleton.elim z 0
  exact ref_dg X D U W G k

end Mlp

end
-- ==== Proof.Mlp.Claim.lean ====
/- The claims about the multilayer block's backward call: the reference's frame, and the four results equal to the reference's. -/
module

public import proofs.«01_k».proof.Defs
public import proofs.«01_k».proof.Proof.Mlp.Arrays
public import proofs.«01_k».proof.Proof.Mlp.Ref
public import proofs.«01_k».proof.Proof.Gen.Reference2Ideal.Run
public import proofs.«01_k».proof.Proof.Gen.Pre_finite2
public import Idealize.ShloMosaic.Lib.ReduceAll
public import Idealize.ShloMosaic.Lib.Affine

@[expose] public section

noncomputable section

namespace Mlp

open Reals
open Idealize.ShloMosaic Idealize.SL.Sem

section Reference

open Cert.Reference2Ideal Cert.Reference2Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2, funext fun g => nomatch g.2⟩) (Cert.Reference2Ideal.Value.run m ρ)

end Reference

instance : Subsingleton Cert.Pre_finite2.S_.Idx := ⟨fun a b => funext fun i => i.elim0⟩

/-- What the precondition says of each argument. -/
theorem finite_args [Cert.Pre_finite2.Facts] {x0 x1 x4 : FVec Ideal Cert.Pre_finite2.S4096x1024 .f32} {x2 : FVec Ideal Cert.Pre_finite2.S1x1024 .f32}
    {x3 : FVec Ideal Cert.Pre_finite2.S1024x4096 .f32} (h : Cert.Pre_finite2.fn (F := Ideal) x0 x1 x2 x3 x4 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x2 y ≠ (⊤ : EReal) ∧ x2 y ≠ (⊥ : EReal)) ∧ (∀ y, x3 y ≠ (⊤ : EReal) ∧ x3 y ≠ (⊥ : EReal))
      ∧ (∀ y, x4 y ≠ (⊤ : EReal) ∧ x4 y ≠ (⊥ : EReal)) := by
  have h' := congrFun h (Shape.Idx.first Cert.Pre_finite2.Facts.h_S_)
  dsimp only [Cert.Pre_finite2.fn, Cert.Pre_finite2.fn_part1] at h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨fun y => finite_of_lt _ (Host.reduce_andi_all _ _ _ _ _ h0 y), fun y => finite_of_lt _ (Host.reduce_andi_all _ _ _ _ _ h1 y),
    fun y => finite_of_lt _ (Host.reduce_andi_all _ _ _ _ _ h2 y), fun y => finite_of_lt _ (Host.reduce_andi_all _ _ _ _ _ h3 y),
    fun y => finite_of_lt _ (Host.reduce_andi_all _ _ _ _ _ h4 y)⟩

/-- The four results, from arguments that are finite. -/
theorem algebraic : Cert.algebraic_Kernel2Ideal_Reference2Ideal_pre_finite2 (hKernel2Ideal := Cert.Kernel2Ideal.Gen.facts)
    (hReference2Ideal := Cert.Reference2Ideal.Gen.facts) (hPre_finite2 := Cert.Pre_finite2.Gen.facts) := by
  intro m g m' g' hpre hagree
  have real : ∀ c : Dev Cert.Kernel2Ideal.nD, ∃ (X D : ℕ → ℕ → ℝ) (G : ℕ → ℝ) (U W : ℕ → ℕ → ℝ),
      (m ((c.tc : Thread Cert.Kernel2Ideal.nD Cert.Kernel2Ideal.τ).loc Cert.Kernel2Ideal.main_arg0) : Cert.Kernel2Ideal.S4096x1024.Idx → EReal) = vecN X
      ∧ (m ((c.tc : Thread Cert.Kernel2Ideal.nD Cert.Kernel2Ideal.τ).loc Cert.Kernel2Ideal.main_arg1) : Cert.Kernel2Ideal.S4096x1024.Idx → EReal) = vecN D
      ∧ (m ((c.tc : Thread Cert.Kernel2Ideal.nD Cert.Kernel2Ideal.τ).loc Cert.Kernel2Ideal.main_arg2) : Cert.Kernel2Ideal.S1x1024.Idx → EReal) = (vecN fun _ k => G k)
      ∧ (m ((c.tc : Thread Cert.Kernel2Ideal.nD Cert.Kernel2Ideal.τ).loc Cert.Kernel2Ideal.main_arg3) : Cert.Kernel2Ideal.S1024x4096.Idx → EReal) = vecN U
      ∧ (m ((c.tc : Thread Cert.Kernel2Ideal.nD Cert.Kernel2Ideal.τ).loc Cert.Kernel2Ideal.main_arg4) : Cert.Kernel2Ideal.S4096x1024.Idx → EReal) = vecN W := by
    intro c
    obtain ⟨f0, f1, f2, f3, f4⟩ := finite_args (hpre c)
    obtain ⟨G, hG⟩ := eq_row _ f2
    exact ⟨_, _, G, _, _, eq_vecN _ f0, eq_vecN _ f1, hG, eq_vecN _ f3, eq_vecN _ f4⟩
  choose X D G U W h0 h1 h2 h3 h4 using real
  refine ⟨fun c => vecN (dX (X c) (D c) (G c) (U c) (W c)), fun c => vecN (dA (X c) (D c) (G c) (U c) (W c)), fun c => vecN (D c),
    fun c => vecN fun _ k => dG (X c) (D c) (G c) (U c) (W c) k, ?_, ?_⟩
  · refine (θ_run _ _ _).mono (fun r h c => ?_) (Cert.Kernel2Ideal.Value.run_blocks m g)
    obtain ⟨r0, r1, r2, r3, hargs⟩ := h c
    exact ⟨r0.trans (final_dx m c (h0 c) (h1 c) (h2 c) (h3 c) (h4 c)), r1.trans (final_da m c (h0 c) (h1 c) (h2 c) (h3 c) (h4 c)),
      r2.trans (final_do m c (h1 c)), r3.trans (final_dg m c (h0 c) (h1 c) (h2 c) (h3 c) (h4 c)), hargs⟩
  · refine (θ_run _ _ _).mono (fun r h c => ?_) (Cert.Reference2Ideal.Value.run m' g')
    have a0 : m' ((c.tc : Thread Cert.Reference2Ideal.nD Cert.Reference2Ideal.τ).loc Cert.Reference2Ideal.main_arg0) = argX (X c) := (hagree c).1.trans (h0 c)
    have a1 : m' ((c.tc : Thread Cert.Reference2Ideal.nD Cert.Reference2Ideal.τ).loc Cert.Reference2Ideal.main_arg1) = argX (D c) := (hagree c).2.1.trans (h1 c)
    have a2 : m' ((c.tc : Thread Cert.Reference2Ideal.nD Cert.Reference2Ideal.τ).loc Cert.Reference2Ideal.main_arg2) = argG (G c) := (hagree c).2.2.1.trans (h2 c)
    have a3 : m' ((c.tc : Thread Cert.Reference2Ideal.nD Cert.Reference2Ideal.τ).loc Cert.Reference2Ideal.main_arg3) = argU (U c) := (hagree c).2.2.2.1.trans (h3 c)
    have a4 : m' ((c.tc : Thread Cert.Reference2Ideal.nD Cert.Reference2Ideal.τ).loc Cert.Reference2Ideal.main_arg4) = argX (W c) := (hagree c).2.2.2.2.trans (h4 c)
    obtain ⟨r0, r1, r2, r3, hargs⟩ := h c
    refine ⟨?_, ?_, ?_, ?_, hargs⟩
    · refine r0.trans ((Cert.Reference2Ideal.Read.val_main_v52_eq _ _).trans ?_)
      rw [a0, a1, a2, a3, a4]; exact ref_v52 _ _ _ _ _
    · refine r1.trans ((Cert.Reference2Ideal.Read.val_main_v53_eq _ _ _ _ _).trans ?_)
      rw [a0, a1, a2, a3, a4]; exact ref_v53 _ _ _ _ _
    · refine r2.trans ?_
      rw [a1]; rfl
    · refine r3.trans ((Cert.Reference2Ideal.Read.val_main_v51_eq _ _).trans ?_)
      rw [a0, a1, a2, a3, a4]; exact ref_v51 _ _ _ _ _

end Mlp

end
-- ==== Proof.Proj.Spec.lean ====
/- The gradient of a projection of a normed row, on real numbers: at the normed input, at the input and at the norm's gain. Rows are
   tokens; matrices are addressed by plain numbers. -/
module

public import proofs.«01_k».proof.Proof.Norm.Real

@[expose] public section

noncomputable section

namespace Proj

open Reals Norm
open Idealize.ShloMosaic

variable (n : ℕ) (x d : ℕ → ℕ → ℝ) (g : ℕ → ℝ) (w : ℕ → ℕ → ℝ)

/-- The gradient at the normed input. -/
def dH (t k : ℕ) : ℝ := ∑ f : Fin n, d t f * w k f

/-- The gradient at the input, through the norm. -/
def dX (t k : ℕ) : ℝ := back 1024 (x t) (fun j => dH n d w t j * g j) k

/-- One token's part of the gradient at the gain. -/
def gT (k t : ℕ) : ℝ := dH n d w t k * xh 1024 (x t) k

/-- The gradient at the gain. -/
def dG (k : ℕ) : ℝ := ∑ t : Fin 4096, gT n x d w k t

/-- What comes through the residual, any extended reals, and the gradient at the input. -/
def total {a b : ℕ} (res : ℕ → ℕ → EReal) (y : (⟨2, ![a, b]⟩ : Shape).Idx) : EReal :=
  res (y 0).val (y 1).val + ((dX n x d g w (y 0).val (y 1).val : ℝ) : EReal)

theorem total_eq {a b : ℕ} (res : ℕ → ℕ → EReal) (y : (⟨2, ![a, b]⟩ : Shape).Idx) (i k : ℕ) (e0 : (y 0).val = i) (e1 : (y 1).val = k) :
    total n x d g w res y = res i k + ((dX n x d g w i k : ℝ) : EReal) := by
  unfold total
  rw [e0, e1]

/-- An array read at plain numbers, zero outside. -/
def tab {a b : ℕ} (x : (⟨2, ![a, b]⟩ : Shape).Idx → EReal) (i k : ℕ) : EReal :=
  if h : i < a ∧ k < b then x (ix2 ⟨i, h.1⟩ ⟨k, h.2⟩) else 0

theorem tab_eq {a b : ℕ} (x : (⟨2, ![a, b]⟩ : Shape).Idx → EReal) (y : (⟨2, ![a, b]⟩ : Shape).Idx) (i k : ℕ)
    (e0 : (y 0).val = i) (e1 : (y 1).val = k) : x y = tab x i k := by
  subst e0 e1
  unfold tab
  have h0 : (y 0).val < a := (y 0).isLt
  have h1 : (y 1).val < b := (y 1).isLt
  rw [dif_pos ⟨h0, h1⟩]
  exact congrArg x (eq_ix2 y)

/-- Two matrices of 1024 columns side by side. -/
def join (a b : ℕ → ℕ → ℝ) (t f : ℕ) : ℝ := if f < 1024 then a t f else b t (f - 1024)

/-- A sum over `m` blocks of `b`, one block after another. -/
theorem sum_cut (F : ℕ → ℝ) (b m : ℕ) : ∑ f : Fin (m * b + b), F f = (∑ f : Fin (m * b), F f) + ∑ c : Fin b, F (m * b + c) := by
  rw [Fin.sum_univ_eq_sum_range F, Fin.sum_univ_eq_sum_range F, Fin.sum_univ_eq_sum_range (fun c => F (m * b + c)), Finset.sum_range_add]

/-- The tokens summed before block `n` of 1024 rows, and the two halves of that block. -/
theorem sum_rows (F : ℕ → ℝ) (n : ℕ) :
    ∑ t ∈ Finset.range ((n + 1) * 1024), F t
      = ∑ t ∈ Finset.range (n * 1024), F t + ∑ r : Fin 512, F (n * 1024 + r) + ∑ r : Fin 512, F (n * 1024 + 512 + r) := by
  rw [Fin.sum_univ_eq_sum_range (fun r => F (n * 1024 + r)), Fin.sum_univ_eq_sum_range (fun r => F (n * 1024 + 512 + r)),
    ← Finset.sum_range_add, ← Finset.sum_range_add, add_assoc, Nat.succ_mul]

end Proj

end
-- ==== Proof.Qkv.Block.lean ====
/- What the payloads of the attention projection's backward kernel compute on 512 rows whose entries are reals. The body does the two
   halves of its rows one after the other; the first half's payloads are, by unfolding, the second half's. -/
module

public import proofs.«01_k».proof.Proof.Proj.Spec
public import proofs.«01_k».proof.Proof.Gen.Kernel3Ideal.Skeleton
public import Idealize.ShloMosaic.Lib.Pointwise

@[expose] public section

noncomputable section

namespace Qkv

open Reals Norm Proj
open Idealize.ShloMosaic Idealize.ShloMosaic.Pointwise Cert.Kernel3Ideal Cert.Kernel3Ideal.Gen

variable {d0 d1 d2 : Vec Ideal S1x512x512 .bf16} {w0 w1 w2 : Vec Ideal S1x512x1024 .bf16} {x res : Vec Ideal S512x1024 .f32}
  {g : Vec Ideal S1x1024 .f32} {X D W H : ℕ → ℕ → ℝ} {G : ℕ → ℝ} {R : ℕ → ℕ → EReal} (ρ : ℕ)

theorem sum_1536 (F : ℕ → ℝ) : ∑ f : Fin 1536, F f = (∑ c : Fin 512, F c) + (∑ c : Fin 512, F (512 + c)) + ∑ c : Fin 512, F (1024 + c) := by
  rw [sum_cut F 512 2, sum_cut F 512 1]

/-- The gradient at the normed input: three blocks of the projection's columns. -/
theorem pay_dh (hd0 : ∀ r c, d0 (ix3 0 r c) = ((D (ρ + r.val) c.val : ℝ) : EReal)) (hd1 : ∀ r c, d1 (ix3 0 r c) = ((D (ρ + r.val) (512 + c.val) : ℝ) : EReal))
    (hd2 : ∀ r c, d2 (ix3 0 r c) = ((D (ρ + r.val) (1024 + c.val) : ℝ) : EReal)) (hw0 : ∀ c k, w0 (ix3 0 c k) = ((W k.val c.val : ℝ) : EReal))
    (hw1 : ∀ c k, w1 (ix3 0 c k) = ((W k.val (512 + c.val) : ℝ) : EReal)) (hw2 : ∀ c k, w2 (ix3 0 c k) = ((W k.val (1024 + c.val) : ℝ) : EReal))
    (r : Fin 512) (k : Fin 1024) :
    k0_pay12 (F := Ideal) (k0_pay10 d0 w0) (k0_pay11 d1) w1 d2 w2 (ix2 r k) = ((dH 1536 D W (ρ + r.val) k.val : ℝ) : EReal) := by
  pointwise [k0_pay12, k0_pay10, k0_pay11]
  simp only [hd0, hd1, hd2, hw0, hw1, hw2, sum_mul_coe, zero_add, ← EReal.coe_add]
  unfold dH
  rw [sum_1536 fun f => D (ρ + r.val) f * W k.val f]

theorem pay_rs (hx : ∀ r k, x (ix2 r k) = ((X (ρ + r.val) k.val : ℝ) : EReal)) (r : Fin 512) (z : Fin 1) :
    k0_pay13 (F := Ideal) x (ix2 r z) = ((rs 1024 (X (ρ + r.val)) : ℝ) : EReal) := by
  pointwise [k0_pay13]
  simp only [hx, sum_mul_coe, eps_eq, n1024_eq, rs_row]

theorem pay_xh (hx : ∀ r k, x (ix2 r k) = ((X (ρ + r.val) k.val : ℝ) : EReal)) (r : Fin 512) (k : Fin 1024) :
    k0_pay14 (F := Ideal) x (ix2 r k) = ((xh 1024 (X (ρ + r.val)) k.val : ℝ) : EReal) := by
  have h := pay_rs ρ hx
  pointwise [k0_pay14]
  simp only [hx, h, ← EReal.coe_mul]
  rfl

variable {v : FVec Ideal S512x1024 .f32} {p : FVec Ideal S512x512 .bf16}

/-- The gradient at the input, onto what comes through the residual. -/
theorem pay_dx (hx : ∀ r k, x (ix2 r k) = ((X (ρ + r.val) k.val : ℝ) : EReal)) (hr : ∀ r k, res (ix2 r k) = R (ρ + r.val) k.val)
    (hg : ∀ k, g (ix2 0 k) = ((G k.val : ℝ) : EReal))
    (hh : ∀ r k, k0_pay12 (F := Ideal) v p w1 d2 w2 (ix2 r k) = ((H (ρ + r.val) k.val : ℝ) : EReal)) (r : Fin 512) (k : Fin 1024) :
    k0_pay16 (F := Ideal) v p w1 d2 w2 x g res (ix2 r k)
      = R (ρ + r.val) k.val + ((back 1024 (X (ρ + r.val)) (fun j => H (ρ + r.val) j * G j) k.val : ℝ) : EReal) := by
  have hs := pay_rs ρ hx
  have hn := pay_xh ρ hx
  pointwise [k0_pay16]
  simp only [hh, hs, hn, hr, hg, n1024_eq, ← EReal.coe_mul, sum_coe]
  rw [div_coe_coe _ _ (by norm_num)]
  simp only [← EReal.coe_mul, ← EReal.coe_sub]
  rfl

/-- The half's part of the gradient at the gain, onto what was summed before. -/
theorem pay_dg (hx : ∀ r k, x (ix2 r k) = ((X (ρ + r.val) k.val : ℝ) : EReal))
    (hh : ∀ r k, k0_pay12 (F := Ideal) v p w1 d2 w2 (ix2 r k) = ((H (ρ + r.val) k.val : ℝ) : EReal)) (q : Vec Ideal S1x1024 .f32) (k : Fin 1024) :
    k0_pay1 (F := Ideal) (k0_pay15 v p w1 d2 w2 x) q (ix2 0 k)
      = q (ix2 0 k) + ((∑ r : Fin 512, H (ρ + r.val) k.val * xh 1024 (X (ρ + r.val)) k.val : ℝ) : EReal) := by
  have hn := pay_xh ρ hx
  pointwise [k0_pay1, k0_pay15]
  simp only [hh, hn, sum_mul_coe]

theorem pay_zero (k : Fin 1024) : k0_pay2 (F := Ideal) (ix2 0 k) = (0 : EReal) := by
  pointwise [k0_pay2]

/-- The first half's payloads. -/
theorem first_dx : k0_pay8 (F := Ideal) (k0_pay3 d0 w0 d1 w1 d2 w2) x g (k0_pay4 x) k0_pay5 res
    = k0_pay16 (k0_pay10 d0 w0) (k0_pay11 d1) w1 d2 w2 x g res := rfl

theorem first_dg (q : Vec Ideal S1x1024 .f32) : k0_pay9 (F := Ideal) (k0_pay3 d0 w0 d1 w1 d2 w2) x (k0_pay4 x) k0_pay5 q
    = k0_pay1 (k0_pay15 (k0_pay10 d0 w0) (k0_pay11 d1) w1 d2 w2 x) q := rfl

end Qkv

end
-- ==== Proof.Qkv.Cases.lean ====
/- What the attention projection's backward kernel leaves in its two output blocks at one grid point. -/
module

public import proofs.«01_k».proof.Proof.Qkv.Block
public import proofs.«01_k».proof.Proof.Gen.Kernel3Ideal.Frame

@[expose] public section

noncomputable section

namespace Qkv

open Reals Norm Proj
open Idealize.ShloMosaic Idealize.ShloMosaic.Pointwise Idealize.ShloMosaic.Tactic Cert.Kernel3Ideal Cert.Kernel3Ideal.Gen

/-- Rows `a … a + 511`, columns `b … b + 511` of the incoming gradient. -/
theorem ld_dz (x : Vec Ideal S1x1024x1536 .bf16) (a b : ℕ) (ha : a + 512 ≤ 1024) (hb : b + 512 ≤ 1536) (h) (r f : Fin 512) :
    View.ld x (Rect.unit (s := S1x1024x1536) ![0, a, b] ![1, 512, 512] h) (ix3 0 r f) = x (ix3 0 ⟨a + r.val, by omega⟩ ⟨b + f.val, by omega⟩) := by
  show x _ = x _
  congr 1
  funext i
  apply Fin.ext
  match i with
  | ⟨0, _⟩ => rfl
  | ⟨1, _⟩ => show a + 1 * r.val = a + r.val; omega
  | ⟨2, _⟩ => show b + 1 * f.val = b + f.val; omega

/-- Block `q` of the weight. -/
theorem ld_w (x : Vec Ideal S3x512x1024 .bf16) (q : ℕ) (hq : q < 3) (h) (f : Fin 512) (k : Fin 1024) :
    View.ld x (Rect.unit (s := S3x512x1024) ![q, 0, 0] ![1, 512, 1024] h) (ix3 0 f k) = x (ix3 ⟨q, hq⟩ f k) := by
  show x _ = x _
  congr 1
  funext i
  apply Fin.ext
  match i with
  | ⟨0, _⟩ => show q + 1 * 0 = q; omega
  | ⟨1, _⟩ => show 0 + 1 * f.val = f.val; omega
  | ⟨2, _⟩ => show 0 + 1 * k.val = k.val; omega

/-- Where rows `a … a + 511` lie in the whole block. -/
theorem emb_rows (a : ℕ) (ha : a + 512 ≤ 1024) (h) (r : Fin 512) (k : Fin 1024) :
    (Rect.unit (s := S1024x1024) ![a, 0] ![512, 1024] h).emb (ix2 r k) = ix2 ⟨a + r.val, by omega⟩ k := by
  funext i
  apply Fin.ext
  match i with
  | ⟨0, _⟩ => show a + 1 * r.val = a + r.val; omega
  | ⟨1, _⟩ => show 0 + 1 * k.val = k.val; omega

theorem ld_rows (x : Vec Ideal S1024x1024 .f32) (a : ℕ) (ha : a + 512 ≤ 1024) (h) (r : Fin 512) (k : Fin 1024) :
    View.ld x (Rect.unit (s := S1024x1024) ![a, 0] ![512, 1024] h) (ix2 r k) = x (ix2 ⟨a + r.val, by omega⟩ k) :=
  congrArg x (emb_rows a ha h r k)

variable (c : Dev nD) (i : grid0.Coords) (arg1 : Memref sig .tc .vmem S1x1024x1536 .bf16) (harg1 : arg1.IsWhole)
  (arg2 : Memref sig .tc .vmem S3x512x1024 .bf16) (harg2 : arg2.IsWhole) (arg3 : Memref sig .tc .vmem S1024x1024 .f32) (harg3 : arg3.IsWhole)
  (arg4 : Memref sig .tc .vmem S1x1024 .f32) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1x1024 .f32) (harg7 : arg7.IsWhole)
  {X D W : ℕ → ℕ → ℝ} {G : ℕ → ℝ} {R : ℕ → ℕ → EReal} (ρ : ℕ)
  {x0 : Vec Ideal S1x1024x1536 .bf16} {x1 : Vec Ideal S3x512x1024 .bf16} {x2 x4 : Vec Ideal S1024x1024 .f32} {x3 : Vec Ideal S1x1024 .f32}
  (xo6 : Vec Ideal S1x1024 .f32)
  (hd : ∀ r f, x0 (ix3 0 r f) = ((D (ρ + r.val) f.val : ℝ) : EReal)) (hw : ∀ q f k, x1 (ix3 q f k) = ((W k.val (q.val * 512 + f.val) : ℝ) : EReal))
  (hx : ∀ r k, x2 (ix2 r k) = ((X (ρ + r.val) k.val : ℝ) : EReal)) (hg : ∀ k, x3 (ix2 0 k) = ((G k.val : ℝ) : EReal))
  (hr : ∀ r k, x4 (ix2 r k) = R (ρ + r.val) k.val)

include hd hw in
/-- The gradient at the normed input, in the half from row `a`. -/
theorem dh_apply (a : ℕ) (ha : a + 512 ≤ 1024) (h0 h1 h2 l0 l1 l2) (r : Fin 512) (k : Fin 1024) :
    k0_pay12 (F := Ideal)
        (k0_pay10 (View.ld x0 (Rect.unit (s := S1x1024x1536) ![0, a, 0] ![1, 512, 512] h0)) (View.ld x1 (Rect.unit (s := S3x512x1024) ![0, 0, 0] ![1, 512, 1024] l0)))
        (k0_pay11 (View.ld x0 (Rect.unit (s := S1x1024x1536) ![0, a, 512] ![1, 512, 512] h1))) (View.ld x1 (Rect.unit (s := S3x512x1024) ![1, 0, 0] ![1, 512, 1024] l1))
        (View.ld x0 (Rect.unit (s := S1x1024x1536) ![0, a, 1024] ![1, 512, 512] h2)) (View.ld x1 (Rect.unit (s := S3x512x1024) ![2, 0, 0] ![1, 512, 1024] l2)) (ix2 r k)
      = ((dH 1536 D W (ρ + a + r.val) k.val : ℝ) : EReal) := by
  have e : ∀ (b : ℕ) (hb : b + 512 ≤ 1536) (h) (r f : Fin 512), View.ld x0 (Rect.unit (s := S1x1024x1536) ![0, a, b] ![1, 512, 512] h) (ix3 0 r f)
      = ((D (ρ + a + r.val) (b + f.val) : ℝ) : EReal) := fun b hb h r f => by
    rw [ld_dz x0 a b ha hb h r f, hd, Nat.add_assoc]
  have e' : ∀ (q : ℕ) (hq : q < 3) (h) (f : Fin 512) (k : Fin 1024), View.ld x1 (Rect.unit (s := S3x512x1024) ![q, 0, 0] ![1, 512, 1024] h) (ix3 0 f k)
      = ((W k.val (q * 512 + f.val) : ℝ) : EReal) := fun q hq h f k => (ld_w x1 q hq h f k).trans (hw _ _ _)
  refine pay_dh (D := D) (W := W) (ρ + a) (fun r f => ?_) (e 512 (by decide) h1) (e 1024 (by decide) h2) (fun f k => ?_) (e' 1 (by decide) l1) (e' 2 (by decide) l2) r k
  · rw [e 0 (by decide) h0 r f, Nat.zero_add]
  · rw [e' 0 (by decide) l0 f k, Nat.zero_mul, Nat.zero_add]

include hx in
theorem x_apply (a : ℕ) (ha : a + 512 ≤ 1024) (h) (r : Fin 512) (k : Fin 1024) :
    View.ld x2 (Rect.unit (s := S1024x1024) ![a, 0] ![512, 1024] h) (ix2 r k) = ((X (ρ + a + r.val) k.val : ℝ) : EReal) := by
  rw [ld_rows x2 a ha h r k, hx, Nat.add_assoc]

include hr in
theorem r_apply (a : ℕ) (ha : a + 512 ≤ 1024) (h) (r : Fin 512) (k : Fin 1024) :
    View.ld x4 (Rect.unit (s := S1024x1024) ![a, 0] ![512, 1024] h) (ix2 r k) = R (ρ + a + r.val) k.val := by
  rw [ld_rows x4 a ha h r k, hr, Nat.add_assoc]

variable (X D W G R) in
/-- The gradient at the input as the block's contents. -/
def dxVec : S1024x1024.Idx → EReal := fun y => R (ρ + (y 0).val) (y 1).val + ((dX 1536 X D G W (ρ + (y 0).val) (y 1).val : ℝ) : EReal)

include hd hw hx hg hr in
theorem dx_piece (a : ℕ) (ha : a + 512 ≤ 1024) (h0 h1 h2 l0 l1 l2 h h' h'') (y : S512x1024.Idx) :
    k0_pay16 (F := Ideal)
        (k0_pay10 (View.ld x0 (Rect.unit (s := S1x1024x1536) ![0, a, 0] ![1, 512, 512] h0)) (View.ld x1 (Rect.unit (s := S3x512x1024) ![0, 0, 0] ![1, 512, 1024] l0)))
        (k0_pay11 (View.ld x0 (Rect.unit (s := S1x1024x1536) ![0, a, 512] ![1, 512, 512] h1))) (View.ld x1 (Rect.unit (s := S3x512x1024) ![1, 0, 0] ![1, 512, 1024] l1))
        (View.ld x0 (Rect.unit (s := S1x1024x1536) ![0, a, 1024] ![1, 512, 512] h2)) (View.ld x1 (Rect.unit (s := S3x512x1024) ![2, 0, 0] ![1, 512, 1024] l2))
        (View.ld x2 (Rect.unit (s := S1024x1024) ![a, 0] ![512, 1024] h)) x3 (View.ld x4 (Rect.unit (s := S1024x1024) ![a, 0] ![512, 1024] h')) y
      = dxVec X D W G R ρ ((Rect.unit (s := S1024x1024) ![a, 0] ![512, 1024] h'').emb y) := by
  rw [eq_ix2 y]
  refine (pay_dx (ρ + a) (x_apply ρ hx a ha h) (r_apply ρ hr a ha h') hg (dh_apply ρ hd hw a ha h0 h1 h2 l0 l1 l2) (y 0) (y 1)).trans ?_
  refine Eq.trans ?_ (congrArg (dxVec X D W G R ρ) (emb_rows a ha h'' (y 0) (y 1))).symm
  unfold dxVec dX
  rw [Nat.add_assoc]
  rfl

include hd hw hx in
theorem dg_piece (a : ℕ) (ha : a + 512 ≤ 1024) (h0 h1 h2 l0 l1 l2 h) (q : Vec Ideal S1x1024 .f32) (k : Fin 1024) :
    k0_pay1 (F := Ideal) (k0_pay15
        (k0_pay10 (View.ld x0 (Rect.unit (s := S1x1024x1536) ![0, a, 0] ![1, 512, 512] h0)) (View.ld x1 (Rect.unit (s := S3x512x1024) ![0, 0, 0] ![1, 512, 1024] l0)))
        (k0_pay11 (View.ld x0 (Rect.unit (s := S1x1024x1536) ![0, a, 512] ![1, 512, 512] h1))) (View.ld x1 (Rect.unit (s := S3x512x1024) ![1, 0, 0] ![1, 512, 1024] l1))
        (View.ld x0 (Rect.unit (s := S1x1024x1536) ![0, a, 1024] ![1, 512, 512] h2)) (View.ld x1 (Rect.unit (s := S3x512x1024) ![2, 0, 0] ![1, 512, 1024] l2))
        (View.ld x2 (Rect.unit (s := S1024x1024) ![a, 0] ![512, 1024] h))) q (ix2 0 k)
      = q (ix2 0 k) + ((∑ r : Fin 512, gT 1536 X D W k.val (ρ + a + r.val) : ℝ) : EReal) :=
  pay_dg (ρ + a) (x_apply ρ hx a ha h) (dh_apply ρ hd hw a ha h0 h1 h2 l0 l1 l2) q k

include hd hw hx hg hr in
theorem out0_A_5_apply (hc0 : cond0_0 i) (r k : Fin 1024) :
    out0_A_5 (F := Ideal) c i arg1 harg1 arg2 harg2 arg3 harg3 arg4 harg4 arg5 harg5 arg6 harg6 arg7 harg7 hc0 x0 x1 x2 x3 x4 (ix2 r k)
      = R (ρ + r.val) k.val + ((dX 1536 X D G W (ρ + r.val) k.val : ℝ) : EReal) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  refine View.canon_apply_of_pieces (G := (show Vec Ideal S1024x1024 .f32 from dxVec X D W G R ρ)) _ ?_ (ix2 r k)
    (cover0_A_5 c i arg1 harg1 arg2 harg2 arg3 harg3 arg4 harg4 arg5 harg5 arg6 harg6 arg7 harg7 hc0 x0 x1 x2 x3 x4 _)
  unfold kernelRun0_A
  dsimp only
  sl_unfold_words
  simp only [List.forall_mem_cons, View.readAt_eq_ld, harg1.read_unread, harg2.read_unread, harg3.read_unread, harg4.read_unread, harg5.read_unread,
    View.ld_unit_zero (S := S1x1024) hz]
  have p := dx_piece ρ hd hw hx hg hr
  exact ⟨p 512 (by decide) _ _ _ _ _ _ _ _ _, p 0 (by decide) _ _ _ _ _ _ _ _ _, by simp⟩

include hd hw hx hg hr in
theorem out0_B_5_apply (hc0 : ¬cond0_0 i) (r k : Fin 1024) :
    out0_B_5 (F := Ideal) c i arg1 harg1 arg2 harg2 arg3 harg3 arg4 harg4 arg5 harg5 arg6 harg6 arg7 harg7 hc0 x0 x1 x2 x3 x4 xo6 (ix2 r k)
      = R (ρ + r.val) k.val + ((dX 1536 X D G W (ρ + r.val) k.val : ℝ) : EReal) := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  refine View.canon_apply_of_pieces (G := (show Vec Ideal S1024x1024 .f32 from dxVec X D W G R ρ)) _ ?_ (ix2 r k)
    (cover0_B_5 c i arg1 harg1 arg2 harg2 arg3 harg3 arg4 harg4 arg5 harg5 arg6 harg6 arg7 harg7 hc0 x0 x1 x2 x3 x4 xo6 _)
  unfold kernelRun0_B
  dsimp only
  sl_unfold_words
  simp only [List.forall_mem_cons, View.readAt_eq_ld, harg1.read_unread, harg2.read_unread, harg3.read_unread, harg4.read_unread, harg5.read_unread,
    View.ld_unit_zero (S := S1x1024) hz]
  have p := dx_piece ρ hd hw hx hg hr
  exact ⟨p 512 (by decide) _ _ _ _ _ _ _ _ _, p 0 (by decide) _ _ _ _ _ _ _ _ _, by simp⟩

include hd hw hx in
theorem out0_A_6_apply (hc0 : cond0_0 i) (k : Fin 1024) :
    out0_A_6 (F := Ideal) c i arg1 harg1 arg2 harg2 arg3 harg3 arg4 harg4 arg5 harg5 arg6 harg6 arg7 harg7 hc0 x0 x1 x2 x3 x4 (ix2 0 k)
      = 0 + ((∑ r : Fin 512, gT 1536 X D W k.val (ρ + r.val) : ℝ) : EReal) + ((∑ r : Fin 512, gT 1536 X D W k.val (ρ + 512 + r.val) : ℝ) : EReal) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x1024) hz]
  simp only [View.readAt_eq_ld, harg1.read_unread, harg2.read_unread, harg3.read_unread, View.readCov_eq_canon', whole_canon,
    View.canon_cons_unit_zero (S := S1x1024) hz, View.ld_unit_zero (S := S1x1024) hz]
  refine (dg_piece ρ hd hw hx 512 (by decide) _ _ _ _ _ _ _ _ k).trans (congrArg (· + _) ?_)
  rw [first_dg]
  refine Eq.trans (congrArg _ (whole_idx _ _)) ?_
  exact (dg_piece ρ hd hw hx 0 (by decide) _ _ _ _ _ _ _ _ k).trans (congrArg (· + _) ((congrArg _ (whole_idx _ _)).trans (pay_zero k)))

include hd hw hx in
theorem out0_B_6_apply (hc0 : ¬cond0_0 i) (k : Fin 1024) :
    out0_B_6 (F := Ideal) c i arg1 harg1 arg2 harg2 arg3 harg3 arg4 harg4 arg5 harg5 arg6 harg6 arg7 harg7 hc0 x0 x1 x2 x3 x4 xo6 (ix2 0 k)
      = xo6 (ix2 0 k) + ((∑ r : Fin 512, gT 1536 X D W k.val (ρ + r.val) : ℝ) : EReal) + ((∑ r : Fin 512, gT 1536 X D W k.val (ρ + 512 + r.val) : ℝ) : EReal) := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  sl_unfold_words
  rw [View.canon_cons_unit_zero (S := S1x1024) hz]
  simp only [View.readAt_eq_ld, harg1.read_unread, harg2.read_unread, harg3.read_unread, harg7.read_unread, View.readCov_eq_canon', whole_canon,
    View.canon_cons_unit_zero (S := S1x1024) hz, View.ld_unit_zero (S := S1x1024) hz]
  refine (dg_piece ρ hd hw hx 512 (by decide) _ _ _ _ _ _ _ _ k).trans (congrArg (· + _) ?_)
  rw [first_dg]
  refine Eq.trans (congrArg _ (whole_idx _ _)) ?_
  exact dg_piece ρ hd hw hx 0 (by decide) _ _ _ _ _ _ _ _ k

end Qkv

end
-- ==== Proof.Qkv.Arrays.lean ====
/- The attention projection's backward call: what its windows show the kernel, and what the call's two arrays hold at the end. -/
module

public import proofs.«01_k».proof.Proof.Qkv.Cases
public import proofs.«01_k».proof.Proof.Gen.Kernel3Ideal.Value
public import Idealize.ShloMosaic.Lib.Pipeline.ValueKit

@[expose] public section

noncomputable section

namespace Qkv

open Reals Norm Proj
open Idealize.ShloMosaic Idealize.ShloMosaic.Pointwise Idealize.ShloMosaic.Tactic Cert.Kernel3Ideal Cert.Kernel3Ideal.Gen

variable (m : ∀ ℓ : Loc nD τ sig, Buf (Elt Ideal) ℓ) (c : Dev nD) {X D W : ℕ → ℕ → ℝ} {G : ℕ → ℝ}
  (h0 : (m ((c.tc : Thread nD τ).loc main_arg0) : S4096x1024.Idx → EReal) = vecN X)
  (h1 : (m ((c.tc : Thread nD τ).loc main_arg1) : S4096x1536.Idx → EReal) = vecN D)
  (h3 : (m ((c.tc : Thread nD τ).loc main_arg3) : S1x1024.Idx → EReal) = vecN fun _ k => G k)
  (h4 : (m ((c.tc : Thread nD τ).loc main_arg4) : S1024x1536.Idx → EReal) = vecN W)

/-- The gradient that comes through the residual, at plain numbers. -/
def res : ℕ → ℕ → EReal := tab (m ((c.tc : Thread nD τ).loc main_arg2) : S4096x1024.Idx → EReal)

include h0 in
theorem entry_x : (V m c main_arg0 : S4096x1024.Idx → EReal) = vecN X := by
  rw [← h0]; show StableHlo.after hostOps0 _ (Proc.devRef .tc main_arg0) = _; after_results_simp; try rfl

theorem entry_r : (V m c main_arg2 : S4096x1024.Idx → EReal) = (m ((c.tc : Thread nD τ).loc main_arg2) : S4096x1024.Idx → EReal) := by
  show StableHlo.after hostOps0 _ (Proc.devRef .tc main_arg2) = _; after_results_simp; try rfl

include h3 in
theorem entry_g : (V m c main_arg3 : S1x1024.Idx → EReal) = vecN fun _ k => G k := by
  rw [← h3]; show StableHlo.after hostOps0 _ (Proc.devRef .tc main_arg3) = _; after_results_simp; try rfl

include h1 in
theorem entry_d (y : S1x4096x1536.Idx) : (V m c main_v4 : S1x4096x1536.Idx → EReal) y = ((D (y 1).val (y 2).val : ℝ) : EReal) := by
  show StableHlo.after hostOps0 _ (Proc.devRef .tc main_v4) y = _
  after_results_simp
  rw [show m (c, Proc.tc.devRef main_arg1) = vecN D from h1]
  pointwise
  rfl

include h4 in
theorem entry_w (y : S3x512x1024.Idx) : (V m c main_v2 : S3x512x1024.Idx → EReal) y = ((W (y 2).val ((y 0).val * 512 + (y 1).val) : ℝ) : EReal) := by
  show StableHlo.after hostOps0 _ (Proc.devRef .tc main_v2) y = _
  after_results_simp
  rw [show m (c, Proc.tc.devRef main_arg4) = vecN W from h4]
  pointwise
  rfl

theorem idx0_0 : ∀ t : Fin cfg0.N, win0_0.index t = ![0, t.val, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![0, 0] := (by decide +kernel : ∀ t : Fin grid0.N, _)

theorem flush0_6 : ∀ t : Fin cfg0.N, (cfg0.win 6).flush t = true → t.val = 3 := (by decide +kernel : ∀ t : Fin grid0.N, _)

include h1 in
theorem iblk_d (t : Fin cfg0.N) (r : Fin 1024) (f : Fin 1536) :
    (iblk m c 0 t : Vec Ideal S1x1024x1536 .bf16) (ix3 0 r f) = ((D (t.val * 1024 + r.val) f.val : ℝ) : EReal) := by
  blk_simp [iblk]
  refine (entry_d m c h1 _).trans (congrArg Real.toEReal (congrArg₂ D ?_ ?_))
  · blk_simp [idx0_0]
  · blk_simp [idx0_0]

include h4 in
theorem iblk_w (t : Fin cfg0.N) (q : Fin 3) (f : Fin 512) (k : Fin 1024) :
    (iblk m c 1 t : Vec Ideal S3x512x1024 .bf16) (ix3 q f k) = ((W k.val (q.val * 512 + f.val) : ℝ) : EReal) := by
  blk_simp [iblk]
  refine (entry_w m c h4 _).trans (congrArg Real.toEReal (congrArg₂ W ?_ (congrArg₂ (fun a b => a * 512 + b) ?_ ?_)))
  · blk_simp [idx0_1]
  · blk_simp [idx0_1]
  · blk_simp [idx0_1]

include h0 in
theorem iblk_x (t : Fin cfg0.N) (r : Fin 1024) (k : Fin 1024) :
    (iblk m c 2 t : Vec Ideal S1024x1024 .f32) (ix2 r k) = ((X (t.val * 1024 + r.val) k.val : ℝ) : EReal) := by
  blk_simp [iblk]
  rw [entry_x m c h0]
  exact vecN_eq _ _ _ _ (by blk_simp [idx0_2]) (by blk_simp [idx0_2])

include h3 in
theorem iblk_g (t : Fin cfg0.N) (k : Fin 1024) : (iblk m c 3 t : Vec Ideal S1x1024 .f32) (ix2 0 k) = ((G k.val : ℝ) : EReal) := by
  blk_simp [iblk]
  rw [entry_g m c h3]
  exact vecN_eq _ _ 0 _ (by blk_simp [idx0_3]; rfl) (by blk_simp [idx0_3])

theorem iblk_r (t : Fin cfg0.N) (r : Fin 1024) (k : Fin 1024) :
    (iblk m c 4 t : Vec Ideal S1024x1024 .f32) (ix2 r k) = res m c (t.val * 1024 + r.val) k.val := by
  blk_simp [iblk]
  rw [entry_r m c]
  exact tab_eq _ _ _ _ (by blk_simp [idx0_4]) (by blk_simp [idx0_4])

include h0 h1 h3 h4 in
/-- What a point leaves in the block of the gradient at the input. -/
theorem at_dx (t : Fin cfg0.N) (r : Fin 1024) (k : Fin 1024) :
    (outsAt0 m c t.val t.isLt).1 (ix2 r k)
      = res m c (t.val * 1024 + r.val) k.val + ((dX 1536 X D G W (t.val * 1024 + r.val) k.val : ℝ) : EReal) := by
  by_cases h : t.val % 4 = 0
  · rw [outsAt0_A m c t h]
    dsimp only
    exact out0_A_5_apply (hd := iblk_d m c h1 t) (hw := iblk_w m c h4 t) (hx := iblk_x m c h0 t) (hg := iblk_g m c h3 t) (hr := iblk_r m c t)
      (r := r) (k := k) ..
  · rw [outsAt0_B m c t h]
    dsimp only
    exact out0_B_5_apply (hd := iblk_d m c h1 t) (hw := iblk_w m c h4 t) (hx := iblk_x m c h0 t) (hg := iblk_g m c h3 t) (hr := iblk_r m c t)
      (r := r) (k := k) ..

include h0 h1 h4 in
/-- What a point leaves in the gradient at the gain: the rows summed so far. -/
theorem at_dg : ∀ (n : ℕ) (hn : n < cfg0.N) (k : Fin 1024),
    (outsAt0 m c n hn).2 (ix2 0 k) = ((∑ t ∈ Finset.range ((n + 1) * 1024), gT 1536 X D W k.val t : ℝ) : EReal) := by
  intro n
  induction n using Nat.strong_induction_on with
  | _ n ih =>
    intro hn k
    have hN : n < 4 := hn
    rw [sum_rows, EReal.coe_add, EReal.coe_add]
    by_cases h : n % 4 = 0
    · have e : n = 0 := by omega
      subst e
      rw [outsAt0_A m c ⟨0, hn⟩ h, zero_mul, Finset.range_zero, Finset.sum_empty, EReal.coe_zero]
      dsimp only
      exact out0_A_6_apply (hd := iblk_d m c h1 ⟨0, hn⟩) (hw := iblk_w m c h4 ⟨0, hn⟩) (hx := iblk_x m c h0 ⟨0, hn⟩) (k := k) ..
    · have e := ih (n - 1) (by omega) (by omega) k
      rw [show n - 1 + 1 = n by omega] at e
      rw [outsAt0_B m c ⟨n, hn⟩ h, ← e]
      dsimp only
      exact out0_B_6_apply (hd := iblk_d m c h1 ⟨n, hn⟩) (hw := iblk_w m c h4 ⟨n, hn⟩) (hx := iblk_x m c h0 ⟨n, hn⟩) (k := k) ..

include h0 h1 h3 h4 in
theorem final_dx : ((dats m 0 c).arrAt 5 cfg0.N : S4096x1024.Idx → EReal) = total 1536 X D G W (res m c) := by
  refine (dats m 0 c).arrAt_eq_of_covers 5 _ (by decide +kernel) fun t hf y => ?_
  blk_simp
  rw [after0_5, eq_ix2 y]
  refine (at_dx m c h0 h1 h3 h4 t (y 0) (y 1)).trans ?_
  exact (total_eq _ _ _ _ _ _ _ _ _ (by blk_simp [idx0_5]) (by blk_simp [idx0_5])).symm

include h0 h1 h4 in
theorem final_dg : ((dats m 0 c).arrAt 6 cfg0.N : S1x1024.Idx → EReal) = vecN fun _ k => dG 1536 X D W k := by
  refine (dats m 0 c).arrAt_eq_of_covers 6 _ (by decide +kernel) fun t hf y => ?_
  blk_simp
  obtain ⟨z, k, rfl⟩ : ∃ (z : Fin 1) (k : Fin 1024), y = ix2 z k := ⟨y 0, y 1, eq_ix2 y⟩
  obtain rfl : z = 0 := Subsingleton.elim z 0
  rw [after0_6]
  refine (at_dg m c h0 h1 h4 t.val t.isLt k).trans ?_
  rw [flush0_6 t hf]
  refine Eq.trans (congrArg Real.toEReal ?_) (vecN_eq _ _ 0 k.val (by blk_simp [idx0_6]; rfl) (by blk_simp [idx0_6])).symm
  exact (Fin.sum_univ_eq_sum_range (gT 1536 X D W k.val) 4096).symm

end Qkv

end
-- ==== Proof.Qkv.Ref.lean ====
/- The reference of the attention projection's backward call, on arguments that are matrices of reals (the residual's gradient aside). -/
module

public import proofs.«01_k».proof.Proof.Proj.Spec
public import proofs.«01_k».proof.Proof.Gen.Reference3Ideal.Read

@[expose] public section

noncomputable section

namespace Qkv

open Reals Norm Proj
open Idealize.ShloMosaic Idealize.ShloMosaic.Pointwise Cert.Reference3Ideal Cert.Reference3Ideal.Gen Cert.Reference3Ideal.Read

def argX (X : ℕ → ℕ → ℝ) : (⟨S4096x1024, .f32⟩ : BufTy).Contents (Elt Ideal) := vecN X
def argD (D : ℕ → ℕ → ℝ) : (⟨S4096x1536, .f32⟩ : BufTy).Contents (Elt Ideal) := vecN D
def argG (G : ℕ → ℝ) : (⟨S1x1024, .f32⟩ : BufTy).Contents (Elt Ideal) := vecN fun _ k => G k
def argW (W : ℕ → ℕ → ℝ) : (⟨S1024x1536, .f32⟩ : BufTy).Contents (Elt Ideal) := vecN W

variable (X D W : ℕ → ℕ → ℝ) (G : ℕ → ℝ) (R : (⟨S4096x1024, .f32⟩ : BufTy).Contents (Elt Ideal))

theorem argX_at (t : Fin 4096) (k : Fin 1024) : argX X (ix2 t k) = ((X t.val k.val : ℝ) : EReal) := rfl
theorem argD_at (t : Fin 4096) (f : Fin 1536) : argD D (ix2 t f) = ((D t.val f.val : ℝ) : EReal) := rfl
theorem argG_at (z : Fin 1) (k : Fin 1024) : argG G (ix2 z k) = ((G k.val : ℝ) : EReal) := rfl
theorem argW_at (k : Fin 1024) (f : Fin 1536) : argW W (ix2 k f) = ((W k.val f.val : ℝ) : EReal) := rfl

theorem ref_ms (t : Fin 4096) (z : Fin 1) : val_main_v7 (F := Ideal) (argX X) (ix2 t z) = ((ms 1024 (X t.val) : ℝ) : EReal) := by
  pointwise [val_main_v7, val_main_v6, val_main_cst_1, val_main_v5, val_main_v4, val_main_cst_0, val_main_v3, val_main_v2,
    val_main_cst, val_main_v1]
  simp only [argX_at, sum_mul_coe, eps_eq, n1024_eq, zero_add]
  rw [div_coe_coe _ _ (by norm_num), ← EReal.coe_add]
  rfl

theorem ref_rs (t : Fin 4096) (z : Fin 1) : val_main_v8 (F := Ideal) (argX X) (ix2 t z) = ((rs 1024 (X t.val) : ℝ) : EReal) := by
  have h := ref_ms X
  pointwise [val_main_v8]
  simp only [h, rs_coe]

theorem ref_xh (t : Fin 4096) (k : Fin 1024) : val_main_v13 (F := Ideal) (argX X) (ix2 t k) = ((xh 1024 (X t.val) k.val : ℝ) : EReal) := by
  have h := ref_rs X
  pointwise [val_main_v13, val_main_v12]
  simp only [argX_at, h, ← EReal.coe_mul]
  rfl

theorem ref_dh (t : Fin 4096) (k : Fin 1024) :
    val_main_v18 (F := Ideal) (argD D) (argW W) (ix2 t k) = ((dH 1536 D W t.val k.val : ℝ) : EReal) := by
  pointwise [val_main_v18]
  simp only [argD_at, argW_at, sum_mul_coe]
  rfl

theorem ref_dg (k : Fin 1024) :
    val_main_v39 (F := Ideal) (argX X) (argD D) (argW W) (ix2 0 k) = ((dG 1536 X D W k.val : ℝ) : EReal) := by
  have h := ref_dh D W
  have h' := ref_xh X
  pointwise [val_main_v39, val_main_v24, val_main_v21, val_main_v20, val_main_v19, val_main_cst_3, val_main_cst_4]
  simp only [Fin.sum_univ_one, h, h', sum_mul_coe]
  refine congrArg Real.toEReal (Finset.sum_congr rfl fun t _ => ?_)
  unfold gT
  ring

theorem ref_dx (t : Fin 4096) (k : Fin 1024) :
    val_main_v40 (F := Ideal) (argX X) (argD D) R (argG G) (argW W) (ix2 t k) = R (ix2 t k) + ((dX 1536 X D G W t.val k.val : ℝ) : EReal) := by
  have h := ref_dh D W
  have h' := ref_rs X
  have hm := ref_ms X
  pointwise [val_main_v40, val_main_v38, val_main_v37, val_main_v36, val_main_v35, val_main_v34, val_main_v33, val_main_v32, val_main_v31,
    val_main_v30, val_main_v29, val_main_v28, val_main_v27, val_main_v26, val_main_v25, val_main_v23, val_main_v22, val_main_v14, val_main_v0,
    val_main_v11, val_main_v10, val_main_v9, val_main_cst_2, val_main_cst_5, val_main_cst_6, val_main_cst_7]
  simp only [Fin.sum_univ_one, argX_at, argG_at, h, h', hm, neg_half_eq, n1024_eq, div_coe_coe _ _ (ms_pos _ _).ne', ← EReal.coe_mul, sum_coe]
  rw [div_coe_coe _ _ (by norm_num)]
  simp only [← EReal.coe_mul, ← EReal.coe_add]
  unfold dX
  rw [← back_eq]

theorem ref_v40 : val_main_v40 (F := Ideal) (argX X) (argD D) R (argG G) (argW W) = total 1536 X D G W (tab R) := by
  funext y
  refine (congrArg _ (eq_ix2 y)).trans ((ref_dx X D W G R (y 0) (y 1)).trans ?_)
  rw [total_eq _ _ _ _ _ _ _ _ _ rfl rfl, ← tab_eq R y _ _ rfl rfl, ← eq_ix2 y]

theorem ref_v39 : val_main_v39 (F := Ideal) (argX X) (argD D) (argW W) = vecN fun _ k => dG 1536 X D W k := by
  funext y
  obtain ⟨z, k, rfl⟩ : ∃ (z : Fin 1) (k : Fin 1024), y = ix2 z k := ⟨y 0, y 1, eq_ix2 y⟩
  obtain rfl : z = 0 := Subsingleton.elim z 0
  exact ref_dg X D W k

end Qkv

end
-- ==== Proof.Qkv.Claim.lean ====
/- The claims about the attention projection's backward call: the reference's frame, and the two results equal to the reference's. -/
module

public import proofs.«01_k».proof.Defs
public import proofs.«01_k».proof.Proof.Qkv.Arrays
public import proofs.«01_k».proof.Proof.Qkv.Ref
public import proofs.«01_k».proof.Proof.Gen.Reference3Ideal.Run
public import proofs.«01_k».proof.Proof.Gen.Pre_finite3
public import Idealize.ShloMosaic.Lib.ReduceAll
public import Idealize.ShloMosaic.Lib.Affine

@[expose] public section

noncomputable section

namespace Qkv

open Reals Norm Proj
open Idealize.ShloMosaic Idealize.SL.Sem

section Reference

open Cert.Reference3Ideal Cert.Reference3Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2, funext fun g => nomatch g.2⟩) (Cert.Reference3Ideal.Value.run m ρ)

end Reference

instance : Subsingleton Cert.Pre_finite3.S_.Idx := ⟨fun a b => funext fun i => i.elim0⟩

/-- What the precondition says of each argument but the residual's gradient. -/
theorem finite_args [Cert.Pre_finite3.Facts] {x0 x2 : FVec Ideal Cert.Pre_finite3.S4096x1024 .f32} {x1 : FVec Ideal Cert.Pre_finite3.S4096x1536 .f32}
    {x3 : FVec Ideal Cert.Pre_finite3.S1x1024 .f32} {x4 : FVec Ideal Cert.Pre_finite3.S1024x1536 .f32}
    (h : Cert.Pre_finite3.fn (F := Ideal) x0 x1 x2 x3 x4 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x3 y ≠ (⊤ : EReal) ∧ x3 y ≠ (⊥ : EReal)) ∧ (∀ y, x4 y ≠ (⊤ : EReal) ∧ x4 y ≠ (⊥ : EReal)) := by
  have h' := congrFun h (Shape.Idx.first Cert.Pre_finite3.Facts.h_S_)
  dsimp only [Cert.Pre_finite3.fn, Cert.Pre_finite3.fn_part1] at h'
  obtain ⟨h', h4⟩ := IntOp.andi_eq_one.mp h'
  obtain ⟨h', h3⟩ := IntOp.andi_eq_one.mp h'
  obtain ⟨h0, h1⟩ := IntOp.andi_eq_one.mp h'
  exact ⟨fun y => finite_of_lt _ (Host.reduce_andi_all _ _ _ _ _ h0 y), fun y => finite_of_lt _ (Host.reduce_andi_all _ _ _ _ _ h1 y),
    fun y => finite_of_lt _ (Host.reduce_andi_all _ _ _ _ _ h3 y), fun y => finite_of_lt _ (Host.reduce_andi_all _ _ _ _ _ h4 y)⟩

/-- The two results, from arguments that are finite (the residual's gradient may be anything). -/
theorem algebraic : Cert.algebraic_Kernel3Ideal_Reference3Ideal_pre_finite3 (hKernel3Ideal := Cert.Kernel3Ideal.Gen.facts)
    (hReference3Ideal := Cert.Reference3Ideal.Gen.facts) (hPre_finite3 := Cert.Pre_finite3.Gen.facts) := by
  intro m g m' g' hpre hagree
  have real : ∀ c : Dev Cert.Kernel3Ideal.nD, ∃ (X D : ℕ → ℕ → ℝ) (G : ℕ → ℝ) (W : ℕ → ℕ → ℝ),
      (m ((c.tc : Thread Cert.Kernel3Ideal.nD Cert.Kernel3Ideal.τ).loc Cert.Kernel3Ideal.main_arg0) : Cert.Kernel3Ideal.S4096x1024.Idx → EReal) = vecN X
      ∧ (m ((c.tc : Thread Cert.Kernel3Ideal.nD Cert.Kernel3Ideal.τ).loc Cert.Kernel3Ideal.main_arg1) : Cert.Kernel3Ideal.S4096x1536.Idx → EReal) = vecN D
      ∧ (m ((c.tc : Thread Cert.Kernel3Ideal.nD Cert.Kernel3Ideal.τ).loc Cert.Kernel3Ideal.main_arg3) : Cert.Kernel3Ideal.S1x1024.Idx → EReal) = (vecN fun _ k => G k)
      ∧ (m ((c.tc : Thread Cert.Kernel3Ideal.nD Cert.Kernel3Ideal.τ).loc Cert.Kernel3Ideal.main_arg4) : Cert.Kernel3Ideal.S1024x1536.Idx → EReal) = vecN W := by
    intro c
    obtain ⟨f0, f1, f3, f4⟩ := finite_args (hpre c)
    obtain ⟨G, hG⟩ := eq_row _ f3
    exact ⟨_, _, G, _, eq_vecN _ f0, eq_vecN _ f1, hG, eq_vecN _ f4⟩
  choose X D G W h0 h1 h3 h4 using real
  refine ⟨fun c => total 1536 (X c) (D c) (G c) (W c) (res m c), fun c => vecN fun _ k => dG 1536 (X c) (D c) (W c) k, ?_, ?_⟩
  · refine (θ_run _ _ _).mono (fun r h c => ?_) (Cert.Kernel3Ideal.Value.run_blocks m g)
    obtain ⟨r0, r1, hargs⟩ := h c
    exact ⟨r0.trans (final_dx m c (h0 c) (h1 c) (h3 c) (h4 c)), r1.trans (final_dg m c (h0 c) (h1 c) (h4 c)), hargs⟩
  · refine (θ_run _ _ _).mono (fun r h c => ?_) (Cert.Reference3Ideal.Value.run m' g')
    have a0 : m' ((c.tc : Thread Cert.Reference3Ideal.nD Cert.Reference3Ideal.τ).loc Cert.Reference3Ideal.main_arg0) = argX (X c) := (hagree c).1.trans (h0 c)
    have a1 : m' ((c.tc : Thread Cert.Reference3Ideal.nD Cert.Reference3Ideal.τ).loc Cert.Reference3Ideal.main_arg1) = argD (D c) := (hagree c).2.1.trans (h1 c)
    have a2 := (hagree c).2.2.1
    have a3 : m' ((c.tc : Thread Cert.Reference3Ideal.nD Cert.Reference3Ideal.τ).loc Cert.Reference3Ideal.main_arg3) = argG (G c) := (hagree c).2.2.2.1.trans (h3 c)
    have a4 : m' ((c.tc : Thread Cert.Reference3Ideal.nD Cert.Reference3Ideal.τ).loc Cert.Reference3Ideal.main_arg4) = argW (W c) := (hagree c).2.2.2.2.trans (h4 c)
    obtain ⟨r0, r1, hargs⟩ := h c
    refine ⟨?_, ?_, hargs⟩
    · refine r0.trans ((Cert.Reference3Ideal.Read.val_main_v40_eq _ _).trans ?_)
      rw [a0, a1, a2, a3, a4]; exact ref_v40 _ _ _ _ _
    · refine r1.trans ((Cert.Reference3Ideal.Read.val_main_v39_eq _ _ _).trans ?_)
      rw [a0, a1, a4]; exact ref_v39 _ _ _

end Qkv

end
-- ==== Proof.RgIn.Block.lean ====
/- What the payloads of the recurrent projection's backward kernel compute on 512 rows whose entries are reals. The body does the two
   halves of its rows one after the other; the second half's payloads are, by unfolding, the first half's. -/
module

public import proofs.«01_k».proof.Proof.Proj.Spec
public import proofs.«01_k».proof.Proof.Gen.Kernel4Ideal.Skeleton
public import Idealize.ShloMosaic.Lib.Pointwise

@[expose] public section

noncomputable section

namespace RgIn

open Reals Norm Proj
open Idealize.ShloMosaic Idealize.ShloMosaic.Pointwise Cert.Kernel4Ideal Cert.Kernel4Ideal.Gen

/-- The gradient at the normed input as the kernel adds it up: eight blocks of the projection's columns. -/
def hsum (d : Fin 8 → Vec Ideal S1x512x256 .bf16) (w : Fin 8 → Vec Ideal S1x1024x256 .bf16) : FVec Ideal S512x1024 .f32 :=
  k0_pay5 (F := Ideal) (k0_pay4 (d 0) (w 0) (d 1) (w 1) (d 2) (w 2) (d 3) (w 3)) (d 4) (w 4) (d 5) (w 5) (d 6) (w 6) (d 7) (w 7)

variable (d : Fin 8 → Vec Ideal S1x512x256 .bf16) (w : Fin 8 → Vec Ideal S1x1024x256 .bf16) {x res h : Vec Ideal S512x1024 .f32}
  {g : Vec Ideal S1x1024 .f32} {X D W H : ℕ → ℕ → ℝ} {G : ℕ → ℝ} {R : ℕ → ℕ → EReal} (ρ : ℕ)

theorem sum_2048 (F : ℕ → ℝ) : ∑ f : Fin 2048, F f
    = (∑ c : Fin 256, F c) + (∑ c : Fin 256, F (256 + c)) + (∑ c : Fin 256, F (512 + c)) + (∑ c : Fin 256, F (768 + c))
      + (∑ c : Fin 256, F (1024 + c)) + (∑ c : Fin 256, F (1280 + c)) + (∑ c : Fin 256, F (1536 + c)) + ∑ c : Fin 256, F (1792 + c) := by
  rw [sum_cut F 256 7, sum_cut F 256 6, sum_cut F 256 5, sum_cut F 256 4, sum_cut F 256 3, sum_cut F 256 2, sum_cut F 256 1]

/-- The gradient at the normed input. -/
theorem pay_dh (hd : ∀ (q : Fin 8) r c, d q (ix3 0 r c) = ((D (ρ + r.val) (q.val * 256 + c.val) : ℝ) : EReal))
    (hw : ∀ (q : Fin 8) k c, w q (ix3 0 k c) = ((W k.val (q.val * 256 + c.val) : ℝ) : EReal)) (r : Fin 512) (k : Fin 1024) :
    hsum d w (ix2 r k) = ((dH 2048 D W (ρ + r.val) k.val : ℝ) : EReal) := by
  pointwise [hsum, k0_pay5, k0_pay4]
  simp only [hd, hw, sum_mul_coe, zero_add, ← EReal.coe_add]
  unfold dH
  rw [sum_2048 fun f => D (ρ + r.val) f * W k.val f]
  simp only [show ((0 : Fin 8) : ℕ) = 0 from rfl, zero_mul, zero_add]
  rfl

theorem pay_rs (hx : ∀ r k, x (ix2 r k) = ((X (ρ + r.val) k.val : ℝ) : EReal)) (r : Fin 512) (z : Fin 1) :
    k0_pay7 (F := Ideal) (k0_pay6 x) (ix2 r z) = ((rs 1024 (X (ρ + r.val)) : ℝ) : EReal) := by
  pointwise [k0_pay7, k0_pay6]
  simp only [hx, sum_mul_coe, eps_eq, n1024_eq, rs_row]

theorem pay_xh (hx : ∀ r k, x (ix2 r k) = ((X (ρ + r.val) k.val : ℝ) : EReal)) (r : Fin 512) (k : Fin 1024) :
    k0_pay8 (F := Ideal) x (k0_pay6 x) (ix2 r k) = ((xh 1024 (X (ρ + r.val)) k.val : ℝ) : EReal) := by
  have h := pay_rs ρ hx
  pointwise [k0_pay8]
  simp only [hx, h, ← EReal.coe_mul]
  rfl

/-- The gradient at the input, onto what comes through the residual. -/
theorem pay_dx (hx : ∀ r k, x (ix2 r k) = ((X (ρ + r.val) k.val : ℝ) : EReal)) (hr : ∀ r k, res (ix2 r k) = R (ρ + r.val) k.val)
    (hg : ∀ k, g (ix2 0 k) = ((G k.val : ℝ) : EReal)) (hh : ∀ r k, h (ix2 r k) = ((H (ρ + r.val) k.val : ℝ) : EReal)) (r : Fin 512) (k : Fin 1024) :
    k0_pay9 (F := Ideal) h x g (k0_pay6 x) res (ix2 r k)
      = R (ρ + r.val) k.val + ((back 1024 (X (ρ + r.val)) (fun j => H (ρ + r.val) j * G j) k.val : ℝ) : EReal) := by
  have hs := pay_rs ρ hx
  have hn := pay_xh ρ hx
  pointwise [k0_pay9]
  simp only [hh, hs, hn, hr, hg, n1024_eq, ← EReal.coe_mul, sum_coe]
  rw [div_coe_coe _ _ (by norm_num)]
  simp only [← EReal.coe_mul, ← EReal.coe_sub]
  rfl

/-- The half's part of the gradient at the gain, onto what was summed before. -/
theorem pay_dg (hx : ∀ r k, x (ix2 r k) = ((X (ρ + r.val) k.val : ℝ) : EReal)) (hh : ∀ r k, h (ix2 r k) = ((H (ρ + r.val) k.val : ℝ) : EReal))
    (q : Vec Ideal S1x1024 .f32) (k : Fin 1024) :
    k0_pay10 (F := Ideal) h x (k0_pay6 x) q (ix2 0 k)
      = q (ix2 0 k) + ((∑ r : Fin 512, H (ρ + r.val) k.val * xh 1024 (X (ρ + r.val)) k.val : ℝ) : EReal) := by
  have hn := pay_xh ρ hx
  pointwise [k0_pay10]
  simp only [hh, hn, sum_mul_coe]

theorem pay_zero (k : Fin 1024) : k0_pay3 (F := Ideal) (ix2 0 k) = (0 : EReal) := by
  pointwise [k0_pay3]

variable {d w} {d0 d1 d2 d3 d4 d5 d6 d7 : Vec Ideal S1x512x256 .bf16} {w0 w1 w2 w3 w4 w5 w6 w7 : Vec Ideal S1x1024x256 .bf16}

/-- The eight blocks one by one. -/
theorem hsum_eq : k0_pay5 (F := Ideal) (k0_pay4 d0 w0 d1 w1 d2 w2 d3 w3) d4 w4 d5 w5 d6 w6 d7 w7
    = hsum ![d0, d1, d2, d3, d4, d5, d6, d7] ![w0, w1, w2, w3, w4, w5, w6, w7] := rfl

/-- The second half's payloads. -/
theorem second_dx : k0_pay1 (F := Ideal) (k0_pay15 x) (k0_pay16 x)
      (k0_pay18 (k0_pay12 (k0_pay11 d0 w0) d1 w1 d2 w2 d3 w3 d4 w4) (k0_pay13 d5 w5) d6 w6 d7 w7 g)
      (k0_pay19 (k0_pay12 (k0_pay11 d0 w0) d1 w1 d2 w2 d3 w3 d4 w4) (k0_pay13 d5 w5) d6 w6 d7 w7 x g) res
    = k0_pay9 (hsum ![d0, d1, d2, d3, d4, d5, d6, d7] ![w0, w1, w2, w3, w4, w5, w6, w7]) x g (k0_pay6 x) res := rfl

theorem second_dg (q : Vec Ideal S1x1024 .f32) :
    k0_pay2 (F := Ideal) (k0_pay17 (k0_pay12 (k0_pay11 d0 w0) d1 w1 d2 w2 d3 w3 d4 w4) (k0_pay13 d5 w5) d6 w6 d7 w7 x) q
    = k0_pay10 (hsum ![d0, d1, d2, d3, d4, d5, d6, d7] ![w0, w1, w2, w3, w4, w5, w6, w7]) x (k0_pay6 x) q := rfl

end RgIn

end
-- ==== Proof.RgIn.Cases.lean ====
/- What the recurrent projection's backward kernel leaves in its two output blocks at one grid point. -/
module

public import proofs.«01_k».proof.Proof.RgIn.Block
public import proofs.«01_k».proof.Proof.Gen.Kernel4Ideal.Frame

@[expose] public section

noncomputable section

namespace RgIn

open Reals Norm Proj
open Idealize.ShloMosaic Idealize.ShloMosaic.Pointwise Idealize.ShloMosaic.Tactic Cert.Kernel4Ideal Cert.Kernel4Ideal.Gen

/-- Rows `a … a + 511`, columns `b … b + 255` of one of the two incoming gradients. -/
theorem ld_dz (x : Vec Ideal S2x1024x1024 .bf16) (e a b : ℕ) (he : e < 2) (ha : a + 512 ≤ 1024) (hb : b + 256 ≤ 1024) (h) (r : Fin 512) (f : Fin 256) :
    View.ld x (Rect.unit (s := S2x1024x1024) ![e, a, b] ![1, 512, 256] h) (ix3 0 r f) = x (ix3 ⟨e, he⟩ ⟨a + r.val, by omega⟩ ⟨b + f.val, by omega⟩) := by
  show x _ = x _
  congr 1
  funext i
  apply Fin.ext
  match i with
  | ⟨0, _⟩ => show e + 1 * 0 = e; omega
  | ⟨1, _⟩ => show a + 1 * r.val = a + r.val; omega
  | ⟨2, _⟩ => show b + 1 * f.val = b + f.val; omega

/-- Block `q` of the weight. -/
theorem ld_w (x : Vec Ideal S8x1024x256 .bf16) (q : ℕ) (hq : q < 8) (h) (k : Fin 1024) (f : Fin 256) :
    View.ld x (Rect.unit (s := S8x1024x256) ![q, 0, 0] ![1, 1024, 256] h) (ix3 0 k f) = x (ix3 ⟨q, hq⟩ k f) := by
  show x _ = x _
  congr 1
  funext i
  apply Fin.ext
  match i with
  | ⟨0, _⟩ => show q + 1 * 0 = q; omega
  | ⟨1, _⟩ => show 0 + 1 * k.val = k.val; omega
  | ⟨2, _⟩ => show 0 + 1 * f.val = f.val; omega

/-- Where rows `a … a + 511` lie in the whole block. -/
theorem emb_rows (a : ℕ) (ha : a + 512 ≤ 1024) (h) (r : Fin 512) (k : Fin 1024) :
    (Rect.unit (s := S1024x1024) ![a, 0] ![512, 1024] h).emb (ix2 r k) = ix2 ⟨a + r.val, by omega⟩ k := by
  funext i
  apply Fin.ext
  match i with
  | ⟨0, _⟩ => show a + 1 * r.val = a + r.val; omega
  | ⟨1, _⟩ => show 0 + 1 * k.val = k.val; omega

theorem ld_rows (x : Vec Ideal S1024x1024 .f32) (a : ℕ) (ha : a + 512 ≤ 1024) (h) (r : Fin 512) (k : Fin 1024) :
    View.ld x (Rect.unit (s := S1024x1024) ![a, 0] ![512, 1024] h) (ix2 r k) = x (ix2 ⟨a + r.val, by omega⟩ k) :=
  congrArg x (emb_rows a ha h r k)

variable (c : Dev nD) (i : grid0.Coords) (arg1 : Memref sig .tc .vmem S2x1024x1024 .bf16) (harg1 : arg1.IsWhole)
  (arg2 : Memref sig .tc .vmem S8x1024x256 .bf16) (harg2 : arg2.IsWhole) (arg3 : Memref sig .tc .vmem S1024x1024 .f32) (harg3 : arg3.IsWhole)
  (arg4 : Memref sig .tc .vmem S1x1024 .f32) (harg4 : arg4.IsWhole) (arg5 : Memref sig .tc .vmem S1024x1024 .f32) (harg5 : arg5.IsWhole)
  (arg6 : Memref sig .tc .vmem S1024x1024 .f32) (harg6 : arg6.IsWhole) (arg7 : Memref sig .tc .vmem S1x1024 .f32) (harg7 : arg7.IsWhole)
  {X D W : ℕ → ℕ → ℝ} {G : ℕ → ℝ} {R : ℕ → ℕ → EReal} (ρ : ℕ)
  {x0 : Vec Ideal S2x1024x1024 .bf16} {x1 : Vec Ideal S8x1024x256 .bf16} {x2 x4 : Vec Ideal S1024x1024 .f32} {x3 : Vec Ideal S1x1024 .f32}
  (xo6 : Vec Ideal S1x1024 .f32)
  (hd : ∀ e r f, x0 (ix3 e r f) = ((D (ρ + r.val) (e.val * 1024 + f.val) : ℝ) : EReal))
  (hw : ∀ q k f, x1 (ix3 q k f) = ((W k.val (q.val * 256 + f.val) : ℝ) : EReal))
  (hx : ∀ r k, x2 (ix2 r k) = ((X (ρ + r.val) k.val : ℝ) : EReal)) (hg : ∀ k, x3 (ix2 0 k) = ((G k.val : ℝ) : EReal))
  (hr : ∀ r k, x4 (ix2 r k) = R (ρ + r.val) k.val)

/-- The blocks of columns of rows `a … a + 511`, and those of the weight. -/
structure Loads (x0 : Vec Ideal S2x1024x1024 .bf16) (x1 : Vec Ideal S8x1024x256 .bf16) (a : ℕ) (d : Fin 8 → Vec Ideal S1x512x256 .bf16)
    (w : Fin 8 → Vec Ideal S1x1024x256 .bf16) : Prop where
  dz : ∀ q : Fin 8, ∃ h, d q = View.ld x0 (Rect.unit (s := S2x1024x1024) ![q.val / 4, a, q.val % 4 * 256] ![1, 512, 256] h)
  wt : ∀ q : Fin 8, ∃ h, w q = View.ld x1 (Rect.unit (s := S8x1024x256) ![q.val, 0, 0] ![1, 1024, 256] h)

variable {d : Fin 8 → Vec Ideal S1x512x256 .bf16} {w : Fin 8 → Vec Ideal S1x1024x256 .bf16}

include hd hw in
/-- The gradient at the normed input, in the half from row `a`. -/
theorem dh_apply (a : ℕ) (ha : a + 512 ≤ 1024) (l : Loads x0 x1 a d w) (r : Fin 512) (k : Fin 1024) :
    hsum d w (ix2 r k) = ((dH 2048 D W (ρ + a + r.val) k.val : ℝ) : EReal) := by
  refine pay_dh d w (ρ + a) (fun q r f => ?_) (fun q k f => ?_) r k
  · obtain ⟨h, e⟩ := l.dz q
    rw [e, ld_dz x0 _ a _ (by omega) ha (by omega) h r f, hd, Nat.add_assoc]
    congr 2
    show q.val / 4 * 1024 + (q.val % 4 * 256 + f.val) = q.val * 256 + f.val
    omega
  · obtain ⟨h, e⟩ := l.wt q
    rw [e, ld_w x1 q.val q.isLt h k f, hw]

include hx in
theorem x_apply (a : ℕ) (ha : a + 512 ≤ 1024) (h) (r : Fin 512) (k : Fin 1024) :
    View.ld x2 (Rect.unit (s := S1024x1024) ![a, 0] ![512, 1024] h) (ix2 r k) = ((X (ρ + a + r.val) k.val : ℝ) : EReal) := by
  rw [ld_rows x2 a ha h r k, hx, Nat.add_assoc]

include hr in
theorem r_apply (a : ℕ) (ha : a + 512 ≤ 1024) (h) (r : Fin 512) (k : Fin 1024) :
    View.ld x4 (Rect.unit (s := S1024x1024) ![a, 0] ![512, 1024] h) (ix2 r k) = R (ρ + a + r.val) k.val := by
  rw [ld_rows x4 a ha h r k, hr, Nat.add_assoc]

variable (X D W G R) in
/-- The gradient at the input as the block's contents. -/
def dxVec : S1024x1024.Idx → EReal := fun y => R (ρ + (y 0).val) (y 1).val + ((dX 2048 X D G W (ρ + (y 0).val) (y 1).val : ℝ) : EReal)

include hd hw hx hg hr in
theorem dx_piece (a : ℕ) (ha : a + 512 ≤ 1024) (l : Loads x0 x1 a d w) (h h' h'') (y : S512x1024.Idx) :
    k0_pay9 (F := Ideal) (hsum d w) (View.ld x2 (Rect.unit (s := S1024x1024) ![a, 0] ![512, 1024] h)) x3
        (k0_pay6 (View.ld x2 (Rect.unit (s := S1024x1024) ![a, 0] ![512, 1024] h))) (View.ld x4 (Rect.unit (s := S1024x1024) ![a, 0] ![512, 1024] h')) y
      = dxVec X D W G R ρ ((Rect.unit (s := S1024x1024) ![a, 0] ![512, 1024] h'').emb y) := by
  rw [eq_ix2 y]
  refine (pay_dx (ρ + a) (x_apply ρ hx a ha h) (r_apply ρ hr a ha h') hg (dh_apply ρ hd hw a ha l) (y 0) (y 1)).trans ?_
  refine Eq.trans ?_ (congrArg (dxVec X D W G R ρ) (emb_rows a ha h'' (y 0) (y 1))).symm
  unfold dxVec dX
  rw [Nat.add_assoc]
  rfl

include hd hw hx in
theorem dg_piece (a : ℕ) (ha : a + 512 ≤ 1024) (l : Loads x0 x1 a d w) (h) (q : Vec Ideal S1x1024 .f32) (k : Fin 1024) :
    k0_pay10 (F := Ideal) (hsum d w) (View.ld x2 (Rect.unit (s := S1024x1024) ![a, 0] ![512, 1024] h))
        (k0_pay6 (View.ld x2 (Rect.unit (s := S1024x1024) ![a, 0] ![512, 1024] h))) q (ix2 0 k)
      = q (ix2 0 k) + ((∑ r : Fin 512, gT 2048 X D W k.val (ρ + a + r.val) : ℝ) : EReal) :=
  pay_dg (ρ + a) (x_apply ρ hx a ha h) (dh_apply ρ hd hw a ha l) q k

/-- A statement about each of the eight blocks, one by one. -/
theorem each {P : Fin 8 → Prop} (p0 : P 0) (p1 : P 1) (p2 : P 2) (p3 : P 3) (p4 : P 4) (p5 : P 5) (p6 : P 6) (p7 : P 7) (q : Fin 8) : P q :=
  match q with
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7

theorem loads (a : ℕ) (h0 h1 h2 h3 h4 h5 h6 h7 l0 l1 l2 l3 l4 l5 l6 l7) : Loads x0 x1 a
    ![View.ld x0 (Rect.unit (s := S2x1024x1024) ![0, a, 0] ![1, 512, 256] h0), View.ld x0 (Rect.unit (s := S2x1024x1024) ![0, a, 256] ![1, 512, 256] h1),
      View.ld x0 (Rect.unit (s := S2x1024x1024) ![0, a, 512] ![1, 512, 256] h2), View.ld x0 (Rect.unit (s := S2x1024x1024) ![0, a, 768] ![1, 512, 256] h3),
      View.ld x0 (Rect.unit (s := S2x1024x1024) ![1, a, 0] ![1, 512, 256] h4), View.ld x0 (Rect.unit (s := S2x1024x1024) ![1, a, 256] ![1, 512, 256] h5),
      View.ld x0 (Rect.unit (s := S2x1024x1024) ![1, a, 512] ![1, 512, 256] h6), View.ld x0 (Rect.unit (s := S2x1024x1024) ![1, a, 768] ![1, 512, 256] h7)]
    ![View.ld x1 (Rect.unit (s := S8x1024x256) ![0, 0, 0] ![1, 1024, 256] l0), View.ld x1 (Rect.unit (s := S8x1024x256) ![1, 0, 0] ![1, 1024, 256] l1),
      View.ld x1 (Rect.unit (s := S8x1024x256) ![2, 0, 0] ![1, 1024, 256] l2), View.ld x1 (Rect.unit (s := S8x1024x256) ![3, 0, 0] ![1, 1024, 256] l3),
      View.ld x1 (Rect.unit (s := S8x1024x256) ![4, 0, 0] ![1, 1024, 256] l4), View.ld x1 (Rect.unit (s := S8x1024x256) ![5, 0, 0] ![1, 1024, 256] l5),
      View.ld x1 (Rect.unit (s := S8x1024x256) ![6, 0, 0] ![1, 1024, 256] l6), View.ld x1 (Rect.unit (s := S8x1024x256) ![7, 0, 0] ![1, 1024, 256] l7)] where
  dz := each ⟨h0, rfl⟩ ⟨h1, rfl⟩ ⟨h2, rfl⟩ ⟨h3, rfl⟩ ⟨h4, rfl⟩ ⟨h5, rfl⟩ ⟨h6, rfl⟩ ⟨h7, rfl⟩
  wt := each ⟨l0, rfl⟩ ⟨l1, rfl⟩ ⟨l2, rfl⟩ ⟨l3, rfl⟩ ⟨l4, rfl⟩ ⟨l5, rfl⟩ ⟨l6, rfl⟩ ⟨l7, rfl⟩

include hd hw hx hg hr in
theorem out0_A_5_apply (hc0 : cond0_0 i) (r k : Fin 1024) :
    out0_A_5 (F := Ideal) c i arg1 harg1 arg2 harg2 arg3 harg3 arg4 harg4 arg5 harg5 arg6 harg6 arg7 harg7 hc0 x0 x1 x2 x3 x4 (ix2 r k)
      = R (ρ + r.val) k.val + ((dX 2048 X D G W (ρ + r.val) k.val : ℝ) : EReal) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  refine View.canon_apply_of_pieces (G := (show Vec Ideal S1024x1024 .f32 from dxVec X D W G R ρ)) _ ?_ (ix2 r k)
    (cover0_A_5 c i arg1 harg1 arg2 harg2 arg3 harg3 arg4 harg4 arg5 harg5 arg6 harg6 arg7 harg7 hc0 x0 x1 x2 x3 x4 _)
  unfold kernelRun0_A
  dsimp only
  sl_unfold_words
  simp only [List.forall_mem_cons, View.readAt_eq_ld, harg1.read_unread, harg2.read_unread, harg3.read_unread, harg4.read_unread, harg5.read_unread,
    View.ld_unit_zero (S := S1x1024) hz, second_dx, hsum_eq]
  exact ⟨dx_piece ρ hd hw hx hg hr 512 (by decide) (loads 512 _ _ _ _ _ _ _ _ _ _ _ _ _ _ _ _) _ _ _,
    dx_piece ρ hd hw hx hg hr 0 (by decide) (loads 0 _ _ _ _ _ _ _ _ _ _ _ _ _ _ _ _) _ _ _, by simp⟩

include hd hw hx hg hr in
theorem out0_B_5_apply (hc0 : ¬cond0_0 i) (r k : Fin 1024) :
    out0_B_5 (F := Ideal) c i arg1 harg1 arg2 harg2 arg3 harg3 arg4 harg4 arg5 harg5 arg6 harg6 arg7 harg7 hc0 x0 x1 x2 x3 x4 xo6 (ix2 r k)
      = R (ρ + r.val) k.val + ((dX 2048 X D G W (ρ + r.val) k.val : ℝ) : EReal) := by
  unfold out0_B_5
  rw [View.read_writes_eq_canon _ _ _ (cover0_B_5 c i arg1 harg1 arg2 harg2 arg3 harg3 arg4 harg4 arg5 harg5 arg6 harg6 arg7 harg7 hc0 x0 x1 x2 x3 x4 xo6)]
  refine View.canon_apply_of_pieces (G := (show Vec Ideal S1024x1024 .f32 from dxVec X D W G R ρ)) _ ?_ (ix2 r k)
    (cover0_B_5 c i arg1 harg1 arg2 harg2 arg3 harg3 arg4 harg4 arg5 harg5 arg6 harg6 arg7 harg7 hc0 x0 x1 x2 x3 x4 xo6 _)
  unfold kernelRun0_B
  dsimp only
  sl_unfold_words
  simp only [List.forall_mem_cons, View.readAt_eq_ld, harg1.read_unread, harg2.read_unread, harg3.read_unread, harg4.read_unread, harg5.read_unread,
    View.ld_unit_zero (S := S1x1024) hz, second_dx, hsum_eq]
  exact ⟨dx_piece ρ hd hw hx hg hr 512 (by decide) (loads 512 _ _ _ _ _ _ _ _ _ _ _ _ _ _ _ _) _ _ _,
    dx_piece ρ hd hw hx hg hr 0 (by decide) (loads 0 _ _ _ _ _ _ _ _ _ _ _ _ _ _ _ _) _ _ _, by simp⟩

include hd hw hx in
theorem out0_A_6_apply (hc0 : cond0_0 i) (k : Fin 1024) :
    out0_A_6 (F := Ideal) c i arg1 harg1 arg2 harg2 arg3 harg3 arg4 harg4 arg5 harg5 arg6 harg6 arg7 harg7 hc0 x0 x1 x2 x3 x4 (ix2 0 k)
      = 0 + ((∑ r : Fin 512, gT 2048 X D W k.val (ρ + r.val) : ℝ) : EReal) + ((∑ r : Fin 512, gT 2048 X D W k.val (ρ + 512 + r.val) : ℝ) : EReal) := by
  unfold out0_A_6
  rw [View.read_writes_eq_canon _ _ _ (cover0_A_6 c i arg1 harg1 arg2 harg2 arg3 harg3 arg4 harg4 arg5 harg5 arg6 harg6 arg7 harg7 hc0 x0 x1 x2 x3 x4)]
  unfold kernelRun0_A
  dsimp only
  sl_unfold_words
  rw [View.canon_cons_unit_zero (S := S1x1024) hz]
  simp only [View.readAt_eq_ld, harg1.read_unread, harg2.read_unread, harg3.read_unread, View.readCov_eq_canon', whole_canon,
    View.canon_cons_unit_zero (S := S1x1024) hz, View.ld_unit_zero (S := S1x1024) hz, second_dg, hsum_eq]
  refine (dg_piece ρ hd hw hx 512 (by decide) (loads 512 _ _ _ _ _ _ _ _ _ _ _ _ _ _ _ _) _ _ k).trans (congrArg (· + _) ?_)
  refine Eq.trans (congrArg _ (whole_idx _ _)) ?_
  exact (dg_piece ρ hd hw hx 0 (by decide) (loads 0 _ _ _ _ _ _ _ _ _ _ _ _ _ _ _ _) _ _ k).trans
    (congrArg (· + _) ((congrArg _ (whole_idx _ _)).trans (pay_zero k)))

include hd hw hx in
theorem out0_B_6_apply (hc0 : ¬cond0_0 i) (k : Fin 1024) :
    out0_B_6 (F := Ideal) c i arg1 harg1 arg2 harg2 arg3 harg3 arg4 harg4 arg5 harg5 arg6 harg6 arg7 harg7 hc0 x0 x1 x2 x3 x4 xo6 (ix2 0 k)
      = xo6 (ix2 0 k) + ((∑ r : Fin 512, gT 2048 X D W k.val (ρ + r.val) : ℝ) : EReal) + ((∑ r : Fin 512, gT 2048 X D W k.val (ρ + 512 + r.val) : ℝ) : EReal) := by
  unfold out0_B_6
  rw [View.read_writes_eq_canon _ _ _ (cover0_B_6 c i arg1 harg1 arg2 harg2 arg3 harg3 arg4 harg4 arg5 harg5 arg6 harg6 arg7 harg7 hc0 x0 x1 x2 x3 x4 xo6)]
  unfold kernelRun0_B
  dsimp only
  sl_unfold_words
  rw [View.canon_cons_unit_zero (S := S1x1024) hz]
  simp only [View.readAt_eq_ld, harg1.read_unread, harg2.read_unread, harg3.read_unread, harg7.read_unread, View.readCov_eq_canon', whole_canon,
    View.canon_cons_unit_zero (S := S1x1024) hz, View.ld_unit_zero (S := S1x1024) hz, second_dg, hsum_eq]
  refine (dg_piece ρ hd hw hx 512 (by decide) (loads 512 _ _ _ _ _ _ _ _ _ _ _ _ _ _ _ _) _ _ k).trans (congrArg (· + _) ?_)
  refine Eq.trans (congrArg _ (whole_idx _ _)) ?_
  exact dg_piece ρ hd hw hx 0 (by decide) (loads 0 _ _ _ _ _ _ _ _ _ _ _ _ _ _ _ _) _ _ k

end RgIn

end
-- ==== Proof.RgIn.Arrays.lean ====
/- The recurrent projection's backward call: what its windows show the kernel, and what the call's two arrays hold at the end. -/
module

public import proofs.«01_k».proof.Proof.RgIn.Cases
public import proofs.«01_k».proof.Proof.Gen.Kernel4Ideal.Value
public import Idealize.ShloMosaic.Lib.Pipeline.ValueKit

@[expose] public section

noncomputable section

namespace RgIn

open Reals Norm Proj
open Idealize.ShloMosaic Idealize.ShloMosaic.Pointwise Idealize.ShloMosaic.Tactic Cert.Kernel4Ideal Cert.Kernel4Ideal.Gen

variable (m : ∀ ℓ : Loc nD τ sig, Buf (Elt Ideal) ℓ) (c : Dev nD) {X D E W : ℕ → ℕ → ℝ} {G : ℕ → ℝ}
  (h0 : (m ((c.tc : Thread nD τ).loc main_arg0) : S4096x1024.Idx → EReal) = vecN X)
  (h1 : (m ((c.tc : Thread nD τ).loc main_arg1) : S4096x1024.Idx → EReal) = vecN D)
  (h2 : (m ((c.tc : Thread nD τ).loc main_arg2) : S4096x1024.Idx → EReal) = vecN E)
  (h4 : (m ((c.tc : Thread nD τ).loc main_arg4) : S1x1024.Idx → EReal) = vecN fun _ k => G k)
  (h5 : (m ((c.tc : Thread nD τ).loc main_arg5) : S1024x2048.Idx → EReal) = vecN W)

/-- The gradient that comes through the residual, at plain numbers. -/
def res : ℕ → ℕ → EReal := tab (m ((c.tc : Thread nD τ).loc main_arg3) : S4096x1024.Idx → EReal)

include h0 in
theorem entry_x : (V m c main_arg0 : S4096x1024.Idx → EReal) = vecN X := by
  rw [← h0]; show StableHlo.after hostOps0 _ (Proc.devRef .tc main_arg0) = _; after_results_simp; try rfl

theorem entry_r : (V m c main_arg3 : S4096x1024.Idx → EReal) = (m ((c.tc : Thread nD τ).loc main_arg3) : S4096x1024.Idx → EReal) := by
  show StableHlo.after hostOps0 _ (Proc.devRef .tc main_arg3) = _; after_results_simp; try rfl

include h4 in
theorem entry_g : (V m c main_arg4 : S1x1024.Idx → EReal) = vecN fun _ k => G k := by
  rw [← h4]; show StableHlo.after hostOps0 _ (Proc.devRef .tc main_arg4) = _; after_results_simp; try rfl

include h1 h2 in
/-- The two incoming gradients, stacked. -/
theorem entry_d (e : Fin 2) (t : Fin 4096) (f : Fin 1024) :
    (V m c main_v4 : S2x4096x1024.Idx → EReal) (ix3 e t f) = ((join D E t.val (e.val * 1024 + f.val) : ℝ) : EReal) := by
  show StableHlo.after hostOps0 _ (Proc.devRef .tc main_v4) (ix3 e t f) = _
  after_results_simp
  unfold join
  match e with
  | ⟨0, _⟩ =>
    pointwise
    exact congrFun h1 _
  | ⟨1, _⟩ =>
    pointwise
    exact congrFun h2 _

include h5 in
theorem entry_w (y : S8x1024x256.Idx) : (V m c main_v7 : S8x1024x256.Idx → EReal) y = ((W (y 1).val ((y 0).val * 256 + (y 2).val) : ℝ) : EReal) := by
  show StableHlo.after hostOps0 _ (Proc.devRef .tc main_v7) y = _
  after_results_simp
  rw [show m (c, Proc.tc.devRef main_arg5) = vecN W from h5]
  pointwise
  rfl

theorem idx0_0 : ∀ t : Fin cfg0.N, win0_0.index t = ![0, t.val, 0] := (by decide +kernel : ∀ t : Fin grid0.N, _)
theorem idx0_1 : ∀ t : Fin cfg0.N, win0_1.index t = ![0, 0, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![0, 0] := (by decide +kernel : ∀ t : Fin grid0.N, _)

theorem flush0_6 : ∀ t : Fin cfg0.N, (cfg0.win 6).flush t = true → t.val = 3 := (by decide +kernel : ∀ t : Fin grid0.N, _)

include h1 h2 in
theorem iblk_d (t : Fin cfg0.N) (e : Fin 2) (r : Fin 1024) (f : Fin 1024) :
    (iblk m c 0 t : Vec Ideal S2x1024x1024 .bf16) (ix3 e r f) = ((join D E (t.val * 1024 + r.val) (e.val * 1024 + f.val) : ℝ) : EReal) := by
  have hN : t.val < 4 := t.isLt
  blk_simp [iblk]
  refine Eq.trans (congrArg _ ?_) (entry_d m c h1 h2 e ⟨t.val * 1024 + r.val, by omega⟩ f)
  funext i
  apply Fin.ext
  match i with
  | ⟨0, _⟩ => blk_simp [idx0_0]
  | ⟨1, _⟩ => blk_simp [idx0_0]
  | ⟨2, _⟩ => blk_simp [idx0_0]

include h5 in
theorem iblk_w (t : Fin cfg0.N) (q : Fin 8) (k : Fin 1024) (f : Fin 256) :
    (iblk m c 1 t : Vec Ideal S8x1024x256 .bf16) (ix3 q k f) = ((W k.val (q.val * 256 + f.val) : ℝ) : EReal) := by
  blk_simp [iblk]
  refine (entry_w m c h5 _).trans (congrArg Real.toEReal (congrArg₂ W ?_ (congrArg₂ (fun a b => a * 256 + b) ?_ ?_)))
  · blk_simp [idx0_1]
  · blk_simp [idx0_1]
  · blk_simp [idx0_1]

include h0 in
theorem iblk_x (t : Fin cfg0.N) (r : Fin 1024) (k : Fin 1024) :
    (iblk m c 2 t : Vec Ideal S1024x1024 .f32) (ix2 r k) = ((X (t.val * 1024 + r.val) k.val : ℝ) : EReal) := by
  blk_simp [iblk]
  rw [entry_x m c h0]
  exact vecN_eq _ _ _ _ (by blk_simp [idx0_2]) (by blk_simp [idx0_2])

include h4 in
theorem iblk_g (t : Fin cfg0.N) (k : Fin 1024) : (iblk m c 3 t : Vec Ideal S1x1024 .f32) (ix2 0 k) = ((G k.val : ℝ) : EReal) := by
  blk_simp [iblk]
  rw [entry_g m c h4]
  exact vecN_eq _ _ 0 _ (by blk_simp [idx0_3]; rfl) (by blk_simp [idx0_3])

theorem iblk_r (t : Fin cfg0.N) (r : Fin 1024) (k : Fin 1024) :
    (iblk m c 4 t : Vec Ideal S1024x1024 .f32) (ix2 r k) = res m c (t.val * 1024 + r.val) k.val := by
  blk_simp [iblk]
  rw [entry_r m c]
  exact tab_eq _ _ _ _ (by blk_simp [idx0_4]) (by blk_simp [idx0_4])

include h0 h1 h2 h4 h5 in
/-- What a point leaves in the block of the gradient at the input. -/
theorem at_dx (t : Fin cfg0.N) (r : Fin 1024) (k : Fin 1024) :
    (outsAt0 m c t.val t.isLt).1 (ix2 r k)
      = res m c (t.val * 1024 + r.val) k.val + ((dX 2048 X (join D E) G W (t.val * 1024 + r.val) k.val : ℝ) : EReal) := by
  by_cases h : t.val % 4 = 0
  · rw [outsAt0_A m c t h]
    dsimp only
    exact out0_A_5_apply (hd := iblk_d m c h1 h2 t) (hw := iblk_w m c h5 t) (hx := iblk_x m c h0 t) (hg := iblk_g m c h4 t) (hr := iblk_r m c t)
      (r := r) (k := k) ..
  · rw [outsAt0_B m c t h]
    dsimp only
    exact out0_B_5_apply (hd := iblk_d m c h1 h2 t) (hw := iblk_w m c h5 t) (hx := iblk_x m c h0 t) (hg := iblk_g m c h4 t) (hr := iblk_r m c t)
      (r := r) (k := k) ..

include h0 h1 h2 h5 in
/-- What a point leaves in the gradient at the gain: the rows summed so far. -/
theorem at_dg : ∀ (n : ℕ) (hn : n < cfg0.N) (k : Fin 1024),
    (outsAt0 m c n hn).2 (ix2 0 k) = ((∑ t ∈ Finset.range ((n + 1) * 1024), gT 2048 X (join D E) W k.val t : ℝ) : EReal) := by
  intro n
  induction n using Nat.strong_induction_on with
  | _ n ih =>
    intro hn k
    have hN : n < 4 := hn
    rw [sum_rows, EReal.coe_add, EReal.coe_add]
    by_cases h : n % 4 = 0
    · have e : n = 0 := by omega
      subst e
      rw [outsAt0_A m c ⟨0, hn⟩ h, zero_mul, Finset.range_zero, Finset.sum_empty, EReal.coe_zero]
      dsimp only
      exact out0_A_6_apply (hd := iblk_d m c h1 h2 ⟨0, hn⟩) (hw := iblk_w m c h5 ⟨0, hn⟩) (hx := iblk_x m c h0 ⟨0, hn⟩) (k := k) ..
    · have e := ih (n - 1) (by omega) (by omega) k
      rw [show n - 1 + 1 = n by omega] at e
      rw [outsAt0_B m c ⟨n, hn⟩ h, ← e]
      dsimp only
      exact out0_B_6_apply (hd := iblk_d m c h1 h2 ⟨n, hn⟩) (hw := iblk_w m c h5 ⟨n, hn⟩) (hx := iblk_x m c h0 ⟨n, hn⟩) (k := k) ..

include h0 h1 h2 h4 h5 in
theorem final_dx : ((dats m 0 c).arrAt 5 cfg0.N : S4096x1024.Idx → EReal) = total 2048 X (join D E) G W (res m c) := by
  refine (dats m 0 c).arrAt_eq_of_covers 5 _ (by decide +kernel) fun t hf y => ?_
  blk_simp
  rw [after0_5, eq_ix2 y]
  refine (at_dx m c h0 h1 h2 h4 h5 t (y 0) (y 1)).trans ?_
  exact (total_eq _ _ _ _ _ _ _ _ _ (by blk_simp [idx0_5]) (by blk_simp [idx0_5])).symm

include h0 h1 h2 h5 in
theorem final_dg : ((dats m 0 c).arrAt 6 cfg0.N : S1x1024.Idx → EReal) = vecN fun _ k => dG 2048 X (join D E) W k := by
  refine (dats m 0 c).arrAt_eq_of_covers 6 _ (by decide +kernel) fun t hf y => ?_
  blk_simp
  obtain ⟨z, k, rfl⟩ : ∃ (z : Fin 1) (k : Fin 1024), y = ix2 z k := ⟨y 0, y 1, eq_ix2 y⟩
  obtain rfl : z = 0 := Subsingleton.elim z 0
  rw [after0_6]
  refine (at_dg m c h0 h1 h2 h5 t.val t.isLt k).trans ?_
  rw [flush0_6 t hf]
  refine Eq.trans (congrArg Real.toEReal ?_) (vecN_eq _ _ 0 k.val (by blk_simp [idx0_6]; rfl) (by blk_simp [idx0_6])).symm
  exact (Fin.sum_univ_eq_sum_range (gT 2048 X (join D E) W k.val) 4096).symm

end RgIn

end
-- ==== Proof.RgIn.Ref.lean ====
/- The reference of the recurrent projection's backward call, on arguments that are matrices of reals (the residual's gradient aside). -/
module

public import proofs.«01_k».proof.Proof.Proj.Spec
public import proofs.«01_k».proof.Proof.Gen.Reference4Ideal.Read

@[expose] public section

noncomputable section

namespace RgIn

open Reals Norm Proj
open Idealize.ShloMosaic Idealize.ShloMosaic.Pointwise Cert.Reference4Ideal Cert.Reference4Ideal.Gen Cert.Reference4Ideal.Read

def argX (X : ℕ → ℕ → ℝ) : (⟨S4096x1024, .f32⟩ : BufTy).Contents (Elt Ideal) := vecN X
def argG (G : ℕ → ℝ) : (⟨S1x1024, .f32⟩ : BufTy).Contents (Elt Ideal) := vecN fun _ k => G k
def argW (W : ℕ → ℕ → ℝ) : (⟨S1024x2048, .f32⟩ : BufTy).Contents (Elt Ideal) := vecN W

variable (X D E W : ℕ → ℕ → ℝ) (G : ℕ → ℝ) (R : (⟨S4096x1024, .f32⟩ : BufTy).Contents (Elt Ideal))

theorem argX_at (t : Fin 4096) (k : Fin 1024) : argX X (ix2 t k) = ((X t.val k.val : ℝ) : EReal) := rfl
theorem argG_at (z : Fin 1) (k : Fin 1024) : argG G (ix2 z k) = ((G k.val : ℝ) : EReal) := rfl
theorem argW_at (k : Fin 1024) (f : Fin 2048) : argW W (ix2 k f) = ((W k.val f.val : ℝ) : EReal) := rfl

theorem ref_ms (t : Fin 4096) (z : Fin 1) : val_main_v7 (F := Ideal) (argX X) (ix2 t z) = ((ms 1024 (X t.val) : ℝ) : EReal) := by
  pointwise [val_main_v7, val_main_v6, val_main_cst_1, val_main_v5, val_main_v4, val_main_cst_0, val_main_v3, val_main_v2,
    val_main_cst, val_main_v1]
  simp only [argX_at, sum_mul_coe, eps_eq, n1024_eq, zero_add]
  rw [div_coe_coe _ _ (by norm_num), ← EReal.coe_add]
  rfl

theorem ref_rs (t : Fin 4096) (z : Fin 1) : val_main_v8 (F := Ideal) (argX X) (ix2 t z) = ((rs 1024 (X t.val) : ℝ) : EReal) := by
  have h := ref_ms X
  pointwise [val_main_v8]
  simp only [h, rs_coe]

theorem ref_xh (t : Fin 4096) (k : Fin 1024) : val_main_v13 (F := Ideal) (argX X) (ix2 t k) = ((xh 1024 (X t.val) k.val : ℝ) : EReal) := by
  have h := ref_rs X
  pointwise [val_main_v13, val_main_v12]
  simp only [argX_at, h, ← EReal.coe_mul]
  rfl

/-- The two incoming gradients side by side. -/
theorem ref_d (t : Fin 4096) (f : Fin 2048) :
    val_main_v20 (F := Ideal) (argX D) (argX E) (ix2 t f) = ((join D E t.val f.val : ℝ) : EReal) := by
  pointwise [val_main_v20]
  unfold join
  by_cases h : f.val < 1024
  · rw [dif_pos h, if_pos h]; rfl
  · rw [dif_neg h, if_neg h]; rfl

theorem ref_dh (t : Fin 4096) (k : Fin 1024) :
    val_main_v21 (F := Ideal) (argX D) (argX E) (argW W) (ix2 t k) = ((dH 2048 (join D E) W t.val k.val : ℝ) : EReal) := by
  have h := ref_d D E
  pointwise [val_main_v21]
  simp only [h, argW_at, sum_mul_coe]
  rfl

theorem ref_dg (k : Fin 1024) :
    val_main_v42 (F := Ideal) (argX X) (argX D) (argX E) (argW W) (ix2 0 k) = ((dG 2048 X (join D E) W k.val : ℝ) : EReal) := by
  have h := ref_dh D E W
  have h' := ref_xh X
  pointwise [val_main_v42, val_main_v27, val_main_v24, val_main_v23, val_main_v22, val_main_cst_3, val_main_cst_4]
  simp only [Fin.sum_univ_one, h, h', sum_mul_coe]
  refine congrArg Real.toEReal (Finset.sum_congr rfl fun t _ => ?_)
  unfold gT
  ring

theorem ref_dx (t : Fin 4096) (k : Fin 1024) :
    val_main_v43 (F := Ideal) (argX X) (argX D) (argX E) R (argG G) (argW W) (ix2 t k) = R (ix2 t k) + ((dX 2048 X (join D E) G W t.val k.val : ℝ) : EReal) := by
  have h := ref_dh D E W
  have h' := ref_rs X
  have hm := ref_ms X
  pointwise [val_main_v43, val_main_v41, val_main_v40, val_main_v39, val_main_v38, val_main_v37, val_main_v36, val_main_v35, val_main_v34,
    val_main_v33, val_main_v32, val_main_v31, val_main_v30, val_main_v29, val_main_v28, val_main_v26, val_main_v25, val_main_v14, val_main_v0,
    val_main_v11, val_main_v10, val_main_v9, val_main_cst_2, val_main_cst_5, val_main_cst_6, val_main_cst_7]
  simp only [Fin.sum_univ_one, argX_at, argG_at, h, h', hm, neg_half_eq, n1024_eq, div_coe_coe _ _ (ms_pos _ _).ne', ← EReal.coe_mul, sum_coe]
  rw [div_coe_coe _ _ (by norm_num)]
  simp only [← EReal.coe_mul, ← EReal.coe_add]
  unfold dX
  rw [← back_eq]

theorem ref_v43 : val_main_v43 (F := Ideal) (argX X) (argX D) (argX E) R (argG G) (argW W) = total 2048 X (join D E) G W (tab R) := by
  funext y
  refine (congrArg _ (eq_ix2 y)).trans ((ref_dx X D E W G R (y 0) (y 1)).trans ?_)
  rw [total_eq _ _ _ _ _ _ _ _ _ rfl rfl, ← tab_eq R y _ _ rfl rfl, ← eq_ix2 y]

theorem ref_v42 : val_main_v42 (F := Ideal) (argX X) (argX D) (argX E) (argW W) = vecN fun _ k => dG 2048 X (join D E) W k := by
  funext y
  obtain ⟨z, k, rfl⟩ : ∃ (z : Fin 1) (k : Fin 1024), y = ix2 z k := ⟨y 0, y 1, eq_ix2 y⟩
  obtain rfl : z = 0 := Subsingleton.elim z 0
  exact ref_dg X D E W k

end RgIn

end
-- ==== Proof.RgIn.Claim.lean ====
/- The claims about the recurrent projection's backward call: the reference's frame, and the two results equal to the reference's. -/
module

public import proofs.«01_k».proof.Defs
public import proofs.«01_k».proof.Proof.RgIn.Arrays
public import proofs.«01_k».proof.Proof.RgIn.Ref
public import proofs.«01_k».proof.Proof.Gen.Reference4Ideal.Run
public import proofs.«01_k».proof.Proof.Gen.Pre_finite4
public import Idealize.ShloMosaic.Lib.ReduceAll
public import Idealize.ShloMosaic.Lib.Affine

@[expose] public section

noncomputable section

namespace RgIn

open Reals Norm Proj
open Idealize.ShloMosaic Idealize.SL.Sem

section Reference

open Cert.Reference4Ideal Cert.Reference4Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h c).2.2, funext fun g => nomatch g.2⟩) (Cert.Reference4Ideal.Value.run m ρ)

end Reference

instance : Subsingleton Cert.Pre_finite4.S_.Idx := ⟨fun a b => funext fun i => i.elim0⟩

/-- What the precondition says of each argument but the residual's gradient. -/
theorem finite_args [Cert.Pre_finite4.Facts] {x0 x1 x2 x3 : FVec Ideal Cert.Pre_finite4.S4096x1024 .f32}
    {x4 : FVec Ideal Cert.Pre_finite4.S1x1024 .f32} {x5 : FVec Ideal Cert.Pre_finite4.S1024x2048 .f32}
    (h : Cert.Pre_finite4.fn (F := Ideal) x0 x1 x2 x3 x4 x5 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x2 y ≠ (⊤ : EReal) ∧ x2 y ≠ (⊥ : EReal)) ∧ (∀ y, x4 y ≠ (⊤ : EReal) ∧ x4 y ≠ (⊥ : EReal))
      ∧ (∀ y, x5 y ≠ (⊤ : EReal) ∧ x5 y ≠ (⊥ : EReal)) := by
  have h' := congrFun h (Shape.Idx.first Cert.Pre_finite4.Facts.h_S_)
  dsimp only [Cert.Pre_finite4.fn, Cert.Pre_finite4.fn_part1] at h'
  obtain ⟨h', h5⟩ := IntOp.andi_eq_one.mp h'
  obtain ⟨h', h4⟩ := IntOp.andi_eq_one.mp h'
  obtain ⟨h', h2⟩ := IntOp.andi_eq_one.mp h'
  obtain ⟨h0, h1⟩ := IntOp.andi_eq_one.mp h'
  exact ⟨fun y => finite_of_lt _ (Host.reduce_andi_all _ _ _ _ _ h0 y), fun y => finite_of_lt _ (Host.reduce_andi_all _ _ _ _ _ h1 y),
    fun y => finite_of_lt _ (Host.reduce_andi_all _ _ _ _ _ h2 y), fun y => finite_of_lt _ (Host.reduce_andi_all _ _ _ _ _ h4 y),
    fun y => finite_of_lt _ (Host.reduce_andi_all _ _ _ _ _ h5 y)⟩

/-- The two results, from arguments that are finite (the residual's gradient may be anything). -/
theorem algebraic : Cert.algebraic_Kernel4Ideal_Reference4Ideal_pre_finite4 (hKernel4Ideal := Cert.Kernel4Ideal.Gen.facts)
    (hReference4Ideal := Cert.Reference4Ideal.Gen.facts) (hPre_finite4 := Cert.Pre_finite4.Gen.facts) := by
  intro m g m' g' hpre hagree
  have real : ∀ c : Dev Cert.Kernel4Ideal.nD, ∃ (X D E : ℕ → ℕ → ℝ) (G : ℕ → ℝ) (W : ℕ → ℕ → ℝ),
      (m ((c.tc : Thread Cert.Kernel4Ideal.nD Cert.Kernel4Ideal.τ).loc Cert.Kernel4Ideal.main_arg0) : Cert.Kernel4Ideal.S4096x1024.Idx → EReal) = vecN X
      ∧ (m ((c.tc : Thread Cert.Kernel4Ideal.nD Cert.Kernel4Ideal.τ).loc Cert.Kernel4Ideal.main_arg1) : Cert.Kernel4Ideal.S4096x1024.Idx → EReal) = vecN D
      ∧ (m ((c.tc : Thread Cert.Kernel4Ideal.nD Cert.Kernel4Ideal.τ).loc Cert.Kernel4Ideal.main_arg2) : Cert.Kernel4Ideal.S4096x1024.Idx → EReal) = vecN E
      ∧ (m ((c.tc : Thread Cert.Kernel4Ideal.nD Cert.Kernel4Ideal.τ).loc Cert.Kernel4Ideal.main_arg4) : Cert.Kernel4Ideal.S1x1024.Idx → EReal) = (vecN fun _ k => G k)
      ∧ (m ((c.tc : Thread Cert.Kernel4Ideal.nD Cert.Kernel4Ideal.τ).loc Cert.Kernel4Ideal.main_arg5) : Cert.Kernel4Ideal.S1024x2048.Idx → EReal) = vecN W := by
    intro c
    obtain ⟨f0, f1, f2, f4, f5⟩ := finite_args (hpre c)
    obtain ⟨G, hG⟩ := eq_row _ f4
    exact ⟨_, _, _, G, _, eq_vecN _ f0, eq_vecN _ f1, eq_vecN _ f2, hG, eq_vecN _ f5⟩
  choose X D E G W h0 h1 h2 h4 h5 using real
  refine ⟨fun c => total 2048 (X c) (join (D c) (E c)) (G c) (W c) (res m c), fun c => vecN fun _ k => dG 2048 (X c) (join (D c) (E c)) (W c) k, ?_, ?_⟩
  · refine (θ_run _ _ _).mono (fun r h c => ?_) (Cert.Kernel4Ideal.Value.run_blocks m g)
    obtain ⟨r0, r1, hargs⟩ := h c
    exact ⟨r0.trans (final_dx m c (h0 c) (h1 c) (h2 c) (h4 c) (h5 c)), r1.trans (final_dg m c (h0 c) (h1 c) (h2 c) (h5 c)), hargs⟩
  · refine (θ_run _ _ _).mono (fun r h c => ?_) (Cert.Reference4Ideal.Value.run m' g')
    have a0 : m' ((c.tc : Thread Cert.Reference4Ideal.nD Cert.Reference4Ideal.τ).loc Cert.Reference4Ideal.main_arg0) = argX (X c) := (hagree c).1.trans (h0 c)
    have a1 : m' ((c.tc : Thread Cert.Reference4Ideal.nD Cert.Reference4Ideal.τ).loc Cert.Reference4Ideal.main_arg1) = argX (D c) := (hagree c).2.1.trans (h1 c)
    have a2 : m' ((c.tc : Thread Cert.Reference4Ideal.nD Cert.Reference4Ideal.τ).loc Cert.Reference4Ideal.main_arg2) = argX (E c) := (hagree c).2.2.1.trans (h2 c)
    have a3 := (hagree c).2.2.2.1
    have a4 : m' ((c.tc : Thread Cert.Reference4Ideal.nD Cert.Reference4Ideal.τ).loc Cert.Reference4Ideal.main_arg4) = argG (G c) := (hagree c).2.2.2.2.1.trans (h4 c)
    have a5 : m' ((c.tc : Thread Cert.Reference4Ideal.nD Cert.Reference4Ideal.τ).loc Cert.Reference4Ideal.main_arg5) = argW (W c) := (hagree c).2.2.2.2.2.trans (h5 c)
    obtain ⟨r0, r1, hargs⟩ := h c
    refine ⟨?_, ?_, hargs⟩
    · refine r0.trans ((Cert.Reference4Ideal.Read.val_main_v43_eq _ _).trans ?_)
      rw [a0, a1, a2, a3, a4, a5]; exact ref_v43 _ _ _ _ _ _
    · refine r1.trans ((Cert.Reference4Ideal.Read.val_main_v42_eq _ _ _ _).trans ?_)
      rw [a0, a1, a2, a5]; exact ref_v42 _ _ _ _

end RgIn

end
-- ==== Proof.Head.Spec.lean ====
/- The last multilayer block with the loss, on real numbers: the block's result, the loss's error, its gradient at the block's result and at
   the last norm's gain, and the loss. Rows are tokens; matrices are addressed by plain numbers. -/
module

public import proofs.«01_k».proof.Proof.Mlp.Spec

@[expose] public section

noncomputable section

namespace Head

open Reals Norm Mlp

variable (x : ℕ → ℕ → ℝ) (g : ℕ → ℝ) (u w s : ℕ → ℕ → ℝ) (q : ℕ → ℝ)

/-- The block's normed input. -/
def hn (t k : ℕ) : ℝ := xh 1024 (x t) k * g k

/-- One unit's part of the block's result: the square of the positive part, times the weight. -/
def uT (t k f : ℕ) : ℝ := max (hid x g u t f) 0 * max (hid x g u t f) 0 * w f k

/-- The block's result. -/
def out (t k : ℕ) : ℝ := x t k + ∑ f : Fin 4096, uT x g u w t k f

/-- How far the normed result lies from the target. -/
def err (t k : ℕ) : ℝ := xh 1024 (out x g u w t) k * q k - s t k

/-- The loss's gradient at the block's result. -/
def dO (t k : ℕ) : ℝ := back 1024 (out x g u w t) (fun j => err x g u w s q t j * (1 / 1024) * q j) k

/-- One token's part of the gradient at the gain. -/
def qT (k t : ℕ) : ℝ := err x g u w s q t k * (1 / 1024) * xh 1024 (out x g u w t) k

/-- The gradient at the gain. -/
def dQ (k : ℕ) : ℝ := ∑ t : Fin 4096, qT x g u w s q k t

/-- One token's squared error. -/
def sq (t : ℕ) : ℝ := ∑ k : Fin 1024, err x g u w s q t k * err x g u w s q t k

/-- One token's part of the loss. -/
def lT (t : ℕ) : ℝ := 1 / 2048 * sq x g u w s q t

/-- The loss. -/
def loss : ℝ := ∑ t : Fin 4096, lT x g u w s q t

end Head

end
-- ==== Proof.Head.Block.lean ====
/- What the payloads of the last multilayer block's forward kernel, and of the loss at its end, compute on a block of 512 rows whose entries
   are reals. -/
module

public import proofs.«01_k».proof.Proof.Head.Spec
public import proofs.«01_k».proof.Proof.Gen.Kernel5Ideal.Skeleton
public import Idealize.ShloMosaic.Lib.Pointwise

@[expose] public section

noncomputable section

namespace Head

open Reals Norm
open Idealize.ShloMosaic Idealize.ShloMosaic.Pointwise Cert.Kernel5Ideal Cert.Kernel5Ideal.Gen

theorem inv1024_eq : Ideal.ofBits .f32 0x3A800000#32 = ((1 / 1024 : ℝ) : EReal) := by
  simp [Ideal.ofBits, Ideal.ieee]
  norm_num
  rw [← EReal.coe_mul]
  congr 1
  norm_num

theorem inv2048_eq : Ideal.ofBits .f32 0x3A000000#32 = ((1 / 2048 : ℝ) : EReal) := by
  simp [Ideal.ofBits, Ideal.ieee]
  norm_num
  rw [← EReal.coe_mul]
  congr 1
  norm_num

/-- The square of the positive part. -/
theorem relu_sq (a : ℝ) : max (a : EReal) 0 * max (a : EReal) 0 = ((max a 0 * max a 0 : ℝ) : EReal) := by
  rw [← EReal.coe_zero, max_coe, EReal.coe_mul]

section Block

variable {x : Vec Ideal S512x1024 .f32} {g : Vec Ideal S1x1024 .f32} {X : ℕ → ℕ → ℝ} {G : ℕ → ℝ} (ρ : ℕ)

/-- The normed input. -/
theorem pay_h (hx : ∀ r k, x (ix2 r k) = ((X (ρ + r.val) k.val : ℝ) : EReal)) (hg : ∀ k, g (ix2 0 k) = ((G k.val : ℝ) : EReal))
    (r : Fin 512) (k : Fin 1024) : k0_pay3 (F := Ideal) x g (ix2 r k) = ((hn X G (ρ + r.val) k.val : ℝ) : EReal) := by
  pointwise [k0_pay3]
  simp only [hx, hg, sum_mul_coe, eps_eq, n1024_eq, rs_row, ← EReal.coe_mul, sum_coe]
  rfl

/-- A block of the hidden layer. -/
theorem pay_a {h : FVec Ideal S512x1024 .bf16} {u : Vec Ideal S1x1024x512 .bf16} {P : Fin 512 → Fin 1024 → ℝ} {Q : Fin 1024 → Fin 512 → ℝ}
    (hh : ∀ r k, h (ix2 r k) = ((P r k : ℝ) : EReal)) (hu : ∀ k c, u (ix3 0 k c) = ((Q k c : ℝ) : EReal)) (r c : Fin 512) :
    k0_pay9 (F := Ideal) h u (ix2 r c) = ((∑ k, P r k * Q k c : ℝ) : EReal) := by
  pointwise [k0_pay9]
  simp only [hh, hu, sum_mul_coe, zero_add]

variable {h : FVec Ideal S512x1024 .bf16} {u u' u'' : Vec Ideal S1x1024x512 .bf16} {w w' w'' : Vec Ideal S512x1024 .bf16}
  {v : FVec Ideal S512x1024 .f32} {s : Fin 512 → Fin 1024 → ℝ} {A A' A'' : Fin 512 → Fin 512 → ℝ} {Q Q' Q'' : Fin 512 → Fin 1024 → ℝ}

/-- The first block's part of the result, onto the input. -/
theorem pay_first (hx : ∀ r k, x (ix2 r k) = ((s r k : ℝ) : EReal))
    (ha : ∀ r c, k0_pay9 (F := Ideal) (k0_pay3 x g) u (ix2 r c) = ((A r c : ℝ) : EReal)) (hw : ∀ c k, w (ix2 c k) = ((Q c k : ℝ) : EReal))
    (r : Fin 512) (k : Fin 1024) :
    k0_pay6 (F := Ideal) x g u w (ix2 r k) = ((s r k + ∑ c, max (A r c) 0 * max (A r c) 0 * Q c k : ℝ) : EReal) := by
  have e : k0_pay4 (F := Ideal) x g u = k0_pay9 (k0_pay3 x g) u := rfl
  pointwise [k0_pay6]
  simp only [e, hx, ha, hw, relu_sq, sum_mul_coe, zero_add, ← EReal.coe_add]

/-- Two more blocks' parts. -/
theorem pay_two (hv : ∀ r k, v (ix2 r k) = ((s r k : ℝ) : EReal))
    (ha : ∀ r c, k0_pay9 (F := Ideal) h u (ix2 r c) = ((A r c : ℝ) : EReal)) (hw : ∀ c k, w (ix2 c k) = ((Q c k : ℝ) : EReal))
    (ha' : ∀ r c, k0_pay9 (F := Ideal) h u' (ix2 r c) = ((A' r c : ℝ) : EReal)) (hw' : ∀ c k, w' (ix2 c k) = ((Q' c k : ℝ) : EReal))
    (r : Fin 512) (k : Fin 1024) :
    k0_pay11 (F := Ideal) h v (k0_pay9 h u) w u' w' (ix2 r k)
      = ((s r k + (∑ c, max (A r c) 0 * max (A r c) 0 * Q c k) + (∑ c, max (A' r c) 0 * max (A' r c) 0 * Q' c k) : ℝ) : EReal) := by
  pointwise [k0_pay11]
  simp only [hv, ha, hw, ha', hw', relu_sq, sum_mul_coe, zero_add, ← EReal.coe_add]

/-- Three more. -/
theorem pay_three (hv : ∀ r k, v (ix2 r k) = ((s r k : ℝ) : EReal))
    (ha : ∀ r c, k0_pay9 (F := Ideal) h u (ix2 r c) = ((A r c : ℝ) : EReal)) (hw : ∀ c k, w (ix2 c k) = ((Q c k : ℝ) : EReal))
    (ha' : ∀ r c, k0_pay9 (F := Ideal) h u' (ix2 r c) = ((A' r c : ℝ) : EReal)) (hw' : ∀ c k, w' (ix2 c k) = ((Q' c k : ℝ) : EReal))
    (ha'' : ∀ r c, k0_pay9 (F := Ideal) h u'' (ix2 r c) = ((A'' r c : ℝ) : EReal)) (hw'' : ∀ c k, w'' (ix2 c k) = ((Q'' c k : ℝ) : EReal))
    (r : Fin 512) (k : Fin 1024) :
    k0_pay20 (F := Ideal) h v (k0_pay14 h u) (k0_pay15 w) u' w' u'' w'' (ix2 r k)
      = ((s r k + (∑ c, max (A r c) 0 * max (A r c) 0 * Q c k) + (∑ c, max (A' r c) 0 * max (A' r c) 0 * Q' c k)
          + (∑ c, max (A'' r c) 0 * max (A'' r c) 0 * Q'' c k) : ℝ) : EReal) := by
  have e1 : k0_pay12 (F := Ideal) h u = k0_pay9 h u := rfl
  have e2 : k0_pay16 (F := Ideal) h u' = k0_pay9 h u' := rfl
  have e3 : k0_pay18 (F := Ideal) h u'' = k0_pay9 h u'' := rfl
  pointwise [k0_pay20, k0_pay14, k0_pay15]
  simp only [e1, e2, e3, hv, ha, hw, ha', hw', ha'', hw'', relu_sq, sum_mul_coe, zero_add, ← EReal.coe_add]

end Block

section Loss

variable {t v : FVec Ideal S512x1024 .f32} {q : Vec Ideal S1x1024 .f32} {ν : FVec Ideal S512x1 .f32} {Y S : ℕ → ℕ → ℝ} {Q : ℕ → ℝ} (ρ : ℕ)

/-- The mean square of a row of the result. -/
theorem pay_ms {h : FVec Ideal S512x1024 .bf16} {v' : FVec Ideal S512x1024 .f32} {p : FVec Ideal S512x512 .f32} {w w' : Vec Ideal S512x1024 .bf16}
    {u : Vec Ideal S1x1024x512 .bf16} (hv : ∀ r k, k0_pay25 (F := Ideal) h v' p w u w' (ix2 r k) = ((Y (ρ + r.val) k.val : ℝ) : EReal))
    (r : Fin 512) (z : Fin 1) :
    k0_pay28 (F := Ideal) h v' p w u w' (ix2 r z) = Ideal.div ((∑ k : Fin 1024, Y (ρ + r.val) k * Y (ρ + r.val) k : ℝ) : EReal) (((1024 : ℕ) : ℝ) : EReal) := by
  pointwise [k0_pay28]
  simp only [hv, sum_mul_coe, n1024_eq]

theorem pay_rs (hv : ∀ r k, v (ix2 r k) = ((Y (ρ + r.val) k.val : ℝ) : EReal)) (r : Fin 512) (z : Fin 1) :
    k0_pay32 (F := Ideal) v (ix2 r z) = ((rs 1024 (Y (ρ + r.val)) : ℝ) : EReal) := by
  pointwise [k0_pay32]
  simp only [hv, sum_mul_coe, eps_eq, n1024_eq, rs_row]

theorem pay_xh (hv : ∀ r k, v (ix2 r k) = ((Y (ρ + r.val) k.val : ℝ) : EReal)) (r : Fin 512) (k : Fin 1024) :
    k0_pay33 (F := Ideal) v (ix2 r k) = ((xh 1024 (Y (ρ + r.val)) k.val : ℝ) : EReal) := by
  have h := pay_rs ρ hv
  pointwise [k0_pay33]
  simp only [hv, h, ← EReal.coe_mul]
  rfl

variable (hv : ∀ r k, v (ix2 r k) = ((Y (ρ + r.val) k.val : ℝ) : EReal)) (ht : ∀ r k, t (ix2 r k) = ((S (ρ + r.val) k.val : ℝ) : EReal))
  (hq : ∀ k, q (ix2 0 k) = ((Q k.val : ℝ) : EReal))
  (hm : ∀ r z, ν (ix2 r z) = Ideal.div ((∑ k : Fin 1024, Y (ρ + r.val) k * Y (ρ + r.val) k : ℝ) : EReal) (((1024 : ℕ) : ℝ) : EReal))

include hv ht hq hm in
/-- The error. -/
theorem pay_err (r : Fin 512) (k : Fin 1024) :
    k0_pay30 (F := Ideal) v t q ν k0_pay29 (ix2 r k) = ((xh 1024 (Y (ρ + r.val)) k.val * Q k.val - S (ρ + r.val) k.val : ℝ) : EReal) := by
  pointwise [k0_pay30, k0_pay29]
  simp only [hv, ht, hq, hm, eps_eq, rs_row, ← EReal.coe_mul, ← EReal.coe_sub]
  rfl

include hv ht hq hm in
/-- The loss's gradient at the result. -/
theorem pay_do (r : Fin 512) (k : Fin 1024) :
    k0_pay35 (F := Ideal) v t q ν k0_pay29 (ix2 r k)
      = ((back 1024 (Y (ρ + r.val)) (fun j => (xh 1024 (Y (ρ + r.val)) j * Q j - S (ρ + r.val) j) * (1 / 1024) * Q j) k.val : ℝ) : EReal) := by
  have he := pay_err ρ hv ht hq hm
  have hr := pay_rs ρ hv
  have hn := pay_xh ρ hv
  pointwise [k0_pay35, k0_pay31]
  simp only [he, hr, hn, hq, n1024_eq, inv1024_eq, ← EReal.coe_mul, sum_coe]
  rw [div_coe_coe _ _ (by norm_num)]
  simp only [← EReal.coe_mul, ← EReal.coe_sub]
  rfl

include hv ht hq hm in
/-- The block's part of the gradient at the gain, onto what was summed before. -/
theorem pay_dq (o : Vec Ideal S1x1024 .f32) (k : Fin 1024) :
    k0_pay2 (F := Ideal) (k0_pay34 v t q ν k0_pay29) o (ix2 0 k)
      = o (ix2 0 k) + ((∑ r : Fin 512, (xh 1024 (Y (ρ + r.val)) k.val * Q k.val - S (ρ + r.val) k.val) * (1 / 1024) * xh 1024 (Y (ρ + r.val)) k.val : ℝ) : EReal) := by
  have he := pay_err ρ hv ht hq hm
  have hn := pay_xh ρ hv
  pointwise [k0_pay2, k0_pay34, k0_pay31]
  simp only [he, hn, inv1024_eq, ← EReal.coe_mul, sum_coe]

include hv ht hq hm in
/-- The block's part of the loss, onto what was summed before. -/
theorem pay_loss (o : Vec Ideal S1x128 .f32) (k : Fin 128) :
    k0_pay1 (F := Ideal) (k0_pay36 o) (k0_pay37 v t q ν k0_pay29) (ix2 0 k)
      = o (ix2 0 k) + ((∑ r : Fin 512, 1 / 2048 * ∑ k : Fin 1024, (xh 1024 (Y (ρ + r.val)) k * Q k - S (ρ + r.val) k)
          * (xh 1024 (Y (ρ + r.val)) k * Q k - S (ρ + r.val) k) : ℝ) : EReal) := by
  have he := pay_err ρ hv ht hq hm
  pointwise [k0_pay1, k0_pay36, k0_pay37]
  simp only [he, inv2048_eq, ← EReal.coe_mul, sum_coe]
  rw [Finset.mul_sum]

theorem pay_zero_loss (k : Fin 128) : k0_pay26 (F := Ideal) (ix2 0 k) = (0 : EReal) := by
  pointwise [k0_pay26]

theorem pay_zero_dq (k : Fin 1024) : k0_pay27 (F := Ideal) (ix2 0 k) = (0 : EReal) := by
  pointwise [k0_pay27]

end Loss

end Head

end
-- ==== Proof.Head.Cases.lean ====
/- What the last multilayer block's forward kernel leaves in its five output blocks at one grid point. -/
module

public import proofs.«01_k».proof.Proof.Head.Block
public import proofs.«01_k».proof.Proof.Mlp.Cases
public import proofs.«01_k».proof.Proof.Gen.Kernel5Ideal.Frame

@[expose] public section

noncomputable section

namespace Head

open Reals Norm
open Idealize.ShloMosaic Idealize.ShloMosaic.Pointwise Idealize.ShloMosaic.Tactic Cert.Kernel5Ideal Cert.Kernel5Ideal.Gen

variable (c : Dev nD) (i : grid0.Coords) (arg1 : Memref sig .tc .vmem S512x1024 .f32) (harg1 : arg1.IsWhole)
  (arg2 : Memref sig .tc .vmem S1x1024 .f32) (harg2 : arg2.IsWhole) (arg3 : Memref sig .tc .vmem S8x1024x512 .bf16) (harg3 : arg3.IsWhole)
  (arg4 : Memref sig .tc .vmem S4096x1024 .bf16) (harg4 : arg4.IsWhole) (arg5 : Memref sig .tc .vmem S512x1024 .f32) (harg5 : arg5.IsWhole)
  (arg6 : Memref sig .tc .vmem S1x1024 .f32) (harg6 : arg6.IsWhole) (arg7 : Memref sig .tc .vmem S512x1024 .f32) (harg7 : arg7.IsWhole)
  (arg8 : Memref sig .tc .vmem S512x4096 .bf16) (harg8 : arg8.IsWhole) (arg9 : Memref sig .tc .vmem S512x1024 .bf16) (harg9 : arg9.IsWhole)
  (arg10 : Memref sig .tc .vmem S1x128 .f32) (harg10 : arg10.IsWhole) (arg11 : Memref sig .tc .vmem S1x1024 .f32) (harg11 : arg11.IsWhole)
  {X U W S : ℕ → ℕ → ℝ} {G Q : ℕ → ℝ} (ρ : ℕ)
  {x0 : Vec Ideal S512x1024 .f32} {x1 : Vec Ideal S1x1024 .f32} {x2 : Vec Ideal S8x1024x512 .bf16} {x3 : Vec Ideal S4096x1024 .bf16}
  {x4 : Vec Ideal S512x1024 .f32} {x5 : Vec Ideal S1x1024 .f32} (xo9 : Vec Ideal S1x128 .f32) (xo10 : Vec Ideal S1x1024 .f32)
  (hx : ∀ r k, x0 (ix2 r k) = ((X (ρ + r.val) k.val : ℝ) : EReal)) (hg : ∀ k, x1 (ix2 0 k) = ((G k.val : ℝ) : EReal))
  (hu : ∀ j k f, x2 (ix3 j k f) = ((U k.val (j.val * 512 + f.val) : ℝ) : EReal)) (hw : ∀ f k, x3 (ix2 f k) = ((W f.val k.val : ℝ) : EReal))
  (ht : ∀ r k, x4 (ix2 r k) = ((S (ρ + r.val) k.val : ℝ) : EReal)) (hq : ∀ k, x5 (ix2 0 k) = ((Q k.val : ℝ) : EReal))

include hx hg hu in
/-- One block of the hidden layer. -/
theorem a_apply (j b : ℕ) (hj : j < 8) (e : j * 512 = b) (h) (r f : Fin 512) :
    k0_pay9 (F := Ideal) (k0_pay3 x0 x1) (View.ld x2 (Rect.unit (s := S8x1024x512) ![j, 0, 0] ![1, 1024, 512] h)) (ix2 r f)
      = ((Mlp.hid X G U (ρ + r.val) (b + f.val) : ℝ) : EReal) := by
  subst e
  exact pay_a (pay_h ρ hx hg) (fun k f => (Mlp.ld_up x2 j hj h k f).trans (hu _ _ _)) r f

include hw in
theorem w_apply (b : ℕ) (hb : b + 512 ≤ 4096) (h) (f : Fin 512) (k : Fin 1024) :
    View.ld x3 (Rect.unit (s := S4096x1024) ![b, 0] ![512, 1024] h) (ix2 f k) = ((W (b + f.val) k.val : ℝ) : EReal) :=
  (Mlp.ld_down x3 b hb h f k).trans (hw _ _)

variable (X G U) in
/-- The hidden layer as the block's contents. -/
def hidVec : S512x4096.Idx → EReal := fun y => ((Mlp.hid X G U (ρ + (y 0).val) (y 1).val : ℝ) : EReal)

include hx hg hu in
theorem a_piece (j b : ℕ) (hj : j < 8) (e : j * 512 = b) (h h') (y : S512x512.Idx) :
    k0_pay9 (F := Ideal) (k0_pay3 x0 x1) (View.ld x2 (Rect.unit (s := S8x1024x512) ![j, 0, 0] ![1, 1024, 512] h)) y
      = hidVec X U G ρ ((Rect.unit (s := S512x4096) ![0, b] ![512, 512] h').emb y) := by
  rw [eq_ix2 y]
  exact (a_apply ρ hx hg hu j b hj e h (y 0) (y 1)).trans (congrArg (hidVec X U G ρ) (Mlp.emb_hid b (by omega) h' (y 0) (y 1))).symm

/-- The result as the body adds it up, but for the last two blocks. -/
def accv (x0 : Vec Ideal S512x1024 .f32) (x1 : Vec Ideal S1x1024 .f32) (x2 : Vec Ideal S8x1024x512 .bf16) (x3 : Vec Ideal S4096x1024 .bf16) :
    FVec Ideal S512x1024 .f32 :=
  k0_pay20 (k0_pay3 x0 x1)
    (k0_pay11 (k0_pay3 x0 x1)
      (k0_pay6 x0 x1 (View.ld x2 (Rect.unit ![0, 0, 0] ![1, 1024, 512] inb_S8x1024x512_S1x1024x512_0_0_0)) (View.ld x3 (Rect.unit ![0, 0] ![512, 1024] inb_S4096x1024_S512x1024_0_0)))
      (k0_pay7 x0 x1 (View.ld x2 (Rect.unit ![1, 0, 0] ![1, 1024, 512] inb_S8x1024x512_S1x1024x512_1_0_0))) (View.ld x3 (Rect.unit ![512, 0] ![512, 1024] inb_S4096x1024_S512x1024_512_0))
      (View.ld x2 (Rect.unit ![2, 0, 0] ![1, 1024, 512] inb_S8x1024x512_S1x1024x512_2_0_0)) (View.ld x3 (Rect.unit ![1024, 0] ![512, 1024] inb_S4096x1024_S512x1024_1024_0)))
    (k0_pay14 (k0_pay3 x0 x1) (View.ld x2 (Rect.unit ![3, 0, 0] ![1, 1024, 512] inb_S8x1024x512_S1x1024x512_3_0_0))) (k0_pay15 (View.ld x3 (Rect.unit ![1536, 0] ![512, 1024] inb_S4096x1024_S512x1024_1536_0)))
    (View.ld x2 (Rect.unit ![4, 0, 0] ![1, 1024, 512] inb_S8x1024x512_S1x1024x512_4_0_0)) (View.ld x3 (Rect.unit ![2048, 0] ![512, 1024] inb_S4096x1024_S512x1024_2048_0))
    (View.ld x2 (Rect.unit ![5, 0, 0] ![1, 1024, 512] inb_S8x1024x512_S1x1024x512_5_0_0)) (View.ld x3 (Rect.unit ![2560, 0] ![512, 1024] inb_S4096x1024_S512x1024_2560_0))

include hx hg hu hw in
theorem acc_apply (r : Fin 512) (k : Fin 1024) :
    k0_pay25 (F := Ideal) (k0_pay3 x0 x1) (accv x0 x1 x2 x3) (k0_pay21 (k0_pay3 x0 x1) (View.ld x2 (Rect.unit ![6, 0, 0] ![1, 1024, 512] inb_S8x1024x512_S1x1024x512_6_0_0))) (View.ld x3 (Rect.unit ![3072, 0] ![512, 1024] inb_S4096x1024_S512x1024_3072_0))
        (View.ld x2 (Rect.unit ![7, 0, 0] ![1, 1024, 512] inb_S8x1024x512_S1x1024x512_7_0_0)) (View.ld x3 (Rect.unit ![3584, 0] ![512, 1024] inb_S4096x1024_S512x1024_3584_0)) (ix2 r k)
      = ((out X G U W (ρ + r.val) k.val : ℝ) : EReal) := by
  have p := a_apply ρ hx hg hu
  have w := w_apply (x3 := x3) hw
  have h1 := pay_first hx (p 0 0 (by decide) rfl inb_S8x1024x512_S1x1024x512_0_0_0) (w 0 (by decide) inb_S4096x1024_S512x1024_0_0)
  have h2 := pay_two h1 (p 1 512 (by decide) rfl inb_S8x1024x512_S1x1024x512_1_0_0) (w 512 (by decide) inb_S4096x1024_S512x1024_512_0)
    (p 2 1024 (by decide) rfl inb_S8x1024x512_S1x1024x512_2_0_0) (w 1024 (by decide) inb_S4096x1024_S512x1024_1024_0)
  have h3 := pay_three h2 (p 3 1536 (by decide) rfl inb_S8x1024x512_S1x1024x512_3_0_0) (w 1536 (by decide) inb_S4096x1024_S512x1024_1536_0)
    (p 4 2048 (by decide) rfl inb_S8x1024x512_S1x1024x512_4_0_0) (w 2048 (by decide) inb_S4096x1024_S512x1024_2048_0)
    (p 5 2560 (by decide) rfl inb_S8x1024x512_S1x1024x512_5_0_0) (w 2560 (by decide) inb_S4096x1024_S512x1024_2560_0)
  have h4 := pay_two h3 (p 6 3072 (by decide) rfl inb_S8x1024x512_S1x1024x512_6_0_0) (w 3072 (by decide) inb_S4096x1024_S512x1024_3072_0)
    (p 7 3584 (by decide) rfl inb_S8x1024x512_S1x1024x512_7_0_0) (w 3584 (by decide) inb_S4096x1024_S512x1024_3584_0)
  refine Eq.trans ?_ ((h4 r k).trans (congrArg _ ?_))
  · rfl
  · unfold out
    rw [Mlp.sum_blocks (uT X G U W (ρ + r.val) k.val)]
    simp only [uT, add_assoc]

include hx hg hu hw ht hq in
theorem out0_A_6_apply (hc0 : cond0_0 i) (r : Fin 512) (k : Fin 1024) :
    out0_A_6 (F := Ideal) c i arg1 harg1 arg2 harg2 arg3 harg3 arg4 harg4 arg5 harg5 arg6 harg6 arg7 harg7 arg8 harg8 arg9 harg9 arg10 harg10 arg11 harg11 hc0 x0 x1 x2 x3 x4 x5
        (ix2 r k)
      = ((dO X G U W S Q (ρ + r.val) k.val : ℝ) : EReal) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11
    hc0 x0 x1 x2 x3 x4 x5)]
  unfold kernelRun0_A
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S1x1024) hz]
  have a := acc_apply ρ hx hg hu hw
  exact pay_do ρ a ht hq (pay_ms ρ a) r k

include hx hg hu in
theorem out0_A_7_apply (hc0 : cond0_0 i) (r : Fin 512) (f : Fin 4096) :
    out0_A_7 (F := Ideal) c i arg1 harg1 arg2 harg2 arg3 harg3 arg4 harg4 arg5 harg5 arg6 harg6 arg7 harg7 arg8 harg8 arg9 harg9 arg10 harg10 arg11 harg11 hc0 x0 x1 x2 x3 x4 x5
        (ix2 r f)
      = ((Mlp.hid X G U (ρ + r.val) f.val : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11
    hc0 x0 x1 x2 x3 x4 x5)]
  refine View.canon_apply_of_pieces (G := (show Vec Ideal S512x4096 .bf16 from hidVec X U G ρ)) _ ?_ (ix2 r f) (cover0_A_7 c i arg1 harg1 arg2 harg2 arg3 harg3 arg4 harg4 arg5 harg5 arg6 harg6 arg7 harg7 arg8 harg8 arg9 harg9 arg10 harg10 arg11 harg11 hc0 x0 x1 x2 x3 x4 x5 _)
  unfold kernelRun0_A
  dsimp only
  sl_unfold_words
  simp only [List.forall_mem_cons, View.readAt_eq_ld, harg1.read_unread, harg2.read_unread, harg3.read_unread, harg4.read_unread, harg5.read_unread, harg6.read_unread,
    View.ld_unit_zero (S := S512x1024) hz, View.ld_unit_zero (S := S1x1024) hz]
  have p := a_piece ρ hx hg hu
  exact ⟨p 7 3584 (by decide) rfl _ _, p 6 3072 (by decide) rfl _ _, p 5 2560 (by decide) rfl _ _, p 4 2048 (by decide) rfl _ _, p 3 1536 (by decide) rfl _ _, p 2 1024 (by decide) rfl _ _, p 1 512 (by decide) rfl _ _, p 0 0 (by decide) rfl _ _, by simp⟩

include hx hg in
theorem out0_A_8_apply (hc0 : cond0_0 i) (r : Fin 512) (k : Fin 1024) :
    out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5
        (ix2 r k)
      = ((hn X G (ρ + r.val) k.val : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11
    hc0 x0 x1 x2 x3 x4 x5)]
  unfold kernelRun0_A
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S1x1024) hz]
  exact pay_h ρ hx hg r k

include hx hg hu hw ht hq in
theorem out0_A_9_apply (hc0 : cond0_0 i) (k : Fin 128) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5
        (ix2 0 k)
      = 0 + ((∑ r : Fin 512, lT X G U W S Q (ρ + r.val) : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11
    hc0 x0 x1 x2 x3 x4 x5)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, View.readCov_eq_canon', whole_canon, View.canon_cons_unit_zero (S := S1x128) hz,
    View.ld_unit_zero (S := S512x1024) hz, View.ld_unit_zero (S := S1x1024) hz, View.ld_unit_zero (S := S1x128) hz]
  have a := acc_apply ρ hx hg hu hw
  refine (pay_loss ρ a ht hq (pay_ms ρ a) (k0_pay26 (F := Ideal)) k).trans ?_
  rw [pay_zero_loss]
  rfl

include hx hg hu hw ht hq in
theorem out0_A_10_apply (hc0 : cond0_0 i) (k : Fin 1024) :
    out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5
        (ix2 0 k)
      = 0 + ((∑ r : Fin 512, qT X G U W S Q k.val (ρ + r.val) : ℝ) : EReal) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11
    hc0 x0 x1 x2 x3 x4 x5)]
  unfold kernelRun0_A
  dsimp only
  sl_unfold_words
  rw [View.canon_cons_unit_zero (S := S1x1024) hz]
  simp only [View.readAt_eq_ld, harg1.read_unread, harg2.read_unread, harg3.read_unread, harg4.read_unread, harg5.read_unread, harg6.read_unread, View.readCov_eq_canon', whole_canon, View.canon_cons_unit_zero (S := S1x1024) hz,
    View.ld_unit_zero (S := S512x1024) hz, View.ld_unit_zero (S := S1x1024) hz]
  have a := acc_apply ρ hx hg hu hw
  refine (pay_dq ρ a ht hq (pay_ms ρ a) (k0_pay27 (F := Ideal)) k).trans ?_
  rw [pay_zero_dq]
  rfl

include hx hg hu hw ht hq in
theorem out0_B_6_apply (hc0 : ¬cond0_0 i) (r : Fin 512) (k : Fin 1024) :
    out0_B_6 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10
        (ix2 r k)
      = ((dO X G U W S Q (ρ + r.val) k.val : ℝ) : EReal) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11
    hc0 x0 x1 x2 x3 x4 x5 xo9 xo10)]
  unfold kernelRun0_B
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S1x1024) hz]
  have a := acc_apply ρ hx hg hu hw
  exact pay_do ρ a ht hq (pay_ms ρ a) r k

include hx hg hu in
theorem out0_B_7_apply (hc0 : ¬cond0_0 i) (r : Fin 512) (f : Fin 4096) :
    out0_B_7 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10
        (ix2 r f)
      = ((Mlp.hid X G U (ρ + r.val) f.val : ℝ) : EReal) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11
    hc0 x0 x1 x2 x3 x4 x5 xo9 xo10)]
  refine View.canon_apply_of_pieces (G := (show Vec Ideal S512x4096 .bf16 from hidVec X U G ρ)) _ ?_ (ix2 r f) (cover0_B_7 c i arg1 harg1 arg2 harg2 arg3 harg3 arg4 harg4 arg5 harg5 arg6 harg6 arg7 harg7 arg8 harg8 arg9 harg9 arg10 harg10 arg11 harg11 hc0 x0 x1 x2 x3 x4 x5 xo9 xo10 _)
  unfold kernelRun0_B
  dsimp only
  sl_unfold_words
  simp only [List.forall_mem_cons, View.readAt_eq_ld, harg1.read_unread, harg2.read_unread, harg3.read_unread, harg4.read_unread, harg5.read_unread, harg6.read_unread,
    View.ld_unit_zero (S := S512x1024) hz, View.ld_unit_zero (S := S1x1024) hz]
  have p := a_piece ρ hx hg hu
  exact ⟨p 7 3584 (by decide) rfl _ _, p 6 3072 (by decide) rfl _ _, p 5 2560 (by decide) rfl _ _, p 4 2048 (by decide) rfl _ _, p 3 1536 (by decide) rfl _ _, p 2 1024 (by decide) rfl _ _, p 1 512 (by decide) rfl _ _, p 0 0 (by decide) rfl _ _, by simp⟩

include hx hg in
theorem out0_B_8_apply (hc0 : ¬cond0_0 i) (r : Fin 512) (k : Fin 1024) :
    out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10
        (ix2 r k)
      = ((hn X G (ρ + r.val) k.val : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11
    hc0 x0 x1 x2 x3 x4 x5 xo9 xo10)]
  unfold kernelRun0_B
  dsimp only
  sl_unfold_words
  rw [View.canon_cons_unit_zero (S := S512x1024) hz]
  simp only [View.readAt_eq_ld, harg1.read_unread, harg2.read_unread, harg3.read_unread, harg4.read_unread, harg5.read_unread, harg6.read_unread,
    View.ld_unit_zero (S := S512x1024) hz, View.ld_unit_zero (S := S1x1024) hz]
  exact pay_h ρ hx hg r k

include hx hg hu hw ht hq in
theorem out0_B_9_apply (hc0 : ¬cond0_0 i) (k : Fin 128) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10
        (ix2 0 k)
      = xo9 (ix2 0 k) + ((∑ r : Fin 512, lT X G U W S Q (ρ + r.val) : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11
    hc0 x0 x1 x2 x3 x4 x5 xo9 xo10)]
  unfold kernelRun0_B
  dsimp only
  sl_unfold_words
  rw [View.canon_cons_unit_zero (S := S1x128) hz]
  simp only [View.readAt_eq_ld, harg1.read_unread, harg2.read_unread, harg3.read_unread, harg4.read_unread, harg5.read_unread, harg6.read_unread, harg10.read_unread,
    View.ld_unit_zero (S := S512x1024) hz, View.ld_unit_zero (S := S1x1024) hz, View.ld_unit_zero (S := S1x128) hz]
  have a := acc_apply ρ hx hg hu hw
  exact pay_loss ρ a ht hq (pay_ms ρ a) xo9 k

include hx hg hu hw ht hq in
theorem out0_B_10_apply (hc0 : ¬cond0_0 i) (k : Fin 1024) :
    out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 xo9 xo10
        (ix2 0 k)
      = xo10 (ix2 0 k) + ((∑ r : Fin 512, qT X G U W S Q k.val (ρ + r.val) : ℝ) : EReal) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11
    hc0 x0 x1 x2 x3 x4 x5 xo9 xo10)]
  unfold kernelRun0_B
  dsimp only
  sl_unfold_words
  rw [View.canon_cons_unit_zero (S := S1x1024) hz]
  simp only [View.readAt_eq_ld, harg1.read_unread, harg2.read_unread, harg3.read_unread, harg4.read_unread, harg5.read_unread, harg6.read_unread, harg11.read_unread,
    View.ld_unit_zero (S := S512x1024) hz, View.ld_unit_zero (S := S1x1024) hz]
  have a := acc_apply ρ hx hg hu hw
  exact pay_dq ρ a ht hq (pay_ms ρ a) xo10 k

end Head

end
-- ==== Proof.Head.Arrays.lean ====
/- The last multilayer block with the loss: what its windows show the kernel, and what the call's five arrays hold at the end. -/
module

public import proofs.«01_k».proof.Proof.Head.Cases
public import proofs.«01_k».proof.Proof.Gen.Kernel5Ideal.Value
public import Idealize.ShloMosaic.Lib.Pipeline.ValueKit

@[expose] public section

noncomputable section

namespace Head

open Reals Norm
open Idealize.ShloMosaic Idealize.ShloMosaic.Pointwise Idealize.ShloMosaic.Tactic Cert.Kernel5Ideal Cert.Kernel5Ideal.Gen

variable (m : ∀ ℓ : Loc nD τ sig, Buf (Elt Ideal) ℓ) (c : Dev nD) {X U W S : ℕ → ℕ → ℝ} {G Q : ℕ → ℝ}
  (h0 : (m ((c.tc : Thread nD τ).loc main_arg0) : S4096x1024.Idx → EReal) = vecN X)
  (h1 : (m ((c.tc : Thread nD τ).loc main_arg1) : S1x1024.Idx → EReal) = vecN fun _ k => G k)
  (h2 : (m ((c.tc : Thread nD τ).loc main_arg2) : S1024x4096.Idx → EReal) = vecN U)
  (h3 : (m ((c.tc : Thread nD τ).loc main_arg3) : S4096x1024.Idx → EReal) = vecN W)
  (h4 : (m ((c.tc : Thread nD τ).loc main_arg4) : S4096x1024.Idx → EReal) = vecN S)
  (h5 : (m ((c.tc : Thread nD τ).loc main_arg5) : S1x1024.Idx → EReal) = vecN fun _ k => Q k)

section Host

include h0 in
theorem entry_x : (V m c main_arg0 : S4096x1024.Idx → EReal) = vecN X := by
  rw [← h0]; show StableHlo.after hostOps0 _ (Proc.devRef .tc main_arg0) = _; after_results_simp; try rfl

include h1 in
theorem entry_g : (V m c main_arg1 : S1x1024.Idx → EReal) = vecN fun _ k => G k := by
  rw [← h1]; show StableHlo.after hostOps0 _ (Proc.devRef .tc main_arg1) = _; after_results_simp; try rfl

include h3 in
theorem entry_w : (V m c main_v3 : S4096x1024.Idx → EReal) = vecN W := by
  rw [← h3]; show StableHlo.after hostOps0 _ (Proc.devRef .tc main_v3) = _; after_results_simp; try rfl

include h4 in
theorem entry_s : (V m c main_arg4 : S4096x1024.Idx → EReal) = vecN S := by
  rw [← h4]; show StableHlo.after hostOps0 _ (Proc.devRef .tc main_arg4) = _; after_results_simp; try rfl

include h5 in
theorem entry_q : (V m c main_arg5 : S1x1024.Idx → EReal) = vecN fun _ k => Q k := by
  rw [← h5]; show StableHlo.after hostOps0 _ (Proc.devRef .tc main_arg5) = _; after_results_simp; try rfl

include h2 in
theorem entry_u (y : S8x1024x512.Idx) : (V m c main_v2 : S8x1024x512.Idx → EReal) y = ((U (y 1).val ((y 0).val * 512 + (y 2).val) : ℝ) : EReal) := by
  show StableHlo.after hostOps0 _ (Proc.devRef .tc main_v2) y = _
  after_results_simp
  rw [show m (c, Proc.tc.devRef main_arg2) = vecN U from h2]
  pointwise
  rfl

end Host

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)

theorem flush0_9 : ∀ t : Fin cfg0.N, (cfg0.win 9).flush t = true → t.val = 7 := (by decide +kernel : ∀ t : Fin grid0.N, _)
theorem flush0_10 : ∀ t : Fin cfg0.N, (cfg0.win 10).flush t = true → t.val = 7 := (by decide +kernel : ∀ t : Fin grid0.N, _)

include h0 in
theorem iblk_x (t : Fin cfg0.N) (r : Fin 512) (k : Fin 1024) :
    (iblk m c 0 t : Vec Ideal S512x1024 .f32) (ix2 r k) = ((X (t.val * 512 + r.val) k.val : ℝ) : EReal) := by
  blk_simp [iblk]
  rw [entry_x m c h0]
  exact vecN_eq _ _ _ _ (by blk_simp [idx0_0]) (by blk_simp [idx0_0])

include h1 in
theorem iblk_g (t : Fin cfg0.N) (k : Fin 1024) : (iblk m c 1 t : Vec Ideal S1x1024 .f32) (ix2 0 k) = ((G k.val : ℝ) : EReal) := by
  blk_simp [iblk]
  rw [entry_g m c h1]
  exact vecN_eq _ _ 0 _ (by blk_simp [idx0_1]; rfl) (by blk_simp [idx0_1])

include h2 in
theorem iblk_u (t : Fin cfg0.N) (j : Fin 8) (k : Fin 1024) (f : Fin 512) :
    (iblk m c 2 t : Vec Ideal S8x1024x512 .bf16) (ix3 j k f) = ((U k.val (j.val * 512 + f.val) : ℝ) : EReal) := by
  blk_simp [iblk]
  refine (entry_u m c h2 _).trans (congrArg Real.toEReal (congrArg₂ U ?_ (congrArg₂ (fun a b => a * 512 + b) ?_ ?_)))
  · blk_simp [idx0_2]
  · blk_simp [idx0_2]
  · blk_simp [idx0_2]

include h3 in
theorem iblk_w (t : Fin cfg0.N) (f : Fin 4096) (k : Fin 1024) :
    (iblk m c 3 t : Vec Ideal S4096x1024 .bf16) (ix2 f k) = ((W f.val k.val : ℝ) : EReal) := by
  blk_simp [iblk]
  rw [entry_w m c h3]
  exact vecN_eq _ _ _ _ (by blk_simp [idx0_3]) (by blk_simp [idx0_3])

include h4 in
theorem iblk_s (t : Fin cfg0.N) (r : Fin 512) (k : Fin 1024) :
    (iblk m c 4 t : Vec Ideal S512x1024 .f32) (ix2 r k) = ((S (t.val * 512 + r.val) k.val : ℝ) : EReal) := by
  blk_simp [iblk]
  rw [entry_s m c h4]
  exact vecN_eq _ _ _ _ (by blk_simp [idx0_4]) (by blk_simp [idx0_4])

include h5 in
theorem iblk_q (t : Fin cfg0.N) (k : Fin 1024) : (iblk m c 5 t : Vec Ideal S1x1024 .f32) (ix2 0 k) = ((Q k.val : ℝ) : EReal) := by
  blk_simp [iblk]
  rw [entry_q m c h5]
  exact vecN_eq _ _ 0 _ (by blk_simp [idx0_5]; rfl) (by blk_simp [idx0_5])

include h0 h1 h2 h3 h4 h5 in
/-- What a point leaves in the block of the loss's gradient at the block's result. -/
theorem at_do (t : Fin cfg0.N) (r : Fin 512) (k : Fin 1024) :
    (outsAt0 m c t.val t.isLt).1 (ix2 r k) = ((dO X G U W S Q (t.val * 512 + r.val) k.val : ℝ) : EReal) := by
  by_cases h : t.val % 8 = 0
  · rw [outsAt0_A m c t h]
    dsimp only
    exact out0_A_6_apply (hx := iblk_x m c h0 t) (hg := iblk_g m c h1 t) (hu := iblk_u m c h2 t) (hw := iblk_w m c h3 t) (ht := iblk_s m c h4 t) (hq := iblk_q m c h5 t) (r := r) (k := k) ..
  · rw [outsAt0_B m c t h]
    dsimp only
    exact out0_B_6_apply (hx := iblk_x m c h0 t) (hg := iblk_g m c h1 t) (hu := iblk_u m c h2 t) (hw := iblk_w m c h3 t) (ht := iblk_s m c h4 t) (hq := iblk_q m c h5 t) (r := r) (k := k) ..

include h0 h1 h2 in
/-- What a point leaves in the block of the hidden layer. -/
theorem at_a (t : Fin cfg0.N) (r : Fin 512) (f : Fin 4096) :
    (outsAt0 m c t.val t.isLt).2.1 (ix2 r f) = ((Mlp.hid X G U (t.val * 512 + r.val) f.val : ℝ) : EReal) := by
  by_cases h : t.val % 8 = 0
  · rw [outsAt0_A m c t h]
    dsimp only
    exact out0_A_7_apply (hx := iblk_x m c h0 t) (hg := iblk_g m c h1 t) (hu := iblk_u m c h2 t) (r := r) (f := f) ..
  · rw [outsAt0_B m c t h]
    dsimp only
    exact out0_B_7_apply (hx := iblk_x m c h0 t) (hg := iblk_g m c h1 t) (hu := iblk_u m c h2 t) (r := r) (f := f) ..

include h0 h1 in
/-- What a point leaves in the block of the normed input. -/
theorem at_h (t : Fin cfg0.N) (r : Fin 512) (k : Fin 1024) :
    (outsAt0 m c t.val t.isLt).2.2.1 (ix2 r k) = ((hn X G (t.val * 512 + r.val) k.val : ℝ) : EReal) := by
  by_cases h : t.val % 8 = 0
  · rw [outsAt0_A m c t h]
    dsimp only
    exact out0_A_8_apply (hx := iblk_x m c h0 t) (hg := iblk_g m c h1 t) (r := r) (k := k) ..
  · rw [outsAt0_B m c t h]
    dsimp only
    exact out0_B_8_apply (hx := iblk_x m c h0 t) (hg := iblk_g m c h1 t) (r := r) (k := k) ..

include h0 h1 h2 h3 h4 h5 in
/-- What a point leaves in the loss: the rows summed so far. -/
theorem at_loss : ∀ (n : ℕ) (hn : n < cfg0.N) (k : Fin 128),
    (outsAt0 m c n hn).2.2.2.1 (ix2 0 k) = ((∑ t ∈ Finset.range ((n + 1) * 512), lT X G U W S Q t : ℝ) : EReal) := by
  intro n
  induction n using Nat.strong_induction_on with
  | _ n ih =>
    intro hn k
    have hN : n < 8 := hn
    rw [Mlp.sum_rows, EReal.coe_add]
    by_cases h : n % 8 = 0
    · have e : n = 0 := by omega
      subst e
      rw [outsAt0_A m c ⟨0, hn⟩ h, zero_mul, Finset.range_zero, Finset.sum_empty, EReal.coe_zero]
      dsimp only
      exact out0_A_9_apply (hx := iblk_x m c h0 ⟨0, hn⟩) (hg := iblk_g m c h1 ⟨0, hn⟩) (hu := iblk_u m c h2 ⟨0, hn⟩)
        (hw := iblk_w m c h3 ⟨0, hn⟩) (ht := iblk_s m c h4 ⟨0, hn⟩) (hq := iblk_q m c h5 ⟨0, hn⟩) (k := k) ..
    · have e := ih (n - 1) (by omega) (by omega) k
      rw [show n - 1 + 1 = n by omega] at e
      rw [outsAt0_B m c ⟨n, hn⟩ h, ← e]
      dsimp only
      exact out0_B_9_apply (hx := iblk_x m c h0 ⟨n, hn⟩) (hg := iblk_g m c h1 ⟨n, hn⟩) (hu := iblk_u m c h2 ⟨n, hn⟩)
        (hw := iblk_w m c h3 ⟨n, hn⟩) (ht := iblk_s m c h4 ⟨n, hn⟩) (hq := iblk_q m c h5 ⟨n, hn⟩) (k := k) ..

include h0 h1 h2 h3 h4 h5 in
/-- What a point leaves in the gradient at the last norm's gain: the rows summed so far. -/
theorem at_dq : ∀ (n : ℕ) (hn : n < cfg0.N) (k : Fin 1024),
    (outsAt0 m c n hn).2.2.2.2 (ix2 0 k) = ((∑ t ∈ Finset.range ((n + 1) * 512), qT X G U W S Q k.val t : ℝ) : EReal) := by
  intro n
  induction n using Nat.strong_induction_on with
  | _ n ih =>
    intro hn k
    have hN : n < 8 := hn
    rw [Mlp.sum_rows, EReal.coe_add]
    by_cases h : n % 8 = 0
    · have e : n = 0 := by omega
      subst e
      rw [outsAt0_A m c ⟨0, hn⟩ h, zero_mul, Finset.range_zero, Finset.sum_empty, EReal.coe_zero]
      dsimp only
      exact out0_A_10_apply (hx := iblk_x m c h0 ⟨0, hn⟩) (hg := iblk_g m c h1 ⟨0, hn⟩) (hu := iblk_u m c h2 ⟨0, hn⟩)
        (hw := iblk_w m c h3 ⟨0, hn⟩) (ht := iblk_s m c h4 ⟨0, hn⟩) (hq := iblk_q m c h5 ⟨0, hn⟩) (k := k) ..
    · have e := ih (n - 1) (by omega) (by omega) k
      rw [show n - 1 + 1 = n by omega] at e
      rw [outsAt0_B m c ⟨n, hn⟩ h, ← e]
      dsimp only
      exact out0_B_10_apply (hx := iblk_x m c h0 ⟨n, hn⟩) (hg := iblk_g m c h1 ⟨n, hn⟩) (hu := iblk_u m c h2 ⟨n, hn⟩)
        (hw := iblk_w m c h3 ⟨n, hn⟩) (ht := iblk_s m c h4 ⟨n, hn⟩) (hq := iblk_q m c h5 ⟨n, hn⟩) (k := k) ..

include h0 h1 h2 h3 h4 h5 in
theorem final_do : ((dats m 0 c).arrAt 6 cfg0.N : S4096x1024.Idx → EReal) = vecN (dO X G U W S Q) := by
  refine (dats m 0 c).arrAt_eq_of_covers 6 _ (by decide +kernel) fun t hf y => ?_
  blk_simp
  rw [after0_6, eq_ix2 y]
  refine (at_do m c h0 h1 h2 h3 h4 h5 t (y 0) (y 1)).trans ?_
  exact (vecN_eq _ _ _ _ (by blk_simp [idx0_6]) (by blk_simp [idx0_6])).symm

include h0 h1 h2 in
theorem final_a : ((dats m 0 c).arrAt 7 cfg0.N : S4096x4096.Idx → EReal) = vecN (Mlp.hid X G U) := by
  refine (dats m 0 c).arrAt_eq_of_covers 7 _ (by decide +kernel) fun t hf y => ?_
  blk_simp
  rw [after0_7, eq_ix2 y]
  refine (at_a m c h0 h1 h2 t (y 0) (y 1)).trans ?_
  exact (vecN_eq _ _ _ _ (by blk_simp [idx0_7]) (by blk_simp [idx0_7])).symm

include h0 h1 in
theorem final_h : ((dats m 0 c).arrAt 8 cfg0.N : S4096x1024.Idx → EReal) = vecN (hn X G) := by
  refine (dats m 0 c).arrAt_eq_of_covers 8 _ (by decide +kernel) fun t hf y => ?_
  blk_simp
  rw [after0_8, eq_ix2 y]
  refine (at_h m c h0 h1 t (y 0) (y 1)).trans ?_
  exact (vecN_eq _ _ _ _ (by blk_simp [idx0_8]) (by blk_simp [idx0_8])).symm

include h0 h1 h2 h3 h4 h5 in
theorem final_loss : ((dats m 0 c).arrAt 9 cfg0.N : S1x128.Idx → EReal) = vecN fun _ _ => loss X G U W S Q := by
  refine (dats m 0 c).arrAt_eq_of_covers 9 _ (by decide +kernel) fun t hf y => ?_
  blk_simp
  obtain ⟨z, k, rfl⟩ : ∃ (z : Fin 1) (k : Fin 128), y = ix2 z k := ⟨y 0, y 1, eq_ix2 y⟩
  obtain rfl : z = 0 := Subsingleton.elim z 0
  rw [after0_9]
  refine (at_loss m c h0 h1 h2 h3 h4 h5 t.val t.isLt k).trans ?_
  rw [flush0_9 t hf]
  refine Eq.trans (congrArg Real.toEReal ?_) (vecN_eq _ _ 0 k.val (by blk_simp [idx0_9]; rfl) (by blk_simp [idx0_9])).symm
  exact (Fin.sum_univ_eq_sum_range (lT X G U W S Q) 4096).symm

include h0 h1 h2 h3 h4 h5 in
theorem final_dq : ((dats m 0 c).arrAt 10 cfg0.N : S1x1024.Idx → EReal) = vecN fun _ k => dQ X G U W S Q k := by
  refine (dats m 0 c).arrAt_eq_of_covers 10 _ (by decide +kernel) fun t hf y => ?_
  blk_simp
  obtain ⟨z, k, rfl⟩ : ∃ (z : Fin 1) (k : Fin 1024), y = ix2 z k := ⟨y 0, y 1, eq_ix2 y⟩
  obtain rfl : z = 0 := Subsingleton.elim z 0
  rw [after0_10]
  refine (at_dq m c h0 h1 h2 h3 h4 h5 t.val t.isLt k).trans ?_
  rw [flush0_10 t hf]
  refine Eq.trans (congrArg Real.toEReal ?_) (vecN_eq _ _ 0 k.val (by blk_simp [idx0_10]; rfl) (by blk_simp [idx0_10])).symm
  exact (Fin.sum_univ_eq_sum_range (qT X G U W S Q k.val) 4096).symm

end Head

end
-- ==== Proof.Head.Ref.lean ====
/- The reference of the last multilayer block with the loss, on arguments that are matrices of reals. -/
module

public import proofs.«01_k».proof.Proof.Head.Spec
public import proofs.«01_k».proof.Proof.Gen.Reference5Ideal.Read

@[expose] public section

noncomputable section

namespace Head

open Reals Norm
open Idealize.ShloMosaic Idealize.ShloMosaic.Pointwise Cert.Reference5Ideal Cert.Reference5Ideal.Gen Cert.Reference5Ideal.Read

def argX (X : ℕ → ℕ → ℝ) : (⟨S4096x1024, .f32⟩ : BufTy).Contents (Elt Ideal) := vecN X
def argG (G : ℕ → ℝ) : (⟨S1x1024, .f32⟩ : BufTy).Contents (Elt Ideal) := vecN fun _ k => G k
def argU (U : ℕ → ℕ → ℝ) : (⟨S1024x4096, .f32⟩ : BufTy).Contents (Elt Ideal) := vecN U

variable (X U W S : ℕ → ℕ → ℝ) (G Q : ℕ → ℝ)

theorem argX_at (t : Fin 4096) (k : Fin 1024) : argX X (ix2 t k) = ((X t.val k.val : ℝ) : EReal) := rfl
theorem argG_at (z : Fin 1) (k : Fin 1024) : argG G (ix2 z k) = ((G k.val : ℝ) : EReal) := rfl
theorem argU_at (k : Fin 1024) (f : Fin 4096) : argU U (ix2 k f) = ((U k.val f.val : ℝ) : EReal) := rfl

theorem half_eq : Ideal.ofBits .f32 0x3F000000#32 = ((1 / 2 : ℝ) : EReal) := by
  simp [Ideal.ofBits, Ideal.ieee]
  norm_num
  rw [← EReal.coe_mul]
  congr 1
  norm_num

theorem one_eq : Ideal.ofBits .f32 0x3F800000#32 = ((1 : ℝ) : EReal) := by
  simp [Ideal.ofBits, Ideal.ieee]
  rw [← EReal.coe_mul, ← EReal.coe_one]
  congr 1
  norm_num

theorem ref_h (t : Fin 4096) (k : Fin 1024) :
    val_main_v13 (F := Ideal) (argX X) (argG G) (ix2 t k) = ((hn X G t.val k.val : ℝ) : EReal) := by
  pointwise [val_main_v13, val_main_v12, val_main_v11, val_main_v10, val_main_v9, val_main_v8, val_main_v7, val_main_v6, val_main_cst_1,
    val_main_v5, val_main_v4, val_main_cst_0, val_main_v3, val_main_v2, val_main_cst, val_main_v1, val_main_v0]
  simp only [argX_at, argG_at, sum_mul_coe, eps_eq, n1024_eq, zero_add, rs_row, ← EReal.coe_mul, sum_coe]
  rfl

theorem ref_hid (t : Fin 4096) (f : Fin 4096) :
    val_main_v14 (F := Ideal) (argX X) (argG G) (argU U) (ix2 t f) = ((Mlp.hid X G U t.val f.val : ℝ) : EReal) := by
  have h := ref_h X G
  pointwise [val_main_v14]
  simp only [argU_at, h, sum_mul_coe]
  rfl

theorem ref_out (t : Fin 4096) (k : Fin 1024) :
    val_main_v18 (F := Ideal) (argX X) (argG G) (argU U) (argX W) (ix2 t k) = ((out X G U W t.val k.val : ℝ) : EReal) := by
  have h := ref_hid X U G
  pointwise [val_main_v18, val_main_v17, val_main_v16, val_main_v15, val_main_call0_v0, val_main_call0_cst]
  simp only [argX_at, h]
  simp only [← EReal.coe_zero, max_coe, ← EReal.coe_mul, sum_coe, ← EReal.coe_add]
  rfl

theorem ref_ms (t : Fin 4096) (z : Fin 1) :
    val_main_v26 (F := Ideal) (argX X) (argG G) (argU U) (argX W) (ix2 t z) = ((ms 1024 (out X G U W t.val) : ℝ) : EReal) := by
  have h := ref_out X U W G
  pointwise [val_main_v26, val_main_v25, val_main_cst_4, val_main_v24, val_main_v23, val_main_cst_3, val_main_v22, val_main_v21,
    val_main_cst_2, val_main_v20]
  simp only [h, sum_mul_coe, eps_eq, n1024_eq, zero_add]
  rw [div_coe_coe _ _ (by norm_num), ← EReal.coe_add]
  rfl

theorem ref_rs (t : Fin 4096) (z : Fin 1) :
    val_main_v27 (F := Ideal) (argX X) (argG G) (argU U) (argX W) (ix2 t z) = ((rs 1024 (out X G U W t.val) : ℝ) : EReal) := by
  have h := ref_ms X U W G
  pointwise [val_main_v27]
  simp only [h, rs_coe]

theorem ref_xh (t : Fin 4096) (k : Fin 1024) :
    val_main_v32 (F := Ideal) (argX X) (argG G) (argU U) (argX W) (ix2 t k) = ((xh 1024 (out X G U W t.val) k.val : ℝ) : EReal) := by
  have h := ref_rs X U W G
  have ho := ref_out X U W G
  pointwise [val_main_v32, val_main_v31]
  simp only [ho, h, ← EReal.coe_mul]
  rfl

theorem ref_err (t : Fin 4096) (k : Fin 1024) :
    val_main_v36 (F := Ideal) (argX X) (argG G) (argU U) (argX W) (argX S) (argG Q) (ix2 t k) = ((err X G U W S Q t.val k.val : ℝ) : EReal) := by
  have h := ref_xh X U W G
  pointwise [val_main_v36, val_main_v35, val_main_v34, val_main_v33, val_main_v19]
  simp only [h, argX_at, argG_at, ← EReal.coe_mul, ← EReal.coe_sub]
  rfl

theorem ref_loss (k : Fin 128) :
    val_main_v74 (F := Ideal) (argX X) (argG G) (argU U) (argX W) (argX S) (argG Q) (ix2 0 k) = ((loss X G U W S Q : ℝ) : EReal) := by
  have h := ref_err X U W S G Q
  pointwise [val_main_v74, val_main_v44, val_main_cst_10, val_main_v43, val_main_cst_9, val_main_v42, val_main_v41, val_main_cst_8, val_main_v40,
    val_main_cst_7, val_main_v37]
  simp only [h, half_eq, n1024_eq, zero_add, sum_mul_coe, div_coe_coe _ _ (show ((1024 : ℕ) : ℝ) ≠ 0 by norm_num), sum_coe, ← EReal.coe_mul]
  refine congrArg Real.toEReal ?_
  unfold loss
  rw [Finset.mul_sum]
  refine Finset.sum_congr rfl fun t _ => ?_
  unfold lT sq
  push_cast
  ring

/-- The loss's gradient at the normed result. -/
theorem ref_derr (t : Fin 4096) (k : Fin 1024) :
    val_main_v50 (F := Ideal) (argX X) (argG G) (argU U) (argX W) (argX S) (argG Q) (ix2 t k)
      = ((err X G U W S Q t.val k.val * (1 / 1024) : ℝ) : EReal) := by
  have h := ref_err X U W S G Q
  pointwise [val_main_v50, val_main_v49, val_main_v48, val_main_v47, val_main_cst_13, val_main_v46, val_main_v45, val_main_cst_11,
    val_main_cst_12, val_main_v39, val_main_v38, val_main_cst_6]
  simp only [h, half_eq, one_eq, two_eq, n1024_eq, ← EReal.coe_mul, div_coe_coe _ _ (show ((1024 : ℕ) : ℝ) ≠ 0 by norm_num)]
  refine congrArg Real.toEReal ?_
  push_cast
  ring

theorem ref_dq (k : Fin 1024) :
    val_main_v71 (F := Ideal) (argX X) (argG G) (argU U) (argX W) (argX S) (argG Q) (ix2 0 k) = ((dQ X G U W S Q k.val : ℝ) : EReal) := by
  have h := ref_derr X U W S G Q
  have h' := ref_xh X U W G
  pointwise [val_main_v71, val_main_v56, val_main_cst_15, val_main_v53, val_main_v52, val_main_cst_14, val_main_v51]
  simp only [Fin.sum_univ_one, h, h', sum_mul_coe]
  refine congrArg Real.toEReal (Finset.sum_congr rfl fun t _ => ?_)
  unfold qT
  ring

theorem ref_do (t : Fin 4096) (k : Fin 1024) :
    val_main_v70 (F := Ideal) (argX X) (argG G) (argU U) (argX W) (argX S) (argG Q) (ix2 t k) = ((dO X G U W S Q t.val k.val : ℝ) : EReal) := by
  have h := ref_derr X U W S G Q
  have h' := ref_rs X U W G
  have hm := ref_ms X U W G
  have ho := ref_out X U W G
  pointwise [val_main_v70, val_main_v69, val_main_v68, val_main_v67, val_main_v66, val_main_v65, val_main_v64, val_main_v63, val_main_v62,
    val_main_v61, val_main_v60, val_main_v59, val_main_v58, val_main_v57, val_main_v55, val_main_v54, val_main_v33, val_main_v19,
    val_main_v30, val_main_v29, val_main_v28, val_main_cst_5, val_main_cst_16, val_main_cst_17, val_main_cst_18]
  simp only [Fin.sum_univ_one, argG_at, h, h', hm, ho, neg_half_eq, n1024_eq, div_coe_coe _ _ (ms_pos _ _).ne', ← EReal.coe_mul, sum_coe]
  rw [div_coe_coe _ _ (by norm_num)]
  simp only [← EReal.coe_mul, ← EReal.coe_add]
  unfold dO
  rw [← back_eq]

theorem ref_v70 : val_main_v70 (F := Ideal) (argX X) (argG G) (argU U) (argX W) (argX S) (argG Q) = vecN (dO X G U W S Q) := by
  funext y
  exact (congrArg _ (eq_ix2 y)).trans (ref_do X U W S G Q (y 0) (y 1))

theorem ref_v72 : val_main_v72 (F := Ideal) (argX X) (argG G) (argU U) = vecN (Mlp.hid X G U) := by
  funext y
  exact (congrArg (val_main_v14 (F := Ideal) (argX X) (argG G) (argU U)) (eq_ix2 y)).trans (ref_hid X U G (y 0) (y 1))

theorem ref_v73 : val_main_v73 (F := Ideal) (argX X) (argG G) = vecN (hn X G) := by
  funext y
  exact (congrArg (val_main_v13 (F := Ideal) (argX X) (argG G)) (eq_ix2 y)).trans (ref_h X G (y 0) (y 1))

theorem ref_v74 : val_main_v74 (F := Ideal) (argX X) (argG G) (argU U) (argX W) (argX S) (argG Q) = vecN fun _ _ => loss X G U W S Q := by
  funext y
  obtain ⟨z, k, rfl⟩ : ∃ (z : Fin 1) (k : Fin 128), y = ix2 z k := ⟨y 0, y 1, eq_ix2 y⟩
  obtain rfl : z = 0 := Subsingleton.elim z 0
  exact ref_loss X U W S G Q k

theorem ref_v71 : val_main_v71 (F := Ideal) (argX X) (argG G) (argU U) (argX W) (argX S) (argG Q) = vecN fun _ k => dQ X G U W S Q k := by
  funext y
  obtain ⟨z, k, rfl⟩ : ∃ (z : Fin 1) (k : Fin 1024), y = ix2 z k := ⟨y 0, y 1, eq_ix2 y⟩
  obtain rfl : z = 0 := Subsingleton.elim z 0
  exact ref_dq X U W S G Q k

end Head

end
-- ==== Proof.Head.Claim.lean ====
/- The claims about the last multilayer block with the loss: the reference's frame, and the five results equal to the reference's. -/
module

public import proofs.«01_k».proof.Defs
public import proofs.«01_k».proof.Proof.Head.Arrays
public import proofs.«01_k».proof.Proof.Head.Ref
public import proofs.«01_k».proof.Proof.Gen.Reference5Ideal.Run
public import proofs.«01_k».proof.Proof.Gen.Pre_finite5
public import Idealize.ShloMosaic.Lib.ReduceAll
public import Idealize.ShloMosaic.Lib.Affine

@[expose] public section

noncomputable section

namespace Head

open Reals
open Idealize.ShloMosaic Idealize.SL.Sem

section Reference

open Cert.Reference5Ideal Cert.Reference5Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h c).2.2.2.2.2, funext fun g => nomatch g.2⟩) (Cert.Reference5Ideal.Value.run m ρ)

end Reference

instance : Subsingleton Cert.Pre_finite5.S_.Idx := ⟨fun a b => funext fun i => i.elim0⟩

/-- What the precondition says of each argument. -/
theorem finite_args [Cert.Pre_finite5.Facts] {x0 x3 x4 : FVec Ideal Cert.Pre_finite5.S4096x1024 .f32}
    {x1 x5 : FVec Ideal Cert.Pre_finite5.S1x1024 .f32} {x2 : FVec Ideal Cert.Pre_finite5.S1024x4096 .f32}
    (h : Cert.Pre_finite5.fn (F := Ideal) x0 x1 x2 x3 x4 x5 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x2 y ≠ (⊤ : EReal) ∧ x2 y ≠ (⊥ : EReal)) ∧ (∀ y, x3 y ≠ (⊤ : EReal) ∧ x3 y ≠ (⊥ : EReal))
      ∧ (∀ y, x4 y ≠ (⊤ : EReal) ∧ x4 y ≠ (⊥ : EReal)) ∧ (∀ y, x5 y ≠ (⊤ : EReal) ∧ x5 y ≠ (⊥ : EReal)) := by
  have h' := congrFun h (Shape.Idx.first Cert.Pre_finite5.Facts.h_S_)
  dsimp only [Cert.Pre_finite5.fn, Cert.Pre_finite5.fn_part1] at h'
  obtain ⟨h', h5⟩ := IntOp.andi_eq_one.mp h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  exact ⟨fun y => finite_of_lt _ (Host.reduce_andi_all _ _ _ _ _ h0 y), fun y => finite_of_lt _ (Host.reduce_andi_all _ _ _ _ _ h1 y),
    fun y => finite_of_lt _ (Host.reduce_andi_all _ _ _ _ _ h2 y), fun y => finite_of_lt _ (Host.reduce_andi_all _ _ _ _ _ h3 y),
    fun y => finite_of_lt _ (Host.reduce_andi_all _ _ _ _ _ h4 y), fun y => finite_of_lt _ (Host.reduce_andi_all _ _ _ _ _ h5 y)⟩

/-- The five results, from arguments that are finite. -/
theorem algebraic : Cert.algebraic_Kernel5Ideal_Reference5Ideal_pre_finite5 (hKernel5Ideal := Cert.Kernel5Ideal.Gen.facts)
    (hReference5Ideal := Cert.Reference5Ideal.Gen.facts) (hPre_finite5 := Cert.Pre_finite5.Gen.facts) := by
  intro m g m' g' hpre hagree
  have real : ∀ c : Dev Cert.Kernel5Ideal.nD, ∃ (X : ℕ → ℕ → ℝ) (G : ℕ → ℝ) (U W S : ℕ → ℕ → ℝ) (Q : ℕ → ℝ),
      (m ((c.tc : Thread Cert.Kernel5Ideal.nD Cert.Kernel5Ideal.τ).loc Cert.Kernel5Ideal.main_arg0) : Cert.Kernel5Ideal.S4096x1024.Idx → EReal) = vecN X
      ∧ (m ((c.tc : Thread Cert.Kernel5Ideal.nD Cert.Kernel5Ideal.τ).loc Cert.Kernel5Ideal.main_arg1) : Cert.Kernel5Ideal.S1x1024.Idx → EReal) = (vecN fun _ k => G k)
      ∧ (m ((c.tc : Thread Cert.Kernel5Ideal.nD Cert.Kernel5Ideal.τ).loc Cert.Kernel5Ideal.main_arg2) : Cert.Kernel5Ideal.S1024x4096.Idx → EReal) = vecN U
      ∧ (m ((c.tc : Thread Cert.Kernel5Ideal.nD Cert.Kernel5Ideal.τ).loc Cert.Kernel5Ideal.main_arg3) : Cert.Kernel5Ideal.S4096x1024.Idx → EReal) = vecN W
      ∧ (m ((c.tc : Thread Cert.Kernel5Ideal.nD Cert.Kernel5Ideal.τ).loc Cert.Kernel5Ideal.main_arg4) : Cert.Kernel5Ideal.S4096x1024.Idx → EReal) = vecN S
      ∧ (m ((c.tc : Thread Cert.Kernel5Ideal.nD Cert.Kernel5Ideal.τ).loc Cert.Kernel5Ideal.main_arg5) : Cert.Kernel5Ideal.S1x1024.Idx → EReal) = (vecN fun _ k => Q k) := by
    intro c
    obtain ⟨f0, f1, f2, f3, f4, f5⟩ := finite_args (hpre c)
    obtain ⟨G, hG⟩ := eq_row _ f1
    obtain ⟨Q, hQ⟩ := eq_row _ f5
    exact ⟨_, G, _, _, _, Q, eq_vecN _ f0, hG, eq_vecN _ f2, eq_vecN _ f3, eq_vecN _ f4, hQ⟩
  choose X G U W S Q h0 h1 h2 h3 h4 h5 using real
  refine ⟨fun c => vecN (dO (X c) (G c) (U c) (W c) (S c) (Q c)), fun c => vecN (Mlp.hid (X c) (G c) (U c)), fun c => vecN (hn (X c) (G c)),
    fun c => vecN fun _ _ => loss (X c) (G c) (U c) (W c) (S c) (Q c), fun c => vecN fun _ k => dQ (X c) (G c) (U c) (W c) (S c) (Q c) k, ?_, ?_⟩
  · refine (θ_run _ _ _).mono (fun r h c => ?_) (Cert.Kernel5Ideal.Value.run_blocks m g)
    obtain ⟨r0, r1, r2, r3, r4, hargs⟩ := h c
    exact ⟨r0.trans (final_do m c (h0 c) (h1 c) (h2 c) (h3 c) (h4 c) (h5 c)), r1.trans (final_a m c (h0 c) (h1 c) (h2 c)),
      r2.trans (final_h m c (h0 c) (h1 c)), r3.trans (final_loss m c (h0 c) (h1 c) (h2 c) (h3 c) (h4 c) (h5 c)),
      r4.trans (final_dq m c (h0 c) (h1 c) (h2 c) (h3 c) (h4 c) (h5 c)), hargs⟩
  · refine (θ_run _ _ _).mono (fun r h c => ?_) (Cert.Reference5Ideal.Value.run m' g')
    have a0 : m' ((c.tc : Thread Cert.Reference5Ideal.nD Cert.Reference5Ideal.τ).loc Cert.Reference5Ideal.main_arg0) = argX (X c) := (hagree c).1.trans (h0 c)
    have a1 : m' ((c.tc : Thread Cert.Reference5Ideal.nD Cert.Reference5Ideal.τ).loc Cert.Reference5Ideal.main_arg1) = argG (G c) := (hagree c).2.1.trans (h1 c)
    have a2 : m' ((c.tc : Thread Cert.Reference5Ideal.nD Cert.Reference5Ideal.τ).loc Cert.Reference5Ideal.main_arg2) = argU (U c) := (hagree c).2.2.1.trans (h2 c)
    have a3 : m' ((c.tc : Thread Cert.Reference5Ideal.nD Cert.Reference5Ideal.τ).loc Cert.Reference5Ideal.main_arg3) = argX (W c) := (hagree c).2.2.2.1.trans (h3 c)
    have a4 : m' ((c.tc : Thread Cert.Reference5Ideal.nD Cert.Reference5Ideal.τ).loc Cert.Reference5Ideal.main_arg4) = argX (S c) := (hagree c).2.2.2.2.1.trans (h4 c)
    have a5 : m' ((c.tc : Thread Cert.Reference5Ideal.nD Cert.Reference5Ideal.τ).loc Cert.Reference5Ideal.main_arg5) = argG (Q c) := (hagree c).2.2.2.2.2.trans (h5 c)
    obtain ⟨r0, r1, r2, r3, r4, hargs⟩ := h c
    refine ⟨?_, ?_, ?_, ?_, ?_, hargs⟩
    · refine r0.trans ((Cert.Reference5Ideal.Read.val_main_v70_eq _ _).trans ?_)
      rw [a0, a1, a2, a3, a4, a5]; exact ref_v70 _ _ _ _ _ _
    · refine r1.trans ((Cert.Reference5Ideal.Read.val_main_v72_eq _ _ _).trans ?_)
      rw [a0, a1, a2]; exact ref_v72 _ _ _
    · refine r2.trans ((Cert.Reference5Ideal.Read.val_main_v73_eq _ _).trans ?_)
      rw [a0, a1]; exact ref_v73 _ _
    · refine r3.trans ((Cert.Reference5Ideal.Read.val_main_v74_eq _ _).trans ?_)
      rw [a0, a1, a2, a3, a4, a5]; exact ref_v74 _ _ _ _ _ _
    · refine r4.trans ((Cert.Reference5Ideal.Read.val_main_v71_eq _ _).trans ?_)
      rw [a0, a1, a2, a3, a4, a5]; exact ref_v71 _ _ _ _ _ _

end Head

end
-- ==== Proof.Prep.Spec.lean ====
/- The gradient back through the rotary embedding and the norm of the queries and the keys, on real numbers. A row has heads of 128 entries;
   in a head, the first 64 entries turn with the token's row on the grid and the last 64 with its column, each as two halves of 32. -/
module

public import proofs.«01_k».proof.Proof.Norm.Real

@[expose] public section

noncomputable section

namespace Prep

open Reals Norm

/-- The entry that an entry is turned with. -/
def sw (d : ℕ) : ℕ := if d % 64 < 32 then d + 32 else d - 32

/-- The angle of a token's entry. -/
def angle (t d : ℕ) : ℝ := (((if d < 64 then t / 64 else t % 64 : ℕ) : ℝ)) * Real.rpow 10000 (-((d % 32 : ℕ) : ℝ) / 32)

/-- Its cosine. -/
def co (t d : ℕ) : ℝ := Real.cos (angle t d)

/-- Its sine, with the sign of the half. -/
def si (t d : ℕ) : ℝ := if d % 64 < 32 then -Real.sin (angle t d) else Real.sin (angle t d)

/-- The gradient before the turn, of one head's row. -/
def dy (t : ℕ) (D : ℕ → ℝ) (d : ℕ) : ℝ := D d * co t d - D (sw d) * si t d

/-- The gradient before the norm. -/
def dx (t : ℕ) (D Z g : ℕ → ℝ) (d : ℕ) : ℝ := back 128 Z (fun j => dy t D j * g j) d

/-- A row's part of the gradient at the gain. -/
def gT (t : ℕ) (D Z : ℕ → ℝ) (d : ℕ) : ℝ := dy t D d * xh 128 Z d

variable (Z DQ DK DV : ℕ → ℕ → ℝ) (QG KG : ℕ → ℝ)

/-- A head's row. -/
def hd (A : ℕ → ℕ → ℝ) (p b : ℕ) (d : ℕ) : ℝ := A p (b + d)

/-- The gradient at the projection. -/
def dz (p q : ℕ) : ℝ :=
  if q < 1024 then dx (p % 2048) (hd DQ p (q / 128 * 128)) (hd Z p (q / 128 * 128)) QG (q % 128)
  else if q < 1280 then dx (p % 2048) (hd DK p ((q - 1024) / 128 * 128)) (hd Z p (q / 128 * 128)) KG (q % 128)
  else DV p (q - 1280)

/-- A row's part of the gradient at the queries' gain, all eight heads. -/
def qT (d p : ℕ) : ℝ := ∑ h : Fin 8, gT (p % 2048) (hd DQ p (128 * h.val)) (hd Z p (128 * h.val)) d

/-- A row's part of the gradient at the keys' gain, both heads. -/
def kT (d p : ℕ) : ℝ := ∑ h : Fin 2, gT (p % 2048) (hd DK p (128 * h.val)) (hd Z p (1024 + 128 * h.val)) d

/-- The gradient at the queries' gain. -/
def dQG (d : ℕ) : ℝ := ∑ p : Fin 4096, qT Z DQ d p

/-- The gradient at the keys' gain. -/
def dKG (d : ℕ) : ℝ := ∑ p : Fin 4096, kT Z DK d p

/-- The projection: the normed input times the weights. -/
def qkv (X : ℕ → ℕ → ℝ) (G : ℕ → ℝ) (W : ℕ → ℕ → ℝ) (p q : ℕ) : ℝ := ∑ k : Fin 1024, xh 1024 (X p) k.val * G k.val * W k.val q

theorem n128_eq : Idealize.ShloMosaic.Ideal.ofBits .f32 0x43000000#32 = (((128 : ℕ) : ℝ) : EReal) := by
  simp [Idealize.ShloMosaic.Ideal.ofBits, Idealize.ShloMosaic.Ideal.ieee]
  norm_num
  rw [← EReal.coe_mul]
  congr 1
  norm_num

/-- The norm's scale of a head's row, as both programs compute it. -/
theorem rs_head (x : ℕ → ℝ) :
    Idealize.ShloMosaic.Ideal.rsqrt (Idealize.ShloMosaic.Ideal.div ((∑ k : Fin 128, x k * x k : ℝ) : EReal) (((128 : ℕ) : ℝ) : EReal) + ((ε : ℝ) : EReal))
      = ((rs 128 x : ℝ) : EReal) := by
  rw [Reals.div_coe_coe _ _ (by norm_num), ← EReal.coe_add]
  exact rs_coe 128 x

end Prep

end
-- ==== Proof.Prep.Block.lean ====
/- What the payloads of the queries' and keys' gradient kernel compute for one head, on a block of 1024 rows whose entries are reals. -/
module

public import proofs.«01_k».proof.Proof.Prep.Spec
public import proofs.«01_k».proof.Proof.Gen.Kernel6Ideal.Skeleton
public import Idealize.ShloMosaic.Lib.Pointwise

@[expose] public section

noncomputable section

namespace Prep

open Reals Norm
open Idealize.ShloMosaic Idealize.ShloMosaic.Pointwise Cert.Kernel6Ideal Cert.Kernel6Ideal.Gen

variable {c s o z : Vec Ideal S1024x128 .f32} {g : Vec Ideal S1x128 .f32} {τ : ℕ → ℕ} {D Z : ℕ → ℕ → ℝ} {G : ℕ → ℝ}

variable (hc : ∀ r d, c (ix2 r d) = ((co (τ r.val) d.val : ℝ) : EReal)) (hs : ∀ r d, s (ix2 r d) = ((si (τ r.val) d.val : ℝ) : EReal))
  (ho : ∀ r d, o (ix2 r d) = ((D r.val d.val : ℝ) : EReal)) (hz : ∀ r d, z (ix2 r d) = ((Z r.val d.val : ℝ) : EReal))
  (hg : ∀ d, g (ix2 0 d) = ((G d.val : ℝ) : EReal))

/-- Which of the two turned copies a lane takes: by the half it lies in. -/
theorem lane : ∀ d : Fin 128,
    IntOp.cmpi .slt
      (Scalar.select
        (IntOp.andi
          (IntOp.xori (IntOp.cmpi .slt (IntOp.remsi ArithUnit.vector (BitVec.ofNat 32 d.val) (Scalar.select (Scalar.cmpi .eq 64#32 0#32) 1#32 64#32)) 0#32)
            (Scalar.cmpi .slt (Scalar.select (Scalar.cmpi .eq 64#32 0#32) 1#32 64#32) 0#32))
          (IntOp.cmpi .ne (IntOp.remsi ArithUnit.vector (BitVec.ofNat 32 d.val) (Scalar.select (Scalar.cmpi .eq 64#32 0#32) 1#32 64#32)) 0#32))
        (IntOp.addi (IntOp.remsi ArithUnit.vector (BitVec.ofNat 32 d.val) (Scalar.select (Scalar.cmpi .eq 64#32 0#32) 1#32 64#32))
          (Scalar.select (Scalar.cmpi .eq 64#32 0#32) 1#32 64#32))
        (IntOp.remsi ArithUnit.vector (BitVec.ofNat 32 d.val) (Scalar.select (Scalar.cmpi .eq 64#32 0#32) 1#32 64#32))) 32#32
      = if d.val % 64 < 32 then 1#1 else 0#1 := by decide +kernel

include hc hs ho in
theorem pay_dy (r : Fin 1024) (d : Fin 128) : k0_pay7 (F := Ideal) c s o (ix2 r d) = ((dy (τ r.val) (D r.val) d.val : ℝ) : EReal) := by
  have e := lane d
  pointwise [k0_pay7, k0_pay5, k0_pay6]
  rw [e, hc, hs, ho]
  by_cases h : d.val % 64 < 32
  · rw [if_pos h]
    refine (congrArg (fun q : EReal => ((D r.val d.val : ℝ) : EReal) * ((co (τ r.val) d.val : ℝ) : EReal) - q * ((si (τ r.val) d.val : ℝ) : EReal))
      ((if_pos rfl).trans (ho _ _))).trans ?_
    dsimp only
    rw [← EReal.coe_mul, ← EReal.coe_mul, ← EReal.coe_sub]
    unfold dy sw
    rw [if_pos h]
    exact congrArg Real.toEReal (congrArg (fun n => D r.val d.val * co (τ r.val) d.val - D r.val n * si (τ r.val) d.val) (by omega))
  · rw [if_neg h]
    refine (congrArg (fun q : EReal => ((D r.val d.val : ℝ) : EReal) * ((co (τ r.val) d.val : ℝ) : EReal) - q * ((si (τ r.val) d.val : ℝ) : EReal))
      ((if_neg (by decide)).trans (ho _ _))).trans ?_
    dsimp only
    rw [← EReal.coe_mul, ← EReal.coe_mul, ← EReal.coe_sub]
    unfold dy sw
    rw [if_neg h]
    exact congrArg Real.toEReal (congrArg (fun n => D r.val d.val * co (τ r.val) d.val - D r.val n * si (τ r.val) d.val) (by omega))

include hz in
theorem pay_rs (r : Fin 1024) (u : Fin 1) : k0_pay10 (F := Ideal) (k0_pay9 z) (ix2 r u) = ((rs 128 (Z r.val) : ℝ) : EReal) := by
  pointwise [k0_pay10, k0_pay9, k0_pay8]
  simp only [hz, sum_mul_coe, eps_eq, n128_eq, rs_head]

include hz in
theorem pay_xh (r : Fin 1024) (d : Fin 128) : k0_pay11 (F := Ideal) (k0_pay8 z) (k0_pay9 z) (ix2 r d) = ((xh 128 (Z r.val) d.val : ℝ) : EReal) := by
  have h := pay_rs hz
  pointwise [k0_pay11, k0_pay8]
  simp only [hz, h, ← EReal.coe_mul]
  rfl

include hc hs ho hz hg in
/-- The gradient before the norm. -/
theorem pay_dx (r : Fin 1024) (d : Fin 128) :
    k0_pay13 (F := Ideal) g (k0_pay7 c s o) (k0_pay8 z) (k0_pay9 z) (ix2 r d) = ((dx (τ r.val) (D r.val) (Z r.val) G d.val : ℝ) : EReal) := by
  have hd := pay_dy hc hs ho
  have hr := pay_rs hz
  have hx := pay_xh hz
  pointwise [k0_pay13]
  simp only [hd, hr, hx, hg, n128_eq, ← EReal.coe_mul, sum_coe]
  rw [div_coe_coe _ _ (by norm_num)]
  simp only [← EReal.coe_mul, ← EReal.coe_sub]
  rfl

include hc hs ho hz in
/-- The head's part of the gradient at the gain, onto what was summed before. -/
theorem pay_dg (v : Vec Ideal S1x128 .f32) (d : Fin 128) :
    k0_pay12 (F := Ideal) (k0_pay7 c s o) (k0_pay8 z) (k0_pay9 z) v (ix2 0 d)
      = v (ix2 0 d) + ((∑ r : Fin 1024, gT (τ r.val) (D r.val) (Z r.val) d.val : ℝ) : EReal) := by
  have hd := pay_dy hc hs ho
  have hx := pay_xh hz
  pointwise [k0_pay12]
  simp only [hd, hx, ← EReal.coe_mul, sum_coe]
  rfl

theorem pay_zero_q (d : Fin 128) : k0_pay3 (F := Ideal) (ix2 0 d) = (0 : EReal) := by
  pointwise [k0_pay3]

theorem pay_zero_k (d : Fin 128) : k0_pay4 (F := Ideal) (ix2 0 d) = (0 : EReal) := by
  pointwise [k0_pay4]

end Prep

end
-- ==== Proof.Prep.Cases.lean ====
/- What the queries' and keys' gradient kernel leaves in its three output blocks at one grid point. -/
module

public import proofs.«01_k».proof.Proof.Prep.Block
public import proofs.«01_k».proof.Proof.Mlp.Cases
public import proofs.«01_k».proof.Proof.Gen.Kernel6Ideal.Frame

@[expose] public section

noncomputable section

namespace Prep

open Reals Norm
open Idealize.ShloMosaic Idealize.ShloMosaic.Pointwise Idealize.ShloMosaic.Tactic Cert.Kernel6Ideal Cert.Kernel6Ideal.Gen

variable (c : Dev nD) (i : grid0.Coords) (arg1 : Memref sig .tc .vmem S1024x1536 .f32) (harg1 : arg1.IsWhole) (arg2 : Memref sig .tc .vmem S1024x1024 .f32) (harg2 : arg2.IsWhole)
  (arg3 : Memref sig .tc .vmem S1024x256 .f32) (harg3 : arg3.IsWhole) (arg4 : Memref sig .tc .vmem S1024x256 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S1024x128 .f32) (harg7 : arg7.IsWhole) (arg8 : Memref sig .tc .vmem S1024x128 .f32) (harg8 : arg8.IsWhole)
  (arg9 : Memref sig .tc .vmem S1024x1536 .bf16) (harg9 : arg9.IsWhole) (arg10 : Memref sig .tc .vmem S1x128 .f32) (harg10 : arg10.IsWhole)
  (arg11 : Memref sig .tc .vmem S1x128 .f32) (harg11 : arg11.IsWhole)
  {Z DQ DK DV : ℕ → ℕ → ℝ} {QG KG : ℕ → ℝ} (ρ : ℕ)
  {x0 : Vec Ideal S1024x1536 .f32} {x1 : Vec Ideal S1024x1024 .f32} {x2 x3 : Vec Ideal S1024x256 .f32} {x4 x5 : Vec Ideal S1x128 .f32}
  {x6 x7 : Vec Ideal S1024x128 .f32} (xo9 xo10 : Vec Ideal S1x128 .f32)
  (h0 : ∀ r k, x0 (ix2 r k) = ((Z (ρ + r.val) k.val : ℝ) : EReal)) (h1 : ∀ r k, x1 (ix2 r k) = ((DQ (ρ + r.val) k.val : ℝ) : EReal))
  (h2 : ∀ r k, x2 (ix2 r k) = ((DK (ρ + r.val) k.val : ℝ) : EReal)) (h3 : ∀ r k, x3 (ix2 r k) = ((DV (ρ + r.val) k.val : ℝ) : EReal))
  (h4 : ∀ d, x4 (ix2 0 d) = ((QG d.val : ℝ) : EReal)) (h5 : ∀ d, x5 (ix2 0 d) = ((KG d.val : ℝ) : EReal))
  (h6 : ∀ r d, x6 (ix2 r d) = ((co ((ρ + r.val) % 2048) d.val : ℝ) : EReal)) (h7 : ∀ r d, x7 (ix2 r d) = ((si ((ρ + r.val) % 2048) d.val : ℝ) : EReal))

section Heads

variable (a s o z : Vec Ideal S1024x128 .f32) (g v : Vec Ideal S1x128 .f32)

/-- A head's gradient before the norm. -/
def dxv : Vec Ideal S1024x128 .bf16 := k0_pay13 g (k0_pay7 a s o) (k0_pay8 z) (k0_pay9 z)

/-- A head's part of the gain's gradient, onto what was summed before. -/
def dgv : Vec Ideal S1x128 .f32 := k0_pay12 (k0_pay7 a s o) (k0_pay8 z) (k0_pay9 z) v

/-! Every head's lines are the first head's. -/

theorem dx0_eq : k0_pay13 (F := Ideal) g (k0_pay7 a s o) (k0_pay8 z) (k0_pay9 z) = dxv a s o z g := rfl
theorem dx1_eq : k0_pay24 (F := Ideal) (k0_pay22 (k0_pay6 s) g (k0_pay14 (k0_pay5 a) o) (iota Kind.tc S1024x128 32 [1] iota_S1024x128_d1_w32) (k0_pay15 o) (k0_pay16 o) 64#32 0#1 1#32 z) = dxv a s o z g := rfl
theorem dx2_eq : k0_pay31 (F := Ideal) g (k0_pay25 (k0_pay5 a) (k0_pay6 s) o) (k0_pay26 z) (k0_pay27 z) = dxv a s o z g := rfl
theorem dx3_eq : k0_pay43 (F := Ideal) (k0_pay41 (k0_pay6 s) g (k0_pay32 (k0_pay5 a) o) (iota Kind.tc S1024x128 32 [1] iota_S1024x128_d1_w32) (k0_pay33 o) (k0_pay34 o) 64#32 k0_pay35 z) = dxv a s o z g := rfl
theorem dx4_eq : k0_pay50 (F := Ideal) g (k0_pay44 (k0_pay5 a) (k0_pay6 s) o) (k0_pay45 z) (k0_pay46 z) (FloatOps.ofBits FTy.f32 1124073472#32) = dxv a s o z g := rfl
theorem dx5_eq : k0_pay61 (F := Ideal) (k0_pay59 (k0_pay6 s) g (k0_pay51 (k0_pay5 a) o) (k0_pay52 o) (k0_pay53 o) 64#32 k0_pay54 0#32 z) = dxv a s o z g := rfl
theorem dx6_eq : k0_pay68 (F := Ideal) g (k0_pay62 (k0_pay5 a) (k0_pay6 s) o) (k0_pay63 z) (k0_pay64 z) = dxv a s o z g := rfl
theorem dx7_eq : k0_pay80 (F := Ideal) (k0_pay78 (k0_pay6 s) g (k0_pay69 (k0_pay5 a) o) (k0_pay70 o) (k0_pay71 o) 64#32 k0_pay72 k0_pay73 z) = dxv a s o z g := rfl
theorem dx8_eq : k0_pay88 (F := Ideal) g (k0_pay81 (k0_pay5 a) (k0_pay6 s) o) (k0_pay82 z) (k0_pay83 z) k0_pay84 = dxv a s o z g := rfl
theorem dx9_eq : k0_pay1 (F := Ideal) (k0_pay99 (k0_pay6 s) g (k0_pay89 (k0_pay5 a) o) (k0_pay90 o) (k0_pay91 o) 64#32 k0_pay92 k0_pay93 k0_pay94 z) = dxv a s o z g := rfl
theorem dg0_eq : k0_pay12 (F := Ideal) (k0_pay7 a s o) (k0_pay8 z) (k0_pay9 z) v = dgv a s o z v := rfl
theorem dg1_eq : k0_pay23 (F := Ideal) (k0_pay21 (k0_pay6 s) (k0_pay14 (k0_pay5 a) o) (iota Kind.tc S1024x128 32 [1] iota_S1024x128_d1_w32) (k0_pay15 o) (k0_pay16 o) 64#32 0#1 1#32 z) v = dgv a s o z v := rfl
theorem dg2_eq : k0_pay30 (F := Ideal) (k0_pay25 (k0_pay5 a) (k0_pay6 s) o) (k0_pay26 z) (k0_pay27 z) v = dgv a s o z v := rfl
theorem dg3_eq : k0_pay42 (F := Ideal) (k0_pay40 (k0_pay6 s) (k0_pay32 (k0_pay5 a) o) (iota Kind.tc S1024x128 32 [1] iota_S1024x128_d1_w32) (k0_pay33 o) (k0_pay34 o) 64#32 k0_pay35 z) v = dgv a s o z v := rfl
theorem dg4_eq : k0_pay49 (F := Ideal) (k0_pay44 (k0_pay5 a) (k0_pay6 s) o) (k0_pay45 z) (k0_pay46 z) (FloatOps.ofBits FTy.f32 1124073472#32) v = dgv a s o z v := rfl
theorem dg5_eq : k0_pay60 (F := Ideal) (k0_pay6 s) (k0_pay51 (k0_pay5 a) o) (k0_pay52 o) (k0_pay53 o) 64#32 k0_pay54 0#32 z v = dgv a s o z v := rfl
theorem dg6_eq : k0_pay67 (F := Ideal) (k0_pay62 (k0_pay5 a) (k0_pay6 s) o) (k0_pay63 z) (k0_pay64 z) v = dgv a s o z v := rfl
theorem dg7_eq : k0_pay79 (F := Ideal) (k0_pay6 s) (k0_pay69 (k0_pay5 a) o) (k0_pay70 o) (k0_pay71 o) 64#32 k0_pay72 k0_pay73 z v = dgv a s o z v := rfl
theorem dg8_eq : k0_pay87 (F := Ideal) (k0_pay81 (k0_pay5 a) (k0_pay6 s) o) (k0_pay82 z) (k0_pay83 z) k0_pay84 v = dgv a s o z v := rfl
theorem dg9_eq : k0_pay100 (F := Ideal) (k0_pay6 s) (k0_pay89 (k0_pay5 a) o) (k0_pay90 o) (k0_pay91 o) 64#32 k0_pay92 k0_pay93 k0_pay94 z v = dgv a s o z v := rfl

end Heads

theorem ld_cols {n : ℕ} {φ : EltTy} (x : Vec Ideal ⟨2, ![1024, n]⟩ φ) (b : ℕ) (hb : b + 128 ≤ n) (h) (r : Fin 1024) (d : Fin 128) :
    View.ld x (Rect.unit (s := ⟨2, ![1024, n]⟩) ![0, b] ![1024, 128] h) (ix2 r d) = x (ix2 r ⟨b + d.val, by omega⟩) := by
  show x _ = x _
  congr 1
  funext a
  apply Fin.ext
  match a with
  | ⟨0, _⟩ => show 0 + 1 * r.val = r.val; omega
  | ⟨1, _⟩ => show b + 1 * d.val = b + d.val; omega

theorem emb_cols {w : ℕ} (b : ℕ) (hb : b + w ≤ 1536) (h) (r : Fin 1024) (d : Fin w) :
    (Rect.unit (s := S1024x1536) ![0, b] ![1024, w] h).emb (ix2 r d) = ix2 r ⟨b + d.val, by omega⟩ := by
  funext a
  apply Fin.ext
  match a with
  | ⟨0, _⟩ => show 0 + 1 * r.val = r.val; omega
  | ⟨1, _⟩ => show b + 1 * d.val = b + d.val; omega

variable (Z DQ DK DV QG KG) in
/-- The gradient at the projection as the block's contents. -/
def dzVec : S1024x1536.Idx → EReal := fun y => ((dz Z DQ DK DV QG KG (ρ + (y 0).val) (y 1).val : ℝ) : EReal)

include h0 h1 h4 h6 h7 in
theorem q_piece (b : ℕ) (hb : b + 128 ≤ 1024) (e : b % 128 = 0) (h h' h'') (y : S1024x128.Idx) :
    dxv x6 x7 (View.ld x1 (Rect.unit (s := S1024x1024) ![0, b] ![1024, 128] h)) (View.ld x0 (Rect.unit (s := S1024x1536) ![0, b] ![1024, 128] h')) x4 y
      = dzVec Z DQ DK DV QG KG ρ ((Rect.unit (s := S1024x1536) ![0, b] ![1024, 128] h'').emb y) := by
  obtain ⟨r, d, rfl⟩ : ∃ (r : Fin 1024) (d : Fin 128), y = ix2 r d := ⟨y 0, y 1, eq_ix2 y⟩
  rw [emb_cols b (by omega)]
  refine (pay_dx (τ := fun r => (ρ + r) % 2048) h6 h7 (D := fun r => hd DQ (ρ + r) b) (Z := fun r => hd Z (ρ + r) b)
    (fun r d => (ld_cols x1 b (by omega) h r d).trans (h1 _ _)) (fun r d => (ld_cols x0 b (by omega) h' r d).trans (h0 _ _)) h4 r d).trans ?_
  show _ = ((dz Z DQ DK DV QG KG (ρ + r.val) (b + d.val) : ℝ) : EReal)
  unfold dz
  rw [if_pos (by omega), show (b + d.val) / 128 * 128 = b by omega, show (b + d.val) % 128 = d.val by omega]

include h0 h2 h5 h6 h7 in
theorem k_piece (b b' : ℕ) (hb : b + 128 ≤ 256) (e : b % 128 = 0) (e' : 1024 + b = b') (h h' h'') (y : S1024x128.Idx) :
    dxv x6 x7 (View.ld x2 (Rect.unit (s := S1024x256) ![0, b] ![1024, 128] h)) (View.ld x0 (Rect.unit (s := S1024x1536) ![0, b'] ![1024, 128] h')) x5 y
      = dzVec Z DQ DK DV QG KG ρ ((Rect.unit (s := S1024x1536) ![0, b'] ![1024, 128] h'').emb y) := by
  obtain ⟨r, d, rfl⟩ : ∃ (r : Fin 1024) (d : Fin 128), y = ix2 r d := ⟨y 0, y 1, eq_ix2 y⟩
  rw [emb_cols b' (by omega)]
  refine (pay_dx (τ := fun r => (ρ + r) % 2048) h6 h7 (D := fun r => hd DK (ρ + r) b) (Z := fun r => hd Z (ρ + r) b')
    (fun r d => (ld_cols x2 b (by omega) h r d).trans (h2 _ _)) (fun r d => (ld_cols x0 b' (by omega) h' r d).trans (h0 _ _)) h5 r d).trans ?_
  show _ = ((dz Z DQ DK DV QG KG (ρ + r.val) (b' + d.val) : ℝ) : EReal)
  unfold dz
  rw [if_neg (by omega), if_pos (by omega), show (b' + d.val - 1024) / 128 * 128 = b by omega, show (b' + d.val) / 128 * 128 = b' by omega,
    show (b' + d.val) % 128 = d.val by omega]

include h3 in
theorem v_piece (h'') (y : S1024x256.Idx) :
    k0_pay2 (F := Ideal) x3 y = dzVec Z DQ DK DV QG KG ρ ((Rect.unit (s := S1024x1536) ![0, 1280] ![1024, 256] h'').emb y) := by
  obtain ⟨r, d, rfl⟩ : ∃ (r : Fin 1024) (d : Fin 256), y = ix2 r d := ⟨y 0, y 1, eq_ix2 y⟩
  rw [emb_cols 1280 (by omega)]
  refine Eq.trans (b := x3 (ix2 r d)) (by pointwise [k0_pay2]) ((h3 r d).trans ?_)
  show _ = ((dz Z DQ DK DV QG KG (ρ + r.val) (1280 + d.val) : ℝ) : EReal)
  unfold dz
  rw [if_neg (by omega), if_neg (by omega), show 1280 + d.val - 1280 = d.val by omega]

include h0 h1 h6 h7 in
theorem q_gain (b : ℕ) (hb : b + 128 ≤ 1024) (h h') (v : Vec Ideal S1x128 .f32) (d : Fin 128) :
    dgv x6 x7 (View.ld x1 (Rect.unit (s := S1024x1024) ![0, b] ![1024, 128] h)) (View.ld x0 (Rect.unit (s := S1024x1536) ![0, b] ![1024, 128] h')) v (ix2 0 d)
      = v (ix2 0 d) + ((∑ r : Fin 1024, gT ((ρ + r.val) % 2048) (hd DQ (ρ + r.val) b) (hd Z (ρ + r.val) b) d.val : ℝ) : EReal) :=
  pay_dg (τ := fun r => (ρ + r) % 2048) h6 h7 (D := fun r => hd DQ (ρ + r) b) (Z := fun r => hd Z (ρ + r) b)
    (fun r d => (ld_cols x1 b (by omega) h r d).trans (h1 _ _)) (fun r d => (ld_cols x0 b (by omega) h' r d).trans (h0 _ _)) v d

include h0 h2 h6 h7 in
theorem k_gain (b b' : ℕ) (hb : b + 128 ≤ 256) (e' : 1024 + b = b') (h h') (v : Vec Ideal S1x128 .f32) (d : Fin 128) :
    dgv x6 x7 (View.ld x2 (Rect.unit (s := S1024x256) ![0, b] ![1024, 128] h)) (View.ld x0 (Rect.unit (s := S1024x1536) ![0, b'] ![1024, 128] h')) v (ix2 0 d)
      = v (ix2 0 d) + ((∑ r : Fin 1024, gT ((ρ + r.val) % 2048) (hd DK (ρ + r.val) b) (hd Z (ρ + r.val) b') d.val : ℝ) : EReal) :=
  pay_dg (τ := fun r => (ρ + r) % 2048) h6 h7 (D := fun r => hd DK (ρ + r) b) (Z := fun r => hd Z (ρ + r) b')
    (fun r d => (ld_cols x2 b (by omega) h r d).trans (h2 _ _)) (fun r d => (ld_cols x0 b' (by omega) h' r d).trans (h0 _ _)) v d

include h0 h1 h6 h7 in
/-- The eight heads one after another. -/
theorem q_gains (v : Vec Ideal S1x128 .f32) (p0 p1 p2 p3 p4 p5 p6 p7 q0 q1 q2 q3 q4 q5 q6 q7) (d : Fin 128) :
    dgv x6 x7 (View.ld x1 (Rect.unit (s := S1024x1024) ![0, 896] ![1024, 128] p7)) (View.ld x0 (Rect.unit (s := S1024x1536) ![0, 896] ![1024, 128] q7))
      (dgv x6 x7 (View.ld x1 (Rect.unit (s := S1024x1024) ![0, 768] ![1024, 128] p6)) (View.ld x0 (Rect.unit (s := S1024x1536) ![0, 768] ![1024, 128] q6))
      (dgv x6 x7 (View.ld x1 (Rect.unit (s := S1024x1024) ![0, 640] ![1024, 128] p5)) (View.ld x0 (Rect.unit (s := S1024x1536) ![0, 640] ![1024, 128] q5))
      (dgv x6 x7 (View.ld x1 (Rect.unit (s := S1024x1024) ![0, 512] ![1024, 128] p4)) (View.ld x0 (Rect.unit (s := S1024x1536) ![0, 512] ![1024, 128] q4))
      (dgv x6 x7 (View.ld x1 (Rect.unit (s := S1024x1024) ![0, 384] ![1024, 128] p3)) (View.ld x0 (Rect.unit (s := S1024x1536) ![0, 384] ![1024, 128] q3))
      (dgv x6 x7 (View.ld x1 (Rect.unit (s := S1024x1024) ![0, 256] ![1024, 128] p2)) (View.ld x0 (Rect.unit (s := S1024x1536) ![0, 256] ![1024, 128] q2))
      (dgv x6 x7 (View.ld x1 (Rect.unit (s := S1024x1024) ![0, 128] ![1024, 128] p1)) (View.ld x0 (Rect.unit (s := S1024x1536) ![0, 128] ![1024, 128] q1))
      (dgv x6 x7 (View.ld x1 (Rect.unit (s := S1024x1024) ![0, 0] ![1024, 128] p0)) (View.ld x0 (Rect.unit (s := S1024x1536) ![0, 0] ![1024, 128] q0)) v))))))) (ix2 0 d)
      = v (ix2 0 d) + ((∑ r : Fin 1024, qT Z DQ d.val (ρ + r.val) : ℝ) : EReal) := by
  have p := q_gain ρ h0 h1 h6 h7
  rw [p 896 (by decide), p 768 (by decide), p 640 (by decide), p 512 (by decide), p 384 (by decide), p 256 (by decide), p 128 (by decide), p 0 (by decide)]
  simp only [add_assoc, ← EReal.coe_add, ← Finset.sum_add_distrib]
  refine congrArg (fun q : ℝ => v (ix2 0 d) + (q : EReal)) (Finset.sum_congr rfl fun r _ => ?_)
  unfold qT
  rw [Fin.sum_univ_eight]
  simp only [add_assoc]
  rfl

include h0 h2 h6 h7 in
/-- The two heads one after another. -/
theorem k_gains (v : Vec Ideal S1x128 .f32) (p0 p1 q0 q1) (d : Fin 128) :
    dgv x6 x7 (View.ld x2 (Rect.unit (s := S1024x256) ![0, 128] ![1024, 128] p1)) (View.ld x0 (Rect.unit (s := S1024x1536) ![0, 1152] ![1024, 128] q1))
      (dgv x6 x7 (View.ld x2 (Rect.unit (s := S1024x256) ![0, 0] ![1024, 128] p0)) (View.ld x0 (Rect.unit (s := S1024x1536) ![0, 1024] ![1024, 128] q0)) v) (ix2 0 d)
      = v (ix2 0 d) + ((∑ r : Fin 1024, kT Z DK d.val (ρ + r.val) : ℝ) : EReal) := by
  have p := k_gain ρ h0 h2 h6 h7
  rw [p 128 1152 (by decide) rfl, p 0 1024 (by decide) rfl]
  simp only [add_assoc, ← EReal.coe_add, ← Finset.sum_add_distrib]
  refine congrArg (fun q : ℝ => v (ix2 0 d) + (q : EReal)) (Finset.sum_congr rfl fun r _ => ?_)
  unfold kT
  rw [Fin.sum_univ_two]
  rfl

include h0 h1 h2 h3 h4 h5 h6 h7 in
theorem out0_A_8_apply (hc0 : cond0_0 i) (r : Fin 1024) (f : Fin 1536) :
    out0_A_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 r f)
      = ((dz Z DQ DK DV QG KG (ρ + r.val) f.val : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7)]
  refine View.canon_apply_of_pieces (G := (show Vec Ideal S1024x1536 .bf16 from dzVec Z DQ DK DV QG KG ρ)) _ ?_ (ix2 r f) (cover0_A_8 c i arg1 harg1 arg2 harg2 arg3 harg3 arg4 harg4 arg5 harg5 arg6 harg6 arg7 harg7 arg8 harg8 arg9 harg9 arg10 harg10 arg11 harg11 hc0 x0 x1 x2 x3 x4 x5 x6 x7 _)
  unfold kernelRun0_A
  dsimp only
  sl_unfold_words
  simp only [List.forall_mem_cons, View.readAt_eq_ld, harg1.read_unread, harg2.read_unread, harg3.read_unread, harg4.read_unread, harg5.read_unread, harg6.read_unread, harg7.read_unread, harg8.read_unread,
    View.ld_unit_zero (S := S1024x128) hz, View.ld_unit_zero (S := S1x128) hz, View.ld_unit_zero (S := S1024x256) hz]
  have p := q_piece (DK := DK) (DV := DV) (KG := KG) ρ h0 h1 h4 h6 h7
  have q := k_piece (DQ := DQ) (DV := DV) (QG := QG) ρ h0 h2 h5 h6 h7
  exact ⟨v_piece ρ h3 _, q 128 1152 (by decide) rfl rfl _ _ _, q 0 1024 (by decide) rfl rfl _ _ _, p 896 (by decide) rfl _ _ _, p 768 (by decide) rfl _ _ _,
    p 640 (by decide) rfl _ _ _, p 512 (by decide) rfl _ _ _, p 384 (by decide) rfl _ _ _, p 256 (by decide) rfl _ _ _, p 128 (by decide) rfl _ _ _,
    p 0 (by decide) rfl _ _ _, by simp⟩

include h0 h1 h6 h7 in
theorem out0_A_9_apply (hc0 : cond0_0 i) (d : Fin 128) :
    out0_A_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 0 d)
      = 0 + ((∑ r : Fin 1024, qT Z DQ d.val (ρ + r.val) : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, View.readCov_eq_canon', whole_canon, View.canon_cons_unit_zero (S := S1x128) hz,
    View.ld_unit_zero (S := S1024x128) hz, View.ld_unit_zero (S := S1x128) hz, View.ld_unit_zero (S := S1024x256) hz, whole_idx, dg0_eq, dg1_eq, dg2_eq, dg3_eq, dg4_eq, dg5_eq, dg6_eq, dg7_eq]
  refine (q_gains ρ h0 h1 h6 h7 (k0_pay3 (F := Ideal)) _ _ _ _ _ _ _ _ _ _ _ _ _ _ _ _ d).trans ?_
  rw [pay_zero_q]

include h0 h2 h6 h7 in
theorem out0_A_10_apply (hc0 : cond0_0 i) (d : Fin 128) :
    out0_A_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 (ix2 0 d)
      = 0 + ((∑ r : Fin 1024, kT Z DK d.val (ρ + r.val) : ℝ) : EReal) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 hc0 x0 x1 x2 x3 x4 x5 x6 x7)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, View.readCov_eq_canon', whole_canon, View.canon_cons_unit_zero (S := S1x128) hz,
    View.ld_unit_zero (S := S1024x128) hz, View.ld_unit_zero (S := S1x128) hz, View.ld_unit_zero (S := S1024x256) hz, whole_idx, dg8_eq, dg9_eq]
  refine (k_gains ρ h0 h2 h6 h7 (k0_pay4 (F := Ideal)) _ _ _ _ d).trans ?_
  rw [pay_zero_k]

include h0 h1 h2 h3 h4 h5 h6 h7 in
theorem out0_B_8_apply (hc0 : ¬cond0_0 i) (r : Fin 1024) (f : Fin 1536) :
    out0_B_8 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix2 r f)
      = ((dz Z DQ DK DV QG KG (ρ + r.val) f.val : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  refine View.canon_apply_of_pieces (G := (show Vec Ideal S1024x1536 .bf16 from dzVec Z DQ DK DV QG KG ρ)) _ ?_ (ix2 r f) (cover0_B_8 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 _)
  unfold kernelRun0_B
  dsimp only
  sl_unfold_words
  simp only [List.forall_mem_cons, View.readAt_eq_ld, harg1.read_unread, harg2.read_unread, harg3.read_unread, harg4.read_unread, harg5.read_unread, harg6.read_unread, harg7.read_unread, harg8.read_unread,
    View.ld_unit_zero (S := S1024x128) hz, View.ld_unit_zero (S := S1x128) hz, View.ld_unit_zero (S := S1024x256) hz]
  have p := q_piece (DK := DK) (DV := DV) (KG := KG) ρ h0 h1 h4 h6 h7
  have q := k_piece (DQ := DQ) (DV := DV) (QG := QG) ρ h0 h2 h5 h6 h7
  exact ⟨v_piece ρ h3 _, q 128 1152 (by decide) rfl rfl _ _ _, q 0 1024 (by decide) rfl rfl _ _ _, p 896 (by decide) rfl _ _ _, p 768 (by decide) rfl _ _ _,
    p 640 (by decide) rfl _ _ _, p 512 (by decide) rfl _ _ _, p 384 (by decide) rfl _ _ _, p 256 (by decide) rfl _ _ _, p 128 (by decide) rfl _ _ _,
    p 0 (by decide) rfl _ _ _, by simp⟩

include h0 h1 h6 h7 in
theorem out0_B_9_apply (hc0 : ¬cond0_0 i) (d : Fin 128) :
    out0_B_9 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix2 0 d)
      = xo9 (ix2 0 d) + ((∑ r : Fin 1024, qT Z DQ d.val (ρ + r.val) : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.readCov_eq_canon', whole_canon, View.canon_cons_unit_zero (S := S1x128) hz,
    View.ld_unit_zero (S := S1024x128) hz, View.ld_unit_zero (S := S1x128) hz, View.ld_unit_zero (S := S1024x256) hz, whole_idx, dg0_eq, dg1_eq, dg2_eq, dg3_eq, dg4_eq, dg5_eq, dg6_eq, dg7_eq]
  exact q_gains ρ h0 h1 h6 h7 xo9 _ _ _ _ _ _ _ _ _ _ _ _ _ _ _ _ d

include h0 h2 h6 h7 in
theorem out0_B_10_apply (hc0 : ¬cond0_0 i) (d : Fin 128) :
    out0_B_10 (F := Ideal) c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10 (ix2 0 d)
      = xo10 (ix2 0 d) + ((∑ r : Fin 1024, kT Z DK d.val (ρ + r.val) : ℝ) : EReal) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 hc0 x0 x1 x2 x3 x4 x5 x6 x7 xo9 xo10)]
  unfold kernelRun0_B
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg10.read_unread, harg11.read_unread, View.readCov_eq_canon', whole_canon, View.canon_cons_unit_zero (S := S1x128) hz,
    View.ld_unit_zero (S := S1024x128) hz, View.ld_unit_zero (S := S1x128) hz, View.ld_unit_zero (S := S1024x256) hz, whole_idx, dg8_eq, dg9_eq]
  exact k_gains ρ h0 h2 h6 h7 xo10 _ _ _ _ d

end Prep

end
-- ==== Proof.Prep.Tables.lean ====
/- The tables of the turns: what the host lines before the kernel's call compute, and what the reference's lines do. -/
module

public import proofs.«01_k».proof.Proof.Prep.Spec
public import proofs.«01_k».proof.Proof.Gen.Kernel6Ideal.Value
public import proofs.«01_k».proof.Proof.Gen.Reference6Ideal.Read
public import Idealize.ShloMosaic.Lib.Pointwise

@[expose] public section

noncomputable section

namespace Prep

open Reals Norm
open Idealize.ShloMosaic Idealize.ShloMosaic.Pointwise Idealize.ShloMosaic.Tactic Cert.Kernel6Ideal Cert.Kernel6Ideal.Gen

theorem nat_real (n : ℕ) (h : n < 2 ^ 31) : FloatOps.sitofp (F := Ideal) .f32 (BitVec.ofNat 32 n) = (((n : ℕ) : ℝ) : EReal) := by
  have e : (BitVec.ofNat 32 n).toInt = (n : ℤ) := by
    rw [BitVec.toInt_eq_toNat_of_lt (by rw [BitVec.toNat_ofNat]; omega), BitVec.toNat_ofNat, Nat.mod_eq_of_lt (by omega)]
  show (((BitVec.ofNat 32 n).toInt : ℝ) : EReal) = _
  rw [e, Int.cast_natCast]

theorem theta_eq : Ideal.ofBits .f32 0x461C4000#32 = ((10000 : ℝ) : EReal) := by
  simp [Ideal.ofBits, Ideal.ieee]
  norm_num
  rw [← EReal.coe_mul]
  congr 1
  norm_num

theorem n32_eq : Ideal.ofBits .f32 0x42000000#32 = ((32 : ℝ) : EReal) := by
  simp [Ideal.ofBits, Ideal.ieee]
  norm_num
  rw [← EReal.coe_mul]
  congr 1
  norm_num

/-- An angle, as both programs compute it. -/
theorem angle_real (n f : ℕ) (hn : n < 2 ^ 31) (hf : f < 32) :
    FloatOps.sitofp (F := Ideal) .f32 (BitVec.ofNat 32 n)
        * Ideal.pow (Ideal.ofBits .f32 0x461C4000#32) (Ideal.div (-FloatOps.sitofp (F := Ideal) .f32 (BitVec.ofNat 32 f)) (Ideal.ofBits .f32 0x42000000#32))
      = ((((n : ℕ) : ℝ) * Real.rpow 10000 (-((f : ℕ) : ℝ) / 32) : ℝ) : EReal) := by
  rw [nat_real n hn, nat_real f (by omega), theta_eq, n32_eq, ← EReal.coe_neg, div_coe_coe _ _ (by norm_num), EReal.coe_mul]
  rfl

theorem angle_row (t d f : ℕ) (ht : t < 2048) (hf : f < 32) (h : d < 64) (e : d % 32 = f) :
    FloatOps.sitofp (F := Ideal) .f32 (BitVec.ofNat 32 (t / 64))
        * Ideal.pow (Ideal.ofBits .f32 0x461C4000#32) (Ideal.div (-FloatOps.sitofp (F := Ideal) .f32 (BitVec.ofNat 32 f)) (Ideal.ofBits .f32 0x42000000#32))
      = ((angle t d : ℝ) : EReal) := by
  rw [angle_real _ _ (by omega) hf]
  unfold angle
  rw [if_pos h, e]

theorem angle_col (t d f : ℕ) (ht : t < 2048) (hf : f < 32) (h : ¬d < 64) (e : d % 32 = f) :
    FloatOps.sitofp (F := Ideal) .f32 (BitVec.ofNat 32 (t % 64))
        * Ideal.pow (Ideal.ofBits .f32 0x461C4000#32) (Ideal.div (-FloatOps.sitofp (F := Ideal) .f32 (BitVec.ofNat 32 f)) (Ideal.ofBits .f32 0x42000000#32))
      = ((angle t d : ℝ) : EReal) := by
  rw [angle_real _ _ (by omega) hf]
  unfold angle
  rw [if_neg h, e]

theorem si_low (t d : ℕ) (h : d % 64 < 32) : -Ideal.sin ((angle t d : ℝ) : EReal) = ((si t d : ℝ) : EReal) := by
  unfold si
  rw [if_pos h, EReal.coe_neg]
  rfl

theorem si_high (t d : ℕ) (h : ¬d % 64 < 32) : Ideal.sin ((angle t d : ℝ) : EReal) = ((si t d : ℝ) : EReal) := by
  unfold si
  rw [if_neg h]
  rfl

variable (m : ∀ ℓ : Loc nD τ sig, Buf (Elt Ideal) ℓ) (c : Dev nD)

variable (s : Valuation τ sig (Elt Ideal))

/-- The quotient of a token's number. -/
theorem row_of (hs : (s (Proc.devRef .tc main_v15) : S2048.Idx → BitVec 32) = iotaInDim S2048 32 0)
    (hk : (s (Proc.devRef .tc main_c) : S_.Idx → BitVec 32) = constantI S_ 32 64#32) (t : Fin 2048) :
    (StableHlo.after (hostOps0_1 (F := Ideal)) s (Proc.devRef .tc main_v16) : S2048.Idx → BitVec 32) (ix1 t) = BitVec.ofNat 32 (t.val / 64) := by
  after_results_simp
  simp only [StableHlo.TRef.ofBuf, StableHlo.TRef.toBuf, cast_cast, cast_eq, id]
  pointwise
  rw [congrFun hs, congrFun hk]
  clear hs hk
  revert t
  decide +kernel

/-- Its remainder. -/
theorem col_of (hs : (s (Proc.devRef .tc main_v15) : S2048.Idx → BitVec 32) = iotaInDim S2048 32 0)
    (hk : (s (Proc.devRef .tc main_c_2) : S_.Idx → BitVec 32) = constantI S_ 32 64#32) (t : Fin 2048) :
    (StableHlo.after (hostOps0_3 (F := Ideal)) s (Proc.devRef .tc main_v18) : S2048.Idx → BitVec 32) (ix1 t) = BitVec.ofNat 32 (t.val % 64) := by
  after_results_simp
  simp only [StableHlo.TRef.ofBuf, StableHlo.TRef.toBuf, cast_cast, cast_eq, id]
  pointwise
  rw [congrFun hs, congrFun hk]
  clear hs hk
  revert t
  decide +kernel

section Last

variable (h17 : ∀ t : Fin 2048, (s (Proc.devRef .tc main_v17) : S2048.Idx → EReal) (ix1 t) = FloatOps.sitofp (F := Ideal) .f32 (BitVec.ofNat 32 (t.val / 64)))
  (h18 : ∀ t : Fin 2048, (s (Proc.devRef .tc main_v18) : S2048.Idx → BitVec 32) (ix1 t) = BitVec.ofNat 32 (t.val % 64))

include h17 h18 in
theorem cos_of (t : Fin 2048) (d : Fin 128) :
    (StableHlo.after (hostOps0_4 (F := Ideal)) s (Proc.devRef .tc main_v40) : S2048x128.Idx → EReal) (ix2 t d) = ((co t.val d.val : ℝ) : EReal) := by
  after_results_simp
  pointwise
  by_cases h : d.val < 32
  · rw [dif_pos h]
    after_results_simp
    pointwise
    rw [h17, angle_row t.val d.val _ t.isLt (by omega) (by omega) (by omega)]
    rfl
  · rw [dif_neg h]
    by_cases h' : d.val - 32 < 32
    · rw [dif_pos h']
      after_results_simp
      pointwise
      rw [h17, angle_row t.val d.val _ t.isLt (by omega) (by omega) (by omega)]
      rfl
    · rw [dif_neg h']
      by_cases h'' : d.val - 32 - 32 < 32
      · rw [dif_pos h'']
        after_results_simp
        pointwise
        rw [h18, angle_col t.val d.val _ t.isLt (by omega) (by omega) (by omega)]
        rfl
      · rw [dif_neg h'']
        after_results_simp
        pointwise
        rw [h18, angle_col t.val d.val _ t.isLt (by omega) (by omega) (by omega)]
        rfl

include h17 h18 in
theorem sin_of (t : Fin 2048) (d : Fin 128) :
    (StableHlo.after (hostOps0_4 (F := Ideal)) s (Proc.devRef .tc main_v47) : S2048x128.Idx → EReal) (ix2 t d) = ((si t.val d.val : ℝ) : EReal) := by
  after_results_simp
  pointwise
  by_cases h : d.val < 32
  · rw [dif_pos h]
    after_results_simp
    pointwise
    rw [h17, angle_row t.val d.val _ t.isLt (by omega) (by omega) (by omega)]
    exact si_low _ _ (by omega)
  · rw [dif_neg h]
    by_cases h' : d.val - 32 < 32
    · rw [dif_pos h']
      after_results_simp
      pointwise
      rw [h17, angle_row t.val d.val _ t.isLt (by omega) (by omega) (by omega)]
      exact si_high _ _ (by omega)
    · rw [dif_neg h']
      by_cases h'' : d.val - 32 - 32 < 32
      · rw [dif_pos h'']
        after_results_simp
        pointwise
        rw [h18, angle_col t.val d.val _ t.isLt (by omega) (by omega) (by omega)]
        exact si_low _ _ (by omega)
      · rw [dif_neg h'']
        after_results_simp
        pointwise
        rw [h18, angle_col t.val d.val _ t.isLt (by omega) (by omega) (by omega)]
        exact si_high _ _ (by omega)

end Last

/-- The quotient as a number. -/
theorem rows_of (hs : (s (Proc.devRef .tc main_v15) : S2048.Idx → BitVec 32) = iotaInDim S2048 32 0)
    (hk : (s (Proc.devRef .tc main_c) : S_.Idx → BitVec 32) = constantI S_ 32 64#32) (t : Fin 2048) :
    (StableHlo.after (hostOps0_3 (F := Ideal)) (StableHlo.after (hostOps0_2 (F := Ideal)) (StableHlo.after (hostOps0_1 (F := Ideal)) s)) (Proc.devRef .tc main_v17) : S2048.Idx → EReal) (ix1 t)
      = FloatOps.sitofp (F := Ideal) .f32 (BitVec.ofNat 32 (t.val / 64)) := by
  have e := row_of s hs hk t
  generalize StableHlo.after (hostOps0_1 (F := Ideal)) s = s' at e ⊢
  after_results_simp
  pointwise
  rw [e]

/-- The remainder. -/
theorem cols_of (hs : (s (Proc.devRef .tc main_v15) : S2048.Idx → BitVec 32) = iotaInDim S2048 32 0) (t : Fin 2048) :
    (StableHlo.after (hostOps0_3 (F := Ideal)) (StableHlo.after (hostOps0_2 (F := Ideal)) (StableHlo.after (hostOps0_1 (F := Ideal)) s)) (Proc.devRef .tc main_v18) : S2048.Idx → BitVec 32) (ix1 t)
      = BitVec.ofNat 32 (t.val % 64) := by
  refine col_of _ ?_ ?_ t
  · refine Eq.trans ?_ hs
    after_results_simp
  · after_results_simp

theorem entry_cos (t : Fin 2048) (d : Fin 128) : (V m c main_v40 : S2048x128.Idx → EReal) (ix2 t d) = ((co t.val d.val : ℝ) : EReal) :=
  cos_of _ (rows_of _ (by after_results_simp) (by after_results_simp)) (cols_of _ (by after_results_simp)) t d

theorem entry_sin (t : Fin 2048) (d : Fin 128) : (V m c main_v47 : S2048x128.Idx → EReal) (ix2 t d) = ((si t.val d.val : ℝ) : EReal) :=
  sin_of _ (rows_of _ (by after_results_simp) (by after_results_simp)) (cols_of _ (by after_results_simp)) t d

end Prep

end
-- ==== Proof.Prep.Ref.lean ====
/- The reference of the queries' and keys' gradient call, on arguments that are matrices of reals. -/
module

public import proofs.«01_k».proof.Proof.Prep.Tables

@[expose] public section

noncomputable section

namespace Prep

open Reals Norm
open Idealize.ShloMosaic Idealize.ShloMosaic.Pointwise Cert.Reference6Ideal Cert.Reference6Ideal.Gen Cert.Reference6Ideal.Read

def argX (X : ℕ → ℕ → ℝ) : (⟨S4096x1024, .f32⟩ : BufTy).Contents (Elt Ideal) := vecN X
def argG (G : ℕ → ℝ) : (⟨S1x1024, .f32⟩ : BufTy).Contents (Elt Ideal) := vecN fun _ k => G k
def argW (W : ℕ → ℕ → ℝ) : (⟨S1024x1536, .f32⟩ : BufTy).Contents (Elt Ideal) := vecN W
def argK (D : ℕ → ℕ → ℝ) : (⟨S4096x256, .f32⟩ : BufTy).Contents (Elt Ideal) := vecN D
def argN (G : ℕ → ℝ) : (⟨S1x128, .f32⟩ : BufTy).Contents (Elt Ideal) := vecN fun _ k => G k

variable (X W DQ DK DV : ℕ → ℕ → ℝ) (G QG KG : ℕ → ℝ)

theorem argX_at (p : Fin 4096) (k : Fin 1024) : argX X (ix2 p k) = ((X p.val k.val : ℝ) : EReal) := rfl
theorem argG_at (z : Fin 1) (k : Fin 1024) : argG G (ix2 z k) = ((G k.val : ℝ) : EReal) := rfl
theorem argW_at (k : Fin 1024) (q : Fin 1536) : argW W (ix2 k q) = ((W k.val q.val : ℝ) : EReal) := rfl
theorem argK_at (p : Fin 4096) (k : Fin 256) : argK DK (ix2 p k) = ((DK p.val k.val : ℝ) : EReal) := rfl
theorem argN_at (z : Fin 1) (k : Fin 128) : argN QG (ix2 z k) = ((QG k.val : ℝ) : EReal) := rfl

theorem ref_rms (t : Fin 4096) (z : Fin 1) : val_main_v8 (F := Ideal) (argX X) (ix2 t z) = ((rs 1024 (X t.val) : ℝ) : EReal) := by
  pointwise [val_main_v8, val_main_v7, val_main_v6, val_main_cst_1, val_main_v5, val_main_v4, val_main_cst_0, val_main_v3, val_main_v2,
    val_main_cst, val_main_v1]
  simp only [argX_at, sum_mul_coe, eps_eq, n1024_eq, zero_add]
  rw [div_coe_coe _ _ (by norm_num), ← EReal.coe_add]
  exact rs_coe 1024 _

theorem ref_qkv (p : Fin 4096) (q : Fin 1536) :
    val_main_v14 (F := Ideal) (argX X) (argG G) (argW W) (ix2 p q) = ((qkv X G W p.val q.val : ℝ) : EReal) := by
  have h := ref_rms X
  pointwise [val_main_v14, val_main_v13, val_main_v12, val_main_v11, val_main_v10, val_main_v9, val_main_v0]
  simp only [argX_at, argG_at, argW_at, h, ← EReal.coe_mul, sum_coe]
  rfl

/-! The angles. -/

theorem ref_row (t : Fin 2048) (f : Fin 32) : val_main_v72 (F := Ideal) (ix2 t f) = ((angle t.val f.val : ℝ) : EReal) := by
  pointwise [val_main_v72, val_main_v71, val_main_v70, val_main_v69, val_main_v68, val_main_v67, val_main_v66, val_main_v65, val_main_v64, val_main_v63,
    val_main_v62, val_main_v57, val_main_v56, val_main_v55, val_main_cst_10, val_main_cst_11]
  exact angle_row t.val f.val f.val t.isLt f.isLt (by omega) (by omega)

theorem ref_col (t : Fin 2048) (f : Fin 32) : val_main_v77 (F := Ideal) (ix2 t f) = ((angle t.val (64 + f.val) : ℝ) : EReal) := by
  pointwise [val_main_v77, val_main_v76, val_main_v75, val_main_v74, val_main_v73, val_main_v67, val_main_v66, val_main_v65, val_main_v64, val_main_v63,
    val_main_v62, val_main_v61, val_main_v60, val_main_v59, val_main_v58, val_main_cst_10, val_main_cst_11]
  exact angle_col t.val (64 + f.val) f.val t.isLt f.isLt (by omega) (by omega)

/-! The projection's heads. -/

theorem ref_q (b : Fin 2) (t : Fin 2048) (h : Fin 8) (d : Fin 128) :
    val_main_v19 (F := Ideal) (argX X) (argG G) (argW W) (ix4 b t h d) = ((hd (qkv X G W) (b.val * 2048 + t.val) (128 * h.val) d.val : ℝ) : EReal) := by
  have e := ref_qkv X W G
  pointwise [val_main_v19, val_main_v16, val_main_v15]
  exact (e _ _).trans (congrArg (fun n => ((qkv X G W (b.val * 2048 + t.val) n : ℝ) : EReal)) (by dsimp only; omega))

theorem ref_k (b : Fin 2) (t : Fin 2048) (h : Fin 2) (d : Fin 128) :
    val_main_v37 (F := Ideal) (argX X) (argG G) (argW W) (ix4 b t h d) = ((hd (qkv X G W) (b.val * 2048 + t.val) (1024 + 128 * h.val) d.val : ℝ) : EReal) := by
  have e := ref_qkv X W G
  pointwise [val_main_v37, val_main_v17, val_main_v15]
  exact (e _ _).trans (congrArg (fun n => ((qkv X G W (b.val * 2048 + t.val) n : ℝ) : EReal)) (by dsimp only; omega))

theorem ref_dq (b : Fin 2) (t : Fin 2048) (h : Fin 8) (d : Fin 128) :
    val_main_v165 (F := Ideal) (argX DQ) (ix4 b t h d) = ((hd DQ (b.val * 2048 + t.val) (128 * h.val) d.val : ℝ) : EReal) := by
  pointwise [val_main_v165]
  exact (argX_at _ _ _).trans (congrArg (fun n => ((DQ (b.val * 2048 + t.val) n : ℝ) : EReal)) (by dsimp only; omega))

theorem ref_dk (b : Fin 2) (t : Fin 2048) (h : Fin 2) (d : Fin 128) :
    val_main_v164 (F := Ideal) (argK DK) (ix4 b t h d) = ((hd DK (b.val * 2048 + t.val) (128 * h.val) d.val : ℝ) : EReal) := by
  pointwise [val_main_v164]
  exact (argK_at _ _ _).trans (congrArg (fun n => ((DK (b.val * 2048 + t.val) n : ℝ) : EReal)) (by dsimp only; omega))

/-! The gradient before the turn. -/

theorem angle_congr (t : ℕ) {d d' : ℕ} (h : d < 64 ↔ d' < 64) (e : d % 32 = d' % 32) : angle t d = angle t d' := by
  unfold angle
  rw [e]
  simp only [h]

/-- The four quarters of a head, as the reference turns them back. -/
theorem turned (t : ℕ) (D : ℕ → ℝ) (d : ℕ) (hd : d < 128) :
    (if _ : d < 64 then
      if _ : d < 32 then ((D (32 + d) : ℝ) : EReal) * Ideal.sin ((angle t d : ℝ) : EReal) + ((D d : ℝ) : EReal) * Ideal.cos ((angle t d : ℝ) : EReal)
      else ((D (32 + (d - 32)) : ℝ) : EReal) * Ideal.cos ((angle t (d - 32) : ℝ) : EReal) + -((D (d - 32) : ℝ) : EReal) * Ideal.sin ((angle t (d - 32) : ℝ) : EReal)
    else
      if _ : d - 64 < 32 then
        ((D (64 + (32 + (d - 64))) : ℝ) : EReal) * Ideal.sin ((angle t (64 + (d - 64)) : ℝ) : EReal)
          + ((D (64 + (d - 64)) : ℝ) : EReal) * Ideal.cos ((angle t (64 + (d - 64)) : ℝ) : EReal)
      else
        ((D (64 + (32 + (d - 64 - 32))) : ℝ) : EReal) * Ideal.cos ((angle t (64 + (d - 64 - 32)) : ℝ) : EReal)
          + -((D (64 + (d - 64 - 32)) : ℝ) : EReal) * Ideal.sin ((angle t (64 + (d - 64 - 32)) : ℝ) : EReal)) = ((dy t D d : ℝ) : EReal) := by
  have hs : ∀ x : ℝ, Ideal.sin (x : EReal) = ((Real.sin x : ℝ) : EReal) := fun _ => rfl
  have hc : ∀ x : ℝ, Ideal.cos (x : EReal) = ((Real.cos x : ℝ) : EReal) := fun _ => rfl
  simp only [hs, hc, ← EReal.coe_neg, ← EReal.coe_mul, ← EReal.coe_add]
  unfold dy co si sw
  by_cases h : d < 64
  · rw [dif_pos h]
    by_cases h' : d < 32
    · rw [dif_pos h', if_pos (by omega), if_pos (by omega), show 32 + d = d + 32 by omega]
      exact congrArg Real.toEReal (by ring)
    · rw [dif_neg h', if_neg (by omega), if_neg (by omega), show 32 + (d - 32) = d by omega, angle_congr t (d := d - 32) (d' := d) (by omega) (by omega)]
      exact congrArg Real.toEReal (by ring)
  · rw [dif_neg h]
    by_cases h' : d - 64 < 32
    · rw [dif_pos h', if_pos (by omega), if_pos (by omega), show 64 + (32 + (d - 64)) = d + 32 by omega, show 64 + (d - 64) = d by omega]
      exact congrArg Real.toEReal (by ring)
    · rw [dif_neg h', if_neg (by omega), if_neg (by omega), show 64 + (32 + (d - 64 - 32)) = d by omega, show 64 + (d - 64 - 32) = d - 32 by omega,
        angle_congr t (d := d - 32) (d' := d) (by omega) (by omega)]
      exact congrArg Real.toEReal (by ring)

theorem ref_dyq (b : Fin 2) (t : Fin 2048) (h : Fin 8) (d : Fin 128) :
    val_main_v227 (F := Ideal) (argX DQ) (ix4 b t h d) = ((dy t.val (hd DQ (b.val * 2048 + t.val) (128 * h.val)) d.val : ℝ) : EReal) := by
  have e := ref_dq DQ
  have er := ref_row
  have ec := ref_col
  pointwise [val_main_v227, val_main_v226, val_main_v225, val_main_v224, val_main_v223, val_main_v222, val_main_v221, val_main_v220, val_main_v219, val_main_v218,
    val_main_v217, val_main_v216, val_main_v215, val_main_v214, val_main_v213, val_main_v212, val_main_v211, val_main_v210, val_main_v209, val_main_v208,
    val_main_v207, val_main_v206, val_main_v205, val_main_v204, val_main_v203, val_main_v202, val_main_v201, val_main_v200, val_main_v199, val_main_v198,
    val_main_v197, val_main_v117, val_main_v114, val_main_v110, val_main_v107, val_main_v100, val_main_v97, val_main_v93, val_main_v90,
    val_main_v85, val_main_v84, val_main_v83, val_main_v82, val_main_v81, val_main_v80, val_main_v79, val_main_v78]
  simp only [e, er, ec]
  exact turned t.val _ d.val d.isLt

theorem ref_dyk (b : Fin 2) (t : Fin 2048) (h : Fin 2) (d : Fin 128) :
    val_main_v196 (F := Ideal) (argK DK) (ix4 b t h d) = ((dy t.val (hd DK (b.val * 2048 + t.val) (128 * h.val)) d.val : ℝ) : EReal) := by
  have e := ref_dk DK
  have er := ref_row
  have ec := ref_col
  pointwise [val_main_v196, val_main_v195, val_main_v194, val_main_v193, val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v154, val_main_v151, val_main_v147, val_main_v144, val_main_v137, val_main_v134, val_main_v130, val_main_v127, val_main_v85, val_main_v84, val_main_v83, val_main_v82, val_main_v81, val_main_v80, val_main_v79, val_main_v78]
  simp only [e, er, ec]
  exact turned t.val _ d.val d.isLt

/-- The rows, by the image they belong to. -/
theorem sum_images (f : ℕ → ℝ) : ∑ p : Fin 4096, f p.val = ∑ b : Fin 2, ∑ t : Fin 2048, f (b.val * 2048 + t.val) := by
  rw [Fin.sum_univ_two]
  refine (Fin.sum_univ_add (a := 2048) (b := 2048) fun p => f p.val).trans (congrArg₂ (· + ·) (Finset.sum_congr rfl fun t _ => congrArg f ?_)
    (Finset.sum_congr rfl fun t _ => congrArg f ?_))
  · show t.val = 0 * 2048 + t.val
    omega
  · show 2048 + t.val = 1 * 2048 + t.val
    omega

/-- A sum over the first three axes. -/
theorem sum_three {a b c n : ℕ} (h : (⟨4, ![a, b, c, n]⟩ : Shape).ReducesTo [0, 1, 2] ⟨1, ![n]⟩) (v : (⟨4, ![a, b, c, n]⟩ : Shape).Idx → EReal) (init : EReal) (d : Fin n) :
    Ideal.hostReduceAdd h v init (ix1 d) = init + ∑ i : Fin a, ∑ j : Fin b, ∑ k : Fin c, v (ix4 i j k d) := by
  have e : ∀ (i : Fin a) (j : Fin b) (k : Fin c) (d' : Fin n), h.drop (ix4 i j k d') = ix1 d ↔ d' = d := by
    intro i j k d'
    have e : (h.drop (ix4 i j k d') 0).val = d'.val := h.drop_apply_val_of_eq (ix4 i j k d') 0 3 (hb := Nat.zero_lt_one) (hc := rfl)
    constructor
    · intro q
      rw [q] at e
      exact Fin.ext e.symm
    · rintro rfl
      funext u
      obtain rfl : u = 0 := Subsingleton.elim u 0
      exact Fin.ext e
  show init + ∑ i ∈ Finset.univ.filter (fun i => h.drop i = ix1 d), v i = _
  rw [Finset.sum_filter, sum_idx4]
  simp only [e, Finset.sum_ite_eq', Finset.mem_univ, if_true]

/-! The norm of the queries. -/

theorem ref_msq (b : Fin 2) (t : Fin 2048) (h : Fin 8) (u : Fin 1) :
    val_main_v27 (F := Ideal) (argX X) (argG G) (argW W) (ix4 b t h u) = ((ms 128 (hd (qkv X G W) (b.val * 2048 + t.val) (128 * h.val)) : ℝ) : EReal) := by
  have e := ref_q X W G
  pointwise [val_main_v27, val_main_v26, val_main_v25, val_main_v24, val_main_v23, val_main_v22, val_main_v21, val_main_cst_2, val_main_cst_3, val_main_cst_4]
  simp only [e, sum_mul_coe, eps_eq, n128_eq, zero_add]
  rw [div_coe_coe _ _ (by norm_num), ← EReal.coe_add]
  rfl

theorem ref_rsq (b : Fin 2) (t : Fin 2048) (h : Fin 8) (u : Fin 1) :
    val_main_v28 (F := Ideal) (argX X) (argG G) (argW W) (ix4 b t h u) = ((rs 128 (hd (qkv X G W) (b.val * 2048 + t.val) (128 * h.val)) : ℝ) : EReal) := by
  have e := ref_msq X W G
  pointwise [val_main_v28]
  simp only [e, rs_coe]

theorem ref_xhq (b : Fin 2) (t : Fin 2048) (h : Fin 8) (d : Fin 128) :
    val_main_v33 (F := Ideal) (argX X) (argG G) (argW W) (ix4 b t h d) = ((xh 128 (hd (qkv X G W) (b.val * 2048 + t.val) (128 * h.val)) d.val : ℝ) : EReal) := by
  have e := ref_q X W G
  have e' := ref_rsq X W G
  pointwise [val_main_v33, val_main_v32]
  simp only [e, e', ← EReal.coe_mul]
  rfl

theorem ref_dxq (b : Fin 2) (t : Fin 2048) (h : Fin 8) (d : Fin 128) :
    val_main_v269 (F := Ideal) (argX X) (argG G) (argW W) (argX DQ) (argN QG) (ix4 b t h d)
      = ((dx t.val (hd DQ (b.val * 2048 + t.val) (128 * h.val)) (hd (qkv X G W) (b.val * 2048 + t.val) (128 * h.val)) QG d.val : ℝ) : EReal) := by
  have e := ref_q X W G
  have er := ref_rsq X W G
  have em := ref_msq X W G
  have ed := ref_dyq DQ
  pointwise [val_main_v269, val_main_v268, val_main_v267, val_main_v266, val_main_v265, val_main_v264, val_main_v263, val_main_v262, val_main_v261, val_main_v260, val_main_v259, val_main_v258, val_main_v257, val_main_v256, val_main_v254, val_main_v253, val_main_v34, val_main_v31, val_main_v30, val_main_v29, val_main_v20, val_main_cst_5, val_main_cst_19, val_main_cst_20, val_main_cst_21]
  simp only [Fin.sum_univ_one, argN_at, e, er, em, ed, neg_half_eq, n128_eq, div_coe_coe _ _ (ms_pos _ _).ne', ← EReal.coe_mul, sum_coe]
  rw [div_coe_coe _ _ (by norm_num)]
  simp only [← EReal.coe_mul, ← EReal.coe_add]
  unfold dx
  rw [← back_eq]

theorem ref_dgq (d : Fin 128) :
    val_main_v270 (F := Ideal) (argX X) (argG G) (argW W) (argX DQ) (ix2 0 d) = ((dQG (qkv X G W) DQ d.val : ℝ) : EReal) := by
  have e := ref_xhq X W G
  have ed := ref_dyq DQ
  pointwise [val_main_v270, val_main_v255, val_main_v252, val_main_v251, val_main_v250, val_main_cst_17, val_main_cst_18]
  rw [sum_three]
  pointwise
  rw [sum_three]
  pointwise
  simp only [Fin.sum_univ_one, e, ed, ← EReal.coe_mul, sum_coe]
  unfold dQG
  rw [sum_images (qT (qkv X G W) DQ d.val)]
  refine congrArg Real.toEReal (Finset.sum_congr rfl fun b _ => Finset.sum_congr rfl fun t _ => ?_)
  unfold qT
  rw [show (b.val * 2048 + t.val) % 2048 = t.val by omega]
  exact Finset.sum_congr rfl fun h _ => mul_comm _ _

/-! The norm of the keys. -/

theorem ref_msk (b : Fin 2) (t : Fin 2048) (h : Fin 2) (u : Fin 1) :
    val_main_v45 (F := Ideal) (argX X) (argG G) (argW W) (ix4 b t h u) = ((ms 128 (hd (qkv X G W) (b.val * 2048 + t.val) (1024 + 128 * h.val)) : ℝ) : EReal) := by
  have e := ref_k X W G
  pointwise [val_main_v45, val_main_v44, val_main_v43, val_main_v42, val_main_v41, val_main_v40, val_main_v39, val_main_cst_6, val_main_cst_7, val_main_cst_8]
  simp only [e, sum_mul_coe, eps_eq, n128_eq, zero_add]
  rw [div_coe_coe _ _ (by norm_num), ← EReal.coe_add]
  rfl

theorem ref_rsk (b : Fin 2) (t : Fin 2048) (h : Fin 2) (u : Fin 1) :
    val_main_v46 (F := Ideal) (argX X) (argG G) (argW W) (ix4 b t h u) = ((rs 128 (hd (qkv X G W) (b.val * 2048 + t.val) (1024 + 128 * h.val)) : ℝ) : EReal) := by
  have e := ref_msk X W G
  pointwise [val_main_v46]
  simp only [e, rs_coe]

theorem ref_xhk (b : Fin 2) (t : Fin 2048) (h : Fin 2) (d : Fin 128) :
    val_main_v51 (F := Ideal) (argX X) (argG G) (argW W) (ix4 b t h d) = ((xh 128 (hd (qkv X G W) (b.val * 2048 + t.val) (1024 + 128 * h.val)) d.val : ℝ) : EReal) := by
  have e := ref_k X W G
  have e' := ref_rsk X W G
  pointwise [val_main_v51, val_main_v50]
  simp only [e, e', ← EReal.coe_mul]
  rfl

theorem ref_dxk (b : Fin 2) (t : Fin 2048) (h : Fin 2) (d : Fin 128) :
    val_main_v247 (F := Ideal) (argX X) (argG G) (argW W) (argK DK) (argN KG) (ix4 b t h d)
      = ((dx t.val (hd DK (b.val * 2048 + t.val) (128 * h.val)) (hd (qkv X G W) (b.val * 2048 + t.val) (1024 + 128 * h.val)) KG d.val : ℝ) : EReal) := by
  have e := ref_k X W G
  have er := ref_rsk X W G
  have em := ref_msk X W G
  have ed := ref_dyk DK
  pointwise [val_main_v247, val_main_v246, val_main_v245, val_main_v244, val_main_v243, val_main_v242, val_main_v241, val_main_v240, val_main_v239, val_main_v238, val_main_v237, val_main_v236, val_main_v235, val_main_v234, val_main_v232, val_main_v231, val_main_v52, val_main_v49, val_main_v48, val_main_v47, val_main_v38, val_main_cst_9, val_main_cst_14, val_main_cst_15, val_main_cst_16]
  simp only [Fin.sum_univ_one, argN_at, e, er, em, ed, neg_half_eq, n128_eq, div_coe_coe _ _ (ms_pos _ _).ne', ← EReal.coe_mul, sum_coe]
  rw [div_coe_coe _ _ (by norm_num)]
  simp only [← EReal.coe_mul, ← EReal.coe_add]
  unfold dx
  rw [← back_eq]

theorem ref_dgk (d : Fin 128) :
    val_main_v248 (F := Ideal) (argX X) (argG G) (argW W) (argK DK) (ix2 0 d) = ((dKG (qkv X G W) DK d.val : ℝ) : EReal) := by
  have e := ref_xhk X W G
  have ed := ref_dyk DK
  pointwise [val_main_v248, val_main_v233, val_main_v230, val_main_v229, val_main_v228, val_main_cst_12, val_main_cst_13]
  rw [sum_three]
  pointwise
  rw [sum_three]
  pointwise
  simp only [Fin.sum_univ_one, e, ed, ← EReal.coe_mul, sum_coe]
  unfold dKG
  rw [sum_images (kT (qkv X G W) DK d.val)]
  refine congrArg Real.toEReal (Finset.sum_congr rfl fun b _ => Finset.sum_congr rfl fun t _ => ?_)
  unfold kT
  rw [show (b.val * 2048 + t.val) % 2048 = t.val by omega]
  exact Finset.sum_congr rfl fun h _ => mul_comm _ _

theorem ref_dz (p : Fin 4096) (q : Fin 1536) :
    val_main_v274 (F := Ideal) (argX X) (argG G) (argW W) (argX DQ) (argK DK) (argK DV) (argN QG) (argN KG) (ix2 p q)
      = ((dz (qkv X G W) DQ DK DV QG KG p.val q.val : ℝ) : EReal) := by
  have eq := ref_dxq X W DQ G QG
  have ek := ref_dxk X W DK G KG
  pointwise [val_main_v274, val_main_v273, val_main_v272, val_main_v271, val_main_v249, val_main_v163]
  simp only [eq, ek, argK_at]
  have hp : p.val / 2048 * 2048 + p.val % 2048 = p.val := by omega
  rw [hp]
  unfold dz
  by_cases h : q.val < 1024
  · rw [dif_pos h, if_pos h, show 128 * (q.val / 128) = q.val / 128 * 128 by omega]
  · rw [dif_neg h, if_neg h]
    by_cases h' : q.val < 1280
    · rw [dif_pos (by omega), if_pos h', show 128 * ((q.val - 1024) / 128) = (q.val - 1024) / 128 * 128 by omega,
        show 1024 + (q.val - 1024) / 128 * 128 = q.val / 128 * 128 by omega, show (q.val - 1024) % 128 = q.val % 128 by omega]
    · rw [dif_neg (by omega), if_neg h', show q.val - 1024 - 256 = q.val - 1280 by omega]

theorem ref_v274 : val_main_v274 (F := Ideal) (argX X) (argG G) (argW W) (argX DQ) (argK DK) (argK DV) (argN QG) (argN KG)
    = vecN (dz (qkv X G W) DQ DK DV QG KG) := by
  funext y
  exact (congrArg _ (eq_ix2 y)).trans (ref_dz X W DQ DK DV G QG KG (y 0) (y 1))

theorem ref_v270 : val_main_v270 (F := Ideal) (argX X) (argG G) (argW W) (argX DQ) = vecN fun _ d => dQG (qkv X G W) DQ d := by
  funext y
  obtain ⟨z, d, rfl⟩ : ∃ (z : Fin 1) (d : Fin 128), y = ix2 z d := ⟨y 0, y 1, eq_ix2 y⟩
  obtain rfl : z = 0 := Subsingleton.elim z 0
  exact ref_dgq X W DQ G d

theorem ref_v248 : val_main_v248 (F := Ideal) (argX X) (argG G) (argW W) (argK DK) = vecN fun _ d => dKG (qkv X G W) DK d := by
  funext y
  obtain ⟨z, d, rfl⟩ : ∃ (z : Fin 1) (d : Fin 128), y = ix2 z d := ⟨y 0, y 1, eq_ix2 y⟩
  obtain rfl : z = 0 := Subsingleton.elim z 0
  exact ref_dgk X W DK G d

end Prep

end
-- ==== Proof.Prep.Arrays.lean ====
/- The queries' and keys' gradient: what its windows show the kernel, and what the call's three arrays hold at the end. -/
module

public import proofs.«01_k».proof.Proof.Prep.Cases
public import proofs.«01_k».proof.Proof.Prep.Ref
public import proofs.«01_k».proof.Proof.Gen.Kernel6Ideal.Value
public import Idealize.ShloMosaic.Lib.Pipeline.ValueKit

@[expose] public section

noncomputable section

namespace Prep

open Reals Norm
open Idealize.ShloMosaic Idealize.ShloMosaic.Pointwise Idealize.ShloMosaic.Tactic Cert.Kernel6Ideal Cert.Kernel6Ideal.Gen

variable (m : ∀ ℓ : Loc nD τ sig, Buf (Elt Ideal) ℓ) (c : Dev nD) {X W DQ DK DV : ℕ → ℕ → ℝ} {G QG KG : ℕ → ℝ}
  (h0 : (m ((c.tc : Thread nD τ).loc main_arg0) : S4096x1024.Idx → EReal) = vecN X)
  (h1 : (m ((c.tc : Thread nD τ).loc main_arg1) : S1x1024.Idx → EReal) = vecN fun _ k => G k)
  (h2 : (m ((c.tc : Thread nD τ).loc main_arg2) : S1024x1536.Idx → EReal) = vecN W)
  (h3 : (m ((c.tc : Thread nD τ).loc main_arg3) : S4096x1024.Idx → EReal) = vecN DQ)
  (h4 : (m ((c.tc : Thread nD τ).loc main_arg4) : S4096x256.Idx → EReal) = vecN DK)
  (h5 : (m ((c.tc : Thread nD τ).loc main_arg5) : S4096x256.Idx → EReal) = vecN DV)
  (h6 : (m ((c.tc : Thread nD τ).loc main_arg6) : S1x128.Idx → EReal) = vecN fun _ k => QG k)
  (h7 : (m ((c.tc : Thread nD τ).loc main_arg7) : S1x128.Idx → EReal) = vecN fun _ k => KG k)

section Host

/-- The host lines after the first stretch leave the projection as it is. -/
theorem v14_eq : V m c main_v14 = StableHlo.after (hostOps0 (F := Ideal)) (fun b => m (c, b)) (Proc.devRef .tc main_v14) := by
  show StableHlo.after (hostOps0 (F := Ideal) ++ List.flatten [hostOps0_1 (F := Ideal), hostOps0_2 (F := Ideal), hostOps0_3 (F := Ideal), hostOps0_4 (F := Ideal)])
    (fun b => m (c, b)) (Proc.devRef .tc main_v14) = _
  rw [StableHlo.after_append]
  exact StableHlo.after_of_forall_not_mem (b := Proc.devRef .tc main_v14) _ _ (List.forall_iff_forall_mem.mp (by
    simp only [hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))

include h0 h1 h2 in
theorem entry_qkv (y : S4096x1536.Idx) : (V m c main_v14 : S4096x1536.Idx → EReal) y = ((qkv X G W (y 0).val (y 1).val : ℝ) : EReal) := by
  obtain ⟨p, q, rfl⟩ : ∃ (p : Fin 4096) (q : Fin 1536), y = ix2 p q := ⟨y 0, y 1, eq_ix2 y⟩
  rw [v14_eq]
  after_results_simp
  rw [show m (c, Proc.tc.devRef main_arg0) = vecN X from h0, show m (c, Proc.tc.devRef main_arg1) = vecN (fun _ k => G k) from h1,
    show m (c, Proc.tc.devRef main_arg2) = vecN W from h2]
  pointwise
  simp only [vecN_ix2, sum_mul_coe, eps_eq, n1024_eq, zero_add, rs_row, ← EReal.coe_mul, sum_coe]
  rfl

include h3 in
theorem entry_dq : (V m c main_arg3 : S4096x1024.Idx → EReal) = vecN DQ :=
  (V_main_arg3 m c).trans h3

include h4 in
theorem entry_dk : (V m c main_arg4 : S4096x256.Idx → EReal) = vecN DK :=
  (V_main_arg4 m c).trans h4

include h5 in
theorem entry_dv : (V m c main_arg5 : S4096x256.Idx → EReal) = vecN DV :=
  (V_main_arg5 m c).trans h5

include h6 in
theorem entry_qg : (V m c main_arg6 : S1x128.Idx → EReal) = vecN fun _ k => QG k :=
  (V_main_arg6 m c).trans h6

include h7 in
theorem entry_kg : (V m c main_arg7 : S1x128.Idx → EReal) = vecN fun _ k => KG k :=
  (V_main_arg7 m c).trans h7

end Host

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![t.val, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val % 2, 0] := (by decide +kernel : ∀ t : Fin grid0.N, _)
theorem idx0_7 : ∀ t : Fin cfg0.N, win0_7.index t = ![t.val % 2, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)

theorem flush0_9 : ∀ t : Fin cfg0.N, (cfg0.win 9).flush t = true → t.val = 3 := (by decide +kernel : ∀ t : Fin grid0.N, _)
theorem flush0_10 : ∀ t : Fin cfg0.N, (cfg0.win 10).flush t = true → t.val = 3 := (by decide +kernel : ∀ t : Fin grid0.N, _)

include h0 h1 h2 in
theorem iblk_z (t : Fin cfg0.N) (r : Fin 1024) (k : Fin 1536) :
    (iblk m c 0 t : Vec Ideal S1024x1536 .f32) (ix2 r k) = ((qkv X G W (t.val * 1024 + r.val) k.val : ℝ) : EReal) := by
  blk_simp [iblk]
  refine (entry_qkv m c h0 h1 h2 _).trans (congrArg Real.toEReal (congrArg₂ (qkv X G W) ?_ ?_))
  · blk_simp [idx0_0]
  · blk_simp [idx0_0]

include h3 in
theorem iblk_dq (t : Fin cfg0.N) (r : Fin 1024) (k : Fin 1024) :
    (iblk m c 1 t : Vec Ideal S1024x1024 .f32) (ix2 r k) = ((DQ (t.val * 1024 + r.val) k.val : ℝ) : EReal) := by
  blk_simp [iblk]
  rw [entry_dq m c h3]
  exact vecN_eq _ _ _ _ (by blk_simp [idx0_1]) (by blk_simp [idx0_1])

include h4 in
theorem iblk_dk (t : Fin cfg0.N) (r : Fin 1024) (k : Fin 256) :
    (iblk m c 2 t : Vec Ideal S1024x256 .f32) (ix2 r k) = ((DK (t.val * 1024 + r.val) k.val : ℝ) : EReal) := by
  blk_simp [iblk]
  rw [entry_dk m c h4]
  exact vecN_eq _ _ _ _ (by blk_simp [idx0_2]) (by blk_simp [idx0_2])

include h5 in
theorem iblk_dv (t : Fin cfg0.N) (r : Fin 1024) (k : Fin 256) :
    (iblk m c 3 t : Vec Ideal S1024x256 .f32) (ix2 r k) = ((DV (t.val * 1024 + r.val) k.val : ℝ) : EReal) := by
  blk_simp [iblk]
  rw [entry_dv m c h5]
  exact vecN_eq _ _ _ _ (by blk_simp [idx0_3]) (by blk_simp [idx0_3])

include h6 in
theorem iblk_qg (t : Fin cfg0.N) (k : Fin 128) : (iblk m c 4 t : Vec Ideal S1x128 .f32) (ix2 0 k) = ((QG k.val : ℝ) : EReal) := by
  blk_simp [iblk]
  rw [entry_qg m c h6]
  exact vecN_eq _ _ 0 _ (by blk_simp [idx0_4]; rfl) (by blk_simp [idx0_4])

include h7 in
theorem iblk_kg (t : Fin cfg0.N) (k : Fin 128) : (iblk m c 5 t : Vec Ideal S1x128 .f32) (ix2 0 k) = ((KG k.val : ℝ) : EReal) := by
  blk_simp [iblk]
  rw [entry_kg m c h7]
  exact vecN_eq _ _ 0 _ (by blk_simp [idx0_5]; rfl) (by blk_simp [idx0_5])

theorem iblk_cos (t : Fin cfg0.N) (r : Fin 1024) (d : Fin 128) :
    (iblk m c 6 t : Vec Ideal S1024x128 .f32) (ix2 r d) = ((co ((t.val * 1024 + r.val) % 2048) d.val : ℝ) : EReal) := by
  blk_simp [iblk]
  refine Eq.trans (congrArg _ (eq_ix2 _)) ((entry_cos m c _ _).trans (congrArg Real.toEReal (congrArg₂ co ?_ ?_)))
  · blk_simp [idx0_6]
    omega
  · blk_simp [idx0_6]

theorem iblk_sin (t : Fin cfg0.N) (r : Fin 1024) (d : Fin 128) :
    (iblk m c 7 t : Vec Ideal S1024x128 .f32) (ix2 r d) = ((si ((t.val * 1024 + r.val) % 2048) d.val : ℝ) : EReal) := by
  blk_simp [iblk]
  refine Eq.trans (congrArg _ (eq_ix2 _)) ((entry_sin m c _ _).trans (congrArg Real.toEReal (congrArg₂ si ?_ ?_)))
  · blk_simp [idx0_7]
    omega
  · blk_simp [idx0_7]

include h0 h1 h2 h3 h4 h5 h6 h7 in
/-- What a point leaves in the block of the gradient at the projection. -/
theorem at_dz (t : Fin cfg0.N) (r : Fin 1024) (f : Fin 1536) :
    (outsAt0 m c t.val t.isLt).1 (ix2 r f) = ((dz (qkv X G W) DQ DK DV QG KG (t.val * 1024 + r.val) f.val : ℝ) : EReal) := by
  by_cases h : t.val % 4 = 0
  · rw [outsAt0_A m c t h]
    dsimp only
    exact out0_A_8_apply (h0 := iblk_z m c h0 h1 h2 t) (h1 := iblk_dq m c h3 t) (h2 := iblk_dk m c h4 t) (h3 := iblk_dv m c h5 t) (h4 := iblk_qg m c h6 t) (h5 := iblk_kg m c h7 t) (h6 := iblk_cos m c t) (h7 := iblk_sin m c t) (r := r) (f := f) ..
  · rw [outsAt0_B m c t h]
    dsimp only
    exact out0_B_8_apply (h0 := iblk_z m c h0 h1 h2 t) (h1 := iblk_dq m c h3 t) (h2 := iblk_dk m c h4 t) (h3 := iblk_dv m c h5 t) (h4 := iblk_qg m c h6 t) (h5 := iblk_kg m c h7 t) (h6 := iblk_cos m c t) (h7 := iblk_sin m c t) (r := r) (f := f) ..

/-- A block of rows more. -/
theorem sum_rows (f : ℕ → ℝ) (n : ℕ) :
    ∑ t ∈ Finset.range ((n + 1) * 1024), f t = ∑ t ∈ Finset.range (n * 1024), f t + ∑ r : Fin 1024, f (n * 1024 + r.val) := by
  rw [show (n + 1) * 1024 = n * 1024 + 1024 by ring, Finset.sum_range_add, Finset.sum_range (n := 1024)]

include h0 h1 h2 h3 in
/-- What a point leaves in the gradient at the queries' gain: the rows summed so far. -/
theorem at_dqg : ∀ (n : ℕ) (hn : n < cfg0.N) (d : Fin 128),
    (outsAt0 m c n hn).2.1 (ix2 0 d) = ((∑ t ∈ Finset.range ((n + 1) * 1024), qT (qkv X G W) DQ d.val t : ℝ) : EReal) := by
  intro n
  induction n using Nat.strong_induction_on with
  | _ n ih =>
    intro hn d
    have hN : n < 4 := hn
    rw [sum_rows, EReal.coe_add]
    by_cases h : n % 4 = 0
    · have e : n = 0 := by omega
      subst e
      rw [outsAt0_A m c ⟨0, hn⟩ h, zero_mul, Finset.range_zero, Finset.sum_empty, EReal.coe_zero]
      dsimp only
      exact out0_A_9_apply (h0 := iblk_z m c h0 h1 h2 ⟨0, hn⟩) (h1 := iblk_dq m c h3 ⟨0, hn⟩) (h6 := iblk_cos m c ⟨0, hn⟩) (h7 := iblk_sin m c ⟨0, hn⟩) (d := d) ..
    · have e := ih (n - 1) (by omega) (by omega) d
      rw [show n - 1 + 1 = n by omega] at e
      rw [outsAt0_B m c ⟨n, hn⟩ h, ← e]
      dsimp only
      exact out0_B_9_apply (h0 := iblk_z m c h0 h1 h2 ⟨n, hn⟩) (h1 := iblk_dq m c h3 ⟨n, hn⟩) (h6 := iblk_cos m c ⟨n, hn⟩) (h7 := iblk_sin m c ⟨n, hn⟩) (d := d) ..

include h0 h1 h2 h4 in
/-- What a point leaves in the gradient at the keys' gain: the rows summed so far. -/
theorem at_dkg : ∀ (n : ℕ) (hn : n < cfg0.N) (d : Fin 128),
    (outsAt0 m c n hn).2.2 (ix2 0 d) = ((∑ t ∈ Finset.range ((n + 1) * 1024), kT (qkv X G W) DK d.val t : ℝ) : EReal) := by
  intro n
  induction n using Nat.strong_induction_on with
  | _ n ih =>
    intro hn d
    have hN : n < 4 := hn
    rw [sum_rows, EReal.coe_add]
    by_cases h : n % 4 = 0
    · have e : n = 0 := by omega
      subst e
      rw [outsAt0_A m c ⟨0, hn⟩ h, zero_mul, Finset.range_zero, Finset.sum_empty, EReal.coe_zero]
      dsimp only
      exact out0_A_10_apply (h0 := iblk_z m c h0 h1 h2 ⟨0, hn⟩) (h2 := iblk_dk m c h4 ⟨0, hn⟩) (h6 := iblk_cos m c ⟨0, hn⟩) (h7 := iblk_sin m c ⟨0, hn⟩) (d := d) ..
    · have e := ih (n - 1) (by omega) (by omega) d
      rw [show n - 1 + 1 = n by omega] at e
      rw [outsAt0_B m c ⟨n, hn⟩ h, ← e]
      dsimp only
      exact out0_B_10_apply (h0 := iblk_z m c h0 h1 h2 ⟨n, hn⟩) (h2 := iblk_dk m c h4 ⟨n, hn⟩) (h6 := iblk_cos m c ⟨n, hn⟩) (h7 := iblk_sin m c ⟨n, hn⟩) (d := d) ..

include h0 h1 h2 h3 h4 h5 h6 h7 in
theorem final_dz : ((dats m 0 c).arrAt 8 cfg0.N : S4096x1536.Idx → EReal) = vecN (dz (qkv X G W) DQ DK DV QG KG) := by
  refine (dats m 0 c).arrAt_eq_of_covers 8 _ (by decide +kernel) fun t hf y => ?_
  blk_simp
  rw [after0_8, eq_ix2 y]
  refine (at_dz m c h0 h1 h2 h3 h4 h5 h6 h7 t (y 0) (y 1)).trans ?_
  exact (vecN_eq _ _ _ _ (by blk_simp [idx0_8]) (by blk_simp [idx0_8])).symm

include h0 h1 h2 h3 in
theorem final_dqg : ((dats m 0 c).arrAt 9 cfg0.N : S1x128.Idx → EReal) = vecN fun _ d => dQG (qkv X G W) DQ d := by
  refine (dats m 0 c).arrAt_eq_of_covers 9 _ (by decide +kernel) fun t hf y => ?_
  blk_simp
  obtain ⟨z, d, rfl⟩ : ∃ (z : Fin 1) (d : Fin 128), y = ix2 z d := ⟨y 0, y 1, eq_ix2 y⟩
  obtain rfl : z = 0 := Subsingleton.elim z 0
  rw [after0_9]
  refine (at_dqg m c h0 h1 h2 h3 t.val t.isLt d).trans ?_
  rw [flush0_9 t hf]
  refine Eq.trans (congrArg Real.toEReal ?_) (vecN_eq _ _ 0 d.val (by blk_simp [idx0_9]; rfl) (by blk_simp [idx0_9])).symm
  exact (Fin.sum_univ_eq_sum_range (qT (qkv X G W) DQ d.val) 4096).symm

include h0 h1 h2 h4 in
theorem final_dkg : ((dats m 0 c).arrAt 10 cfg0.N : S1x128.Idx → EReal) = vecN fun _ d => dKG (qkv X G W) DK d := by
  refine (dats m 0 c).arrAt_eq_of_covers 10 _ (by decide +kernel) fun t hf y => ?_
  blk_simp
  obtain ⟨z, d, rfl⟩ : ∃ (z : Fin 1) (d : Fin 128), y = ix2 z d := ⟨y 0, y 1, eq_ix2 y⟩
  obtain rfl : z = 0 := Subsingleton.elim z 0
  rw [after0_10]
  refine (at_dkg m c h0 h1 h2 h4 t.val t.isLt d).trans ?_
  rw [flush0_10 t hf]
  refine Eq.trans (congrArg Real.toEReal ?_) (vecN_eq _ _ 0 d.val (by blk_simp [idx0_10]; rfl) (by blk_simp [idx0_10])).symm
  exact (Fin.sum_univ_eq_sum_range (kT (qkv X G W) DK d.val) 4096).symm

end Prep

end
-- ==== Proof.Prep.Frame.lean ====
/- The reference of the queries' and keys' gradients leaves its arguments as they are. -/
module

public import proofs.«01_k».proof.Defs
public import proofs.«01_k».proof.Proof.Gen.Reference6Ideal.Run

@[expose] public section

noncomputable section

namespace Prep

open Idealize.ShloMosaic Idealize.SL.Sem Cert.Reference6Ideal Cert.Reference6Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h c).2.2.2, funext fun g => nomatch g.2⟩) (Cert.Reference6Ideal.Value.run m ρ)

end Prep

end
-- ==== Proof.Prep.Claim.lean ====
/- The claim about the queries' and keys' gradient: the three results equal to the reference's. -/
module

public import proofs.«01_k».proof.Defs
public import proofs.«01_k».proof.Proof.Prep.Arrays
public import proofs.«01_k».proof.Proof.Prep.Frame
public import proofs.«01_k».proof.Proof.Gen.Pre_finite6
public import Idealize.ShloMosaic.Lib.ReduceAll
public import Idealize.ShloMosaic.Lib.Affine

@[expose] public section

noncomputable section

namespace Prep

open Reals
open Idealize.ShloMosaic Idealize.SL.Sem

instance : Subsingleton Cert.Pre_finite6.S_.Idx := ⟨fun a b => funext fun i => i.elim0⟩

/-- A row of 128 finite numbers is a row of reals. -/
theorem eq_gain (x : (⟨2, ![1, 128]⟩ : Shape).Idx → EReal) (hx : ∀ y, x y ≠ ⊤ ∧ x y ≠ ⊥) : ∃ G : ℕ → ℝ, x = vecN fun _ k => G k := by
  refine ⟨realOf x 0, (eq_vecN x hx).trans (funext fun y => ?_)⟩
  have e : (y 0).val = 0 := Nat.lt_one_iff.mp (y 0).isLt
  show ((realOf x (y 0).val (y 1).val : ℝ) : EReal) = ((realOf x 0 (y 1).val : ℝ) : EReal)
  rw [e]

/-- What the precondition says of each argument. -/
theorem finite_args [Cert.Pre_finite6.Facts] {x0 x3 : FVec Ideal Cert.Pre_finite6.S4096x1024 .f32} {x1 : FVec Ideal Cert.Pre_finite6.S1x1024 .f32}
    {x2 : FVec Ideal Cert.Pre_finite6.S1024x1536 .f32} {x4 x5 : FVec Ideal Cert.Pre_finite6.S4096x256 .f32} {x6 x7 : FVec Ideal Cert.Pre_finite6.S1x128 .f32}
    (h : Cert.Pre_finite6.fn (F := Ideal) x0 x1 x2 x3 x4 x5 x6 x7 = fun _ => 1#1) :
    (∀ y, x0 y ≠ (⊤ : EReal) ∧ x0 y ≠ (⊥ : EReal)) ∧ (∀ y, x1 y ≠ (⊤ : EReal) ∧ x1 y ≠ (⊥ : EReal))
      ∧ (∀ y, x2 y ≠ (⊤ : EReal) ∧ x2 y ≠ (⊥ : EReal)) ∧ (∀ y, x3 y ≠ (⊤ : EReal) ∧ x3 y ≠ (⊥ : EReal))
      ∧ (∀ y, x4 y ≠ (⊤ : EReal) ∧ x4 y ≠ (⊥ : EReal)) ∧ (∀ y, x5 y ≠ (⊤ : EReal) ∧ x5 y ≠ (⊥ : EReal))
      ∧ (∀ y, x6 y ≠ (⊤ : EReal) ∧ x6 y ≠ (⊥ : EReal)) ∧ (∀ y, x7 y ≠ (⊤ : EReal) ∧ x7 y ≠ (⊥ : EReal)) := by
  have h' := congrFun h (Shape.Idx.first Cert.Pre_finite6.Facts.h_S_)
  dsimp only [Cert.Pre_finite6.fn, Cert.Pre_finite6.fn_part1, Cert.Pre_finite6.fn_part2] at h'
  obtain ⟨h', h7⟩ := IntOp.andi_eq_one.mp h'
  obtain ⟨h', h6⟩ := IntOp.andi_eq_one.mp h'
  obtain ⟨h', h5⟩ := IntOp.andi_eq_one.mp h'
  obtain ⟨h', h4⟩ := IntOp.andi_eq_one.mp h'
  obtain ⟨h', h3⟩ := IntOp.andi_eq_one.mp h'
  obtain ⟨h', h2⟩ := IntOp.andi_eq_one.mp h'
  obtain ⟨h0, h1⟩ := IntOp.andi_eq_one.mp h'
  refine ⟨?_, ?_, ?_, ?_, ?_, ?_, ?_, ?_⟩
  · exact fun y => finite_of_lt _ (Host.reduce_andi_all _ _ _ _ _ h0 y)
  · exact fun y => finite_of_lt _ (Host.reduce_andi_all _ _ _ _ _ h1 y)
  · exact fun y => finite_of_lt _ (Host.reduce_andi_all _ _ _ _ _ h2 y)
  · exact fun y => finite_of_lt _ (Host.reduce_andi_all _ _ _ _ _ h3 y)
  · exact fun y => finite_of_lt _ (Host.reduce_andi_all _ _ _ _ _ h4 y)
  · exact fun y => finite_of_lt _ (Host.reduce_andi_all _ _ _ _ _ h5 y)
  · exact fun y => finite_of_lt _ (Host.reduce_andi_all _ _ _ _ _ h6 y)
  · exact fun y => finite_of_lt _ (Host.reduce_andi_all _ _ _ _ _ h7 y)

/-- The three results, from arguments that are finite. -/
theorem algebraic : Cert.algebraic_Kernel6Ideal_Reference6Ideal_pre_finite6 (hKernel6Ideal := Cert.Kernel6Ideal.Gen.facts)
    (hReference6Ideal := Cert.Reference6Ideal.Gen.facts) (hPre_finite6 := Cert.Pre_finite6.Gen.facts) := by
  intro m g m' g' hpre hagree
  have real : ∀ c : Dev Cert.Kernel6Ideal.nD, ∃ (X : ℕ → ℕ → ℝ) (G : ℕ → ℝ) (W DQ DK DV : ℕ → ℕ → ℝ) (QG KG : ℕ → ℝ),
      (m ((c.tc : Thread Cert.Kernel6Ideal.nD Cert.Kernel6Ideal.τ).loc Cert.Kernel6Ideal.main_arg0) : Cert.Kernel6Ideal.S4096x1024.Idx → EReal) = vecN X
      ∧ (m ((c.tc : Thread Cert.Kernel6Ideal.nD Cert.Kernel6Ideal.τ).loc Cert.Kernel6Ideal.main_arg1) : Cert.Kernel6Ideal.S1x1024.Idx → EReal) = (vecN fun _ k => G k)
      ∧ (m ((c.tc : Thread Cert.Kernel6Ideal.nD Cert.Kernel6Ideal.τ).loc Cert.Kernel6Ideal.main_arg2) : Cert.Kernel6Ideal.S1024x1536.Idx → EReal) = vecN W
      ∧ (m ((c.tc : Thread Cert.Kernel6Ideal.nD Cert.Kernel6Ideal.τ).loc Cert.Kernel6Ideal.main_arg3) : Cert.Kernel6Ideal.S4096x1024.Idx → EReal) = vecN DQ
      ∧ (m ((c.tc : Thread Cert.Kernel6Ideal.nD Cert.Kernel6Ideal.τ).loc Cert.Kernel6Ideal.main_arg4) : Cert.Kernel6Ideal.S4096x256.Idx → EReal) = vecN DK
      ∧ (m ((c.tc : Thread Cert.Kernel6Ideal.nD Cert.Kernel6Ideal.τ).loc Cert.Kernel6Ideal.main_arg5) : Cert.Kernel6Ideal.S4096x256.Idx → EReal) = vecN DV
      ∧ (m ((c.tc : Thread Cert.Kernel6Ideal.nD Cert.Kernel6Ideal.τ).loc Cert.Kernel6Ideal.main_arg6) : Cert.Kernel6Ideal.S1x128.Idx → EReal) = (vecN fun _ k => QG k)
      ∧ (m ((c.tc : Thread Cert.Kernel6Ideal.nD Cert.Kernel6Ideal.τ).loc Cert.Kernel6Ideal.main_arg7) : Cert.Kernel6Ideal.S1x128.Idx → EReal) = (vecN fun _ k => KG k) := by
    intro c
    obtain ⟨f0, f1, f2, f3, f4, f5, f6, f7⟩ := finite_args (hpre c)
    obtain ⟨G, hG⟩ := eq_row _ f1
    obtain ⟨QG, hQ⟩ := eq_gain _ f6
    obtain ⟨KG, hK⟩ := eq_gain _ f7
    exact ⟨_, G, _, _, _, _, QG, KG, eq_vecN _ f0, hG, eq_vecN _ f2, eq_vecN _ f3, eq_vecN _ f4, eq_vecN _ f5, hQ, hK⟩
  choose X G W DQ DK DV QG KG h0 h1 h2 h3 h4 h5 h6 h7 using real
  refine ⟨fun c => vecN (dz (qkv (X c) (G c) (W c)) (DQ c) (DK c) (DV c) (QG c) (KG c)), fun c => vecN fun _ d => dQG (qkv (X c) (G c) (W c)) (DQ c) d,
    fun c => vecN fun _ d => dKG (qkv (X c) (G c) (W c)) (DK c) d, ?_, ?_⟩
  · refine (θ_run _ _ _).mono (fun r h c => ?_) (Cert.Kernel6Ideal.Value.run_blocks m g)
    obtain ⟨r0, r1, r2, hargs⟩ := h c
    exact ⟨r0.trans (final_dz m c (h0 c) (h1 c) (h2 c) (h3 c) (h4 c) (h5 c) (h6 c) (h7 c)), r1.trans (final_dqg m c (h0 c) (h1 c) (h2 c) (h3 c)),
      r2.trans (final_dkg m c (h0 c) (h1 c) (h2 c) (h4 c)), hargs⟩
  · refine (θ_run _ _ _).mono (fun r h c => ?_) (Cert.Reference6Ideal.Value.run m' g')
    have a0 : StableHlo.launchContents m' c (Proc.devRef .tc Cert.Reference6Ideal.main_arg0) = argX (X c) := (hagree c).1.trans (h0 c)
    have a1 : StableHlo.launchContents m' c (Proc.devRef .tc Cert.Reference6Ideal.main_arg1) = argG (G c) := (hagree c).2.1.trans (h1 c)
    have a2 : StableHlo.launchContents m' c (Proc.devRef .tc Cert.Reference6Ideal.main_arg2) = argW (W c) := (hagree c).2.2.1.trans (h2 c)
    have a3 : StableHlo.launchContents m' c (Proc.devRef .tc Cert.Reference6Ideal.main_arg3) = argX (DQ c) := (hagree c).2.2.2.1.trans (h3 c)
    have a4 : StableHlo.launchContents m' c (Proc.devRef .tc Cert.Reference6Ideal.main_arg4) = argK (DK c) := (hagree c).2.2.2.2.1.trans (h4 c)
    have a5 : StableHlo.launchContents m' c (Proc.devRef .tc Cert.Reference6Ideal.main_arg5) = argK (DV c) := (hagree c).2.2.2.2.2.1.trans (h5 c)
    have a6 : StableHlo.launchContents m' c (Proc.devRef .tc Cert.Reference6Ideal.main_arg6) = argN (QG c) := (hagree c).2.2.2.2.2.2.1.trans (h6 c)
    have a7 : StableHlo.launchContents m' c (Proc.devRef .tc Cert.Reference6Ideal.main_arg7) = argN (KG c) := (hagree c).2.2.2.2.2.2.2.trans (h7 c)
    obtain ⟨r0, r1, r2, hargs⟩ := h c
    refine ⟨?_, ?_, ?_, hargs⟩
    · refine r0.trans ((Cert.Reference6Ideal.Read.val_main_v274_eq _).trans ?_)
      rw [a0, a1, a2, a3, a4, a5, a6, a7]; exact ref_v274 ..
    · refine r1.trans ((Cert.Reference6Ideal.Read.val_main_v270_eq _).trans ?_)
      rw [a0, a1, a2, a3]; exact ref_v270 ..
    · refine r2.trans ((Cert.Reference6Ideal.Read.val_main_v248_eq _).trans ?_)
      rw [a0, a1, a2, a4]; exact ref_v248 ..

end Prep

end
-- ==== Proof.Dw.Block.lean ====
/- The multilayer block's gradients at its weights: what the payloads compute from the blocks of a grid point. Both are sums over all tokens,
   which the body takes 1024 at a time; nothing here asks the entries to be finite. -/
module

public import proofs.«01_k».proof.Proof.Common
public import proofs.«01_k».proof.Proof.Gen.Kernel7Ideal.Frame
public import Idealize.ShloMosaic.Lib.Pipeline.ValueKit

@[expose] public section

noncomputable section

namespace Dw

open Reals
open Idealize.ShloMosaic Idealize.ShloMosaic.Pointwise Idealize.ShloMosaic.Tactic Cert.Kernel7Ideal Cert.Kernel7Ideal.Gen

/-- A sum over the tokens, taken 1024 at a time. -/
theorem sum_four (F : Fin 4096 → EReal) : ∑ t, F t
    = (∑ r : Fin 1024, F ⟨0 + r.val, by omega⟩) + (∑ r : Fin 1024, F ⟨1024 + r.val, by omega⟩) + (∑ r : Fin 1024, F ⟨2048 + r.val, by omega⟩)
      + ∑ r : Fin 1024, F ⟨3072 + r.val, by omega⟩ := by
  let H : ℕ → EReal := fun n => if h : n < 4096 then F ⟨n, h⟩ else 0
  have hH : ∀ n (h : n < 4096), H n = F ⟨n, h⟩ := fun n h => dif_pos h
  have e : ∀ b (hb : b + 1024 ≤ 4096), ∑ r : Fin 1024, F ⟨b + r.val, by omega⟩ = ∑ r ∈ Finset.range 1024, H (b + r) := fun b hb => by
    rw [← Fin.sum_univ_eq_sum_range (fun r => H (b + r)) 1024]
    exact Finset.sum_congr rfl fun r _ => (hH _ _).symm
  rw [e 0 (by omega), e 1024 (by omega), e 2048 (by omega), e 3072 (by omega)]
  simp only [zero_add]
  rw [← Finset.sum_range_add, ← Finset.sum_range_add, ← Finset.sum_range_add, ← Fin.sum_univ_eq_sum_range H 4096]
  exact Finset.sum_congr rfl fun t _ => (hH _ _).symm

/-- An array of two axes at an index given by its two numbers. -/
theorem at_ix2 {a b : ℕ} (A : (⟨2, ![a, b]⟩ : Shape).Idx → EReal) (y : (⟨2, ![a, b]⟩ : Shape).Idx) (i : Fin a) (j : Fin b) (e0 : (y 0).val = i.val)
    (e1 : (y 1).val = j.val) : A y = A (ix2 i j) := by
  rw [eq_ix2 y, show y 0 = i from Fin.ext e0, show y 1 = j from Fin.ext e1]

theorem hz3 : (![0, 0, 0] : Fin 3 → ℕ) = fun _ => 0 := by funext a; fin_cases a <;> rfl

/-- The gradient at the up projection, in this point's block of columns. -/
theorem out_up (x0 : Vec Ideal S4096x1024 .bf16) (x1 x2 : Vec Ideal S4096x512 .bf16) (x3 : Vec Ideal S4096x1024 .bf16) (k : Fin 1024) (f : Fin 512) :
    out0_4 (F := Ideal) x0 x1 x2 x3 (ix3 0 k f) = ∑ t : Fin 4096, x0 (ix2 t k) * x1 (ix2 t f) := by
  unfold out0_4
  rw [View.canon_unit_zero (S := S1x1024x512) hz3, sum_four]
  pointwise [k0_pay4, k0_pay1, k0_pay3]

/-- The gradient at the down projection, in this point's block of rows. -/
theorem out_down (x0 : Vec Ideal S4096x1024 .bf16) (x1 x2 : Vec Ideal S4096x512 .bf16) (x3 : Vec Ideal S4096x1024 .bf16) (f : Fin 512) (k : Fin 1024) :
    out0_5 (F := Ideal) x0 x1 x2 x3 (ix2 f k) = ∑ t : Fin 4096, max (x2 (ix2 t f)) 0 * max (x2 (ix2 t f)) 0 * x3 (ix2 t k) := by
  unfold out0_5
  rw [View.canon_unit_zero (S := S512x1024) hz, sum_four]
  pointwise [k0_pay5, k0_pay2]

end Dw

end
-- ==== Proof.Dw.Ref.lean ====
/- The multilayer block's gradients at its weights, as its reference computes them: sums over the tokens. -/
module

public import proofs.«01_k».proof.Proof.Common
public import proofs.«01_k».proof.Proof.Gen.Reference7Ideal.Read

@[expose] public section

noncomputable section

namespace Dw

open Idealize.ShloMosaic Idealize.ShloMosaic.Pointwise Cert.Reference7Ideal Cert.Reference7Ideal.Gen Cert.Reference7Ideal.Read

variable (x0 : (⟨S4096x1024, .f32⟩ : BufTy).Contents (Elt Ideal)) (x1 : (⟨S1x1024, .f32⟩ : BufTy).Contents (Elt Ideal))
  (x2 : (⟨S1024x4096, .f32⟩ : BufTy).Contents (Elt Ideal)) (x3 : (⟨S4096x4096, .f32⟩ : BufTy).Contents (Elt Ideal))
  (x4 : (⟨S4096x1024, .f32⟩ : BufTy).Contents (Elt Ideal))

theorem ref_up (j : Fin 8) (k : Fin 1024) (f : Fin 512) : val_main_v40 (F := Ideal) x0 x1 x3 (ix3 j k f)
    = ∑ t : Fin 4096, val_main_v13 (F := Ideal) x0 x1 (ix2 t k) * x3 (ix2 t ⟨j.val * 512 + f.val, by omega⟩) := by
  pointwise [val_main_v40, val_main_v39, val_main_v38, val_main_v16, val_main_v15]
  exact Finset.sum_congr rfl fun t _ => mul_comm _ _

theorem ref_down (f : Fin 4096) (k : Fin 1024) : val_main_v41 (F := Ideal) x0 x1 x2 x4 (ix2 f k)
    = ∑ t : Fin 4096, max (val_main_v14 (F := Ideal) x0 x1 x2 (ix2 t f)) 0 * max (val_main_v14 (F := Ideal) x0 x1 x2 (ix2 t f)) 0 * x4 (ix2 t k) := by
  have e : val_main_v32 (F := Ideal) x0 x1 x2 = val_main_v14 (F := Ideal) x0 x1 x2 := rfl
  pointwise [val_main_v41, val_main_v37, val_main_v36, val_main_v34, val_main_v33, val_main_call0_v0, val_main_call0_cst]
  rw [e]
  exact Finset.sum_congr rfl fun t _ => mul_comm _ _

end Dw

end
-- ==== Proof.Dw.Arrays.lean ====
/- The multilayer block's gradients at its weights: what the windows show the kernel, and what the call's two arrays hold at the end. The
   saved arrays are the reference's own: the normed input and the hidden layer. -/
module

public import proofs.«01_k».proof.Proof.Dw.Block
public import proofs.«01_k».proof.Proof.Dw.Ref
public import proofs.«01_k».proof.Proof.Gen.Kernel7Ideal.Value

@[expose] public section

noncomputable section

namespace Dw

open Reals
open Idealize.ShloMosaic Idealize.ShloMosaic.Pointwise Idealize.ShloMosaic.Tactic Cert.Kernel7Ideal Cert.Kernel7Ideal.Gen
open Cert.Reference7Ideal.Read (val_main_v14 val_main_v13 val_main_v12 val_main_v11 val_main_v10 val_main_v9 val_main_v8 val_main_v7 val_main_v6 val_main_cst_1 val_main_v5 val_main_v4 val_main_cst_0 val_main_v3 val_main_v2 val_main_cst val_main_v1 val_main_v0)

variable (m : ∀ ℓ : Loc nD τ sig, Buf (Elt Ideal) ℓ) (c : Dev nD)

/-- The call's arguments. -/
abbrev a0 : S4096x1024.Idx → EReal := m ((c.tc : Thread nD τ).loc main_arg0)
abbrev a1 : S1x1024.Idx → EReal := m ((c.tc : Thread nD τ).loc main_arg1)
abbrev a2 : S1024x4096.Idx → EReal := m ((c.tc : Thread nD τ).loc main_arg2)
abbrev a3 : S4096x4096.Idx → EReal := m ((c.tc : Thread nD τ).loc main_arg3)
abbrev a4 : S4096x1024.Idx → EReal := m ((c.tc : Thread nD τ).loc main_arg4)

section Host

theorem entry_h (t : Fin 4096) (k : Fin 1024) :
    (V m c main_v12 : S4096x1024.Idx → EReal) (ix2 t k) = val_main_v13 (F := Ideal) (a0 m c) (a1 m c) (ix2 t k) := by
  show StableHlo.after hostOps0 _ (Proc.devRef .tc main_v12) (ix2 t k) = _
  after_results_simp
  pointwise [val_main_v13, val_main_v12, val_main_v11, val_main_v10,
    val_main_v9, val_main_v8, val_main_v7,
    val_main_v6, val_main_cst_1, val_main_v5,
    val_main_v4, val_main_cst_0, val_main_v3,
    val_main_v2, val_main_cst, val_main_v1,
    val_main_v0]

theorem entry_a (t : Fin 4096) (f : Fin 4096) :
    (V m c main_v15 : S4096x4096.Idx → EReal) (ix2 t f) = val_main_v14 (F := Ideal) (a0 m c) (a1 m c) (a2 m c) (ix2 t f) := by
  show StableHlo.after hostOps0 _ (Proc.devRef .tc main_v15) (ix2 t f) = _
  after_results_simp
  pointwise [val_main_v14, val_main_v13, val_main_v12, val_main_v11, val_main_v10, val_main_v9, val_main_v8, val_main_v7, val_main_v6,
    val_main_cst_1, val_main_v5, val_main_v4, val_main_cst_0, val_main_v3, val_main_v2, val_main_cst, val_main_v1, val_main_v0]

theorem entry_da : (V m c main_v16 : S4096x4096.Idx → EReal) = a3 m c := by
  show StableHlo.after hostOps0 _ (Proc.devRef .tc main_v16) = _; after_results_simp; try rfl

theorem entry_do : (V m c main_v17 : S4096x1024.Idx → EReal) = a4 m c := by
  show StableHlo.after hostOps0 _ (Proc.devRef .tc main_v17) = _; after_results_simp; try rfl

end Host

theorem idx0_0 : ∀ t : Fin cfg0.N, win0_0.index t = ![0, 0] := (by decide +kernel : ∀ t : Fin grid0.N, _)
theorem idx0_1 : ∀ t : Fin cfg0.N, win0_1.index t = ![0, t.val] := (by decide +kernel : ∀ t : Fin grid0.N, _)
theorem idx0_2 : ∀ t : Fin cfg0.N, win0_2.index t = ![0, t.val] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0, 0] := (by decide +kernel : ∀ t : Fin grid0.N, _)
theorem idx0_5 : ∀ t : Fin cfg0.N, win0_5.index t = ![t.val, 0] := (by decide +kernel : ∀ t : Fin grid0.N, _)

theorem points (t : Fin cfg0.N) : t.val < 8 := t.isLt

theorem iblk_h (t : Fin cfg0.N) (i : Fin 4096) (k : Fin 1024) :
    (iblk m c 0 t : Vec Ideal S4096x1024 .bf16) (ix2 i k) = val_main_v13 (F := Ideal) (a0 m c) (a1 m c) (ix2 i k) := by
  rw [← entry_h]
  blk_simp [iblk]
  exact at_ix2 _ _ _ _ (by blk_simp [idx0_0]) (by blk_simp [idx0_0])

theorem iblk_da (t : Fin cfg0.N) (i : Fin 4096) (f : Fin 512) : (iblk m c 1 t : Vec Ideal S4096x512 .bf16) (ix2 i f)
    = a3 m c (ix2 i ⟨t.val * 512 + f.val, by have := points t; omega⟩) := by
  rw [← entry_da]
  blk_simp [iblk]
  exact at_ix2 _ _ _ _ (by blk_simp [idx0_1]) (by blk_simp [idx0_1])

theorem iblk_a (t : Fin cfg0.N) (i : Fin 4096) (f : Fin 512) : (iblk m c 2 t : Vec Ideal S4096x512 .bf16) (ix2 i f)
    = val_main_v14 (F := Ideal) (a0 m c) (a1 m c) (a2 m c) (ix2 i ⟨t.val * 512 + f.val, by have := points t; omega⟩) := by
  rw [← entry_a]
  blk_simp [iblk]
  exact at_ix2 _ _ _ _ (by blk_simp [idx0_2]) (by blk_simp [idx0_2])

theorem iblk_do (t : Fin cfg0.N) (i : Fin 4096) (k : Fin 1024) : (iblk m c 3 t : Vec Ideal S4096x1024 .bf16) (ix2 i k) = a4 m c (ix2 i k) := by
  rw [← entry_do]
  blk_simp [iblk]
  exact at_ix2 _ _ _ _ (by blk_simp [idx0_3]) (by blk_simp [idx0_3])

theorem final_up : ((dats m 0 c).arrAt 4 cfg0.N : S8x1024x512.Idx → EReal)
    = Cert.Reference7Ideal.Read.val_main_v40 (F := Ideal) (a0 m c) (a1 m c) (a3 m c) := by
  refine (dats m 0 c).arrAt_eq_of_covers 4 _ (by decide +kernel) fun t hf y => ?_
  blk_simp
  obtain ⟨z, k, f, rfl⟩ : ∃ (z : Fin 1) (k : Fin 1024) (f : Fin 512), y = ix3 z k f := ⟨y 0, y 1, y 2, eq_ix3 y⟩
  obtain rfl : z = 0 := Subsingleton.elim z 0
  rw [after0_4]
  refine (out_up _ _ _ _ k f).trans ?_
  simp only [iblk_h m c t, iblk_da m c t]
  refine (ref_up _ _ _ ⟨t.val, points t⟩ k f).symm.trans (congrArg _ ?_)
  funext a
  apply Fin.ext
  match a with
  | ⟨0, _⟩ => blk_simp [idx0_4]; rfl
  | ⟨1, _⟩ => blk_simp [idx0_4]
  | ⟨2, _⟩ => blk_simp [idx0_4]

theorem final_down : ((dats m 0 c).arrAt 5 cfg0.N : S4096x1024.Idx → EReal)
    = Cert.Reference7Ideal.Read.val_main_v41 (F := Ideal) (a0 m c) (a1 m c) (a2 m c) (a4 m c) := by
  refine (dats m 0 c).arrAt_eq_of_covers 5 _ (by decide +kernel) fun t hf y => ?_
  blk_simp
  obtain ⟨f, k, rfl⟩ : ∃ (f : Fin 512) (k : Fin 1024), y = ix2 f k := ⟨y 0, y 1, eq_ix2 y⟩
  rw [after0_5]
  refine (out_down _ _ _ _ f k).trans ?_
  simp only [iblk_a m c t, iblk_do m c t]
  refine (ref_down _ _ _ _ ⟨t.val * 512 + f.val, by have := points t; omega⟩ k).symm.trans ?_
  exact (at_ix2 _ _ _ _ (by blk_simp [idx0_5]) (by blk_simp [idx0_5])).symm

end Dw

end
-- ==== Proof.Dw.Claim.lean ====
/- The claims about the multilayer block's gradients at its weights: the reference's frame, and the two results equal to the reference's. -/
module

public import proofs.«01_k».proof.Defs
public import proofs.«01_k».proof.Proof.Dw.Arrays
public import proofs.«01_k».proof.Proof.Gen.Reference7Ideal.Run

@[expose] public section

noncomputable section

namespace Dw

open Idealize.ShloMosaic Idealize.SL.Sem

section Reference

open Cert.Reference7Ideal Cert.Reference7Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2, funext fun g => nomatch g.2⟩) (Cert.Reference7Ideal.Value.run m ρ)

end Reference

/-- The two results, from any arguments. -/
theorem algebraic : Cert.algebraic_Kernel7Ideal_Reference7Ideal (hKernel7Ideal := Cert.Kernel7Ideal.Gen.facts)
    (hReference7Ideal := Cert.Reference7Ideal.Gen.facts) := by
  intro m g m' g' _ hagree
  refine ⟨fun c => Cert.Reference7Ideal.Read.val_main_v40 (F := Ideal) (a0 m c) (a1 m c) (a3 m c),
    fun c => Cert.Reference7Ideal.Read.val_main_v41 (F := Ideal) (a0 m c) (a1 m c) (a2 m c) (a4 m c), ?_, ?_⟩
  · refine (θ_run _ _ _).mono (fun r h c => ?_) (Cert.Kernel7Ideal.Value.run_blocks m g)
    obtain ⟨r0, r1, hargs⟩ := h c
    exact ⟨r0.trans (final_up m c), r1.trans (final_down m c), hargs⟩
  · refine (θ_run _ _ _).mono (fun r h c => ?_) (Cert.Reference7Ideal.Value.run m' g')
    obtain ⟨e0, e1, e2, e3, e4⟩ := hagree c
    obtain ⟨r0, r1, hargs⟩ := h c
    refine ⟨?_, ?_, hargs⟩
    · refine r0.trans ((Cert.Reference7Ideal.Read.val_main_v40_eq _ _ _).trans ?_)
      rw [e0, e1, e3]
    · refine r1.trans ((Cert.Reference7Ideal.Read.val_main_v41_eq _ _ _ _).trans ?_)
      rw [e0, e1, e2, e4]

end Dw

end
-- ==== Proof.RgProj.Block.lean ====
/- The recurrent block's input projection: the blocks of one grid point against the reference's arrays. A grid point takes 1024 tokens in two
   halves; every half is normed once and multiplied by eight blocks of columns. Nothing here asks the entries to be finite. -/
module

public import proofs.«01_k».proof.Proof.Common
public import proofs.«01_k».proof.Proof.Dw.Block
public import proofs.«01_k».proof.Proof.Gen.Kernel8Ideal.Frame
public import proofs.«01_k».proof.Proof.Gen.Reference8Ideal.Read
public import Idealize.ShloMosaic.Lib.Pipeline.ValueKit

@[expose] public section

noncomputable section

namespace RgProj

open Reals
open Idealize.ShloMosaic Idealize.ShloMosaic.Pointwise Idealize.ShloMosaic.Tactic Cert.Kernel8Ideal Cert.Kernel8Ideal.Gen
open Cert.Reference8Ideal.Read (val_main_v15 val_main_v14 val_main_v13 val_main_v12 val_main_v11 val_main_v10 val_main_v9 val_main_v8 val_main_v7
  val_main_v6 val_main_cst_1 val_main_v5 val_main_v4 val_main_cst_0 val_main_v3 val_main_v2 val_main_cst val_main_v1 val_main_v0)

/-- A token of the block that begins at `ρ`. -/
theorem lt_tok {ρ : ℕ} (hρ : ρ + 1024 ≤ 4096) {r : ℕ} (hr : r < 1024) : ρ + r < 4096 := by omega

/-- A column of block `j`. -/
theorem lt_col (j : Fin 8) (f : Fin 256) : j.val * 256 + f.val < 2048 := by omega

/-- Rows `b … b + 511` of a block of tokens. -/
theorem ld_rows (x : Vec Ideal S1024x1024 .f32) (b : ℕ) (hb : b + 512 ≤ 1024) (h) (r : Fin 512) (k : Fin 1024) :
    View.ld x (Rect.unit (s := S1024x1024) ![b, 0] ![512, 1024] h) (ix2 r k) = x (ix2 ⟨b + r.val, by omega⟩ k) := by
  show x _ = x _
  congr 1
  funext a
  apply Fin.ext
  match a with
  | ⟨0, _⟩ => show b + 1 * r.val = b + r.val; omega
  | ⟨1, _⟩ => show 0 + 1 * k.val = k.val; omega

/-- Block `j` of the weights' columns. -/
theorem ld_cols (x : Vec Ideal S8x1024x256 .bf16) (j : ℕ) (hj : j < 8) (h) (k : Fin 1024) (f : Fin 256) :
    View.ld x (Rect.unit (s := S8x1024x256) ![j, 0, 0] ![1, 1024, 256] h) (ix3 0 k f) = x (ix3 ⟨j, hj⟩ k f) := by
  show x _ = x _
  congr 1
  funext a
  apply Fin.ext
  match a with
  | ⟨0, _⟩ => show j + 1 * 0 = j; omega
  | ⟨1, _⟩ => show 0 + 1 * k.val = k.val; omega
  | ⟨2, _⟩ => show 0 + 1 * f.val = f.val; omega

variable (A : S4096x1024.Idx → EReal) (G : S1x1024.Idx → EReal) (W : S1024x2048.Idx → EReal)

/-- One row's norm, in the body and in the reference. -/
theorem norm_row (a : Vec Ideal S512x1024 .f32) (g : Vec Ideal S1x1024 .f32) (t : Fin 4096) (r : Fin 512) (ha : ∀ k, a (ix2 r k) = A (ix2 t k))
    (hg : ∀ k, g (ix2 0 k) = G (ix2 0 k)) (k : Fin 1024) :
    k0_pay6 (F := Ideal) a g (ix2 r k) = val_main_v13 (F := Ideal) A G (ix2 t k) := by
  pointwise [k0_pay6, val_main_v13, val_main_v12, val_main_v11, val_main_v10, val_main_v9, val_main_v8, val_main_v7,
    val_main_v6, val_main_cst_1, val_main_v5, val_main_v4, val_main_cst_0, val_main_v3, val_main_v2, val_main_cst, val_main_v1, val_main_v0]
  simp only [ha, hg]

/-- One row's product with a block of columns, in the body and in the reference. -/
theorem prod_row (p : FVec Ideal S512x1024 .bf16) (w : Vec Ideal S1x1024x256 .bf16) (t : Fin 4096) (f' : Fin 2048) (r : Fin 512) (f : Fin 256)
    (hp : ∀ k, p (ix2 r k) = val_main_v13 (F := Ideal) A G (ix2 t k)) (hw : ∀ k, w (ix3 0 k f) = W (ix2 k f')) :
    k0_pay10 (F := Ideal) p w (ix2 r f) = val_main_v14 (F := Ideal) A G W (ix2 t f') := by
  pointwise [k0_pay10, val_main_v14]
  simp only [hp, hw]

variable (ρ : ℕ) (hρ : ρ + 1024 ≤ 4096) {x0 : Vec Ideal S1024x1024 .f32} {x1 : Vec Ideal S1x1024 .f32} {x2 : Vec Ideal S8x1024x256 .bf16}
  (hx : ∀ (r : Fin 1024) k, x0 (ix2 r k) = A (ix2 ⟨ρ + r.val, lt_tok hρ r.isLt⟩ k)) (hg : ∀ k, x1 (ix2 0 k) = G (ix2 0 k))
  (hw : ∀ (j : Fin 8) k (f : Fin 256), x2 (ix3 j k f) = W (ix2 k ⟨j.val * 256 + f.val, lt_col j f⟩))

/-- The projection as the block's contents. -/
def zVec : S1024x2048.Idx → EReal := fun y => val_main_v14 (F := Ideal) A G W (ix2 ⟨ρ + (y 0).val, lt_tok hρ (y 0).isLt⟩ (y 1))

/-- The normed tokens as the block's contents. -/
def hVec : S1024x1024.Idx → EReal := fun y => val_main_v13 (F := Ideal) A G (ix2 ⟨ρ + (y 0).val, lt_tok hρ (y 0).isLt⟩ (y 1))

include hx hg in
/-- One half of the normed tokens. -/
theorem half (b : ℕ) (hb : b + 512 ≤ 1024) (h) (r : Fin 512) (k : Fin 1024) :
    k0_pay6 (F := Ideal) (View.ld x0 (Rect.unit (s := S1024x1024) ![b, 0] ![512, 1024] h)) x1 (ix2 r k)
      = val_main_v13 (F := Ideal) A G (ix2 ⟨ρ + (b + r.val), by omega⟩ k) :=
  norm_row A G _ _ _ r (fun k => (ld_rows x0 b hb h r k).trans (hx _ k)) hg k

include hx hg in
theorem half_piece (b : ℕ) (hb : b + 512 ≤ 1024) (h) (y : S512x1024.Idx) :
    k0_pay6 (F := Ideal) (View.ld x0 (Rect.unit (s := S1024x1024) ![b, 0] ![512, 1024] h)) x1 y
      = hVec A G ρ hρ ((Rect.unit (s := S1024x1024) ![b, 0] ![512, 1024] h).emb y) := by
  rw [eq_ix2 y]
  refine (half A G ρ hρ hx hg b hb h (y 0) (y 1)).trans (congrArg _ ?_)
  funext a
  apply Fin.ext
  match a with
  | ⟨0, _⟩ => show ρ + (b + (y 0).val) = ρ + (b + 1 * (y 0).val); omega
  | ⟨1, _⟩ => show (y 1).val = 0 + 1 * (y 1).val; omega

include hx hg hw in
/-- One half's product with one block of columns. -/
theorem z_piece (b : ℕ) (hb : b + 512 ≤ 1024) (h) (j : ℕ) (hj : j < 8) (h') (e : ℕ) (he : e = j * 256) (h'') (y : S512x256.Idx) :
    k0_pay10 (F := Ideal) (k0_pay6 (View.ld x0 (Rect.unit (s := S1024x1024) ![b, 0] ![512, 1024] h)) x1)
        (View.ld x2 (Rect.unit (s := S8x1024x256) ![j, 0, 0] ![1, 1024, 256] h')) y
      = zVec A G W ρ hρ ((Rect.unit (s := S1024x2048) ![b, e] ![512, 256] h'').emb y) := by
  obtain ⟨r, f, rfl⟩ : ∃ (r : Fin 512) (f : Fin 256), y = ix2 r f := ⟨y 0, y 1, eq_ix2 y⟩
  subst he
  refine (prod_row A G W _ _ ⟨ρ + (b + r.val), by omega⟩ ⟨j * 256 + f.val, by omega⟩ r f (half A G ρ hρ hx hg b hb h r)
    (fun k => (ld_cols x2 j hj h' k f).trans (hw ⟨j, hj⟩ k f))).trans (congrArg _ ?_)
  funext a
  apply Fin.ext
  match a with
  | ⟨0, _⟩ => show ρ + (b + r.val) = ρ + (b + 1 * r.val); omega
  | ⟨1, _⟩ => show j * 256 + f.val = j * 256 + 1 * f.val; omega

include hx hg hw in
theorem out_z (r : Fin 1024) (f : Fin 2048) :
    out0_3 (F := Ideal) x0 x1 x2 (ix2 r f) = val_main_v14 (F := Ideal) A G W (ix2 ⟨ρ + r.val, lt_tok hρ r.isLt⟩ f) := by
  unfold out0_3
  refine View.canon_apply_of_pieces (G := (show Vec Ideal S1024x2048 .f32 from zVec A G W ρ hρ)) _ ?_ (ix2 r f) (cover0_3 _ _ _ _ _ _ _ _ _ _ _ _ _ _ _ _ _)
  unfold k0_pay23 k0_pay22 k0_pay21
  simp only [List.forall_mem_cons, View.ld_unit_zero (S := S1x1024) hz]
  have p := z_piece A G W ρ hρ hx hg hw
  have u := p 0 (by decide) inb_S1024x1024_S512x1024_0_0
  have v := p 512 (by decide) inb_S1024x1024_S512x1024_512_0
  exact ⟨v 7 (by decide) _ _ rfl _, v 6 (by decide) _ _ rfl _, v 5 (by decide) _ _ rfl _, v 4 (by decide) _ _ rfl _, v 3 (by decide) _ _ rfl _,
    v 2 (by decide) _ _ rfl _, v 1 (by decide) _ _ rfl _, v 0 (by decide) _ _ rfl _, u 7 (by decide) _ _ rfl _, u 6 (by decide) _ _ rfl _,
    u 5 (by decide) _ _ rfl _, u 4 (by decide) _ _ rfl _, u 3 (by decide) _ _ rfl _, u 2 (by decide) _ _ rfl _, u 1 (by decide) _ _ rfl _,
    u 0 (by decide) _ _ rfl _, by simp⟩

include hx hg in
theorem out_h (r : Fin 1024) (k : Fin 1024) :
    out0_4 (F := Ideal) x0 x1 x2 (ix2 r k) = val_main_v13 (F := Ideal) A G (ix2 ⟨ρ + r.val, lt_tok hρ r.isLt⟩ k) := by
  unfold out0_4
  refine View.canon_apply_of_pieces (G := (show Vec Ideal S1024x1024 .bf16 from hVec A G ρ hρ)) _ ?_ (ix2 r k) (cover0_4 _ _ _)
  unfold k0_pay22
  simp only [List.forall_mem_cons, View.ld_unit_zero (S := S1x1024) hz]
  have p := half_piece A G ρ hρ hx hg
  exact ⟨p 512 (by decide) _, p 0 (by decide) _, by simp⟩

end RgProj

end
-- ==== Proof.RgProj.Arrays.lean ====
/- The recurrent block's input projection: what the windows show the kernel, and what the call's two arrays hold at the end. -/
module

public import proofs.«01_k».proof.Proof.RgProj.Block
public import proofs.«01_k».proof.Proof.Gen.Kernel8Ideal.Value

@[expose] public section

noncomputable section

namespace RgProj

open Reals Dw
open Idealize.ShloMosaic Idealize.ShloMosaic.Pointwise Idealize.ShloMosaic.Tactic Cert.Kernel8Ideal Cert.Kernel8Ideal.Gen
open Cert.Reference8Ideal.Read (val_main_v15 val_main_v14 val_main_v13)

variable (m : ∀ ℓ : Loc nD τ sig, Buf (Elt Ideal) ℓ) (c : Dev nD)

/-- The call's arguments. -/
abbrev a0 : S4096x1024.Idx → EReal := m ((c.tc : Thread nD τ).loc main_arg0)
abbrev a1 : S1x1024.Idx → EReal := m ((c.tc : Thread nD τ).loc main_arg1)
abbrev a2 : S1024x2048.Idx → EReal := m ((c.tc : Thread nD τ).loc main_arg2)

theorem entry_x : (V m c main_arg0 : S4096x1024.Idx → EReal) = a0 m c := by
  show StableHlo.after hostOps0 _ (Proc.devRef .tc main_arg0) = _; after_results_simp; try rfl

theorem entry_g : (V m c main_arg1 : S1x1024.Idx → EReal) = a1 m c := by
  show StableHlo.after hostOps0 _ (Proc.devRef .tc main_arg1) = _; after_results_simp; try rfl

theorem entry_w (j : Fin 8) (k : Fin 1024) (f : Fin 256) :
    (V m c main_v2 : S8x1024x256.Idx → EReal) (ix3 j k f) = a2 m c (ix2 k ⟨j.val * 256 + f.val, by omega⟩) := by
  show StableHlo.after hostOps0 _ (Proc.devRef .tc main_v2) (ix3 j k f) = _
  after_results_simp
  pointwise

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![t.val, 0] := (by decide +kernel : ∀ t : Fin grid0.N, _)
theorem idx0_4 : ∀ t : Fin cfg0.N, win0_4.index t = ![t.val, 0] := (by decide +kernel : ∀ t : Fin grid0.N, _)

theorem points (t : Fin cfg0.N) : t.val * 1024 + 1024 ≤ 4096 := by have h : t.val < 4 := t.isLt; omega

theorem iblk_x (t : Fin cfg0.N) (r : Fin 1024) (k : Fin 1024) :
    (iblk m c 0 t : Vec Ideal S1024x1024 .f32) (ix2 r k) = a0 m c (ix2 ⟨t.val * 1024 + r.val, by have := points t; omega⟩ k) := by
  rw [← entry_x]
  blk_simp [iblk]
  exact at_ix2 _ _ _ _ (by blk_simp [idx0_0]) (by blk_simp [idx0_0])

theorem iblk_g (t : Fin cfg0.N) (k : Fin 1024) : (iblk m c 1 t : Vec Ideal S1x1024 .f32) (ix2 0 k) = a1 m c (ix2 0 k) := by
  rw [← entry_g]
  blk_simp [iblk]
  exact at_ix2 _ _ _ _ (by blk_simp [idx0_1]) (by blk_simp [idx0_1])

theorem iblk_w (t : Fin cfg0.N) (j : Fin 8) (k : Fin 1024) (f : Fin 256) :
    (iblk m c 2 t : Vec Ideal S8x1024x256 .bf16) (ix3 j k f) = a2 m c (ix2 k ⟨j.val * 256 + f.val, by omega⟩) := by
  rw [← entry_w]
  blk_simp [iblk]
  refine congrArg _ ?_
  funext a
  apply Fin.ext
  match a with
  | ⟨0, _⟩ => blk_simp [idx0_2]
  | ⟨1, _⟩ => blk_simp [idx0_2]
  | ⟨2, _⟩ => blk_simp [idx0_2]

theorem final_z : ((dats m 0 c).arrAt 3 cfg0.N : S4096x2048.Idx → EReal) = val_main_v14 (F := Ideal) (a0 m c) (a1 m c) (a2 m c) := by
  refine (dats m 0 c).arrAt_eq_of_covers 3 _ (by decide +kernel) fun t hf y => ?_
  blk_simp
  obtain ⟨r, f, rfl⟩ : ∃ (r : Fin 1024) (f : Fin 2048), y = ix2 r f := ⟨y 0, y 1, eq_ix2 y⟩
  rw [after0_3]
  refine (out_z _ _ _ _ (points t) (iblk_x m c t) (iblk_g m c t) (iblk_w m c t) r f).trans ?_
  exact (at_ix2 _ _ _ _ (by blk_simp [idx0_3]) (by blk_simp [idx0_3])).symm

theorem final_h : ((dats m 0 c).arrAt 4 cfg0.N : S4096x1024.Idx → EReal) = val_main_v15 (F := Ideal) (a0 m c) (a1 m c) := by
  refine (dats m 0 c).arrAt_eq_of_covers 4 _ (by decide +kernel) fun t hf y => ?_
  blk_simp
  obtain ⟨r, k, rfl⟩ : ∃ (r : Fin 1024) (k : Fin 1024), y = ix2 r k := ⟨y 0, y 1, eq_ix2 y⟩
  rw [after0_4]
  refine (out_h _ _ _ (points t) (iblk_x m c t) (iblk_g m c t) r k).trans ?_
  exact (at_ix2 (val_main_v15 (F := Ideal) (a0 m c) (a1 m c)) _ _ _ (by blk_simp [idx0_4]) (by blk_simp [idx0_4])).symm

end RgProj

end
-- ==== Proof.RgProj.Claim.lean ====
/- The claims about the recurrent block's input projection: the reference's frame, and the two results equal to the reference's. -/
module

public import proofs.«01_k».proof.Defs
public import proofs.«01_k».proof.Proof.RgProj.Arrays
public import proofs.«01_k».proof.Proof.Gen.Reference8Ideal.Run

@[expose] public section

noncomputable section

namespace RgProj

open Idealize.ShloMosaic Idealize.SL.Sem

section Reference

open Cert.Reference8Ideal Cert.Reference8Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h c).2.2, funext fun g => nomatch g.2⟩) (Cert.Reference8Ideal.Value.run m ρ)

end Reference

/-- The two results, from any arguments. -/
theorem algebraic : Cert.algebraic_Kernel8Ideal_Reference8Ideal (hKernel8Ideal := Cert.Kernel8Ideal.Gen.facts)
    (hReference8Ideal := Cert.Reference8Ideal.Gen.facts) := by
  intro m g m' g' _ hagree
  refine ⟨fun c => Cert.Reference8Ideal.Read.val_main_v14 (F := Ideal) (a0 m c) (a1 m c) (a2 m c),
    fun c => Cert.Reference8Ideal.Read.val_main_v15 (F := Ideal) (a0 m c) (a1 m c), ?_, ?_⟩
  · refine (θ_run _ _ _).mono (fun r h c => ?_) (Cert.Kernel8Ideal.Value.run_blocks m g)
    obtain ⟨r0, r1, hargs⟩ := h c
    exact ⟨r0.trans (final_z m c), r1.trans (final_h m c), hargs⟩
  · refine (θ_run _ _ _).mono (fun r h c => ?_) (Cert.Reference8Ideal.Value.run m' g')
    obtain ⟨e0, e1, e2⟩ := hagree c
    obtain ⟨r0, r1, hargs⟩ := h c
    refine ⟨?_, ?_, hargs⟩
    · refine r0.trans ((Cert.Reference8Ideal.Read.val_main_v14_eq _ _ _).trans ?_)
      rw [e0, e1, e2]
    · refine r1.trans ((Cert.Reference8Ideal.Read.val_main_v15_eq _ _).trans ?_)
      rw [e0, e1]

end RgProj

end
-- ==== Proof.MlpFwd.Block.lean ====
/- The multilayer block's forward pass: the blocks of one grid point against the reference's arrays. A grid point norms 512 tokens, and adds up
   the down projection over eight blocks of the hidden layer. Nothing here asks the entries to be finite. -/
module

public import proofs.«01_k».proof.Proof.Common
public import proofs.«01_k».proof.Proof.Dw.Block
public import proofs.«01_k».proof.Proof.Gen.Kernel9Ideal.Frame
public import proofs.«01_k».proof.Proof.Gen.Reference9Ideal.Read
public import Idealize.ShloMosaic.Lib.Pipeline.ValueKit

@[expose] public section

noncomputable section

namespace MlpFwd

open Reals
open Idealize.ShloMosaic Idealize.ShloMosaic.Pointwise Idealize.ShloMosaic.Tactic Cert.Kernel9Ideal Cert.Kernel9Ideal.Gen
open Cert.Reference9Ideal.Read (val_main_v20 val_main_v19 val_main_v18 val_main_v17 val_main_v16 val_main_v15 val_main_call0_v0 val_main_call0_cst
  val_main_v14 val_main_v13 val_main_v12 val_main_v11 val_main_v10 val_main_v9 val_main_v8 val_main_v7
  val_main_v6 val_main_cst_1 val_main_v5 val_main_v4 val_main_cst_0 val_main_v3 val_main_v2 val_main_cst val_main_v1 val_main_v0)

/-- A token of the block that begins at `ρ`. -/
theorem lt_tok {ρ : ℕ} (hρ : ρ + 512 ≤ 4096) {r : ℕ} (hr : r < 512) : ρ + r < 4096 := by omega

/-- A column of block `j` of the hidden layer. -/
theorem lt_col {j : ℕ} (hj : j < 8) (f : Fin 512) : j * 512 + f.val < 4096 := by omega

/-- A sum over the hidden layer, taken block by block. -/
theorem sum_eight (F : Fin 4096 → EReal) : ∑ f, F f
    = (∑ f : Fin 512, F ⟨0 * 512 + f.val, lt_col (by decide) f⟩) + (∑ f : Fin 512, F ⟨1 * 512 + f.val, lt_col (by decide) f⟩)
      + (∑ f : Fin 512, F ⟨2 * 512 + f.val, lt_col (by decide) f⟩) + (∑ f : Fin 512, F ⟨3 * 512 + f.val, lt_col (by decide) f⟩)
      + (∑ f : Fin 512, F ⟨4 * 512 + f.val, lt_col (by decide) f⟩) + (∑ f : Fin 512, F ⟨5 * 512 + f.val, lt_col (by decide) f⟩)
      + (∑ f : Fin 512, F ⟨6 * 512 + f.val, lt_col (by decide) f⟩) + ∑ f : Fin 512, F ⟨7 * 512 + f.val, lt_col (by decide) f⟩ := by
  have e : ∑ f, F f = ∑ j : Fin 8, ∑ f : Fin 512, F ⟨j.val * 512 + f.val, lt_col j.isLt f⟩ := by
    rw [← (finProdFinEquiv (m := 8) (n := 512)).sum_comp F, Fintype.sum_prod_type]
    refine Finset.sum_congr rfl fun j _ => Finset.sum_congr rfl fun f _ => congrArg F (Fin.ext ?_)
    show f.val + 512 * j.val = j.val * 512 + f.val
    omega
  rw [e, Fin.sum_univ_eight]
  rfl

/-- Block `j` of the up projection. -/
theorem ld_up (x : Vec Ideal S8x1024x512 .bf16) (j : ℕ) (hj : j < 8) (h) (k : Fin 1024) (f : Fin 512) :
    View.ld x (Rect.unit (s := S8x1024x512) ![j, 0, 0] ![1, 1024, 512] h) (ix3 0 k f) = x (ix3 ⟨j, hj⟩ k f) := by
  show x _ = x _
  congr 1
  funext a
  apply Fin.ext
  match a with
  | ⟨0, _⟩ => show j + 1 * 0 = j; omega
  | ⟨1, _⟩ => show 0 + 1 * k.val = k.val; omega
  | ⟨2, _⟩ => show 0 + 1 * f.val = f.val; omega

/-- Block `j` of the down projection. -/
theorem ld_down (x : Vec Ideal S4096x1024 .bf16) (j : ℕ) (hj : j < 8) (e : ℕ) (he : e = j * 512) (h) (f : Fin 512) (k : Fin 1024) :
    View.ld x (Rect.unit (s := S4096x1024) ![e, 0] ![512, 1024] h) (ix2 f k) = x (ix2 ⟨j * 512 + f.val, lt_col hj f⟩ k) := by
  subst he
  show x _ = x _
  congr 1
  funext a
  apply Fin.ext
  match a with
  | ⟨0, _⟩ => show j * 512 + 1 * f.val = j * 512 + f.val; omega
  | ⟨1, _⟩ => show 0 + 1 * k.val = k.val; omega

section Payloads

variable (x acc : Vec Ideal S512x1024 .f32) (g : Vec Ideal S1x1024 .f32) (p : FVec Ideal S512x1024 .bf16) (w w' : Vec Ideal S1x1024x512 .bf16)
  (u : FVec Ideal S512x512 .f32) (q : FVec Ideal S512x512 .bf16) (v v' v'' : Vec Ideal S512x1024 .bf16) (r : Fin 512) (k : Fin 1024)

theorem first_apply : k0_pay7 (F := Ideal) x g w v (ix2 r k)
    = x (ix2 r k) + ∑ f : Fin 512, max (k0_pay10 (F := Ideal) (k0_pay4 x g) w (ix2 r f)) 0 * max (k0_pay10 (F := Ideal) (k0_pay4 x g) w (ix2 r f)) 0
        * v (ix2 f k) := by
  have e : k0_pay5 (F := Ideal) x g w = k0_pay10 (F := Ideal) (k0_pay4 x g) w := rfl
  pointwise [k0_pay7]
  rw [e]

theorem two_apply : k0_pay12 (F := Ideal) p acc u v w v' (ix2 r k)
    = acc (ix2 r k) + (∑ f : Fin 512, max (u (ix2 r f)) 0 * max (u (ix2 r f)) 0 * v (ix2 f k))
      + ∑ f : Fin 512, max (k0_pay10 (F := Ideal) p w (ix2 r f)) 0 * max (k0_pay10 (F := Ideal) p w (ix2 r f)) 0 * v' (ix2 f k) := by
  pointwise [k0_pay12]

theorem act_apply (f : Fin 512) : k0_pay15 (F := Ideal) p w (ix2 r f)
    = max (k0_pay10 (F := Ideal) p w (ix2 r f)) 0 * max (k0_pay10 (F := Ideal) p w (ix2 r f)) 0 := by
  have e : k0_pay13 (F := Ideal) p w = k0_pay10 (F := Ideal) p w := rfl
  pointwise [k0_pay15]
  rw [e]

theorem kept_apply : k0_pay16 (F := Ideal) v (ix2 r k) = v (ix2 r k) := by
  pointwise [k0_pay16]

theorem three_apply : k0_pay21 (F := Ideal) p acc q v w v' w' v'' (ix2 r k)
    = acc (ix2 r k) + (∑ f : Fin 512, q (ix2 r f) * v (ix2 f k))
      + (∑ f : Fin 512, max (k0_pay10 (F := Ideal) p w (ix2 r f)) 0 * max (k0_pay10 (F := Ideal) p w (ix2 r f)) 0 * v' (ix2 f k))
      + ∑ f : Fin 512, max (k0_pay10 (F := Ideal) p w' (ix2 r f)) 0 * max (k0_pay10 (F := Ideal) p w' (ix2 r f)) 0 * v'' (ix2 f k) := by
  have e : k0_pay17 (F := Ideal) p w = k0_pay10 (F := Ideal) p w := rfl
  have e' : k0_pay19 (F := Ideal) p w' = k0_pay10 (F := Ideal) p w' := rfl
  pointwise [k0_pay21]
  rw [e, e']

theorem last_apply : k0_pay3 (F := Ideal) p acc u v w v' (ix2 r k)
    = acc (ix2 r k) + (∑ f : Fin 512, max (u (ix2 r f)) 0 * max (u (ix2 r f)) 0 * v (ix2 f k))
      + ∑ f : Fin 512, max (k0_pay10 (F := Ideal) p w (ix2 r f)) 0 * max (k0_pay10 (F := Ideal) p w (ix2 r f)) 0 * v' (ix2 f k) := by
  have e : k0_pay1 (F := Ideal) p w = k0_pay10 (F := Ideal) p w := rfl
  pointwise [k0_pay3]
  rw [e]

end Payloads

variable (A : S4096x1024.Idx → EReal) (G : S1x1024.Idx → EReal) (W : S1024x4096.Idx → EReal) (D : S4096x1024.Idx → EReal)

theorem ref_out (t : Fin 4096) (k : Fin 1024) : val_main_v18 (F := Ideal) A G W D (ix2 t k)
    = A (ix2 t k) + ∑ f : Fin 4096, max (val_main_v14 (F := Ideal) A G W (ix2 t f)) 0 * max (val_main_v14 (F := Ideal) A G W (ix2 t f)) 0 * D (ix2 f k) := by
  pointwise [val_main_v18, val_main_v17, val_main_v16, val_main_v15, val_main_call0_v0, val_main_call0_cst]

/-- One row's norm, in the body and in the reference. -/
theorem norm_row (a : Vec Ideal S512x1024 .f32) (g : Vec Ideal S1x1024 .f32) (t : Fin 4096) (r : Fin 512) (ha : ∀ k, a (ix2 r k) = A (ix2 t k))
    (hg : ∀ k, g (ix2 0 k) = G (ix2 0 k)) (k : Fin 1024) :
    k0_pay4 (F := Ideal) a g (ix2 r k) = val_main_v13 (F := Ideal) A G (ix2 t k) := by
  pointwise [k0_pay4, val_main_v13, val_main_v12, val_main_v11, val_main_v10, val_main_v9, val_main_v8, val_main_v7,
    val_main_v6, val_main_cst_1, val_main_v5, val_main_v4, val_main_cst_0, val_main_v3, val_main_v2, val_main_cst, val_main_v1, val_main_v0]
  simp only [ha, hg]

/-- One row's product with a block of the up projection, in the body and in the reference. -/
theorem up_row (p : FVec Ideal S512x1024 .bf16) (w : Vec Ideal S1x1024x512 .bf16) (t f' : Fin 4096) (r f : Fin 512)
    (hp : ∀ k, p (ix2 r k) = val_main_v13 (F := Ideal) A G (ix2 t k)) (hw : ∀ k, w (ix3 0 k f) = W (ix2 k f')) :
    k0_pay10 (F := Ideal) p w (ix2 r f) = val_main_v14 (F := Ideal) A G W (ix2 t f') := by
  pointwise [k0_pay10, val_main_v14]
  simp only [hp, hw]

variable (ρ : ℕ) (hρ : ρ + 512 ≤ 4096) {x0 : Vec Ideal S512x1024 .f32} {x1 : Vec Ideal S1x1024 .f32} {x2 : Vec Ideal S8x1024x512 .bf16}
  {x3 : Vec Ideal S4096x1024 .bf16} (hx : ∀ (r : Fin 512) k, x0 (ix2 r k) = A (ix2 ⟨ρ + r.val, lt_tok hρ r.isLt⟩ k))
  (hg : ∀ k, x1 (ix2 0 k) = G (ix2 0 k)) (hw : ∀ (j : Fin 8) k (f : Fin 512), x2 (ix3 j k f) = W (ix2 k ⟨j.val * 512 + f.val, lt_col j.isLt f⟩))
  (hd : ∀ f k, x3 (ix2 f k) = D (ix2 f k))

/-- The hidden layer as the block's contents. -/
def aVec : S512x4096.Idx → EReal := fun y => val_main_v14 (F := Ideal) A G W (ix2 ⟨ρ + (y 0).val, lt_tok hρ (y 0).isLt⟩ (y 1))

include hx hg in
/-- The normed tokens. -/
theorem normed (r : Fin 512) (k : Fin 1024) : k0_pay4 (F := Ideal) x0 x1 (ix2 r k) = val_main_v13 (F := Ideal) A G (ix2 ⟨ρ + r.val, lt_tok hρ r.isLt⟩ k) :=
  norm_row A G _ _ _ r (hx r) hg k

include hx hg hw in
/-- One block of the hidden layer. -/
theorem hid (j : ℕ) (hj : j < 8) (h) (r f : Fin 512) :
    k0_pay10 (F := Ideal) (k0_pay4 x0 x1) (View.ld x2 (Rect.unit (s := S8x1024x512) ![j, 0, 0] ![1, 1024, 512] h)) (ix2 r f)
      = val_main_v14 (F := Ideal) A G W (ix2 ⟨ρ + r.val, lt_tok hρ r.isLt⟩ ⟨j * 512 + f.val, lt_col hj f⟩) :=
  up_row A G W _ _ _ _ r f (normed A G ρ hρ hx hg r) fun k => (ld_up x2 j hj h k f).trans (hw ⟨j, hj⟩ k f)

include hx hg hw in
theorem a_piece (j : ℕ) (hj : j < 8) (h) (e : ℕ) (he : e = j * 512) (h') (y : S512x512.Idx) :
    k0_pay11 (F := Ideal) (k0_pay4 x0 x1) (View.ld x2 (Rect.unit (s := S8x1024x512) ![j, 0, 0] ![1, 1024, 512] h)) y
      = aVec A G W ρ hρ ((Rect.unit (s := S512x4096) ![0, e] ![512, 512] h').emb y) := by
  obtain ⟨r, f, rfl⟩ : ∃ (r : Fin 512) (f : Fin 512), y = ix2 r f := ⟨y 0, y 1, eq_ix2 y⟩
  subst he
  refine (hid A G W ρ hρ hx hg hw j hj h r f).trans (congrArg _ ?_)
  funext a
  apply Fin.ext
  match a with
  | ⟨0, _⟩ => show ρ + r.val = ρ + (0 + 1 * r.val); omega
  | ⟨1, _⟩ => show j * 512 + f.val = j * 512 + 1 * f.val; omega

include hx hg hw in
theorem out_a (r : Fin 512) (f : Fin 4096) :
    out0_5 (F := Ideal) x0 x1 x2 x3 (ix2 r f) = val_main_v14 (F := Ideal) A G W (ix2 ⟨ρ + r.val, lt_tok hρ r.isLt⟩ f) := by
  unfold out0_5
  refine View.canon_apply_of_pieces (G := (show Vec Ideal S512x4096 .bf16 from aVec A G W ρ hρ)) _ ?_ (ix2 r f) (cover0_5 _ _ _ _ _ _ _ _ _)
  unfold k0_pay24
  simp only [List.forall_mem_cons, View.ld_unit_zero (S := S512x1024) hz, View.ld_unit_zero (S := S1x1024) hz]
  have p := a_piece A G W ρ hρ hx hg hw
  exact ⟨p 7 (by decide) _ _ rfl _, p 6 (by decide) _ _ rfl _, p 5 (by decide) _ _ rfl _, p 4 (by decide) _ _ rfl _, p 3 (by decide) _ _ rfl _,
    p 2 (by decide) _ _ rfl _, p 1 (by decide) _ _ rfl _, p 0 (by decide) _ _ rfl _, by simp⟩

include hx hg in
theorem out_h (r : Fin 512) (k : Fin 1024) :
    out0_6 (F := Ideal) x0 x1 x2 x3 (ix2 r k) = val_main_v13 (F := Ideal) A G (ix2 ⟨ρ + r.val, lt_tok hρ r.isLt⟩ k) := by
  unfold out0_6
  rw [View.canon_unit_zero (S := S512x1024) hz]
  simp only [View.ld_unit_zero (S := S512x1024) hz, View.ld_unit_zero (S := S1x1024) hz]
  exact normed A G ρ hρ hx hg r k

include hx hg hw hd in
theorem out_x (r : Fin 512) (k : Fin 1024) :
    out0_4 (F := Ideal) x0 x1 x2 x3 (ix2 r k) = val_main_v18 (F := Ideal) A G W D (ix2 ⟨ρ + r.val, lt_tok hρ r.isLt⟩ k) := by
  unfold out0_4 k0_pay24
  rw [View.canon_unit_zero (S := S512x1024) hz]
  simp only [View.ld_unit_zero (S := S512x1024) hz, View.ld_unit_zero (S := S1x1024) hz]
  have u := hid A G W ρ hρ hx hg hw
  have u1 (h) (f) : k0_pay8 (F := Ideal) x0 x1 (View.ld x2 (Rect.unit (s := S8x1024x512) ![1, 0, 0] ![1, 1024, 512] h)) (ix2 r f) = _ :=
    u 1 (by decide) h r f
  have u6 (h) (f) : k0_pay22 (F := Ideal) (k0_pay4 x0 x1) (View.ld x2 (Rect.unit (s := S8x1024x512) ![6, 0, 0] ![1, 1024, 512] h)) (ix2 r f) = _ :=
    u 6 (by decide) h r f
  have v (j) (hj : j < 8) (e) (he : e = j * 512) (h) (f) := (ld_down x3 j hj e he h f k).trans (hd _ _)
  refine (last_apply _ _ _ _ _ _ r k).trans ?_
  rw [three_apply, two_apply, first_apply, ref_out, sum_eight]
  simp only [act_apply, kept_apply]
  simp only [u 0 (by decide), u1, u 2 (by decide), u 3 (by decide), u 4 (by decide), u 5 (by decide), u6, u 7 (by decide), hx,
    v 0 (by decide) _ rfl, v 1 (by decide) _ rfl, v 2 (by decide) _ rfl, v 3 (by decide) _ rfl, v 4 (by decide) _ rfl, v 5 (by decide) _ rfl,
    v 6 (by decide) _ rfl, v 7 (by decide) _ rfl]
  simp only [add_assoc]

end MlpFwd

end
-- ==== Proof.MlpFwd.Arrays.lean ====
/- The multilayer block's forward pass: what the windows show the kernel, and what the call's three arrays hold at the end. -/
module

public import proofs.«01_k».proof.Proof.MlpFwd.Block
public import proofs.«01_k».proof.Proof.Gen.Kernel9Ideal.Value

@[expose] public section

noncomputable section

namespace MlpFwd

open Reals
open Dw (at_ix2)
open Idealize.ShloMosaic Idealize.ShloMosaic.Pointwise Idealize.ShloMosaic.Tactic Cert.Kernel9Ideal Cert.Kernel9Ideal.Gen
open Cert.Reference9Ideal.Read (val_main_v20 val_main_v19 val_main_v18 val_main_v14 val_main_v13)

variable (m : ∀ ℓ : Loc nD τ sig, Buf (Elt Ideal) ℓ) (c : Dev nD)

/-- The call's arguments. -/
abbrev a0 : S4096x1024.Idx → EReal := m ((c.tc : Thread nD τ).loc main_arg0)
abbrev a1 : S1x1024.Idx → EReal := m ((c.tc : Thread nD τ).loc main_arg1)
abbrev a2 : S1024x4096.Idx → EReal := m ((c.tc : Thread nD τ).loc main_arg2)
abbrev a3 : S4096x1024.Idx → EReal := m ((c.tc : Thread nD τ).loc main_arg3)

theorem entry_x : (V m c main_arg0 : S4096x1024.Idx → EReal) = a0 m c := by
  show StableHlo.after hostOps0 _ (Proc.devRef .tc main_arg0) = _; after_results_simp; try rfl

theorem entry_g : (V m c main_arg1 : S1x1024.Idx → EReal) = a1 m c := by
  show StableHlo.after hostOps0 _ (Proc.devRef .tc main_arg1) = _; after_results_simp; try rfl

theorem entry_up (j : Fin 8) (k : Fin 1024) (f : Fin 512) :
    (V m c main_v2 : S8x1024x512.Idx → EReal) (ix3 j k f) = a2 m c (ix2 k ⟨j.val * 512 + f.val, lt_col j.isLt f⟩) := by
  show StableHlo.after hostOps0 _ (Proc.devRef .tc main_v2) (ix3 j k f) = _
  after_results_simp
  pointwise

theorem entry_down : (V m c main_v3 : S4096x1024.Idx → EReal) = a3 m c := by
  show StableHlo.after hostOps0 _ (Proc.devRef .tc main_v3) = _; after_results_simp; try rfl

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![t.val, 0] := (by decide +kernel : ∀ t : Fin grid0.N, _)
theorem idx0_5 : ∀ t : Fin cfg0.N, win0_5.index t = ![t.val, 0] := (by decide +kernel : ∀ t : Fin grid0.N, _)
theorem idx0_6 : ∀ t : Fin cfg0.N, win0_6.index t = ![t.val, 0] := (by decide +kernel : ∀ t : Fin grid0.N, _)

theorem points (t : Fin cfg0.N) : t.val * 512 + 512 ≤ 4096 := by have h : t.val < 8 := t.isLt; omega

theorem iblk_x (t : Fin cfg0.N) (r : Fin 512) (k : Fin 1024) :
    (iblk m c 0 t : Vec Ideal S512x1024 .f32) (ix2 r k) = a0 m c (ix2 ⟨t.val * 512 + r.val, lt_tok (points t) r.isLt⟩ k) := by
  rw [← entry_x]
  blk_simp [iblk]
  exact at_ix2 _ _ _ _ (by blk_simp [idx0_0]) (by blk_simp [idx0_0])

theorem iblk_g (t : Fin cfg0.N) (k : Fin 1024) : (iblk m c 1 t : Vec Ideal S1x1024 .f32) (ix2 0 k) = a1 m c (ix2 0 k) := by
  rw [← entry_g]
  blk_simp [iblk]
  exact at_ix2 _ _ _ _ (by blk_simp [idx0_1]) (by blk_simp [idx0_1])

theorem iblk_up (t : Fin cfg0.N) (j : Fin 8) (k : Fin 1024) (f : Fin 512) :
    (iblk m c 2 t : Vec Ideal S8x1024x512 .bf16) (ix3 j k f) = a2 m c (ix2 k ⟨j.val * 512 + f.val, lt_col j.isLt f⟩) := by
  rw [← entry_up]
  blk_simp [iblk]
  refine congrArg _ ?_
  funext a
  apply Fin.ext
  match a with
  | ⟨0, _⟩ => blk_simp [idx0_2]
  | ⟨1, _⟩ => blk_simp [idx0_2]
  | ⟨2, _⟩ => blk_simp [idx0_2]

theorem iblk_down (t : Fin cfg0.N) (f : Fin 4096) (k : Fin 1024) : (iblk m c 3 t : Vec Ideal S4096x1024 .bf16) (ix2 f k) = a3 m c (ix2 f k) := by
  rw [← entry_down]
  blk_simp [iblk]
  exact at_ix2 _ _ _ _ (by blk_simp [idx0_3]) (by blk_simp [idx0_3])

theorem final_x : ((dats m 0 c).arrAt 4 cfg0.N : S4096x1024.Idx → EReal) = val_main_v18 (F := Ideal) (a0 m c) (a1 m c) (a2 m c) (a3 m c) := by
  refine (dats m 0 c).arrAt_eq_of_covers 4 _ (by decide +kernel) fun t hf y => ?_
  blk_simp
  obtain ⟨r, k, rfl⟩ : ∃ (r : Fin 512) (k : Fin 1024), y = ix2 r k := ⟨y 0, y 1, eq_ix2 y⟩
  rw [after0_4]
  refine (out_x _ _ _ _ _ (points t) (iblk_x m c t) (iblk_g m c t) (iblk_up m c t) (iblk_down m c t) r k).trans ?_
  exact (at_ix2 _ _ _ _ (by blk_simp [idx0_4]) (by blk_simp [idx0_4])).symm

theorem final_a : ((dats m 0 c).arrAt 5 cfg0.N : S4096x4096.Idx → EReal) = val_main_v19 (F := Ideal) (a0 m c) (a1 m c) (a2 m c) := by
  refine (dats m 0 c).arrAt_eq_of_covers 5 _ (by decide +kernel) fun t hf y => ?_
  blk_simp
  obtain ⟨r, f, rfl⟩ : ∃ (r : Fin 512) (f : Fin 4096), y = ix2 r f := ⟨y 0, y 1, eq_ix2 y⟩
  rw [after0_5]
  refine (out_a _ _ _ _ (points t) (iblk_x m c t) (iblk_g m c t) (iblk_up m c t) r f).trans ?_
  exact (at_ix2 (val_main_v19 (F := Ideal) (a0 m c) (a1 m c) (a2 m c)) _ _ _ (by blk_simp [idx0_5]) (by blk_simp [idx0_5])).symm

theorem final_h : ((dats m 0 c).arrAt 6 cfg0.N : S4096x1024.Idx → EReal) = val_main_v20 (F := Ideal) (a0 m c) (a1 m c) := by
  refine (dats m 0 c).arrAt_eq_of_covers 6 _ (by decide +kernel) fun t hf y => ?_
  blk_simp
  obtain ⟨r, k, rfl⟩ : ∃ (r : Fin 512) (k : Fin 1024), y = ix2 r k := ⟨y 0, y 1, eq_ix2 y⟩
  rw [after0_6]
  refine (out_h _ _ _ (points t) (iblk_x m c t) (iblk_g m c t) r k).trans ?_
  exact (at_ix2 (val_main_v20 (F := Ideal) (a0 m c) (a1 m c)) _ _ _ (by blk_simp [idx0_6]) (by blk_simp [idx0_6])).symm

end MlpFwd

end
-- ==== Proof.MlpFwd.Claim.lean ====
/- The claims about the multilayer block's forward pass: the reference's frame, and the three results equal to the reference's. -/
module

public import proofs.«01_k».proof.Defs
public import proofs.«01_k».proof.Proof.MlpFwd.Arrays
public import proofs.«01_k».proof.Proof.Gen.Reference9Ideal.Run

@[expose] public section

noncomputable section

namespace MlpFwd

open Idealize.ShloMosaic Idealize.SL.Sem

section Reference

open Cert.Reference9Ideal Cert.Reference9Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2, funext fun g => nomatch g.2⟩) (Cert.Reference9Ideal.Value.run m ρ)

end Reference

/-- The three results, from any arguments. -/
theorem algebraic : Cert.algebraic_Kernel9Ideal_Reference9Ideal (hKernel9Ideal := Cert.Kernel9Ideal.Gen.facts)
    (hReference9Ideal := Cert.Reference9Ideal.Gen.facts) := by
  intro m g m' g' _ hagree
  refine ⟨fun c => Cert.Reference9Ideal.Read.val_main_v18 (F := Ideal) (a0 m c) (a1 m c) (a2 m c) (a3 m c),
    fun c => Cert.Reference9Ideal.Read.val_main_v19 (F := Ideal) (a0 m c) (a1 m c) (a2 m c),
    fun c => Cert.Reference9Ideal.Read.val_main_v20 (F := Ideal) (a0 m c) (a1 m c), ?_, ?_⟩
  · refine (θ_run _ _ _).mono (fun r h c => ?_) (Cert.Kernel9Ideal.Value.run_blocks m g)
    obtain ⟨r0, r1, r2, hargs⟩ := h c
    exact ⟨r0.trans (final_x m c), r1.trans (final_a m c), r2.trans (final_h m c), hargs⟩
  · refine (θ_run _ _ _).mono (fun r h c => ?_) (Cert.Reference9Ideal.Value.run m' g')
    obtain ⟨e0, e1, e2, e3⟩ := hagree c
    obtain ⟨r0, r1, r2, hargs⟩ := h c
    refine ⟨?_, ?_, ?_, hargs⟩
    · refine r0.trans ((Cert.Reference9Ideal.Read.val_main_v18_eq _ _ _ _).trans ?_)
      rw [e0, e1, e2, e3]
    · refine r1.trans ((Cert.Reference9Ideal.Read.val_main_v19_eq _ _ _).trans ?_)
      rw [e0, e1, e2]
    · refine r2.trans ((Cert.Reference9Ideal.Read.val_main_v20_eq _ _).trans ?_)
      rw [e0, e1]

end MlpFwd

end
-- ==== Proof.QkvFwd.Frame.lean ====
/- The reference's frame for the attention's projection with the rotated queries and keys. -/
module

public import proofs.«01_k».proof.Defs
public import proofs.«01_k».proof.Proof.Gen.Reference10Ideal.Run

@[expose] public section

noncomputable section

namespace QkvFwd

open Idealize.ShloMosaic Idealize.SL.Sem
open Cert.Reference10Ideal Cert.Reference10Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h c).2.2.2.2.2, funext fun g => nomatch g.2⟩) (Cert.Reference10Ideal.Value.run m ρ)

end QkvFwd

end
-- ==== Proof.QkvFwd.Block.lean ====
/- The attention's projection with the rotated queries and keys: one head's lines of the body, at an entry. Nothing here asks the entries to be finite. -/
module

public import proofs.«01_k».proof.Proof.Prep.Block
public import proofs.«01_k».proof.Proof.Gen.Kernel10Ideal.Skeleton
public import proofs.«01_k».proof.Proof.Gen.Reference10Ideal.Read
public import Idealize.ShloMosaic.Lib.Pointwise

@[expose] public section

noncomputable section

namespace QkvFwd

open Prep
open Idealize.ShloMosaic Idealize.ShloMosaic.Pointwise Cert.Kernel10Ideal Cert.Kernel10Ideal.Gen
open Cert.Reference10Ideal.Read (val_main_v14 val_main_v13 val_main_v12 val_main_v11 val_main_v10 val_main_v9 val_main_v8 val_main_v7
  val_main_v6 val_main_cst_1 val_main_v5 val_main_v4 val_main_cst_0 val_main_v3 val_main_v2 val_main_cst val_main_v1 val_main_v0)

/-- An array's entry by number. -/
def num {a b : ℕ} (v : (⟨2, ![a, b]⟩ : Shape).Idx → EReal) (p q : ℕ) : EReal := if h : p < a ∧ q < b then v (ix2 ⟨p, h.1⟩ ⟨q, h.2⟩) else 0

theorem num_at {a b : ℕ} (v : (⟨2, ![a, b]⟩ : Shape).Idx → EReal) (p : Fin a) (q : Fin b) : num v p.val q.val = v (ix2 p q) := dif_pos ⟨p.isLt, q.isLt⟩

/-- A head's row, normed and times the gain. -/
def nrm (x g : ℕ → EReal) (d : ℕ) : EReal :=
  x d * Ideal.rsqrt (Ideal.div (∑ k : Fin 128, x k.val * x k.val) (Ideal.ofBits .f32 0x43000000#32) + Ideal.ofBits .f32 0x358637BD#32) * g d

/-- A row turned by its token's angles. -/
def turn (t : ℕ) (y : ℕ → EReal) (d : ℕ) : EReal := y d * ((co t d : ℝ) : EReal) + y (sw d) * ((si t d : ℝ) : EReal)

section Head

variable {c s x : Vec Ideal S512x128 .f32} {g : Vec Ideal S1x128 .f32} {τ : ℕ → ℕ} {X : ℕ → ℕ → EReal} {G : ℕ → EReal}

variable (hc : ∀ r d, c (ix2 r d) = ((co (τ r.val) d.val : ℝ) : EReal)) (hs : ∀ r d, s (ix2 r d) = ((si (τ r.val) d.val : ℝ) : EReal))
  (hx : ∀ r d, x (ix2 r d) = X r.val d.val) (hg : ∀ d, g (ix2 0 d) = G d.val)

include hx hg in
theorem head_nrm (r : Fin 512) (d : Fin 128) : k0_pay9 (F := Ideal) x g (ix2 r d) = nrm (X r.val) G d.val := by
  pointwise [k0_pay9]
  simp only [hx, hg]
  rfl

variable (c s x g) in
/-- A head's lines: the first head's, and every other's. -/
def hv : FVec Ideal S512x128 .bf16 := k0_pay15 (k0_pay8 s) (k0_pay10 c x g) (k0_pay11 x g) (k0_pay12 x g) k0_pay13 k0_pay14

include hc hs hx hg in
theorem head_turn (r : Fin 512) (d : Fin 128) : hv c s x g (ix2 r d) = turn (τ r.val) (nrm (X r.val) G) d.val := by
  have e := lane d
  have hn := head_nrm hx hg
  unfold hv
  pointwise [k0_pay15, k0_pay14, k0_pay13, k0_pay12, k0_pay11, k0_pay10, k0_pay8, k0_pay7]
  rw [e, hc, hs, hn]
  by_cases h : d.val % 64 < 32
  · rw [if_pos h]
    refine (congrArg (fun q : EReal => nrm (X r.val) G d.val * ((co (τ r.val) d.val : ℝ) : EReal) + q * ((si (τ r.val) d.val : ℝ) : EReal))
      ((if_pos rfl).trans (hn _ _))).trans ?_
    dsimp only
    unfold turn sw
    rw [if_pos h]
    exact congrArg (fun n => nrm (X r.val) G d.val * ((co (τ r.val) d.val : ℝ) : EReal) + nrm (X r.val) G n * ((si (τ r.val) d.val : ℝ) : EReal)) (by omega)
  · rw [if_neg h]
    refine (congrArg (fun q : EReal => nrm (X r.val) G d.val * ((co (τ r.val) d.val : ℝ) : EReal) + q * ((si (τ r.val) d.val : ℝ) : EReal))
      ((if_neg (by decide)).trans (hn _ _))).trans ?_
    dsimp only
    unfold turn sw
    rw [if_neg h]
    exact congrArg (fun n => nrm (X r.val) G d.val * ((co (τ r.val) d.val : ℝ) : EReal) + nrm (X r.val) G n * ((si (τ r.val) d.val : ℝ) : EReal)) (by omega)

end Head

variable (A : S4096x1024.Idx → EReal) (G : S1x1024.Idx → EReal) (W : S1024x1536.Idx → EReal)

/-- One row's norm, in the body and in the reference. -/
theorem norm_row (a : Vec Ideal S512x1024 .f32) (g : Vec Ideal S1x1024 .f32) (t : Fin 4096) (r : Fin 512) (ha : ∀ k, a (ix2 r k) = A (ix2 t k))
    (hg : ∀ k, g (ix2 0 k) = G (ix2 0 k)) (k : Fin 1024) :
    k0_pay3 (F := Ideal) a g (ix2 r k) = val_main_v13 (F := Ideal) A G (ix2 t k) := by
  pointwise [k0_pay3, val_main_v13, val_main_v12, val_main_v11, val_main_v10, val_main_v9, val_main_v8, val_main_v7,
    val_main_v6, val_main_cst_1, val_main_v5, val_main_v4, val_main_cst_0, val_main_v3, val_main_v2, val_main_cst, val_main_v1, val_main_v0]
  simp only [ha, hg]

/-- One row's product with a block of columns, in the body and in the reference. -/
theorem prod_row (p : FVec Ideal S512x1024 .bf16) (w : Vec Ideal S1x512x1024 .bf16) (t : Fin 4096) (f' : Fin 1536) (r : Fin 512) (f : Fin 512)
    (hp : ∀ k, p (ix2 r k) = val_main_v13 (F := Ideal) A G (ix2 t k)) (hw : ∀ k, w (ix3 0 f k) = W (ix2 k f')) :
    k0_pay88 (F := Ideal) p w (ix2 r f) = val_main_v14 (F := Ideal) A G W (ix2 t f') := by
  pointwise [k0_pay88, val_main_v14]
  simp only [hp, hw]

end QkvFwd

end
-- ==== Proof.QkvFwd.Cases.lean ====
/- What the attention's projection leaves in its five output blocks at one grid point: a point takes 1024 tokens in two halves; every half is normed
   once and multiplied by three blocks of columns, then each head is read back, normed and turned. -/
module

public import proofs.«01_k».proof.Proof.QkvFwd.Block
public import proofs.«01_k».proof.Proof.Mlp.Cases
public import proofs.«01_k».proof.Proof.Gen.Kernel10Ideal.Frame

@[expose] public section

noncomputable section

namespace QkvFwd

open Prep Reals
open Idealize.ShloMosaic Idealize.ShloMosaic.Pointwise Idealize.ShloMosaic.Tactic Cert.Kernel10Ideal Cert.Kernel10Ideal.Gen
open Cert.Reference10Ideal.Read (val_main_v14 val_main_v13)

/-- Rows `b … b + 511` and columns `e … e + w - 1` of an array of 1024 rows. -/
theorem ld_part {n w : ℕ} {φ : EltTy} (x : Vec Ideal ⟨2, ![1024, n]⟩ φ) (b e : ℕ) (hb : b + 512 ≤ 1024) (he : e + w ≤ n) (h) (r : Fin 512) (d : Fin w) :
    View.ld x (Rect.unit (s := ⟨2, ![1024, n]⟩) ![b, e] ![512, w] h) (ix2 r d) = x (ix2 ⟨b + r.val, by omega⟩ ⟨e + d.val, by omega⟩) := by
  show x _ = x _
  congr 1
  funext a
  apply Fin.ext
  match a with
  | ⟨0, _⟩ => show b + 1 * r.val = b + r.val; omega
  | ⟨1, _⟩ => show e + 1 * d.val = e + d.val; omega

/-- Where they lie in the whole array. -/
theorem emb_part {n w : ℕ} (b e : ℕ) (hb : b + 512 ≤ 1024) (he : e + w ≤ n) (h) (r : Fin 512) (d : Fin w) :
    (Rect.unit (s := ⟨2, ![1024, n]⟩) ![b, e] ![512, w] h).emb (ix2 r d) = ix2 ⟨b + r.val, by omega⟩ ⟨e + d.val, by omega⟩ := by
  funext a
  apply Fin.ext
  match a with
  | ⟨0, _⟩ => show b + 1 * r.val = b + r.val; omega
  | ⟨1, _⟩ => show e + 1 * d.val = e + d.val; omega

/-- Block `j` of the weights. -/
theorem ld_block (x : Vec Ideal S3x512x1024 .bf16) (j : ℕ) (hj : j < 3) (h) (f : Fin 512) (k : Fin 1024) :
    View.ld x (Rect.unit (s := S3x512x1024) ![j, 0, 0] ![1, 512, 1024] h) (ix3 0 f k) = x (ix3 ⟨j, hj⟩ f k) := by
  show x _ = x _
  congr 1
  funext a
  apply Fin.ext
  match a with
  | ⟨0, _⟩ => show j + 1 * 0 = j; omega
  | ⟨1, _⟩ => show 0 + 1 * f.val = f.val; omega
  | ⟨2, _⟩ => show 0 + 1 * k.val = k.val; omega

/-- A token of the block that begins at `ρ`. -/
theorem lt_tok {ρ : ℕ} (hρ : ρ + 1024 ≤ 4096) {r : ℕ} (hr : r < 1024) : ρ + r < 4096 := by omega

/-- A column of block `j`. -/
theorem lt_col (j : Fin 3) (f : Fin 512) : j.val * 512 + f.val < 1536 := by omega

variable (A : S4096x1024.Idx → EReal) (G : S1x1024.Idx → EReal) (W : S1024x1536.Idx → EReal) (QG KG : ℕ → EReal)

/-- The projection by numbers. -/
def zval (p q : ℕ) : EReal := num (val_main_v14 (F := Ideal) A G W) p q

/-- The rotated queries. -/
def qval (p q : ℕ) : EReal := turn (p % 2048) (nrm (fun j => zval A G W p (q / 128 * 128 + j)) QG) (q % 128)

/-- The rotated keys. -/
def kval (p q : ℕ) : EReal := turn (p % 2048) (nrm (fun j => zval A G W p (1024 + q / 128 * 128 + j)) KG) (q % 128)

/-- The values. -/
def vval (p q : ℕ) : EReal := zval A G W p (1280 + q)

/-- The normed tokens. -/
def hval (p q : ℕ) : EReal := num (val_main_v13 (F := Ideal) A G) p q

variable (ρ : ℕ) (hρ : ρ + 1024 ≤ 4096) {x0 : Vec Ideal S1024x1024 .f32} {x1 : Vec Ideal S1x1024 .f32} {x2 : Vec Ideal S3x512x1024 .bf16}
  {x3 x4 : Vec Ideal S1x128 .f32} {x5 x6 : Vec Ideal S1024x128 .f32}
  (h0 : ∀ (r : Fin 1024) k, x0 (ix2 r k) = A (ix2 ⟨ρ + r.val, lt_tok hρ r.isLt⟩ k)) (h1 : ∀ k, x1 (ix2 0 k) = G (ix2 0 k))
  (h2 : ∀ (j : Fin 3) (f : Fin 512) k, x2 (ix3 j f k) = W (ix2 k ⟨j.val * 512 + f.val, lt_col j f⟩))
  (h3 : ∀ d, x3 (ix2 0 d) = QG d.val) (h4 : ∀ d, x4 (ix2 0 d) = KG d.val)
  (h5 : ∀ r d, x5 (ix2 r d) = ((co ((ρ + r.val) % 2048) d.val : ℝ) : EReal)) (h6 : ∀ r d, x6 (ix2 r d) = ((si ((ρ + r.val) % 2048) d.val : ℝ) : EReal))

/-- An array given by numbers as the block's contents. -/
def blk {n : ℕ} (f : ℕ → ℕ → EReal) : (⟨2, ![1024, n]⟩ : Shape).Idx → EReal := fun y => f (ρ + (y 0).val) (y 1).val

include h0 h1 in
/-- One half of the normed tokens. -/
theorem half (b : ℕ) (hb : b + 512 ≤ 1024) (h) (r : Fin 512) (k : Fin 1024) :
    k0_pay3 (F := Ideal) (View.ld x0 (Rect.unit (s := S1024x1024) ![b, 0] ![512, 1024] h)) x1 (ix2 r k)
      = val_main_v13 (F := Ideal) A G (ix2 ⟨ρ + (b + r.val), by omega⟩ k) :=
  norm_row A G _ _ _ r (fun k => ((ld_part x0 b 0 hb (by omega) h r k).trans (congrArg x0 (congrArg (ix2 _) (Fin.ext (Nat.zero_add k.val))))).trans (h0 _ k)) h1 k

include h0 h1 in
theorem half_piece (b : ℕ) (hb : b + 512 ≤ 1024) (h) (y : S512x1024.Idx) :
    k0_pay3 (F := Ideal) (View.ld x0 (Rect.unit (s := S1024x1024) ![b, 0] ![512, 1024] h)) x1 y
      = blk ρ (hval A G) ((Rect.unit (s := S1024x1024) ![b, 0] ![512, 1024] h).emb y) := by
  obtain ⟨r, k, rfl⟩ : ∃ (r : Fin 512) (k : Fin 1024), y = ix2 r k := ⟨y 0, y 1, eq_ix2 y⟩
  rw [emb_part (n := 1024) b 0 hb (by omega)]
  refine (half A G ρ hρ h0 h1 b hb h r k).trans ((num_at (val_main_v13 (F := Ideal) A G) _ _).symm.trans ?_)
  show hval A G (ρ + (b + r.val)) k.val = hval A G (ρ + (b + r.val)) (0 + k.val)
  rw [Nat.zero_add]

include h0 h1 h2 in
/-- One half's product with one block of columns. -/
theorem z_piece (b : ℕ) (hb : b + 512 ≤ 1024) (h) (j : ℕ) (hj : j < 3) (h') (e : ℕ) (he : e = j * 512) (h'') (y : S512x512.Idx) :
    k0_pay88 (F := Ideal) (k0_pay3 (View.ld x0 (Rect.unit (s := S1024x1024) ![b, 0] ![512, 1024] h)) x1)
        (View.ld x2 (Rect.unit (s := S3x512x1024) ![j, 0, 0] ![1, 512, 1024] h')) y
      = blk ρ (zval A G W) ((Rect.unit (s := S1024x1536) ![b, e] ![512, 512] h'').emb y) := by
  obtain ⟨r, f, rfl⟩ : ∃ (r : Fin 512) (f : Fin 512), y = ix2 r f := ⟨y 0, y 1, eq_ix2 y⟩
  subst he
  rw [emb_part (n := 1536) b (j * 512) hb (by omega)]
  exact (prod_row A G W _ _ ⟨ρ + (b + r.val), by omega⟩ ⟨j * 512 + f.val, by omega⟩ r f (half A G ρ hρ h0 h1 b hb h r)
    (fun k => (ld_block x2 j hj h' f k).trans (h2 ⟨j, hj⟩ f k))).trans (num_at (val_main_v14 (F := Ideal) A G W) _ _).symm

section Pieces

variable (x0 x1 x2)

/-- The stores of the first half's projection, last first. -/
def low : List (View.Piece (Elt Ideal) S1024x1536 .f32) :=
  [⟨Rect.unit (s := S1024x1536) ![0, 1024] ![512, 512] inb_S1024x1536_S512x512_0_1024, k0_pay88 (k0_pay3 (View.ld x0 (Rect.unit (s := S1024x1024) ![0, 0] ![512, 1024] inb_S1024x1024_S512x1024_0_0)) x1) (View.ld x2 (Rect.unit (s := S3x512x1024) ![2, 0, 0] ![1, 512, 1024] inb_S3x512x1024_S1x512x1024_2_0_0))⟩,
   ⟨Rect.unit (s := S1024x1536) ![0, 512] ![512, 512] inb_S1024x1536_S512x512_0_512, k0_pay88 (k0_pay3 (View.ld x0 (Rect.unit (s := S1024x1024) ![0, 0] ![512, 1024] inb_S1024x1024_S512x1024_0_0)) x1) (View.ld x2 (Rect.unit (s := S3x512x1024) ![1, 0, 0] ![1, 512, 1024] inb_S3x512x1024_S1x512x1024_1_0_0))⟩,
   ⟨Rect.unit (s := S1024x1536) ![0, 0] ![512, 512] inb_S1024x1536_S512x512_0_0, k0_pay88 (k0_pay3 (View.ld x0 (Rect.unit (s := S1024x1024) ![0, 0] ![512, 1024] inb_S1024x1024_S512x1024_0_0)) x1) (View.ld x2 (Rect.unit (s := S3x512x1024) ![0, 0, 0] ![1, 512, 1024] inb_S3x512x1024_S1x512x1024_0_0_0))⟩]

/-- Those of both halves. -/
def both : List (View.Piece (Elt Ideal) S1024x1536 .f32) :=
  ⟨Rect.unit (s := S1024x1536) ![512, 1024] ![512, 512] inb_S1024x1536_S512x512_512_1024, k0_pay88 (k0_pay3 (View.ld x0 (Rect.unit (s := S1024x1024) ![512, 0] ![512, 1024] inb_S1024x1024_S512x1024_512_0)) x1) (View.ld x2 (Rect.unit (s := S3x512x1024) ![2, 0, 0] ![1, 512, 1024] inb_S3x512x1024_S1x512x1024_2_0_0))⟩
  :: ⟨Rect.unit (s := S1024x1536) ![512, 512] ![512, 512] inb_S1024x1536_S512x512_512_512, k0_pay88 (k0_pay3 (View.ld x0 (Rect.unit (s := S1024x1024) ![512, 0] ![512, 1024] inb_S1024x1024_S512x1024_512_0)) x1) (View.ld x2 (Rect.unit (s := S3x512x1024) ![1, 0, 0] ![1, 512, 1024] inb_S3x512x1024_S1x512x1024_1_0_0))⟩
  :: ⟨Rect.unit (s := S1024x1536) ![512, 0] ![512, 512] inb_S1024x1536_S512x512_512_0, k0_pay88 (k0_pay3 (View.ld x0 (Rect.unit (s := S1024x1024) ![512, 0] ![512, 1024] inb_S1024x1024_S512x1024_512_0)) x1) (View.ld x2 (Rect.unit (s := S3x512x1024) ![0, 0, 0] ![1, 512, 1024] inb_S3x512x1024_S1x512x1024_0_0_0))⟩
  :: low x0 x1 x2

end Pieces

/-- That the pieces of a list are the projection's, and reach over the half from row `b` on. -/
def Holds (b : ℕ) (L : List (View.Piece (Elt Ideal) S1024x1536 .f32)) : Prop :=
  (∀ p ∈ L, ∀ x : p.1.shape.Idx, p.2 x = (show Vec Ideal S1024x1536 .f32 from blk ρ (zval A G W)) (p.1.emb x))
    ∧ ∀ (r : Fin 1024) (f : Fin 1536), b ≤ r.val → r.val < b + 512 → ∃ p ∈ L, (ix2 r f : S1024x1536.Idx) ∈ p.1.set

/-- An entry of a block's rectangle. -/
theorem in_block {b e : ℕ} (h) (r : Fin 1024) (f : Fin 1536) (hb : b ≤ r.val) (hb' : r.val < b + 512) (he : e ≤ f.val) (he' : f.val < e + 512) :
    (ix2 r f : S1024x1536.Idx) ∈ (Rect.unit (s := S1024x1536) ![b, e] ![512, 512] h).set := by
  refine Rect.mem_set_unit.mpr fun a => ?_
  match a with
  | ⟨0, _⟩ => exact ⟨hb, hb'⟩
  | ⟨1, _⟩ => exact ⟨he, he'⟩

include h0 h1 h2 in
theorem low_holds : Holds A G W ρ 0 (low x0 x1 x2) := by
  have u := z_piece A G W ρ hρ h0 h1 h2 0 (by decide) inb_S1024x1024_S512x1024_0_0
  refine ⟨?_, fun r f hr hr' => ?_⟩
  · unfold low
    simp only [List.forall_mem_cons]
    exact ⟨u 2 (by decide) _ _ rfl _, u 1 (by decide) _ _ rfl _, u 0 (by decide) _ _ rfl _, by simp⟩
  · by_cases hf : f.val < 512
    · exact ⟨_, .tail _ (.tail _ (.head _)), in_block inb_S1024x1536_S512x512_0_0 r f hr hr' (by omega) (by omega)⟩
    · by_cases hf' : f.val < 1024
      · exact ⟨_, .tail _ (.head _), in_block inb_S1024x1536_S512x512_0_512 r f hr hr' (by omega) (by omega)⟩
      · exact ⟨_, .head _, in_block inb_S1024x1536_S512x512_0_1024 r f hr hr' (by omega) (by omega)⟩

include h0 h1 h2 in
theorem both_holds : Holds A G W ρ 512 (both x0 x1 x2) := by
  have u := z_piece A G W ρ hρ h0 h1 h2 512 (by decide) inb_S1024x1024_S512x1024_512_0
  refine ⟨?_, fun r f hr hr' => ?_⟩
  · unfold both
    simp only [List.forall_mem_cons]
    exact ⟨u 2 (by decide) _ _ rfl _, u 1 (by decide) _ _ rfl _, u 0 (by decide) _ _ rfl _, (low_holds A G W ρ hρ h0 h1 h2).1⟩
  · by_cases hf : f.val < 512
    · exact ⟨_, .tail _ (.tail _ (.head _)), in_block inb_S1024x1536_S512x512_512_0 r f hr hr' (by omega) (by omega)⟩
    · by_cases hf' : f.val < 1024
      · exact ⟨_, .tail _ (.head _), in_block inb_S1024x1536_S512x512_512_512 r f hr hr' (by omega) (by omega)⟩
      · exact ⟨_, .head _, in_block inb_S1024x1536_S512x512_512_1024 r f hr hr' (by omega) (by omega)⟩

section Read

variable {b : ℕ} (hb : b + 512 ≤ 1024) {L : List (View.Piece (Elt Ideal) S1024x1536 .f32)} (hL : Holds A G W ρ b L)

include hb hL in
/-- What the body reads back of the half's projection. -/
theorem read_back {w : ℕ} (e : ℕ) (he : e + w ≤ 1536) (h) (r : Fin 512) (d : Fin w) :
    View.ld (View.canon L) (Rect.unit (s := S1024x1536) ![b, e] ![512, w] h) (ix2 r d) = zval A G W (ρ + (b + r.val)) (e + d.val) :=
  (ld_part (n := 1536) (φ := .f32) (View.canon L) b e hb he h r d).trans (View.canon_apply_of_pieces _ L hL.1 _
    (hL.2 _ _ (Nat.le_add_right b r.val) (Nat.add_lt_add_left r.isLt b)))

include hb hL h5 h6 in
/-- One head of a half, with the gain `x`. -/
theorem head_at {x : Vec Ideal S1x128 .f32} {N : ℕ → EReal} (hx : ∀ d, x (ix2 0 d) = N d.val) (e : ℕ) (he : e + 128 ≤ 1536) (h h' h'') (r : Fin 512) (d : Fin 128) :
    hv (View.ld x5 (Rect.unit (s := S1024x128) ![b, 0] ![512, 128] h)) (View.ld x6 (Rect.unit (s := S1024x128) ![b, 0] ![512, 128] h'))
        (View.ld (View.canon L) (Rect.unit (s := S1024x1536) ![b, e] ![512, 128] h'')) x (ix2 r d)
      = turn ((ρ + (b + r.val)) % 2048) (nrm (fun j => zval A G W (ρ + (b + r.val)) (e + j)) N) d.val :=
  head_turn (τ := fun r => (ρ + (b + r)) % 2048) (X := fun r j => zval A G W (ρ + (b + r)) (e + j))
    (fun r d => ((ld_part x5 b 0 hb (by omega) h r d).trans (congrArg x5 (congrArg (ix2 _) (Fin.ext (Nat.zero_add d.val))))).trans (h5 _ d))
    (fun r d => ((ld_part x6 b 0 hb (by omega) h' r d).trans (congrArg x6 (congrArg (ix2 _) (Fin.ext (Nat.zero_add d.val))))).trans (h6 _ d))
    (fun r d => read_back A G W ρ hb hL e he h'' r d) hx r d

include hb hL h3 h5 h6 in
theorem q_piece (e : ℕ) (he : e + 128 ≤ 1024) (hm : e % 128 = 0) (h h' h'' h3') (y : S512x128.Idx) :
    hv (View.ld x5 (Rect.unit (s := S1024x128) ![b, 0] ![512, 128] h)) (View.ld x6 (Rect.unit (s := S1024x128) ![b, 0] ![512, 128] h'))
        (View.ld (View.canon L) (Rect.unit (s := S1024x1536) ![b, e] ![512, 128] h'')) x3 y
      = blk ρ (qval A G W QG) ((Rect.unit (s := S1024x1024) ![b, e] ![512, 128] h3').emb y) := by
  obtain ⟨r, d, rfl⟩ : ∃ (r : Fin 512) (d : Fin 128), y = ix2 r d := ⟨y 0, y 1, eq_ix2 y⟩
  rw [emb_part (n := 1024) b e hb he]
  refine (head_at A G W ρ h5 h6 hb hL h3 e (by omega) h h' h'' r d).trans ?_
  show _ = qval A G W QG (ρ + (b + r.val)) (e + d.val)
  unfold qval
  rw [show (e + d.val) / 128 * 128 = e by omega, show (e + d.val) % 128 = d.val by omega]

include hb hL h4 h5 h6 in
theorem k_piece (e e' : ℕ) (he : e + 128 ≤ 256) (hm : e % 128 = 0) (he' : 1024 + e = e') (h h' h'' h3') (y : S512x128.Idx) :
    hv (View.ld x5 (Rect.unit (s := S1024x128) ![b, 0] ![512, 128] h)) (View.ld x6 (Rect.unit (s := S1024x128) ![b, 0] ![512, 128] h'))
        (View.ld (View.canon L) (Rect.unit (s := S1024x1536) ![b, e'] ![512, 128] h'')) x4 y
      = blk ρ (kval A G W KG) ((Rect.unit (s := S1024x256) ![b, e] ![512, 128] h3').emb y) := by
  obtain ⟨r, d, rfl⟩ : ∃ (r : Fin 512) (d : Fin 128), y = ix2 r d := ⟨y 0, y 1, eq_ix2 y⟩
  rw [emb_part (n := 256) b e hb he]
  refine (head_at A G W ρ h5 h6 hb hL h4 e' (by omega) h h' h'' r d).trans ?_
  show _ = kval A G W KG (ρ + (b + r.val)) (e + d.val)
  unfold kval
  rw [show 1024 + (e + d.val) / 128 * 128 = e' by omega, show (e + d.val) % 128 = d.val by omega]

include hb hL in
theorem v_piece (h h') (y : S512x256.Idx) :
    k0_pay2 (F := Ideal) (View.ld (View.canon L) (Rect.unit (s := S1024x1536) ![b, 1280] ![512, 256] h)) y
      = blk ρ (vval A G W) ((Rect.unit (s := S1024x256) ![b, 0] ![512, 256] h').emb y) := by
  obtain ⟨r, d, rfl⟩ : ∃ (r : Fin 512) (d : Fin 256), y = ix2 r d := ⟨y 0, y 1, eq_ix2 y⟩
  rw [emb_part (n := 256) b 0 hb (by omega)]
  refine Eq.trans (b := View.ld (View.canon L) (Rect.unit (s := S1024x1536) ![b, 1280] ![512, 256] h) (ix2 r d)) (by pointwise [k0_pay2])
    ((read_back A G W ρ hb hL 1280 (by omega) h r d).trans ?_)
  show _ = zval A G W (ρ + (b + r.val)) (1280 + (0 + d.val))
  rw [Nat.zero_add]

end Read

section Outputs

variable {c : Dev nD} {i : grid0.Coords} {arg1 : Memref sig .tc .vmem S1024x1024 .f32} {harg1 : arg1.IsWhole} {arg2 : Memref sig .tc .vmem S1x1024 .f32} {harg2 : arg2.IsWhole}
  {arg3 : Memref sig .tc .vmem S3x512x1024 .bf16} {harg3 : arg3.IsWhole} {arg4 : Memref sig .tc .vmem S1x128 .f32} {harg4 : arg4.IsWhole}
  {arg5 : Memref sig .tc .vmem S1x128 .f32} {harg5 : arg5.IsWhole} {arg6 : Memref sig .tc .vmem S1024x128 .f32} {harg6 : arg6.IsWhole}
  {arg7 : Memref sig .tc .vmem S1024x128 .f32} {harg7 : arg7.IsWhole} {arg8 : Memref sig .tc .vmem S1024x1536 .f32} {harg8 : arg8.IsWhole}
  {arg9 : Memref sig .tc .vmem S1024x1024 .bf16} {harg9 : arg9.IsWhole} {arg10 : Memref sig .tc .vmem S1024x1024 .bf16} {harg10 : arg10.IsWhole}
  {arg11 : Memref sig .tc .vmem S1024x256 .bf16} {harg11 : arg11.IsWhole} {arg12 : Memref sig .tc .vmem S1024x256 .bf16} {harg12 : arg12.IsWhole}

include h0 h1 h2 in
theorem out_7 (r : Fin 1024) (f : Fin 1536) : out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r f) = zval A G W (ρ + r.val) f.val := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6)]
  refine View.canon_apply_of_pieces (G := (show Vec Ideal S1024x1536 .f32 from blk ρ (zval A G W))) _ ?_ (ix2 r f) (cover0_A_7 c i arg1 harg1 arg2 harg2 arg3 harg3 arg4 harg4 arg5 harg5 arg6 harg6 arg7 harg7 arg8 harg8 arg9 harg9 arg10 harg10 arg11 harg11 arg12 harg12 x0 x1 x2 x3 x4 x5 x6 _)
  unfold kernelRun0_A
  dsimp only
  sl_unfold_words
  simp only [List.forall_mem_cons, View.readAt_eq_ld, harg1.read_unread, harg2.read_unread, harg3.read_unread, harg4.read_unread, harg5.read_unread, harg6.read_unread, harg7.read_unread,
    View.readCov_eq_canon', View.ld_unit_zero (S := S1x1024) hz, View.ld_unit_zero (S := S1x128) hz]
  have p := z_piece A G W ρ hρ h0 h1 h2
  have u := p 512 (by decide) inb_S1024x1024_S512x1024_512_0
  have v := p 0 (by decide) inb_S1024x1024_S512x1024_0_0
  exact ⟨u 2 (by decide) _ _ rfl _, u 1 (by decide) _ _ rfl _, u 0 (by decide) _ _ rfl _, v 2 (by decide) _ _ rfl _, v 1 (by decide) _ _ rfl _,
    v 0 (by decide) _ _ rfl _, by simp⟩

include h0 h1 in
theorem out_8 (r : Fin 1024) (f : Fin 1024) : out0_A_8 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r f) = hval A G (ρ + r.val) f.val := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6)]
  refine View.canon_apply_of_pieces (G := (show Vec Ideal S1024x1024 .bf16 from blk ρ (hval A G))) _ ?_ (ix2 r f) (cover0_A_8 c i arg1 harg1 arg2 harg2 arg3 harg3 arg4 harg4 arg5 harg5 arg6 harg6 arg7 harg7 arg8 harg8 arg9 harg9 arg10 harg10 arg11 harg11 arg12 harg12 x0 x1 x2 x3 x4 x5 x6 _)
  unfold kernelRun0_A
  dsimp only
  sl_unfold_words
  simp only [List.forall_mem_cons, View.readAt_eq_ld, harg1.read_unread, harg2.read_unread, harg3.read_unread, harg4.read_unread, harg5.read_unread, harg6.read_unread, harg7.read_unread,
    View.readCov_eq_canon', View.ld_unit_zero (S := S1x1024) hz, View.ld_unit_zero (S := S1x128) hz]
  have p := half_piece A G ρ hρ h0 h1
  exact ⟨p 512 (by decide) _, p 0 (by decide) _, by simp⟩

include h0 h1 h2 h3 h5 h6 in
theorem out_9 (r : Fin 1024) (f : Fin 1024) : out0_A_9 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r f) = qval A G W QG (ρ + r.val) f.val := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6)]
  refine View.canon_apply_of_pieces (G := (show Vec Ideal S1024x1024 .bf16 from blk ρ (qval A G W QG))) _ ?_ (ix2 r f) (cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 _)
  unfold kernelRun0_A
  dsimp only
  sl_unfold_words
  simp only [List.forall_mem_cons, View.readAt_eq_ld, harg1.read_unread, harg2.read_unread, harg3.read_unread, harg4.read_unread, harg5.read_unread, harg6.read_unread, harg7.read_unread,
    View.readCov_eq_canon', View.ld_unit_zero (S := S1x1024) hz, View.ld_unit_zero (S := S1x128) hz]
  have u := q_piece A G W QG ρ h3 h5 h6 (b := 512) (by decide) (both_holds A G W ρ hρ h0 h1 h2)
  have v := q_piece A G W QG ρ h3 h5 h6 (b := 0) (by decide) (low_holds A G W ρ hρ h0 h1 h2)
  exact ⟨u 896 (by decide) rfl _ _ _ _, u 768 (by decide) rfl _ _ _ _, u 640 (by decide) rfl _ _ _ _, u 512 (by decide) rfl _ _ _ _, u 384 (by decide) rfl _ _ _ _, u 256 (by decide) rfl _ _ _ _, u 128 (by decide) rfl _ _ _ _, u 0 (by decide) rfl _ _ _ _,
    v 896 (by decide) rfl _ _ _ _, v 768 (by decide) rfl _ _ _ _, v 640 (by decide) rfl _ _ _ _, v 512 (by decide) rfl _ _ _ _, v 384 (by decide) rfl _ _ _ _, v 256 (by decide) rfl _ _ _ _, v 128 (by decide) rfl _ _ _ _, v 0 (by decide) rfl _ _ _ _, by simp⟩

include h0 h1 h2 h4 h5 h6 in
theorem out_10 (r : Fin 1024) (f : Fin 256) : out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r f) = kval A G W KG (ρ + r.val) f.val := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6)]
  refine View.canon_apply_of_pieces (G := (show Vec Ideal S1024x256 .bf16 from blk ρ (kval A G W KG))) _ ?_ (ix2 r f) (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 _)
  unfold kernelRun0_A
  dsimp only
  sl_unfold_words
  simp only [List.forall_mem_cons, View.readAt_eq_ld, harg1.read_unread, harg2.read_unread, harg3.read_unread, harg4.read_unread, harg5.read_unread, harg6.read_unread, harg7.read_unread,
    View.readCov_eq_canon', View.ld_unit_zero (S := S1x1024) hz, View.ld_unit_zero (S := S1x128) hz]
  have u := k_piece A G W KG ρ h4 h5 h6 (b := 512) (by decide) (both_holds A G W ρ hρ h0 h1 h2)
  have v := k_piece A G W KG ρ h4 h5 h6 (b := 0) (by decide) (low_holds A G W ρ hρ h0 h1 h2)
  exact ⟨u 128 1152 (by decide) rfl rfl _ _ _ _, u 0 1024 (by decide) rfl rfl _ _ _ _, v 128 1152 (by decide) rfl rfl _ _ _ _,
    v 0 1024 (by decide) rfl rfl _ _ _ _, by simp⟩

include h0 h1 h2 in
theorem out_11 (r : Fin 1024) (f : Fin 256) : out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 (ix2 r f) = vval A G W (ρ + r.val) f.val := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6)]
  refine View.canon_apply_of_pieces (G := (show Vec Ideal S1024x256 .bf16 from blk ρ (vval A G W))) _ ?_ (ix2 r f) (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 _)
  unfold kernelRun0_A
  dsimp only
  sl_unfold_words
  simp only [List.forall_mem_cons, View.readAt_eq_ld, harg1.read_unread, harg2.read_unread, harg3.read_unread, harg4.read_unread, harg5.read_unread, harg6.read_unread, harg7.read_unread,
    View.readCov_eq_canon', View.ld_unit_zero (S := S1x1024) hz, View.ld_unit_zero (S := S1x128) hz]
  have u := v_piece A G W ρ (b := 512) (by decide) (both_holds A G W ρ hρ h0 h1 h2)
  have v := v_piece A G W ρ (b := 0) (by decide) (low_holds A G W ρ hρ h0 h1 h2)
  exact ⟨u _ _, v _ _, by simp⟩

end Outputs

end QkvFwd

end
-- ==== Proof.QkvFwd.Ref.lean ====
/- The reference of the attention's projection, read at an entry. -/
module

public import proofs.«01_k».proof.Proof.QkvFwd.Cases
public import proofs.«01_k».proof.Proof.Prep.Ref

@[expose] public section

noncomputable section

namespace QkvFwd

open Prep
open Idealize.ShloMosaic Idealize.ShloMosaic.Pointwise Cert.Reference10Ideal Cert.Reference10Ideal.Gen Cert.Reference10Ideal.Read

theorem ref_row (t : Fin 2048) (f : Fin 32) : val_main_v66 (F := Ideal) (ix2 t f) = ((angle t.val f.val : ℝ) : EReal) := by
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_cst_8, val_main_cst_9]
  exact angle_row t.val f.val f.val t.isLt f.isLt (by omega) (by omega)

theorem ref_col (t : Fin 2048) (f : Fin 32) : val_main_v71 (F := Ideal) (ix2 t f) = ((angle t.val (64 + f.val) : ℝ) : EReal) := by
  pointwise [val_main_v71, val_main_v70, val_main_v69, val_main_v68, val_main_v67, val_main_v61, val_main_v60, val_main_v59, val_main_v58, val_main_v57, val_main_v56, val_main_v55, val_main_v54, val_main_v53, val_main_v52, val_main_v51, val_main_v50, val_main_v49, val_main_cst_8, val_main_cst_9]
  exact angle_col t.val (64 + f.val) f.val t.isLt f.isLt (by omega) (by omega)

/-- The four quarters of a head, as the reference turns them. -/
theorem turned (t : ℕ) (D : ℕ → EReal) (d : ℕ) (hd : d < 128) :
    (if _ : d < 64 then
      if _ : d < 32 then D d * Ideal.cos ((angle t d : ℝ) : EReal) - D (32 + d) * Ideal.sin ((angle t d : ℝ) : EReal)
      else D (32 + (d - 32)) * Ideal.cos ((angle t (d - 32) : ℝ) : EReal) + D (d - 32) * Ideal.sin ((angle t (d - 32) : ℝ) : EReal)
    else
      if _ : d - 64 < 32 then
        D (64 + (d - 64)) * Ideal.cos ((angle t (64 + (d - 64)) : ℝ) : EReal) - D (64 + (32 + (d - 64))) * Ideal.sin ((angle t (64 + (d - 64)) : ℝ) : EReal)
      else
        D (64 + (32 + (d - 64 - 32))) * Ideal.cos ((angle t (64 + (d - 64 - 32)) : ℝ) : EReal)
          + D (64 + (d - 64 - 32)) * Ideal.sin ((angle t (64 + (d - 64 - 32)) : ℝ) : EReal)) = turn t D d := by
  have hs : ∀ x : ℝ, Ideal.sin (x : EReal) = ((Real.sin x : ℝ) : EReal) := fun _ => rfl
  have hc : ∀ x : ℝ, Ideal.cos (x : EReal) = ((Real.cos x : ℝ) : EReal) := fun _ => rfl
  have hm : ∀ (a b : EReal) (x : ℝ), a - b * (x : EReal) = a + b * ((-x : ℝ) : EReal) := fun a b x => by
    rw [EReal.coe_neg, mul_neg, sub_eq_add_neg]
  simp only [hs, hc, hm]
  unfold turn co si sw
  by_cases h : d < 64
  · rw [dif_pos h]
    by_cases h' : d < 32
    · rw [dif_pos h', if_pos (by omega), if_pos (by omega), show 32 + d = d + 32 by omega]
    · rw [dif_neg h', if_neg (by omega), if_neg (by omega), show 32 + (d - 32) = d by omega, angle_congr t (d := d - 32) (d' := d) (by omega) (by omega)]
  · rw [dif_neg h]
    by_cases h' : d - 64 < 32
    · rw [dif_pos h', if_pos (by omega), if_pos (by omega), show 64 + (32 + (d - 64)) = d + 32 by omega, show 64 + (d - 64) = d by omega]
    · rw [dif_neg h', if_neg (by omega), if_neg (by omega), show 64 + (32 + (d - 64 - 32)) = d by omega, show 64 + (d - 64 - 32) = d - 32 by omega,
        angle_congr t (d := d - 32) (d' := d) (by omega) (by omega)]

variable (A : S4096x1024.Idx → EReal) (G : S1x1024.Idx → EReal) (W : S1024x1536.Idx → EReal) (Q K : S1x128.Idx → EReal)

/-- A gain by numbers. -/
def gain (Q : S1x128.Idx → EReal) (d : ℕ) : EReal := num Q 0 d

theorem gain_at (d : Fin 128) : Q (ix2 0 d) = gain Q d.val := (num_at Q 0 d).symm

theorem ref_z (p : Fin 4096) (q : Fin 1536) : val_main_v14 (F := Ideal) A G W (ix2 p q) = zval A G W p.val q.val := (num_at _ p q).symm

theorem ref_q (b : Fin 2) (t : Fin 2048) (h : Fin 8) (d : Fin 128) :
    val_main_v19 (F := Ideal) A G W (ix4 b t h d) = zval A G W (b.val * 2048 + t.val) (128 * h.val + d.val) := by
  have e := ref_z A G W
  pointwise [val_main_v19, val_main_v16, val_main_v15]
  exact (e _ _).trans (congrArg (zval A G W (b.val * 2048 + t.val)) (by dsimp only; omega))

theorem ref_k (b : Fin 2) (t : Fin 2048) (h : Fin 2) (d : Fin 128) :
    val_main_v34 (F := Ideal) A G W (ix4 b t h d) = zval A G W (b.val * 2048 + t.val) (1024 + 128 * h.val + d.val) := by
  have e := ref_z A G W
  pointwise [val_main_v34, val_main_v17, val_main_v15]
  exact (e _ _).trans (congrArg (zval A G W (b.val * 2048 + t.val)) (by dsimp only; omega))

theorem ref_nq (b : Fin 2) (t : Fin 2048) (h : Fin 8) (d : Fin 128) :
    val_main_v33 (F := Ideal) A G W Q (ix4 b t h d) = nrm (fun j => zval A G W (b.val * 2048 + t.val) (128 * h.val + j)) (gain Q) d.val := by
  have e := ref_q A G W
  have g := gain_at Q
  pointwise [val_main_v33, val_main_v32, val_main_v31, val_main_v30, val_main_v29, val_main_v28, val_main_v27, val_main_v26, val_main_v25, val_main_v24, val_main_v23, val_main_v22, val_main_v21, val_main_v20, val_main_cst_2, val_main_cst_3, val_main_cst_4]
  simp only [e, g, zero_add]
  rfl

theorem ref_nk (b : Fin 2) (t : Fin 2048) (h : Fin 2) (d : Fin 128) :
    val_main_v48 (F := Ideal) A G W K (ix4 b t h d) = nrm (fun j => zval A G W (b.val * 2048 + t.val) (1024 + 128 * h.val + j)) (gain K) d.val := by
  have e := ref_k A G W
  have g := gain_at K
  pointwise [val_main_v48, val_main_v47, val_main_v46, val_main_v45, val_main_v44, val_main_v43, val_main_v42, val_main_v41, val_main_v40, val_main_v39, val_main_v38, val_main_v37, val_main_v36, val_main_v35, val_main_cst_5, val_main_cst_6, val_main_cst_7]
  simp only [e, g, zero_add]
  rfl

theorem ref_tq (b : Fin 2) (t : Fin 2048) (h : Fin 8) (d : Fin 128) :
    val_main_v116 (F := Ideal) A G W Q (ix4 b t h d)
      = turn t.val (nrm (fun j => zval A G W (b.val * 2048 + t.val) (128 * h.val + j)) (gain Q)) d.val := by
  have e := ref_nq A G W Q
  have er := ref_row
  have ec := ref_col
  pointwise [val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72]
  simp only [e, er, ec]
  exact turned t.val _ d.val d.isLt

theorem ref_tk (b : Fin 2) (t : Fin 2048) (h : Fin 2) (d : Fin 128) :
    val_main_v153 (F := Ideal) A G W K (ix4 b t h d)
      = turn t.val (nrm (fun j => zval A G W (b.val * 2048 + t.val) (1024 + 128 * h.val + j)) (gain K)) d.val := by
  have e := ref_nk A G W K
  have er := ref_row
  have ec := ref_col
  pointwise [val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v79, val_main_v78, val_main_v77, val_main_v76, val_main_v75, val_main_v74, val_main_v73, val_main_v72]
  simp only [e, er, ec]
  exact turned t.val _ d.val d.isLt

/-! The results. -/

theorem ref_h (p : Fin 4096) (q : Fin 1024) : val_main_v154 (F := Ideal) A G (ix2 p q) = hval A G p.val q.val := (num_at _ p q).symm

theorem ref_qs (p : Fin 4096) (q : Fin 1024) : val_main_v156 (F := Ideal) A G W Q (ix2 p q) = qval A G W (gain Q) p.val q.val := by
  have e := ref_tq A G W Q
  pointwise [val_main_v156, val_main_v155]
  refine (e _ _ _ _).trans ?_
  dsimp only
  unfold qval
  rw [show p.val / 2048 * 2048 + p.val % 2048 = p.val by omega, show 128 * (q.val / 128) = q.val / 128 * 128 by omega]

theorem ref_ks (p : Fin 4096) (q : Fin 256) : val_main_v158 (F := Ideal) A G W K (ix2 p q) = kval A G W (gain K) p.val q.val := by
  have e := ref_tk A G W K
  pointwise [val_main_v158, val_main_v157]
  refine (e _ _ _ _).trans ?_
  dsimp only
  unfold kval
  rw [show p.val / 2048 * 2048 + p.val % 2048 = p.val by omega, show 1024 + 128 * (q.val / 128) = 1024 + q.val / 128 * 128 by omega]

theorem ref_vs (p : Fin 4096) (q : Fin 256) : val_main_v160 (F := Ideal) A G W (ix2 p q) = vval A G W p.val q.val := by
  have e := ref_z A G W
  pointwise [val_main_v160, val_main_v159, val_main_v18, val_main_v15]
  refine (e _ _).trans ?_
  dsimp only
  unfold vval
  exact congrArg₂ (zval A G W) (by omega) (by omega)

end QkvFwd

end
-- ==== Proof.QkvFwd.Tables.lean ====
/- The tables of the turns as the host lines before the projection's call leave them: the same lines as before the gradient's call (Prep). -/
module

public import proofs.«01_k».proof.Proof.Prep.Tables
public import proofs.«01_k».proof.Proof.Gen.Kernel10Ideal.Value
public import Idealize.ShloMosaic.Lib.Pointwise

@[expose] public section

noncomputable section

namespace QkvFwd

open Reals Norm Prep
open Idealize.ShloMosaic Idealize.ShloMosaic.Pointwise Idealize.ShloMosaic.Tactic Cert.Kernel10Ideal Cert.Kernel10Ideal.Gen

variable (m : ∀ ℓ : Loc nD τ sig, Buf (Elt Ideal) ℓ) (c : Dev nD)

variable (s : Valuation τ sig (Elt Ideal))

/-- The quotient of a token's number. -/
theorem row_of (hs : (s (Proc.devRef .tc main_v3) : S2048.Idx → BitVec 32) = iotaInDim S2048 32 0)
    (hk : (s (Proc.devRef .tc main_c) : S_.Idx → BitVec 32) = constantI S_ 32 64#32) (t : Fin 2048) :
    (StableHlo.after (hostOps0_1 (F := Ideal)) s (Proc.devRef .tc main_v4) : S2048.Idx → BitVec 32) (ix1 t) = BitVec.ofNat 32 (t.val / 64) := by
  after_results_simp
  simp only [StableHlo.TRef.ofBuf, StableHlo.TRef.toBuf, cast_cast, cast_eq, id]
  pointwise
  rw [congrFun hs, congrFun hk]
  clear hs hk
  revert t
  decide +kernel

/-- Its remainder. -/
theorem col_of (hs : (s (Proc.devRef .tc main_v3) : S2048.Idx → BitVec 32) = iotaInDim S2048 32 0)
    (hk : (s (Proc.devRef .tc main_c_0) : S_.Idx → BitVec 32) = constantI S_ 32 64#32) (t : Fin 2048) :
    (StableHlo.after (hostOps0_3 (F := Ideal)) s (Proc.devRef .tc main_v6) : S2048.Idx → BitVec 32) (ix1 t) = BitVec.ofNat 32 (t.val % 64) := by
  after_results_simp
  simp only [StableHlo.TRef.ofBuf, StableHlo.TRef.toBuf, cast_cast, cast_eq, id]
  pointwise
  rw [congrFun hs, congrFun hk]
  clear hs hk
  revert t
  decide +kernel

section Last

variable (h17 : ∀ t : Fin 2048, (s (Proc.devRef .tc main_v5) : S2048.Idx → EReal) (ix1 t) = FloatOps.sitofp (F := Ideal) .f32 (BitVec.ofNat 32 (t.val / 64)))
  (h18 : ∀ t : Fin 2048, (s (Proc.devRef .tc main_v6) : S2048.Idx → BitVec 32) (ix1 t) = BitVec.ofNat 32 (t.val % 64))

include h17 h18 in
theorem cos_of (t : Fin 2048) (d : Fin 128) :
    (StableHlo.after (hostOps0_4 (F := Ideal)) s (Proc.devRef .tc main_v28) : S2048x128.Idx → EReal) (ix2 t d) = ((co t.val d.val : ℝ) : EReal) := by
  after_results_simp
  pointwise
  by_cases h : d.val < 32
  · rw [dif_pos h]
    after_results_simp
    pointwise
    rw [h17, angle_row t.val d.val _ t.isLt (by omega) (by omega) (by omega)]
    rfl
  · rw [dif_neg h]
    by_cases h' : d.val - 32 < 32
    · rw [dif_pos h']
      after_results_simp
      pointwise
      rw [h17, angle_row t.val d.val _ t.isLt (by omega) (by omega) (by omega)]
      rfl
    · rw [dif_neg h']
      by_cases h'' : d.val - 32 - 32 < 32
      · rw [dif_pos h'']
        after_results_simp
        pointwise
        rw [h18, angle_col t.val d.val _ t.isLt (by omega) (by omega) (by omega)]
        rfl
      · rw [dif_neg h'']
        after_results_simp
        pointwise
        rw [h18, angle_col t.val d.val _ t.isLt (by omega) (by omega) (by omega)]
        rfl

include h17 h18 in
theorem sin_of (t : Fin 2048) (d : Fin 128) :
    (StableHlo.after (hostOps0_4 (F := Ideal)) s (Proc.devRef .tc main_v35) : S2048x128.Idx → EReal) (ix2 t d) = ((si t.val d.val : ℝ) : EReal) := by
  after_results_simp
  pointwise
  by_cases h : d.val < 32
  · rw [dif_pos h]
    after_results_simp
    pointwise
    rw [h17, angle_row t.val d.val _ t.isLt (by omega) (by omega) (by omega)]
    exact si_low _ _ (by omega)
  · rw [dif_neg h]
    by_cases h' : d.val - 32 < 32
    · rw [dif_pos h']
      after_results_simp
      pointwise
      rw [h17, angle_row t.val d.val _ t.isLt (by omega) (by omega) (by omega)]
      exact si_high _ _ (by omega)
    · rw [dif_neg h']
      by_cases h'' : d.val - 32 - 32 < 32
      · rw [dif_pos h'']
        after_results_simp
        pointwise
        rw [h18, angle_col t.val d.val _ t.isLt (by omega) (by omega) (by omega)]
        exact si_low _ _ (by omega)
      · rw [dif_neg h'']
        after_results_simp
        pointwise
        rw [h18, angle_col t.val d.val _ t.isLt (by omega) (by omega) (by omega)]
        exact si_high _ _ (by omega)

end Last

/-- The quotient as a number. -/
theorem rows_of (hs : (s (Proc.devRef .tc main_v3) : S2048.Idx → BitVec 32) = iotaInDim S2048 32 0)
    (hk : (s (Proc.devRef .tc main_c) : S_.Idx → BitVec 32) = constantI S_ 32 64#32) (t : Fin 2048) :
    (StableHlo.after (hostOps0_3 (F := Ideal)) (StableHlo.after (hostOps0_2 (F := Ideal)) (StableHlo.after (hostOps0_1 (F := Ideal)) s)) (Proc.devRef .tc main_v5) : S2048.Idx → EReal) (ix1 t)
      = FloatOps.sitofp (F := Ideal) .f32 (BitVec.ofNat 32 (t.val / 64)) := by
  have e := row_of s hs hk t
  generalize StableHlo.after (hostOps0_1 (F := Ideal)) s = s' at e ⊢
  after_results_simp
  pointwise
  rw [e]

/-- The remainder. -/
theorem cols_of (hs : (s (Proc.devRef .tc main_v3) : S2048.Idx → BitVec 32) = iotaInDim S2048 32 0) (t : Fin 2048) :
    (StableHlo.after (hostOps0_3 (F := Ideal)) (StableHlo.after (hostOps0_2 (F := Ideal)) (StableHlo.after (hostOps0_1 (F := Ideal)) s)) (Proc.devRef .tc main_v6) : S2048.Idx → BitVec 32) (ix1 t)
      = BitVec.ofNat 32 (t.val % 64) := by
  refine col_of _ ?_ ?_ t
  · refine Eq.trans ?_ hs
    after_results_simp
  · after_results_simp

theorem entry_cos (t : Fin 2048) (d : Fin 128) : (V m c main_v28 : S2048x128.Idx → EReal) (ix2 t d) = ((co t.val d.val : ℝ) : EReal) :=
  cos_of _ (rows_of _ (by after_results_simp) (by after_results_simp)) (cols_of _ (by after_results_simp)) t d

theorem entry_sin (t : Fin 2048) (d : Fin 128) : (V m c main_v35 : S2048x128.Idx → EReal) (ix2 t d) = ((si t.val d.val : ℝ) : EReal) :=
  sin_of _ (rows_of _ (by after_results_simp) (by after_results_simp)) (cols_of _ (by after_results_simp)) t d

end QkvFwd

end
-- ==== Proof.QkvFwd.Arrays.lean ====
/- The attention's projection: what the windows show the kernel, and what the call's five arrays hold at the end. -/
module

public import proofs.«01_k».proof.Proof.QkvFwd.Ref
public import proofs.«01_k».proof.Proof.QkvFwd.Tables
public import proofs.«01_k».proof.Proof.Dw.Block
public import proofs.«01_k».proof.Proof.Gen.Kernel10Ideal.Value
public import Idealize.ShloMosaic.Lib.Pipeline.ValueKit

@[expose] public section

noncomputable section

namespace QkvFwd

open Reals Dw
open Prep (co si)
open Idealize.ShloMosaic Idealize.ShloMosaic.Pointwise Idealize.ShloMosaic.Tactic Cert.Kernel10Ideal Cert.Kernel10Ideal.Gen
open Cert.Reference10Ideal.Read (val_main_v14 val_main_v154 val_main_v156 val_main_v158 val_main_v160)

variable (m : ∀ ℓ : Loc nD τ sig, Buf (Elt Ideal) ℓ) (c : Dev nD)

/-- The call's arguments. -/
abbrev a0 : S4096x1024.Idx → EReal := m ((c.tc : Thread nD τ).loc main_arg0)
abbrev a1 : S1x1024.Idx → EReal := m ((c.tc : Thread nD τ).loc main_arg1)
abbrev a2 : S1024x1536.Idx → EReal := m ((c.tc : Thread nD τ).loc main_arg2)
abbrev a3 : S1x128.Idx → EReal := m ((c.tc : Thread nD τ).loc main_arg3)
abbrev a4 : S1x128.Idx → EReal := m ((c.tc : Thread nD τ).loc main_arg4)

theorem entry_x : (V m c main_arg0 : S4096x1024.Idx → EReal) = a0 m c := V_main_arg0 m c
theorem entry_g : (V m c main_arg1 : S1x1024.Idx → EReal) = a1 m c := V_main_arg1 m c
theorem entry_qg : (V m c main_arg3 : S1x128.Idx → EReal) = a3 m c := V_main_arg3 m c
theorem entry_kg : (V m c main_arg4 : S1x128.Idx → EReal) = a4 m c := V_main_arg4 m c

/-- The host lines after the first stretch leave the weights as they are. -/
theorem v2_eq : V m c main_v2 = StableHlo.after (hostOps0 (F := Ideal)) (fun b => m (c, b)) (Proc.devRef .tc main_v2) := by
  show StableHlo.after (hostOps0 (F := Ideal) ++ List.flatten [hostOps0_1 (F := Ideal), hostOps0_2 (F := Ideal), hostOps0_3 (F := Ideal), hostOps0_4 (F := Ideal)])
    (fun b => m (c, b)) (Proc.devRef .tc main_v2) = _
  rw [StableHlo.after_append]
  exact StableHlo.after_of_forall_not_mem (b := Proc.devRef .tc main_v2) _ _ (List.forall_iff_forall_mem.mp (by
    simp only [hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, StableHlo.unaryIndexed_writes, StableHlo.nary_writes,
      Finset.mem_singleton]
    repeat' apply And.intro
    all_goals exact StableHlo.devRef_ne_of_ne (by decide)))

theorem entry_w (j : Fin 3) (f : Fin 512) (k : Fin 1024) :
    (V m c main_v2 : S3x512x1024.Idx → EReal) (ix3 j f k) = a2 m c (ix2 k ⟨j.val * 512 + f.val, lt_col j f⟩) := by
  rw [v2_eq]
  after_results_simp
  pointwise

theorem idx0_0 : ∀ t : Fin cfg0.N, win0_0.index t = ![t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![t.val % 2, 0] := (by decide +kernel : ∀ t : Fin grid0.N, _)
theorem idx0_6 : ∀ t : Fin cfg0.N, win0_6.index t = ![t.val % 2, 0] := (by decide +kernel : ∀ t : Fin grid0.N, _)
theorem idx0_7 : ∀ t : Fin cfg0.N, win0_7.index t = ![t.val, 0] := (by decide +kernel : ∀ t : Fin grid0.N, _)
theorem idx0_8 : ∀ t : Fin cfg0.N, win0_8.index t = ![t.val, 0] := (by decide +kernel : ∀ t : Fin grid0.N, _)
theorem idx0_9 : ∀ t : Fin cfg0.N, win0_9.index t = ![t.val, 0] := (by decide +kernel : ∀ t : Fin grid0.N, _)
theorem idx0_10 : ∀ t : Fin cfg0.N, win0_10.index t = ![t.val, 0] := (by decide +kernel : ∀ t : Fin grid0.N, _)
theorem idx0_11 : ∀ t : Fin cfg0.N, win0_11.index t = ![t.val, 0] := (by decide +kernel : ∀ t : Fin grid0.N, _)

theorem points (t : Fin cfg0.N) : t.val * 1024 + 1024 ≤ 4096 := by have h : t.val < 4 := t.isLt; omega

theorem iblk_x (t : Fin cfg0.N) (r : Fin 1024) (k : Fin 1024) :
    (iblk m c 0 t : Vec Ideal S1024x1024 .f32) (ix2 r k) = a0 m c (ix2 ⟨t.val * 1024 + r.val, lt_tok (points t) r.isLt⟩ k) := by
  rw [← entry_x]
  blk_simp [iblk]
  exact at_ix2 _ _ _ _ (by blk_simp [idx0_0]) (by blk_simp [idx0_0])

theorem iblk_g (t : Fin cfg0.N) (k : Fin 1024) : (iblk m c 1 t : Vec Ideal S1x1024 .f32) (ix2 0 k) = a1 m c (ix2 0 k) := by
  rw [← entry_g]
  blk_simp [iblk]
  exact at_ix2 _ _ _ _ (by blk_simp [idx0_1]) (by blk_simp [idx0_1])

theorem iblk_w (t : Fin cfg0.N) (j : Fin 3) (f : Fin 512) (k : Fin 1024) :
    (iblk m c 2 t : Vec Ideal S3x512x1024 .bf16) (ix3 j f k) = a2 m c (ix2 k ⟨j.val * 512 + f.val, lt_col j f⟩) := by
  rw [← entry_w]
  blk_simp [iblk]
  refine congrArg _ ?_
  funext a
  apply Fin.ext
  match a with
  | ⟨0, _⟩ => blk_simp [idx0_2]
  | ⟨1, _⟩ => blk_simp [idx0_2]
  | ⟨2, _⟩ => blk_simp [idx0_2]

theorem iblk_qg (t : Fin cfg0.N) (d : Fin 128) : (iblk m c 3 t : Vec Ideal S1x128 .f32) (ix2 0 d) = gain (a3 m c) d.val := by
  rw [← gain_at, ← entry_qg]
  blk_simp [iblk]
  exact at_ix2 _ _ _ _ (by blk_simp [idx0_3]) (by blk_simp [idx0_3])

theorem iblk_kg (t : Fin cfg0.N) (d : Fin 128) : (iblk m c 4 t : Vec Ideal S1x128 .f32) (ix2 0 d) = gain (a4 m c) d.val := by
  rw [← gain_at, ← entry_kg]
  blk_simp [iblk]
  exact at_ix2 _ _ _ _ (by blk_simp [idx0_4]) (by blk_simp [idx0_4])

theorem iblk_cos (t : Fin cfg0.N) (r : Fin 1024) (d : Fin 128) :
    (iblk m c 5 t : Vec Ideal S1024x128 .f32) (ix2 r d) = ((co ((t.val * 1024 + r.val) % 2048) d.val : ℝ) : EReal) := by
  blk_simp [iblk]
  refine Eq.trans (congrArg _ (eq_ix2 _)) ((entry_cos m c _ _).trans (congrArg Real.toEReal (congrArg₂ co ?_ ?_)))
  · blk_simp [idx0_5]
    omega
  · blk_simp [idx0_5]

theorem iblk_sin (t : Fin cfg0.N) (r : Fin 1024) (d : Fin 128) :
    (iblk m c 6 t : Vec Ideal S1024x128 .f32) (ix2 r d) = ((si ((t.val * 1024 + r.val) % 2048) d.val : ℝ) : EReal) := by
  blk_simp [iblk]
  refine Eq.trans (congrArg _ (eq_ix2 _)) ((entry_sin m c _ _).trans (congrArg Real.toEReal (congrArg₂ si ?_ ?_)))
  · blk_simp [idx0_6]
    omega
  · blk_simp [idx0_6]

theorem final_qkv : ((dats m 0 c).arrAt 7 cfg0.N : S4096x1536.Idx → EReal) = val_main_v14 (F := Ideal) (a0 m c) (a1 m c) (a2 m c) := by
  refine (dats m 0 c).arrAt_eq_of_covers 7 _ (by decide +kernel) fun t hf y => ?_
  blk_simp
  obtain ⟨r, f, rfl⟩ : ∃ (r : Fin 1024) (f : Fin 1536), y = ix2 r f := ⟨y 0, y 1, eq_ix2 y⟩
  simp only [after0_7, outsAt0]
  refine (out_7 _ _ _ _ (points t) (iblk_x m c t) (iblk_g m c t) (iblk_w m c t) r f).trans ?_
  refine Eq.trans ?_ (at_ix2 (val_main_v14 (F := Ideal) (a0 m c) (a1 m c) (a2 m c)) _ ⟨t.val * 1024 + r.val, lt_tok (points t) r.isLt⟩ f (by blk_simp [idx0_7]) (by blk_simp [idx0_7])).symm
  exact (ref_z (a0 m c) (a1 m c) (a2 m c) ⟨t.val * 1024 + r.val, lt_tok (points t) r.isLt⟩ f).symm

theorem final_h : ((dats m 0 c).arrAt 8 cfg0.N : S4096x1024.Idx → EReal) = val_main_v154 (F := Ideal) (a0 m c) (a1 m c) := by
  refine (dats m 0 c).arrAt_eq_of_covers 8 _ (by decide +kernel) fun t hf y => ?_
  blk_simp
  obtain ⟨r, f, rfl⟩ : ∃ (r : Fin 1024) (f : Fin 1024), y = ix2 r f := ⟨y 0, y 1, eq_ix2 y⟩
  simp only [after0_8, outsAt0]
  refine (out_8 _ _ _ (points t) (iblk_x m c t) (iblk_g m c t) r f).trans ?_
  refine Eq.trans ?_ (at_ix2 (val_main_v154 (F := Ideal) (a0 m c) (a1 m c)) _ ⟨t.val * 1024 + r.val, lt_tok (points t) r.isLt⟩ f (by blk_simp [idx0_8]) (by blk_simp [idx0_8])).symm
  exact (ref_h (a0 m c) (a1 m c) ⟨t.val * 1024 + r.val, lt_tok (points t) r.isLt⟩ f).symm

theorem final_q : ((dats m 0 c).arrAt 9 cfg0.N : S4096x1024.Idx → EReal) = val_main_v156 (F := Ideal) (a0 m c) (a1 m c) (a2 m c) (a3 m c) := by
  refine (dats m 0 c).arrAt_eq_of_covers 9 _ (by decide +kernel) fun t hf y => ?_
  blk_simp
  obtain ⟨r, f, rfl⟩ : ∃ (r : Fin 1024) (f : Fin 1024), y = ix2 r f := ⟨y 0, y 1, eq_ix2 y⟩
  simp only [after0_9, outsAt0]
  refine (out_9 _ _ _ _ _ (points t) (iblk_x m c t) (iblk_g m c t) (iblk_w m c t) (iblk_qg m c t) (iblk_cos m c t) (iblk_sin m c t) r f).trans ?_
  refine Eq.trans ?_ (at_ix2 (val_main_v156 (F := Ideal) (a0 m c) (a1 m c) (a2 m c) (a3 m c)) _ ⟨t.val * 1024 + r.val, lt_tok (points t) r.isLt⟩ f (by blk_simp [idx0_9]) (by blk_simp [idx0_9])).symm
  exact (ref_qs (a0 m c) (a1 m c) (a2 m c) (a3 m c) ⟨t.val * 1024 + r.val, lt_tok (points t) r.isLt⟩ f).symm

theorem final_k : ((dats m 0 c).arrAt 10 cfg0.N : S4096x256.Idx → EReal) = val_main_v158 (F := Ideal) (a0 m c) (a1 m c) (a2 m c) (a4 m c) := by
  refine (dats m 0 c).arrAt_eq_of_covers 10 _ (by decide +kernel) fun t hf y => ?_
  blk_simp
  obtain ⟨r, f, rfl⟩ : ∃ (r : Fin 1024) (f : Fin 256), y = ix2 r f := ⟨y 0, y 1, eq_ix2 y⟩
  simp only [after0_10, outsAt0]
  refine (out_10 _ _ _ _ _ (points t) (iblk_x m c t) (iblk_g m c t) (iblk_w m c t) (iblk_kg m c t) (iblk_cos m c t) (iblk_sin m c t) r f).trans ?_
  refine Eq.trans ?_ (at_ix2 (val_main_v158 (F := Ideal) (a0 m c) (a1 m c) (a2 m c) (a4 m c)) _ ⟨t.val * 1024 + r.val, lt_tok (points t) r.isLt⟩ f (by blk_simp [idx0_10]) (by blk_simp [idx0_10])).symm
  exact (ref_ks (a0 m c) (a1 m c) (a2 m c) (a4 m c) ⟨t.val * 1024 + r.val, lt_tok (points t) r.isLt⟩ f).symm

theorem final_v : ((dats m 0 c).arrAt 11 cfg0.N : S4096x256.Idx → EReal) = val_main_v160 (F := Ideal) (a0 m c) (a1 m c) (a2 m c) := by
  refine (dats m 0 c).arrAt_eq_of_covers 11 _ (by decide +kernel) fun t hf y => ?_
  blk_simp
  obtain ⟨r, f, rfl⟩ : ∃ (r : Fin 1024) (f : Fin 256), y = ix2 r f := ⟨y 0, y 1, eq_ix2 y⟩
  simp only [after0_11, outsAt0]
  refine (out_11 _ _ _ _ (points t) (iblk_x m c t) (iblk_g m c t) (iblk_w m c t) r f).trans ?_
  refine Eq.trans ?_ (at_ix2 (val_main_v160 (F := Ideal) (a0 m c) (a1 m c) (a2 m c)) _ ⟨t.val * 1024 + r.val, lt_tok (points t) r.isLt⟩ f (by blk_simp [idx0_11]) (by blk_simp [idx0_11])).symm
  exact (ref_vs (a0 m c) (a1 m c) (a2 m c) ⟨t.val * 1024 + r.val, lt_tok (points t) r.isLt⟩ f).symm

end QkvFwd

end
-- ==== Proof.QkvFwd.Claim.lean ====
/- The claim about the attention's projection with the rotated queries and keys: the five results equal to the reference's. -/
module

public import proofs.«01_k».proof.Proof.QkvFwd.Frame
public import proofs.«01_k».proof.Proof.QkvFwd.Arrays

@[expose] public section

noncomputable section

namespace QkvFwd

open Idealize.ShloMosaic Idealize.SL.Sem

/-- The five results, from any arguments. -/
theorem algebraic : Cert.algebraic_Kernel10Ideal_Reference10Ideal (hKernel10Ideal := Cert.Kernel10Ideal.Gen.facts)
    (hReference10Ideal := Cert.Reference10Ideal.Gen.facts) := by
  intro m g m' g' _ hagree
  refine ⟨fun c => Cert.Reference10Ideal.Read.val_main_v14 (F := Ideal) (a0 m c) (a1 m c) (a2 m c),
    fun c => Cert.Reference10Ideal.Read.val_main_v154 (F := Ideal) (a0 m c) (a1 m c),
    fun c => Cert.Reference10Ideal.Read.val_main_v156 (F := Ideal) (a0 m c) (a1 m c) (a2 m c) (a3 m c),
    fun c => Cert.Reference10Ideal.Read.val_main_v158 (F := Ideal) (a0 m c) (a1 m c) (a2 m c) (a4 m c),
    fun c => Cert.Reference10Ideal.Read.val_main_v160 (F := Ideal) (a0 m c) (a1 m c) (a2 m c), ?_, ?_⟩
  · refine (θ_run _ _ _).mono (fun r h c => ?_) (Cert.Kernel10Ideal.Value.run_blocks m g)
    obtain ⟨r0, r1, r2, r3, r4, hargs⟩ := h c
    exact ⟨r0.trans (final_qkv m c), r1.trans (final_h m c), r2.trans (final_q m c), r3.trans (final_k m c), r4.trans (final_v m c), hargs⟩
  · refine (θ_run _ _ _).mono (fun r h c => ?_) (Cert.Reference10Ideal.Value.run m' g')
    obtain ⟨e0, e1, e2, e3, e4⟩ := hagree c
    obtain ⟨r0, r1, r2, r3, r4, hargs⟩ := h c
    refine ⟨?_, ?_, ?_, ?_, ?_, hargs⟩
    · refine r0.trans ((Cert.Reference10Ideal.Read.val_main_v14_eq _ _ _).trans ?_)
      rw [e0, e1, e2]
    · refine r1.trans ((Cert.Reference10Ideal.Read.val_main_v154_eq _ _).trans ?_)
      rw [e0, e1]
    · refine r2.trans ((Cert.Reference10Ideal.Read.val_main_v156_eq m' c).trans ?_)
      rw [e0, e1, e2, e3]
    · refine r3.trans ((Cert.Reference10Ideal.Read.val_main_v158_eq m' c).trans ?_)
      rw [e0, e1, e2, e4]
    · refine r4.trans ((Cert.Reference10Ideal.Read.val_main_v160_eq _ _ _).trans ?_)
      rw [e0, e1, e2]

end QkvFwd

end
-- ==== Proof.Parts.Arrays.lean ====
/- The sum of the devices' parts of a gradient: the eight parts added one by one are the sum over the devices. Nothing here asks the entries to
   be finite. -/
module

public import proofs.«01_k».proof.Proof.Dw.Block
public import proofs.«01_k».proof.Proof.Gen.Kernel12Ideal.Value
public import proofs.«01_k».proof.Proof.Gen.Reference12Ideal.Read

@[expose] public section

noncomputable section

namespace Parts

open Reals
open Idealize.ShloMosaic Idealize.ShloMosaic.Pointwise Idealize.ShloMosaic.Tactic Cert.Kernel12Ideal Cert.Kernel12Ideal.Gen
open Cert.Reference12Ideal.Read (val_main_v0 val_main_cst)

/-- An array of three axes at an index given by its three numbers. -/
theorem at_ix3 {a b d : ℕ} (A : (⟨3, ![a, b, d]⟩ : Shape).Idx → EReal) (y : (⟨3, ![a, b, d]⟩ : Shape).Idx) (i : Fin a) (j : Fin b) (k : Fin d)
    (e0 : (y 0).val = i.val) (e1 : (y 1).val = j.val) (e2 : (y 2).val = k.val) : A y = A (ix3 i j k) := by
  rw [eq_ix3 y, show y 0 = i from Fin.ext e0, show y 1 = j from Fin.ext e1, show y 2 = k from Fin.ext e2]

theorem out_sum (x0 : Vec Ideal S8x256x128 .bf16) (r : Fin 256) (k : Fin 128) : out0_1 (F := Ideal) x0 (ix2 r k) = ∑ i : Fin 8, x0 (ix3 i r k) := by
  unfold out0_1
  rw [View.canon_unit_zero (S := S256x128) hz, Fin.sum_univ_eight]
  pointwise [k0_pay1]

theorem ref_sum (x0 : S8x256x128.Idx → EReal) (r : Fin 256) (k : Fin 128) : val_main_v0 (F := Ideal) x0 (ix2 r k) = ∑ i : Fin 8, x0 (ix3 i r k) := by
  pointwise [val_main_v0, val_main_cst]

variable (m : ∀ ℓ : Loc nD τ sig, Buf (Elt Ideal) ℓ) (c : Dev nD)

/-- The call's argument. -/
abbrev a0 : S8x256x128.Idx → EReal := m ((c.tc : Thread nD τ).loc main_arg0)

theorem entry_p : (V m c main_v0 : S8x256x128.Idx → EReal) = a0 m c := by
  show StableHlo.after hostOps0 _ (Proc.devRef .tc main_v0) = _; after_results_simp; try rfl

theorem idx0_0 : ∀ t : Fin cfg0.N, win0_0.index t = ![0, 0, 0] := (by decide +kernel : ∀ t : Fin grid0.N, _)
theorem idx0_1 : ∀ t : Fin cfg0.N, win0_1.index t = ![0, 0] := (by decide +kernel : ∀ t : Fin grid0.N, _)

theorem iblk_p (t : Fin cfg0.N) (i : Fin 8) (r : Fin 256) (k : Fin 128) :
    (iblk m c 0 t : Vec Ideal S8x256x128 .bf16) (ix3 i r k) = a0 m c (ix3 i r k) := by
  rw [← entry_p]
  blk_simp [iblk]
  exact at_ix3 _ _ _ _ _ (by blk_simp [idx0_0]) (by blk_simp [idx0_0]) (by blk_simp [idx0_0])

theorem final_sum : ((dats m 0 c).arrAt 1 cfg0.N : S256x128.Idx → EReal) = val_main_v0 (F := Ideal) (a0 m c) := by
  refine (dats m 0 c).arrAt_eq_of_covers 1 _ (by decide +kernel) fun t hf y => ?_
  blk_simp
  obtain ⟨r, k, rfl⟩ : ∃ (r : Fin 256) (k : Fin 128), y = ix2 r k := ⟨y 0, y 1, eq_ix2 y⟩
  rw [after0_1]
  refine (out_sum _ r k).trans ?_
  simp only [iblk_p m c t]
  refine (ref_sum _ r k).symm.trans ?_
  exact (Dw.at_ix2 _ _ _ _ (by blk_simp [idx0_1]) (by blk_simp [idx0_1])).symm

end Parts

end
-- ==== Proof.RgDw.Arrays.lean ====
/- The gradient at the recurrent block's input weight: a sum over all tokens, which the body takes 1024 at a time, in blocks of 256 columns, two
   at a grid point. The normed input it reads is the reference's own. Nothing here asks the entries to be finite. -/
module

public import proofs.«01_k».proof.Proof.Parts.Arrays
public import proofs.«01_k».proof.Proof.Gen.Kernel11Ideal.Value
public import proofs.«01_k».proof.Proof.Gen.Reference11Ideal.Read

@[expose] public section

noncomputable section

namespace RgDw

open Reals
open Idealize.ShloMosaic Idealize.ShloMosaic.Pointwise Idealize.ShloMosaic.Tactic Cert.Kernel11Ideal Cert.Kernel11Ideal.Gen
open Cert.Reference11Ideal.Read (val_main_v25 val_main_v24 val_main_v23 val_main_v22 val_main_v21 val_main_v20 val_main_v19 val_main_v18 val_main_cst_4
  val_main_cst_3 val_main_v14 val_main_v13 val_main_v12 val_main_v11 val_main_v10 val_main_v9 val_main_v8 val_main_v7 val_main_cst_2 val_main_v6
  val_main_v5 val_main_cst_1 val_main_v4 val_main_v3 val_main_cst_0 val_main_v2 val_main_v1)

/-- A column of one of a grid point's two blocks. -/
theorem lt_half (q : Fin 2) (f : Fin 256) : q.val * 256 + f.val < 512 := by omega

/-- A column of block `j`. -/
theorem lt_col (j : Fin 8) (f : Fin 256) : j.val * 256 + f.val < 2048 := by omega

section Block

variable (x0 : Vec Ideal S4096x1024 .bf16) (x1 : Vec Ideal S1x4096x512 .bf16)

/-- A grid point's contents: the sums over the tokens. -/
def dwVec : S2x1024x256.Idx → EReal := fun y => ∑ t : Fin 4096, x0 (ix2 t (y 1)) * x1 (ix3 0 t ⟨(y 0).val * 256 + (y 2).val, lt_half (y 0) (y 2)⟩)

theorem pair_first (k : Fin 1024) (f : Fin 256) : k0_pay2 (F := Ideal) (View.ld x0 r0_0) (View.ld x1 r0_1) (View.ld x0 r0_2) (View.ld x1 r0_3)
    (View.ld x0 r0_4) (View.ld x1 r0_5) (View.ld x0 r0_6) (View.ld x1 r0_7) (ix3 0 k f) = dwVec x0 x1 (ix3 0 k f) := by
  unfold dwVec
  rw [Dw.sum_four]
  pointwise [k0_pay2]

theorem pair_second (k : Fin 1024) (f : Fin 256) : k0_pay1 (F := Ideal) (k0_pay3 (View.ld x0 r0_0)) (View.ld x1 r0_9) (View.ld x0 r0_2)
    (View.ld x1 r0_10) (View.ld x0 r0_4) (View.ld x1 r0_11) (View.ld x0 r0_6) (View.ld x1 r0_12) (ix3 0 k f) = dwVec x0 x1 (ix3 1 k f) := by
  unfold dwVec
  rw [Dw.sum_four]
  pointwise [k0_pay1, k0_pay3]

theorem emb_block (q : ℕ) (hq : q < 2) (h) (k : Fin 1024) (f : Fin 256) :
    (Rect.unit (s := S2x1024x256) ![q, 0, 0] S1x1024x256.size h).emb (ix3 0 k f) = ix3 ⟨q, hq⟩ k f := by
  funext a
  apply Fin.ext
  match a with
  | ⟨0, _⟩ => show q + 1 * 0 = q; omega
  | ⟨1, _⟩ => show 0 + 1 * k.val = k.val; omega
  | ⟨2, _⟩ => show 0 + 1 * f.val = f.val; omega

theorem out_dw (y : S2x1024x256.Idx) : out0_2 (F := Ideal) x0 x1 y = dwVec x0 x1 y := by
  unfold out0_2
  refine View.canon_apply_of_pieces (G := (show Vec Ideal S2x1024x256 .bf16 from dwVec x0 x1)) _ ?_ y (cover0_2 _ _ _)
  simp only [List.forall_mem_cons]
  refine ⟨fun z => ?_, fun z => ?_, by simp⟩
  · obtain ⟨e, k, f, rfl⟩ : ∃ (e : Fin 1) (k : Fin 1024) (f : Fin 256), z = ix3 e k f := ⟨z 0, z 1, z 2, eq_ix3 z⟩
    obtain rfl : e = 0 := Subsingleton.elim e 0
    exact (pair_second x0 x1 k f).trans (congrArg (dwVec x0 x1) (emb_block 1 (by decide) _ k f).symm)
  · obtain ⟨e, k, f, rfl⟩ : ∃ (e : Fin 1) (k : Fin 1024) (f : Fin 256), z = ix3 e k f := ⟨z 0, z 1, z 2, eq_ix3 z⟩
    obtain rfl : e = 0 := Subsingleton.elim e 0
    exact (pair_first x0 x1 k f).trans (congrArg (dwVec x0 x1) (emb_block 0 (by decide) _ k f).symm)

end Block

section Reference

variable (A : S4096x1024.Idx → EReal) (G : S1x1024.Idx → EReal) (D E : S4096x1024.Idx → EReal)

/-- The gradients at the projection's two halves, side by side. -/
def join (t : Fin 4096) (f : Fin 2048) : EReal := if h : f.val < 1024 then D (ix2 t ⟨f.val, h⟩) else E (ix2 t ⟨f.val - 1024, by omega⟩)

theorem ref_join (t : Fin 4096) (f : Fin 2048) : val_main_v20 (F := Ideal) D E (ix2 t f) = join D E t f := by
  pointwise [val_main_v20, val_main_v19, val_main_v18, val_main_cst_4, val_main_cst_3]
  unfold join
  have hf := f.isLt
  by_cases h : f.val < 1024
  · rw [dif_neg (by omega), dif_pos h, dif_pos h, zero_add]
  · rw [dif_pos (by omega), dif_neg h, dif_neg h, add_zero]

theorem ref_dw (j : Fin 8) (k : Fin 1024) (f : Fin 256) : val_main_v25 (F := Ideal) A G D E (ix3 j k f)
    = ∑ t : Fin 4096, val_main_v14 (F := Ideal) A G (ix2 t k) * join D E t ⟨j.val * 256 + f.val, lt_col j f⟩ := by
  pointwise [val_main_v25, val_main_v24, val_main_v23, val_main_v22, val_main_v21]
  exact Finset.sum_congr rfl fun t _ => (mul_comm _ _).trans (congrArg _ (ref_join D E t _))

end Reference

variable (m : ∀ ℓ : Loc nD τ sig, Buf (Elt Ideal) ℓ) (c : Dev nD)

/-- The call's arguments. -/
abbrev a0 : S4096x1024.Idx → EReal := m ((c.tc : Thread nD τ).loc main_arg0)
abbrev a1 : S1x1024.Idx → EReal := m ((c.tc : Thread nD τ).loc main_arg1)
abbrev a2 : S4096x1024.Idx → EReal := m ((c.tc : Thread nD τ).loc main_arg2)
abbrev a3 : S4096x1024.Idx → EReal := m ((c.tc : Thread nD τ).loc main_arg3)

theorem entry_h (t : Fin 4096) (k : Fin 1024) :
    (V m c main_v12 : S4096x1024.Idx → EReal) (ix2 t k) = val_main_v14 (F := Ideal) (a0 m c) (a1 m c) (ix2 t k) := by
  show StableHlo.after hostOps0 _ (Proc.devRef .tc main_v12) (ix2 t k) = _
  after_results_simp
  pointwise [val_main_v14, val_main_v13, val_main_v12, val_main_v11, val_main_v10, val_main_v9, val_main_v8, val_main_v7, val_main_cst_2,
    val_main_v6, val_main_v5, val_main_cst_1, val_main_v4, val_main_v3, val_main_cst_0, val_main_v2, val_main_v1]

/-- The two incoming gradients, stacked. -/
theorem entry_d (e : Fin 2) (t : Fin 4096) (f : Fin 1024) : (V m c main_v16 : S2x4096x1024.Idx → EReal) (ix3 e t f)
    = join (a2 m c) (a3 m c) t ⟨e.val * 1024 + f.val, by omega⟩ := by
  show StableHlo.after hostOps0 _ (Proc.devRef .tc main_v16) (ix3 e t f) = _
  after_results_simp
  match e with
  | ⟨0, _⟩ =>
    rw [join, dif_pos (show 0 * 1024 + f.val < 1024 by omega)]
    pointwise
    after_results_simp
    pointwise
  | ⟨1, _⟩ =>
    rw [join, dif_neg (show ¬ 1 * 1024 + f.val < 1024 by omega)]
    pointwise
    after_results_simp
    pointwise

theorem idx0_0 : ∀ t : Fin cfg0.N, win0_0.index t = ![0, 0] := (by decide +kernel : ∀ t : Fin grid0.N, _)
theorem idx0_1 : ∀ t : Fin cfg0.N, win0_1.index t = ![t.val / 2, 0, t.val % 2] := (by decide +kernel : ∀ t : Fin grid0.N, _)
theorem idx0_2 : ∀ t : Fin cfg0.N, win0_2.index t = ![t.val, 0, 0] := (by decide +kernel : ∀ t : Fin grid0.N, _)

theorem points (t : Fin cfg0.N) : t.val < 4 := t.isLt

theorem lt_wide (t : Fin cfg0.N) (f : Fin 512) : t.val * 512 + f.val < 2048 := by
  have := points t
  omega

theorem iblk_h (t : Fin cfg0.N) (i : Fin 4096) (k : Fin 1024) :
    (iblk m c 0 t : Vec Ideal S4096x1024 .bf16) (ix2 i k) = val_main_v14 (F := Ideal) (a0 m c) (a1 m c) (ix2 i k) := by
  rw [← entry_h]
  blk_simp [iblk]
  exact Dw.at_ix2 _ _ _ _ (by blk_simp [idx0_0]) (by blk_simp [idx0_0])

theorem iblk_d (t : Fin cfg0.N) (i : Fin 4096) (f : Fin 512) :
    (iblk m c 1 t : Vec Ideal S1x4096x512 .bf16) (ix3 0 i f) = join (a2 m c) (a3 m c) i ⟨t.val * 512 + f.val, lt_wide t f⟩ := by
  have ht := points t
  have e := entry_d m c ⟨t.val / 2, by omega⟩ i ⟨t.val % 2 * 512 + f.val, by omega⟩
  rw [show (⟨t.val / 2 * 1024 + (t.val % 2 * 512 + f.val), by omega⟩ : Fin 2048) = ⟨t.val * 512 + f.val, lt_wide t f⟩ from Fin.ext (by dsimp only; omega)] at e
  rw [← e]
  blk_simp [iblk]
  exact Parts.at_ix3 _ _ _ _ _ (by blk_simp [idx0_1]; rfl) (by blk_simp [idx0_1]) (by blk_simp [idx0_1])

theorem final_dw : ((dats m 0 c).arrAt 2 cfg0.N : S8x1024x256.Idx → EReal)
    = val_main_v25 (F := Ideal) (a0 m c) (a1 m c) (a2 m c) (a3 m c) := by
  refine (dats m 0 c).arrAt_eq_of_covers 2 _ (by decide +kernel) fun t hf y => ?_
  blk_simp
  obtain ⟨q, k, f, rfl⟩ : ∃ (q : Fin 2) (k : Fin 1024) (f : Fin 256), y = ix3 q k f := ⟨y 0, y 1, y 2, eq_ix3 y⟩
  have ht := points t
  rw [after0_2]
  refine (out_dw _ _ _).trans ?_
  refine Eq.trans ?_ ((ref_dw (a0 m c) (a1 m c) (a2 m c) (a3 m c) ⟨t.val * 2 + q.val, by omega⟩ k f).symm.trans ?_)
  · refine Finset.sum_congr rfl fun i _ => congrArg₂ (fun a b : EReal => a * b) (iblk_h m c t i k)
      ((iblk_d m c t i ⟨q.val * 256 + f.val, lt_half q f⟩).trans (congrArg _ (Fin.ext ?_)))
    show t.val * 512 + (q.val * 256 + f.val) = (t.val * 2 + q.val) * 256 + f.val
    omega
  · exact (Parts.at_ix3 _ _ _ _ _ (by blk_simp [idx0_2]) (by blk_simp [idx0_2]) (by blk_simp [idx0_2])).symm

end RgDw

end
-- ==== Proof.RgDw.Claim.lean ====
/- The claims about the gradient at the recurrent block's input weight: the reference's frame, and the result equal to the reference's. -/
module

public import proofs.«01_k».proof.Defs
public import proofs.«01_k».proof.Proof.RgDw.Arrays
public import proofs.«01_k».proof.Proof.Gen.Reference11Ideal.Run

@[expose] public section

noncomputable section

namespace RgDw

open Idealize.ShloMosaic Idealize.SL.Sem

section Reference

open Cert.Reference11Ideal Cert.Reference11Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2, funext fun g => nomatch g.2⟩) (Cert.Reference11Ideal.Value.run m ρ)

end Reference

/-- The gradient, from any arguments. -/
theorem algebraic : Cert.algebraic_Kernel11Ideal_Reference11Ideal (hKernel11Ideal := Cert.Kernel11Ideal.Gen.facts)
    (hReference11Ideal := Cert.Reference11Ideal.Gen.facts) := by
  intro m g m' g' _ hagree
  refine ⟨fun c => Cert.Reference11Ideal.Read.val_main_v25 (F := Ideal) (a0 m c) (a1 m c) (a2 m c) (a3 m c), ?_, ?_⟩
  · refine (θ_run _ _ _).mono (fun r h c => ?_) (Cert.Kernel11Ideal.Value.run_blocks m g)
    exact ⟨(h c).1.trans (final_dw m c), (h c).2⟩
  · refine (θ_run _ _ _).mono (fun r h c => ?_) (Cert.Reference11Ideal.Value.run m' g')
    obtain ⟨e0, e1, e2, e3⟩ := hagree c
    refine ⟨(h c).1.trans ((Cert.Reference11Ideal.Read.val_main_v25_eq _ _ _ _).trans ?_), (h c).2⟩
    rw [e0, e1, e2, e3]

end RgDw

end
-- ==== Proof.Parts.Claim.lean ====
/- The claims about the sum of the devices' parts of a gradient: the reference's frame, and the result equal to the reference's. -/
module

public import proofs.«01_k».proof.Defs
public import proofs.«01_k».proof.Proof.Parts.Arrays
public import proofs.«01_k».proof.Proof.Gen.Reference12Ideal.Run

@[expose] public section

noncomputable section

namespace Parts

open Idealize.ShloMosaic Idealize.SL.Sem

section Reference

open Cert.Reference12Ideal Cert.Reference12Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun _ h => ⟨fun c => (h c).2, funext fun g => nomatch g.2⟩) (Cert.Reference12Ideal.Value.run m ρ)

end Reference

/-- The sum, of any parts. -/
theorem algebraic : Cert.algebraic_Kernel12Ideal_Reference12Ideal (hKernel12Ideal := Cert.Kernel12Ideal.Gen.facts)
    (hReference12Ideal := Cert.Reference12Ideal.Gen.facts) := by
  intro m g m' g' _ hagree
  refine ⟨fun c => Cert.Reference12Ideal.Read.val_main_v0 (F := Ideal) (a0 m c), ?_, ?_⟩
  · refine (θ_run _ _ _).mono (fun r h c => ?_) (Cert.Kernel12Ideal.Value.run_blocks m g)
    exact ⟨(h c).1.trans (final_sum m c), (h c).2⟩
  · refine (θ_run _ _ _).mono (fun r h c => ?_) (Cert.Reference12Ideal.Value.run m' g')
    refine ⟨(h c).1.trans ((Cert.Reference12Ideal.Read.val_main_v0_eq _).trans ?_), (h c).2⟩
    rw [hagree c]

end Parts

end
-- ==== Proof.Adam.Arrays.lean ====
/- One step of the optimiser: the gradient summed over the devices' parts, the two moments, and the step of the weight, entry by entry the
   reference's. Nothing here asks the entries to be finite. -/
module

public import proofs.«01_k».proof.Proof.Parts.Arrays
public import proofs.«01_k».proof.Proof.Gen.Kernel13Ideal.Value
public import proofs.«01_k».proof.Proof.Gen.Reference13Ideal.Read

@[expose] public section

noncomputable section

namespace Adam

open Reals
open Idealize.ShloMosaic Idealize.ShloMosaic.Pointwise Idealize.ShloMosaic.Tactic Cert.Kernel13Ideal Cert.Kernel13Ideal.Gen
open Cert.Reference13Ideal.Read (val_main_v27 val_main_v26 val_main_cst_8 val_main_v25 val_main_v24 val_main_v23 val_main_cst_7 val_main_v22
  val_main_v21 val_main_v20 val_main_cst_6 val_main_v19 val_main_v18 val_main_v17 val_main_cst_5 val_main_v16 val_main_v15 val_main_cst_4
  val_main_v14 val_main_v13 val_main_v12 val_main_cst_3 val_main_v11 val_main_v10 val_main_v9 val_main_cst_2 val_main_v8 val_main_v7 val_main_v6
  val_main_cst_1 val_main_v5 val_main_v4 val_main_cst_0 val_main_v3 val_main_v2 val_main_v1 val_main_v0 val_main_cst)

section Entry

variable (P : S8x1024x256.Idx → EReal) (W M N : S1x1024x256.Idx → EReal) {x0 : Vec Ideal S8x512x256 .bf16} {x1 x2 x3 : Vec Ideal S512x256 .f32}
  {r : Fin 512} {R : Fin 1024} {k : Fin 256} (h0 : ∀ i, x0 (ix3 i r k) = P (ix3 i R k)) (h1 : x1 (ix2 r k) = W (ix3 0 R k))
  (h2 : x2 (ix2 r k) = M (ix3 0 R k)) (h3 : x3 (ix2 r k) = N (ix3 0 R k))

include h0 in
theorem sum_entry : k0_pay6 (F := Ideal) x0 x1 x2 x3 (ix2 r k) = val_main_v0 (F := Ideal) P (ix2 R k) := by
  have e : val_main_v0 (F := Ideal) P (ix2 R k) = ∑ i : Fin 8, P (ix3 i R k) := by pointwise [val_main_v0, val_main_cst]
  rw [e, Fin.sum_univ_eight]
  simp only [← h0]
  pointwise [k0_pay6, k0_pay4]

include h0 h2 in
theorem first_entry : k0_pay1 (F := Ideal) (k0_pay6 x0 x1 x2 x3) (k0_pay7 x0 x1 x2 x3) (ix2 r k) = val_main_v8 (F := Ideal) P M (ix2 R k) := by
  pointwise [k0_pay1, k0_pay7, k0_pay5, val_main_v8, val_main_v7, val_main_v6, val_main_cst_1, val_main_v5, val_main_v4, val_main_cst_0, val_main_v2]
  rw [sum_entry P h0, h2]

include h0 h3 in
theorem second_entry : k0_pay2 (F := Ideal) (k0_pay6 x0 x1 x2 x3) (View.ld x3 r0_8) (ix2 r k) = val_main_v14 (F := Ideal) P N (ix2 R k) := by
  pointwise [k0_pay2, val_main_v14, val_main_v13, val_main_v12, val_main_cst_3, val_main_v11, val_main_v10, val_main_v9, val_main_cst_2, val_main_v3]
  rw [sum_entry P h0, h3]

include h0 h1 h2 h3 in
theorem step_entry : k0_pay3 (F := Ideal) (k0_pay6 x0 x1 x2 x3) (k0_pay7 x0 x1 x2 x3) (View.ld x3 r0_8) (View.ld x1 r0_8) (ix2 r k)
    = val_main_v27 (F := Ideal) P W M N (ix2 R k) := by
  pointwise [k0_pay3, val_main_v27, val_main_v26, val_main_cst_8, val_main_v25, val_main_v24, val_main_v23, val_main_cst_7, val_main_v22,
    val_main_v21, val_main_v20, val_main_cst_6, val_main_v19, val_main_v18, val_main_v17, val_main_cst_5, val_main_v16, val_main_v15, val_main_cst_4,
    val_main_v1]
  rw [first_entry P M h0 h2, second_entry P N h0 h3, h1]

end Entry

variable (m : ∀ ℓ : Loc nD τ sig, Buf (Elt Ideal) ℓ) (c : Dev nD)

/-- The call's arguments: the parts, the weight, the two moments. -/
abbrev a0 : S8x1024x256.Idx → EReal := m ((c.tc : Thread nD τ).loc main_arg0)
abbrev a1 : S1x1024x256.Idx → EReal := m ((c.tc : Thread nD τ).loc main_arg1)
abbrev a2 : S1x1024x256.Idx → EReal := m ((c.tc : Thread nD τ).loc main_arg2)
abbrev a3 : S1x1024x256.Idx → EReal := m ((c.tc : Thread nD τ).loc main_arg3)

theorem entry_p : (V m c main_v0 : S8x1024x256.Idx → EReal) = a0 m c := by
  show StableHlo.after hostOps0 _ (Proc.devRef .tc main_v0) = _; after_results_simp; try rfl

theorem entry_w (R : Fin 1024) (k : Fin 256) : (V m c main_v1 : S1024x256.Idx → EReal) (ix2 R k) = a1 m c (ix3 0 R k) := by
  show StableHlo.after hostOps0 _ (Proc.devRef .tc main_v1) (ix2 R k) = _; after_results_simp; pointwise

theorem entry_m (R : Fin 1024) (k : Fin 256) : (V m c main_v2 : S1024x256.Idx → EReal) (ix2 R k) = a2 m c (ix3 0 R k) := by
  show StableHlo.after hostOps0 _ (Proc.devRef .tc main_v2) (ix2 R k) = _; after_results_simp; pointwise

theorem entry_n (R : Fin 1024) (k : Fin 256) : (V m c main_v3 : S1024x256.Idx → EReal) (ix2 R k) = a3 m c (ix3 0 R k) := by
  show StableHlo.after hostOps0 _ (Proc.devRef .tc main_v3) (ix2 R k) = _; after_results_simp; pointwise

theorem idx0_0 : ∀ t : Fin cfg0.N, win0_0.index t = ![0, t.val, 0] := (by decide +kernel : ∀ t : Fin grid0.N, _)
/-- Every other window shows this point's 512 rows. -/
theorem idx0_1 : ∀ t : Fin cfg0.N, win0_1.index t = ![t.val, 0] := (by decide +kernel : ∀ t : Fin grid0.N, _)
theorem idx0_2 : ∀ t : Fin cfg0.N, win0_2.index t = ![t.val, 0] := idx0_1
theorem idx0_3 : ∀ t : Fin cfg0.N, win0_3.index t = ![t.val, 0] := idx0_1
theorem idx0_4 : ∀ t : Fin cfg0.N, win0_4.index t = ![t.val, 0] := idx0_1
theorem idx0_5 : ∀ t : Fin cfg0.N, win0_5.index t = ![t.val, 0] := idx0_1
theorem idx0_6 : ∀ t : Fin cfg0.N, win0_6.index t = ![t.val, 0] := idx0_1
theorem idx0_7 : ∀ t : Fin cfg0.N, win0_7.index t = ![t.val, 0] := idx0_1

theorem lt_row (t : Fin cfg0.N) (r : Fin 512) : t.val * 512 + r.val < 1024 := by
  have : t.val < 2 := t.isLt
  omega

/-- A row of this point's block, in the whole array. -/
def row (t : Fin cfg0.N) (r : Fin 512) : Fin 1024 := ⟨t.val * 512 + r.val, lt_row t r⟩

theorem iblk_p (t : Fin cfg0.N) (i : Fin 8) (r : Fin 512) (k : Fin 256) :
    (iblk m c 0 t : Vec Ideal S8x512x256 .bf16) (ix3 i r k) = a0 m c (ix3 i (row t r) k) := by
  rw [← entry_p]
  blk_simp [iblk]
  exact Parts.at_ix3 _ _ _ _ _ (by blk_simp [idx0_0]) (by blk_simp [idx0_0, row]) (by blk_simp [idx0_0])

theorem iblk_w (t : Fin cfg0.N) (r : Fin 512) (k : Fin 256) : (iblk m c 1 t : Vec Ideal S512x256 .f32) (ix2 r k) = a1 m c (ix3 0 (row t r) k) := by
  rw [← entry_w]
  blk_simp [iblk]
  exact Dw.at_ix2 _ _ _ _ (by blk_simp [idx0_1, row]) (by blk_simp [idx0_1])

theorem iblk_m (t : Fin cfg0.N) (r : Fin 512) (k : Fin 256) : (iblk m c 2 t : Vec Ideal S512x256 .f32) (ix2 r k) = a2 m c (ix3 0 (row t r) k) := by
  rw [← entry_m]
  blk_simp [iblk]
  exact Dw.at_ix2 _ _ _ _ (by blk_simp [idx0_2, row]) (by blk_simp [idx0_2])

theorem iblk_n (t : Fin cfg0.N) (r : Fin 512) (k : Fin 256) : (iblk m c 3 t : Vec Ideal S512x256 .f32) (ix2 r k) = a3 m c (ix3 0 (row t r) k) := by
  rw [← entry_n]
  blk_simp [iblk]
  exact Dw.at_ix2 _ _ _ _ (by blk_simp [idx0_3, row]) (by blk_simp [idx0_3])

/-- The summed gradient. -/
theorem final_g : ((dats m 0 c).arrAt 4 cfg0.N : S1024x256.Idx → EReal) = val_main_v0 (F := Ideal) (a0 m c) := by
  refine (dats m 0 c).arrAt_eq_of_covers 4 _ (by decide +kernel) fun t hf y => ?_
  blk_simp
  obtain ⟨r, k, rfl⟩ : ∃ (r : Fin 512) (k : Fin 256), y = ix2 r k := ⟨y 0, y 1, eq_ix2 y⟩
  rw [after0_4]
  unfold out0_4
  rw [View.canon_unit_zero (S := S512x256) hz]
  refine (sum_entry (a0 m c) (R := row t r) fun i => iblk_p m c t i r k).trans ?_
  exact (Dw.at_ix2 _ _ _ _ (by blk_simp [idx0_4, row]) (by blk_simp [idx0_4])).symm

/-- The step. -/
theorem final_d : ((dats m 0 c).arrAt 5 cfg0.N : S1024x256.Idx → EReal) = val_main_v27 (F := Ideal) (a0 m c) (a1 m c) (a2 m c) (a3 m c) := by
  refine (dats m 0 c).arrAt_eq_of_covers 5 _ (by decide +kernel) fun t hf y => ?_
  blk_simp
  obtain ⟨r, k, rfl⟩ : ∃ (r : Fin 512) (k : Fin 256), y = ix2 r k := ⟨y 0, y 1, eq_ix2 y⟩
  rw [after0_5]
  unfold out0_5
  rw [View.canon_unit_zero (S := S512x256) hz]
  refine (step_entry (a0 m c) (a1 m c) (a2 m c) (a3 m c) (R := row t r) (fun i => iblk_p m c t i r k) (iblk_w m c t r k) (iblk_m m c t r k)
    (iblk_n m c t r k)).trans ?_
  exact (Dw.at_ix2 _ _ _ _ (by blk_simp [idx0_5, row]) (by blk_simp [idx0_5])).symm

/-- The first moment. -/
theorem final_m : ((dats m 0 c).arrAt 6 cfg0.N : S1024x256.Idx → EReal) = val_main_v8 (F := Ideal) (a0 m c) (a2 m c) := by
  refine (dats m 0 c).arrAt_eq_of_covers 6 _ (by decide +kernel) fun t hf y => ?_
  blk_simp
  obtain ⟨r, k, rfl⟩ : ∃ (r : Fin 512) (k : Fin 256), y = ix2 r k := ⟨y 0, y 1, eq_ix2 y⟩
  rw [after0_6]
  unfold out0_6
  rw [View.canon_unit_zero (S := S512x256) hz]
  refine (first_entry (a0 m c) (a2 m c) (R := row t r) (fun i => iblk_p m c t i r k) (iblk_m m c t r k)).trans ?_
  exact (Dw.at_ix2 _ _ _ _ (by blk_simp [idx0_6, row]) (by blk_simp [idx0_6])).symm

/-- The second moment. -/
theorem final_n : ((dats m 0 c).arrAt 7 cfg0.N : S1024x256.Idx → EReal) = val_main_v14 (F := Ideal) (a0 m c) (a3 m c) := by
  refine (dats m 0 c).arrAt_eq_of_covers 7 _ (by decide +kernel) fun t hf y => ?_
  blk_simp
  obtain ⟨r, k, rfl⟩ : ∃ (r : Fin 512) (k : Fin 256), y = ix2 r k := ⟨y 0, y 1, eq_ix2 y⟩
  rw [after0_7]
  unfold out0_7
  rw [View.canon_unit_zero (S := S512x256) hz]
  refine (second_entry (a0 m c) (a3 m c) (R := row t r) (fun i => iblk_p m c t i r k) (iblk_n m c t r k)).trans ?_
  exact (Dw.at_ix2 _ _ _ _ (by blk_simp [idx0_7, row]) (by blk_simp [idx0_7])).symm

end Adam

end
-- ==== Proof.Adam.Claim.lean ====
/- The claims about one step of the optimiser: the reference's frame, and the four results equal to the reference's. -/
module

public import proofs.«01_k».proof.Defs
public import proofs.«01_k».proof.Proof.Adam.Arrays
public import proofs.«01_k».proof.Proof.Gen.Reference13Ideal.Run

@[expose] public section

noncomputable section

namespace Adam

open Idealize.ShloMosaic Idealize.SL.Sem

section Reference

open Cert.Reference13Ideal Cert.Reference13Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h c).2.2.2.2, funext fun g => nomatch g.2⟩) (Cert.Reference13Ideal.Value.run m ρ)

end Reference

/-- The four results, from any arguments. -/
theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c => Cert.Reference13Ideal.Read.val_main_v0 (F := Ideal) (a0 m c),
    fun c => Cert.Reference13Ideal.Read.val_main_v27 (F := Ideal) (a0 m c) (a1 m c) (a2 m c) (a3 m c),
    fun c => Cert.Reference13Ideal.Read.val_main_v8 (F := Ideal) (a0 m c) (a2 m c),
    fun c => Cert.Reference13Ideal.Read.val_main_v14 (F := Ideal) (a0 m c) (a3 m c), ?_, ?_⟩
  · refine (θ_run _ _ _).mono (fun r h c => ?_) (Cert.Kernel13Ideal.Value.run_blocks m g)
    obtain ⟨r0, r1, r2, r3, hargs⟩ := h c
    exact ⟨r0.trans (final_g m c), r1.trans (final_d m c), r2.trans (final_m m c), r3.trans (final_n m c), hargs⟩
  · refine (θ_run _ _ _).mono (fun r h c => ?_) (Cert.Reference13Ideal.Value.run m' g')
    obtain ⟨e0, e1, e2, e3⟩ := hagree c
    obtain ⟨r0, r1, r2, r3, hargs⟩ := h c
    refine ⟨?_, ?_, ?_, ?_, hargs⟩
    · refine r0.trans ((Cert.Reference13Ideal.Read.val_main_v0_eq _).trans ?_)
      rw [e0]
    · refine r1.trans ((Cert.Reference13Ideal.Read.val_main_v27_eq _ _ _ _).trans ?_)
      rw [e0, e1, e2, e3]
    · refine r2.trans ((Cert.Reference13Ideal.Read.val_main_v8_eq _ _).trans ?_)
      rw [e0, e2]
    · refine r3.trans ((Cert.Reference13Ideal.Read.val_main_v14_eq _ _).trans ?_)
      rw [e0, e3]

end Adam

end
-- ==== Proof.AdamLayer.Cases.lean ====
/- One step of the optimiser on one layer: what the call leaves at one grid point in the blocks of its four results, by the reference's
   formulas for the layer's own matrix. -/
module

public import proofs.«01_k».proof.Proof.Parts.Arrays
public import proofs.«01_k».proof.Proof.Dw.Block
public import proofs.«01_k».proof.Proof.Gen.Kernel14Ideal.Value
public import proofs.«01_k».proof.Proof.Gen.Reference14Ideal.Read
public import Idealize.ShloMosaic.Lib.Pipeline.ValueKit

@[expose] public section

noncomputable section

namespace AdamLayer

open Reals
open Idealize.ShloMosaic Idealize.ShloMosaic.Pointwise Idealize.ShloMosaic.Tactic Cert.Kernel14Ideal Cert.Kernel14Ideal.Gen
open Cert.Reference14Ideal.Read (val_main_v30 val_main_v29 val_main_cst_8 val_main_v28 val_main_v27 val_main_v26 val_main_cst_7 val_main_v25
  val_main_v24 val_main_v23 val_main_cst_6 val_main_v22 val_main_v21 val_main_v20 val_main_cst_5 val_main_v19 val_main_v18 val_main_cst_4
  val_main_v17 val_main_v16 val_main_v15 val_main_cst_3 val_main_v14 val_main_v13 val_main_v12 val_main_cst_2 val_main_v11 val_main_v10
  val_main_v9 val_main_cst_1 val_main_v8 val_main_v7 val_main_cst_0 val_main_v6 val_main_v5 val_main_v4 val_main_v3 val_main_v2 val_main_v1
  val_main_v0 val_main_cst)

variable (P : S8x1024x512.Idx → EReal) (W M N : S2x1024x512.Idx → EReal)

/-- The blocks of the gradient and of the two moments are stored with a layer's axis in front. -/
theorem g_block (g : FVec Ideal S256x512 .f32) (r : Fin 256) (k : Fin 512) : k0_pay5 (F := Ideal) g (ix3 0 r k) = g (ix2 r k) := by
  pointwise [k0_pay5]

theorem m_block (g : FVec Ideal S256x512 .f32) (p : Vec Ideal S1x256x512 .f32) (r : Fin 256) (k : Fin 512) :
    k0_pay6 (F := Ideal) g p (ix3 0 r k) = k0_pay3 (F := Ideal) g p (ix2 r k) := by
  pointwise [k0_pay6]

theorem n_block (g : FVec Ideal S256x512 .f32) (q : Vec Ideal S1x256x512 .f32) (r : Fin 256) (k : Fin 512) :
    k0_pay7 (F := Ideal) g q (ix3 0 r k) = k0_pay4 (F := Ideal) g q (ix2 r k) := by
  pointwise [k0_pay7]

section Formulas

variable {g : FVec Ideal S256x512 .f32} {w p q : Vec Ideal S1x256x512 .f32} {r : Fin 256} {R : Fin 1024} {k : Fin 512}
  (hg : g (ix2 r k) = val_main_v0 (F := Ideal) P (ix2 R k)) (hw : w (ix3 0 r k) = W (ix3 0 R k)) (hp : p (ix3 0 r k) = M (ix3 0 R k))
  (hq : q (ix3 0 r k) = N (ix3 0 R k))

include hg hp in
theorem first_entry : k0_pay3 (F := Ideal) g p (ix2 r k) = val_main_v11 (F := Ideal) P M (ix2 R k) := by
  pointwise [k0_pay3, val_main_v11, val_main_v10, val_main_v9, val_main_cst_1, val_main_v8, val_main_v7, val_main_cst_0, val_main_v4, val_main_v3]
  rw [hg, hp]

include hg hq in
theorem second_entry : k0_pay4 (F := Ideal) g q (ix2 r k) = val_main_v17 (F := Ideal) P N (ix2 R k) := by
  pointwise [k0_pay4, val_main_v17, val_main_v16, val_main_v15, val_main_cst_3, val_main_v14, val_main_v13, val_main_v12, val_main_cst_2, val_main_v6,
    val_main_v5]
  rw [hg, hq]

include hg hw hp hq in
theorem step_entry : k0_pay1 (F := Ideal) (k0_pay8 g p q) (k0_pay9 w) k0_pay10 (ix3 0 r k) = val_main_v30 (F := Ideal) P W M N (ix2 R k) := by
  pointwise [k0_pay1, k0_pay8, k0_pay9, k0_pay10, val_main_v30, val_main_v29, val_main_cst_8, val_main_v28, val_main_v27, val_main_v26, val_main_cst_7,
    val_main_v25, val_main_v24, val_main_v23, val_main_cst_6, val_main_v22, val_main_v21, val_main_v20, val_main_cst_5, val_main_v19, val_main_v18,
    val_main_cst_4, val_main_v2, val_main_v1]
  rw [first_entry P M hg hp, second_entry P N hg hq, hw]

end Formulas

variable {x0 : Vec Ideal S8x256x512 .bf16} {x1 x2 x3 : Vec Ideal S1x256x512 .f32} {r : Fin 256} {R : Fin 1024} {k : Fin 512}
  (h0 : ∀ i, x0 (ix3 i r k) = P (ix3 i R k)) (h1 : x1 (ix3 0 r k) = W (ix3 0 R k)) (h2 : x2 (ix3 0 r k) = M (ix3 0 R k))
  (h3 : x3 (ix3 0 r k) = N (ix3 0 R k))

include h0 in
theorem sum_entry (a0 a1 a2 a3 a4 a5 a6 a7) : k0_pay2 (F := Ideal) (View.ld x0 (Rect.unit (s := S8x256x512) ![0, 0, 0] ![1, 256, 512] a0))
      (View.ld x0 (Rect.unit (s := S8x256x512) ![1, 0, 0] ![1, 256, 512] a1)) (View.ld x0 (Rect.unit (s := S8x256x512) ![2, 0, 0] ![1, 256, 512] a2))
      (View.ld x0 (Rect.unit (s := S8x256x512) ![3, 0, 0] ![1, 256, 512] a3)) (View.ld x0 (Rect.unit (s := S8x256x512) ![4, 0, 0] ![1, 256, 512] a4))
      (View.ld x0 (Rect.unit (s := S8x256x512) ![5, 0, 0] ![1, 256, 512] a5)) (View.ld x0 (Rect.unit (s := S8x256x512) ![6, 0, 0] ![1, 256, 512] a6))
      (View.ld x0 (Rect.unit (s := S8x256x512) ![7, 0, 0] ![1, 256, 512] a7)) (ix2 r k) = val_main_v0 (F := Ideal) P (ix2 R k) := by
  have e : val_main_v0 (F := Ideal) P (ix2 R k) = ∑ i : Fin 8, P (ix3 i R k) := by pointwise [val_main_v0, val_main_cst]
  rw [e, Fin.sum_univ_eight]
  simp only [← h0]
  pointwise [k0_pay2]

variable (c : Dev nD) (i : grid0.Coords) (arg1 : Memref sig .tc .vmem S8x256x512 .bf16) (harg1 : arg1.IsWhole)
  (arg2 : Memref sig .tc .vmem S1x256x512 .f32) (harg2 : arg2.IsWhole) (arg3 : Memref sig .tc .vmem S1x256x512 .f32) (harg3 : arg3.IsWhole)
  (arg4 : Memref sig .tc .vmem S1x256x512 .f32) (harg4 : arg4.IsWhole) (arg9 : Memref sig .tc .vmem S1x256x512 .f32) (harg9 : arg9.IsWhole)
  (arg10 : Memref sig .tc .vmem S1x256x512 .f32) (harg10 : arg10.IsWhole) (arg11 : Memref sig .tc .vmem S1x256x512 .f32) (harg11 : arg11.IsWhole)
  (arg12 : Memref sig .tc .vmem S1x256x512 .f32) (harg12 : arg12.IsWhole)

include h0 in
theorem at_g : out0_A_4 (F := Ideal) c i arg1 harg1 arg2 harg2 arg3 harg3 arg4 harg4 arg9 harg9 arg10 harg10 arg11 harg11 arg12 harg12 x0 x1 x2 x3
    (ix3 0 r k) = val_main_v0 (F := Ideal) P (ix2 R k) := by
  unfold out0_A_4
  rw [View.read_writes_eq_canon _ _ _ (cover0_A_4 c i arg1 harg1 arg2 harg2 arg3 harg3 arg4 harg4 arg9 harg9 arg10 harg10 arg11 harg11 arg12 harg12 x0 x1 x2 x3)]
  unfold kernelRun0_A
  dsimp only
  sl_unfold_words
  rw [View.canon_cons_unit_zero (S := S1x256x512) Dw.hz3]
  simp only [View.readAt_eq_ld, harg1.read_unread]
  exact (g_block _ r k).trans (sum_entry P h0 ..)

include h0 h1 h2 h3 in
theorem at_d : out0_A_5 (F := Ideal) c i arg1 harg1 arg2 harg2 arg3 harg3 arg4 harg4 arg9 harg9 arg10 harg10 arg11 harg11 arg12 harg12 x0 x1 x2 x3
    (ix3 0 r k) = val_main_v30 (F := Ideal) P W M N (ix2 R k) := by
  unfold out0_A_5
  rw [View.read_writes_eq_canon _ _ _ (cover0_A_5 c i arg1 harg1 arg2 harg2 arg3 harg3 arg4 harg4 arg9 harg9 arg10 harg10 arg11 harg11 arg12 harg12 x0 x1 x2 x3)]
  unfold kernelRun0_A
  dsimp only
  sl_unfold_words
  rw [View.canon_cons_unit_zero (S := S1x256x512) Dw.hz3]
  simp only [View.readAt_eq_ld, harg1.read_unread, harg2.read_unread, harg3.read_unread, harg4.read_unread, View.ld_unit_zero (S := S1x256x512) Dw.hz3]
  exact step_entry P W M N (sum_entry P h0 ..) h1 h2 h3

include h0 h2 in
theorem at_m : out0_A_6 (F := Ideal) c i arg1 harg1 arg2 harg2 arg3 harg3 arg4 harg4 arg9 harg9 arg10 harg10 arg11 harg11 arg12 harg12 x0 x1 x2 x3
    (ix3 0 r k) = val_main_v11 (F := Ideal) P M (ix2 R k) := by
  unfold out0_A_6
  rw [View.read_writes_eq_canon _ _ _ (cover0_A_6 c i arg1 harg1 arg2 harg2 arg3 harg3 arg4 harg4 arg9 harg9 arg10 harg10 arg11 harg11 arg12 harg12 x0 x1 x2 x3)]
  unfold kernelRun0_A
  dsimp only
  sl_unfold_words
  rw [View.canon_cons_unit_zero (S := S1x256x512) Dw.hz3]
  simp only [View.readAt_eq_ld, harg1.read_unread, harg3.read_unread, View.ld_unit_zero (S := S1x256x512) Dw.hz3]
  exact (m_block _ _ r k).trans (first_entry P M (sum_entry P h0 ..) h2)

include h0 h3 in
theorem at_n : out0_A_7 (F := Ideal) c i arg1 harg1 arg2 harg2 arg3 harg3 arg4 harg4 arg9 harg9 arg10 harg10 arg11 harg11 arg12 harg12 x0 x1 x2 x3
    (ix3 0 r k) = val_main_v17 (F := Ideal) P N (ix2 R k) := by
  unfold out0_A_7
  rw [View.read_writes_eq_canon _ _ _ (cover0_A_7 c i arg1 harg1 arg2 harg2 arg3 harg3 arg4 harg4 arg9 harg9 arg10 harg10 arg11 harg11 arg12 harg12 x0 x1 x2 x3)]
  unfold kernelRun0_A
  dsimp only
  sl_unfold_words
  rw [View.canon_cons_unit_zero (S := S1x256x512) Dw.hz3]
  simp only [View.readAt_eq_ld, harg1.read_unread, harg4.read_unread, View.ld_unit_zero (S := S1x256x512) Dw.hz3]
  exact (n_block _ _ r k).trans (second_entry P N (sum_entry P h0 ..) h3)

end AdamLayer

end
-- ==== Proof.AdamLayer.Arrays.lean ====
/- One step of the optimiser on one layer: what the call's four arrays hold at the end, entry by entry the reference's. The call writes the
   first layer of each; the second keeps what the array held before. Nothing here asks the entries to be finite. -/
module

public import proofs.«01_k».proof.Proof.AdamLayer.Cases

@[expose] public section

noncomputable section

namespace AdamLayer

open Reals
open Idealize.ShloMosaic Idealize.ShloMosaic.Pointwise Idealize.ShloMosaic.Tactic Cert.Kernel14Ideal Cert.Kernel14Ideal.Gen
open Cert.Reference14Ideal.Read (val_main_v50 val_main_v49 val_main_v48 val_main_v47 val_main_v46 val_main_v45 val_main_v44 val_main_v43 val_main_v42
  val_main_v41 val_main_v40 val_main_v39 val_main_v38 val_main_v37 val_main_v36 val_main_v35 val_main_v34 val_main_v33 val_main_v32 val_main_v31
  val_main_v30 val_main_v17 val_main_v11 val_main_v0)

section Stacks

variable (P : S8x1024x512.Idx → EReal) (W M N X : S2x1024x512.Idx → EReal) (R : Fin 1024) (k : Fin 512)

/-- The reference's results, layer by layer. -/
theorem stack_g0 : val_main_v35 (F := Ideal) P X (ix3 0 R k) = val_main_v0 (F := Ideal) P (ix2 R k) := by
  pointwise [val_main_v35, val_main_v33]

theorem stack_g1 : val_main_v35 (F := Ideal) P X (ix3 1 R k) = X (ix3 1 R k) := by
  pointwise [val_main_v35, val_main_v34, val_main_v32, val_main_v31]

theorem stack_d0 : val_main_v40 (F := Ideal) P W M N X (ix3 0 R k) = val_main_v30 (F := Ideal) P W M N (ix2 R k) := by
  pointwise [val_main_v40, val_main_v38]

theorem stack_d1 : val_main_v40 (F := Ideal) P W M N X (ix3 1 R k) = X (ix3 1 R k) := by
  pointwise [val_main_v40, val_main_v39, val_main_v37, val_main_v36]

theorem stack_m0 : val_main_v45 (F := Ideal) P M X (ix3 0 R k) = val_main_v11 (F := Ideal) P M (ix2 R k) := by
  pointwise [val_main_v45, val_main_v43]

theorem stack_m1 : val_main_v45 (F := Ideal) P M X (ix3 1 R k) = X (ix3 1 R k) := by
  pointwise [val_main_v45, val_main_v44, val_main_v42, val_main_v41]

theorem stack_n0 : val_main_v50 (F := Ideal) P N X (ix3 0 R k) = val_main_v17 (F := Ideal) P N (ix2 R k) := by
  pointwise [val_main_v50, val_main_v48]

theorem stack_n1 : val_main_v50 (F := Ideal) P N X (ix3 1 R k) = X (ix3 1 R k) := by
  pointwise [val_main_v50, val_main_v49, val_main_v47, val_main_v46]

end Stacks

variable (m : ∀ ℓ : Loc nD τ sig, Buf (Elt Ideal) ℓ) (c : Dev nD)

/-- The call's arguments: the parts, the weight, the two moments, and what the four arrays hold before the call. -/
abbrev a0 : S8x1024x512.Idx → EReal := m ((c.tc : Thread nD τ).loc main_arg0)
abbrev a1 : S2x1024x512.Idx → EReal := m ((c.tc : Thread nD τ).loc main_arg1)
abbrev a2 : S2x1024x512.Idx → EReal := m ((c.tc : Thread nD τ).loc main_arg2)
abbrev a3 : S2x1024x512.Idx → EReal := m ((c.tc : Thread nD τ).loc main_arg3)
abbrev a4 : S2x1024x512.Idx → EReal := m ((c.tc : Thread nD τ).loc main_arg4)
abbrev a5 : S2x1024x512.Idx → EReal := m ((c.tc : Thread nD τ).loc main_arg5)
abbrev a6 : S2x1024x512.Idx → EReal := m ((c.tc : Thread nD τ).loc main_arg6)
abbrev a7 : S2x1024x512.Idx → EReal := m ((c.tc : Thread nD τ).loc main_arg7)

theorem entry_p : (V m c main_v0 : S8x1024x512.Idx → EReal) = a0 m c := by
  show StableHlo.after hostOps0 _ (Proc.devRef .tc main_v0) = _; after_results_simp; try rfl

theorem entry_g : (V m c main_v1_0 : S2x1024x512.Idx → EReal) = a4 m c := by
  show StableHlo.after hostOps0 _ (Proc.devRef .tc main_v1_0) = _; after_results_simp; try rfl

theorem entry_d : (V m c main_v1_1 : S2x1024x512.Idx → EReal) = a5 m c := by
  show StableHlo.after hostOps0 _ (Proc.devRef .tc main_v1_1) = _; after_results_simp; try rfl

theorem entry_m : (V m c main_v1_2 : S2x1024x512.Idx → EReal) = a6 m c := by
  show StableHlo.after hostOps0 _ (Proc.devRef .tc main_v1_2) = _; after_results_simp; try rfl

theorem entry_n : (V m c main_v1_3 : S2x1024x512.Idx → EReal) = a7 m c := by
  show StableHlo.after hostOps0 _ (Proc.devRef .tc main_v1_3) = _; after_results_simp; try rfl

/-- Every window shows this point's 256 rows, all but the parts' of the first layer only. -/
theorem idx0_0 : ∀ t : Fin cfg0.N, win0_0.index t = ![0, t.val, 0] := (by decide +kernel : ∀ t : Fin grid0.N, _)
theorem idx0_1 : ∀ t : Fin cfg0.N, win0_1.index t = ![0, t.val, 0] := idx0_0
theorem idx0_2 : ∀ t : Fin cfg0.N, win0_2.index t = ![0, t.val, 0] := idx0_0
theorem idx0_3 : ∀ t : Fin cfg0.N, win0_3.index t = ![0, t.val, 0] := idx0_0
theorem idx0_4 : ∀ t : Fin cfg0.N, win0_4.index t = ![0, t.val, 0] := idx0_0
theorem idx0_5 : ∀ t : Fin cfg0.N, win0_5.index t = ![0, t.val, 0] := idx0_0
theorem idx0_6 : ∀ t : Fin cfg0.N, win0_6.index t = ![0, t.val, 0] := idx0_0
theorem idx0_7 : ∀ t : Fin cfg0.N, win0_7.index t = ![0, t.val, 0] := idx0_0

theorem lt_row (t : Fin cfg0.N) (r : Fin 256) : t.val * 256 + r.val < 1024 := by
  have : t.val < 4 := t.isLt
  omega

/-- A row of this point's block, in the whole array. -/
def row (t : Fin cfg0.N) (r : Fin 256) : Fin 1024 := ⟨t.val * 256 + r.val, lt_row t r⟩

theorem iblk_p (t : Fin cfg0.N) (i : Fin 8) (r : Fin 256) (k : Fin 512) :
    (iblk m c 0 t : Vec Ideal S8x256x512 .bf16) (ix3 i r k) = a0 m c (ix3 i (row t r) k) := by
  rw [← entry_p]
  blk_simp [iblk]
  exact Parts.at_ix3 _ _ _ _ _ (by blk_simp [idx0_0]) (by blk_simp [idx0_0, row]) (by blk_simp [idx0_0])

theorem iblk_w (t : Fin cfg0.N) (r : Fin 256) (k : Fin 512) : (iblk m c 1 t : Vec Ideal S1x256x512 .f32) (ix3 0 r k) = a1 m c (ix3 0 (row t r) k) := by
  rw [← show (V m c main_arg1 : S2x1024x512.Idx → EReal) = a1 m c from V_main_arg1 m c]
  blk_simp [iblk]
  exact Parts.at_ix3 _ _ _ _ _ (by blk_simp [idx0_1]; rfl) (by blk_simp [idx0_1, row]) (by blk_simp [idx0_1])

theorem iblk_m (t : Fin cfg0.N) (r : Fin 256) (k : Fin 512) : (iblk m c 2 t : Vec Ideal S1x256x512 .f32) (ix3 0 r k) = a2 m c (ix3 0 (row t r) k) := by
  rw [← show (V m c main_arg2 : S2x1024x512.Idx → EReal) = a2 m c from V_main_arg2 m c]
  blk_simp [iblk]
  exact Parts.at_ix3 _ _ _ _ _ (by blk_simp [idx0_2]; rfl) (by blk_simp [idx0_2, row]) (by blk_simp [idx0_2])

theorem iblk_n (t : Fin cfg0.N) (r : Fin 256) (k : Fin 512) : (iblk m c 3 t : Vec Ideal S1x256x512 .f32) (ix3 0 r k) = a3 m c (ix3 0 (row t r) k) := by
  rw [← show (V m c main_arg3 : S2x1024x512.Idx → EReal) = a3 m c from V_main_arg3 m c]
  blk_simp [iblk]
  exact Parts.at_ix3 _ _ _ _ _ (by blk_simp [idx0_3]; rfl) (by blk_simp [idx0_3, row]) (by blk_simp [idx0_3])

/-- An index of one layer's block has the layer number 0. -/
theorem block_ix (y : S1x256x512.Idx) : ∃ (r : Fin 256) (k : Fin 512), y = ix3 0 r k :=
  ⟨y 1, y 2, (eq_ix3 y).trans (congrArg (fun i : Fin 1 => ix3 i (y 1) (y 2)) (Fin.ext (Nat.lt_one_iff.mp (y 0).isLt)))⟩

/-- Two arrays agree at an index of the second layer if they agree there. -/
theorem second_layer (A B : S2x1024x512.Idx → EReal) (h : ∀ R k, A (ix3 1 R k) = B (ix3 1 R k)) (j : S2x1024x512.Idx) (hj : ¬ (j 0).val = 0) : A j = B j := by
  have h0 : (j 0).val < 2 := (j 0).isLt
  rw [eq_ix3 j, show j 0 = (1 : Fin 2) from Fin.ext (by show (j 0).val = 1; omega)]
  exact h _ _

/-- The summed gradient. -/
theorem final_g : ((dats m 0 c).arrAt 4 cfg0.N : S2x1024x512.Idx → EReal) = val_main_v35 (F := Ideal) (a0 m c) (a4 m c) := by
  refine (dats m 0 c).arrAt_eq_of_coversWhere_of_agree 4 _ (fun β => β (0 : Fin 3) = 0) (by decide +kernel) (fun t hf y => ?_) (fun j hj => ?_)
  · blk_simp
    obtain ⟨r, k, rfl⟩ := block_ix y
    rw [after0_4]
    unfold outsAt0
    dsimp only
    refine (at_g (a0 m c) (R := row t r) (fun i => iblk_p m c t i r k) ..).trans ?_
    refine (stack_g0 (a0 m c) (a4 m c) (row t r) k).symm.trans ?_
    exact (Parts.at_ix3 _ _ _ _ _ (by blk_simp [idx0_4]; rfl) (by blk_simp [idx0_4, row]) (by blk_simp [idx0_4])).symm
  · blk_simp [Pipeline.Window.cell_apply] at hj
    rw [Nat.div_one] at hj
    exact second_layer _ _ (fun R k => (congrFun (entry_g m c) _).trans (stack_g1 _ _ R k).symm) _ hj

/-- The step. -/
theorem final_d : ((dats m 0 c).arrAt 5 cfg0.N : S2x1024x512.Idx → EReal) = val_main_v40 (F := Ideal) (a0 m c) (a1 m c) (a2 m c) (a3 m c) (a5 m c) := by
  refine (dats m 0 c).arrAt_eq_of_coversWhere_of_agree 5 _ (fun β => β (0 : Fin 3) = 0) (by decide +kernel) (fun t hf y => ?_) (fun j hj => ?_)
  · blk_simp
    obtain ⟨r, k, rfl⟩ := block_ix y
    rw [after0_5]
    unfold outsAt0
    dsimp only
    refine (at_d (a0 m c) (a1 m c) (a2 m c) (a3 m c) (R := row t r) (fun i => iblk_p m c t i r k) (iblk_w m c t r k) (iblk_m m c t r k) (iblk_n m c t r k) ..).trans ?_
    refine (stack_d0 (a0 m c) (a1 m c) (a2 m c) (a3 m c) (a5 m c) (row t r) k).symm.trans ?_
    exact (Parts.at_ix3 _ _ _ _ _ (by blk_simp [idx0_5]; rfl) (by blk_simp [idx0_5, row]) (by blk_simp [idx0_5])).symm
  · blk_simp [Pipeline.Window.cell_apply] at hj
    rw [Nat.div_one] at hj
    exact second_layer _ _ (fun R k => (congrFun (entry_d m c) _).trans (stack_d1 _ _ _ _ _ R k).symm) _ hj

/-- The first moment. -/
theorem final_m : ((dats m 0 c).arrAt 6 cfg0.N : S2x1024x512.Idx → EReal) = val_main_v45 (F := Ideal) (a0 m c) (a2 m c) (a6 m c) := by
  refine (dats m 0 c).arrAt_eq_of_coversWhere_of_agree 6 _ (fun β => β (0 : Fin 3) = 0) (by decide +kernel) (fun t hf y => ?_) (fun j hj => ?_)
  · blk_simp
    obtain ⟨r, k, rfl⟩ := block_ix y
    rw [after0_6]
    unfold outsAt0
    dsimp only
    refine (at_m (a0 m c) (a2 m c) (R := row t r) (fun i => iblk_p m c t i r k) (iblk_m m c t r k) ..).trans ?_
    refine (stack_m0 (a0 m c) (a2 m c) (a6 m c) (row t r) k).symm.trans ?_
    exact (Parts.at_ix3 _ _ _ _ _ (by blk_simp [idx0_6]; rfl) (by blk_simp [idx0_6, row]) (by blk_simp [idx0_6])).symm
  · blk_simp [Pipeline.Window.cell_apply] at hj
    rw [Nat.div_one] at hj
    exact second_layer _ _ (fun R k => (congrFun (entry_m m c) _).trans (stack_m1 _ _ _ R k).symm) _ hj

/-- The second moment. -/
theorem final_n : ((dats m 0 c).arrAt 7 cfg0.N : S2x1024x512.Idx → EReal) = val_main_v50 (F := Ideal) (a0 m c) (a3 m c) (a7 m c) := by
  refine (dats m 0 c).arrAt_eq_of_coversWhere_of_agree 7 _ (fun β => β (0 : Fin 3) = 0) (by decide +kernel) (fun t hf y => ?_) (fun j hj => ?_)
  · blk_simp
    obtain ⟨r, k, rfl⟩ := block_ix y
    rw [after0_7]
    unfold outsAt0
    dsimp only
    refine (at_n (a0 m c) (a3 m c) (R := row t r) (fun i => iblk_p m c t i r k) (iblk_n m c t r k) ..).trans ?_
    refine (stack_n0 (a0 m c) (a3 m c) (a7 m c) (row t r) k).symm.trans ?_
    exact (Parts.at_ix3 _ _ _ _ _ (by blk_simp [idx0_7]; rfl) (by blk_simp [idx0_7, row]) (by blk_simp [idx0_7])).symm
  · blk_simp [Pipeline.Window.cell_apply] at hj
    rw [Nat.div_one] at hj
    exact second_layer _ _ (fun R k => (congrFun (entry_n m c) _).trans (stack_n1 _ _ _ R k).symm) _ hj

end AdamLayer

end
-- ==== Proof.AdamLayer.Claim.lean ====
/- The claims about one step of the optimiser on one layer: the reference's frame, and the four results equal to the reference's. -/
module

public import proofs.«01_k».proof.Defs
public import proofs.«01_k».proof.Proof.AdamLayer.Arrays
public import proofs.«01_k».proof.Proof.Gen.Reference14Ideal.Run

@[expose] public section

noncomputable section

namespace AdamLayer

open Idealize.ShloMosaic Idealize.SL.Sem

section Reference

open Cert.Reference14Ideal Cert.Reference14Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h c).2.2.2.2, funext fun g => nomatch g.2⟩) (Cert.Reference14Ideal.Value.run m ρ)

end Reference

/-- The four results, from any arguments. -/
theorem algebraic : Cert.algebraic_Kernel14Ideal_Reference14Ideal (hKernel14Ideal := Cert.Kernel14Ideal.Gen.facts)
    (hReference14Ideal := Cert.Reference14Ideal.Gen.facts) := by
  intro m g m' g' _ hagree
  refine ⟨fun c => Cert.Reference14Ideal.Read.val_main_v35 (F := Ideal) (a0 m c) (a4 m c),
    fun c => Cert.Reference14Ideal.Read.val_main_v40 (F := Ideal) (a0 m c) (a1 m c) (a2 m c) (a3 m c) (a5 m c),
    fun c => Cert.Reference14Ideal.Read.val_main_v45 (F := Ideal) (a0 m c) (a2 m c) (a6 m c),
    fun c => Cert.Reference14Ideal.Read.val_main_v50 (F := Ideal) (a0 m c) (a3 m c) (a7 m c), ?_, ?_⟩
  · refine (θ_run _ _ _).mono (fun r h c => ?_) (Cert.Kernel14Ideal.Value.run_blocks m g)
    obtain ⟨r0, r1, r2, r3, hargs⟩ := h c
    exact ⟨r0.trans (final_g m c), r1.trans (final_d m c), r2.trans (final_m m c), r3.trans (final_n m c), hargs⟩
  · refine (θ_run _ _ _).mono (fun r h c => ?_) (Cert.Reference14Ideal.Value.run m' g')
    obtain ⟨e0, e1, e2, e3, e4, e5, e6, e7⟩ := hagree c
    obtain ⟨r0, r1, r2, r3, hargs⟩ := h c
    refine ⟨?_, ?_, ?_, ?_, hargs⟩
    · refine r0.trans ((Cert.Reference14Ideal.Read.val_main_v35_eq _ _).trans ?_)
      rw [e0, e4]
    · refine r1.trans ((Cert.Reference14Ideal.Read.val_main_v40_eq _ _ _ _ _).trans ?_)
      rw [e0, e1, e2, e3, e5]
    · refine r2.trans ((Cert.Reference14Ideal.Read.val_main_v45_eq _ _ _).trans ?_)
      rw [e0, e2, e6]
    · refine r3.trans ((Cert.Reference14Ideal.Read.val_main_v50_eq _ _ _).trans ?_)
      rw [e0, e3, e7]

end AdamLayer

end
-- ==== Proof.Pack.Rows.lean ====
/- The packed vectors: the reference's array row by row, and rows stored one after another over a cleared block. -/
module

public import proofs.«01_k».proof.Proof.Parts.Arrays
public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.CanonAppend

@[expose] public section

noncomputable section

namespace Pack

open Reals
open Idealize.ShloMosaic Idealize.ShloMosaic.Pointwise Idealize.ShloMosaic.Tactic Cert.Kernel15Ideal Cert.Kernel15Ideal.Gen
open Cert.Reference15Ideal.Read (val_main_v16 val_main_v15 val_main_cst val_main_v14 val_main_call8_v0 val_main_c_7 val_main_v13 val_main_call7_v0
  val_main_c_6 val_main_v12 val_main_call6_v0 val_main_c_5 val_main_v11 val_main_call5_v0 val_main_c_4 val_main_v10 val_main_v9 val_main_call4_v0
  val_main_c_3 val_main_v8 val_main_v7 val_main_call3_v0 val_main_c_2 val_main_v6 val_main_v5 val_main_call2_v0 val_main_c_1 val_main_v4 val_main_v3
  val_main_call1_v0 val_main_c_0 val_main_v2 val_main_v1 val_main_call0_v0 val_main_c val_main_v0)

section Lists

variable {S : Shape} {e : EltTy}

/-- Stores that miss an index leave there what the stores before them left. -/
theorem canon_missed (L' : List (View.Piece (Elt Ideal) S e)) (y : S.Idx) :
    ∀ L : List (View.Piece (Elt Ideal) S e), (∀ p ∈ L, y ∉ p.1.set) → View.canon (L ++ L') y = View.canon L' y
  | [], _ => rfl
  | p :: L, h => by
    rw [List.cons_append, View.canon_cons_of_not_mem _ _ (h p List.mem_cons_self)]
    exact canon_missed L' y L fun q hq => h q (List.mem_cons_of_mem _ hq)

/-- Stores of one array's entries over a first store: the array, if the first store has its entries where no later one stores. -/
theorem canon_over (G : S.Idx → Elt Ideal e) (y : S.Idx) (M : List (View.Piece (Elt Ideal) S e)) (hM : M ≠ [])
    (h : ∀ p ∈ M.dropLast, ∀ x : p.1.shape.Idx, p.2 x = G (p.1.emb x))
    (h' : (∀ p ∈ M.dropLast, y ∉ p.1.set) → View.canon [M.getLast hM] y = G y) : View.canon M y = G y := by
  refine (congrFun (congrArg View.canon (List.dropLast_append_getLast hM)) y).symm.trans ?_
  by_cases c : ∃ p ∈ M.dropLast, y ∈ p.1.set
  · exact View.canon_append_of_pieces G _ _ h y c
  · have c' : ∀ p ∈ M.dropLast, y ∉ p.1.set := fun p hp hy => c ⟨p, hp, hy⟩
    exact (canon_missed _ y _ c').trans (h' c')

end Lists

variable (x0 x1 x2 x3 x4 x5 : S1x1024.Idx → EReal) (x6 x7 x8 : S1x128.Idx → EReal)

theorem rows_0 (r : Fin 128) (h : 0 ≤ r.val) (h' : r.val < 8) (d : Fin 128) : val_main_v16 (F := Ideal) x0 x1 x2 x3 x4 x5 x6 x7 x8 (ix2 r d)
    = x0 (ix2 0 ⟨(r.val - 0) * 128 + d.val, by omega⟩) := by
  pointwise [val_main_v16, val_main_v1, val_main_v0]
  rw [dif_pos (by omega), dif_pos (by omega)]

theorem rows_1 (r : Fin 128) (h : 8 ≤ r.val) (h' : r.val < 16) (d : Fin 128) : val_main_v16 (F := Ideal) x0 x1 x2 x3 x4 x5 x6 x7 x8 (ix2 r d)
    = x1 (ix2 0 ⟨(r.val - 8) * 128 + d.val, by omega⟩) := by
  pointwise [val_main_v16, val_main_v3, val_main_v2]
  rw [dif_neg (by omega), dif_pos (by omega), dif_pos (by omega)]

theorem rows_2 (r : Fin 128) (h : 16 ≤ r.val) (h' : r.val < 24) (d : Fin 128) : val_main_v16 (F := Ideal) x0 x1 x2 x3 x4 x5 x6 x7 x8 (ix2 r d)
    = x2 (ix2 0 ⟨(r.val - 16) * 128 + d.val, by omega⟩) := by
  pointwise [val_main_v16, val_main_v5, val_main_v4]
  rw [dif_neg (by omega), dif_neg (by omega), dif_pos (by omega), dif_pos (by omega)]
  exact congrArg x2 (congrArg (ix2 0) (Fin.ext (by show _ * 128 + d.val = _ * 128 + d.val; omega)))

theorem rows_3 (r : Fin 128) (h : 24 ≤ r.val) (h' : r.val < 32) (d : Fin 128) : val_main_v16 (F := Ideal) x0 x1 x2 x3 x4 x5 x6 x7 x8 (ix2 r d)
    = x3 (ix2 0 ⟨(r.val - 24) * 128 + d.val, by omega⟩) := by
  pointwise [val_main_v16, val_main_v7, val_main_v6]
  rw [dif_neg (by omega), dif_neg (by omega), dif_neg (by omega), dif_pos (by omega), dif_pos (by omega)]
  exact congrArg x3 (congrArg (ix2 0) (Fin.ext (by show _ * 128 + d.val = _ * 128 + d.val; omega)))

theorem rows_4 (r : Fin 128) (h : 32 ≤ r.val) (h' : r.val < 40) (d : Fin 128) : val_main_v16 (F := Ideal) x0 x1 x2 x3 x4 x5 x6 x7 x8 (ix2 r d)
    = x4 (ix2 0 ⟨(r.val - 32) * 128 + d.val, by omega⟩) := by
  pointwise [val_main_v16, val_main_v9, val_main_v8]
  rw [dif_neg (by omega), dif_neg (by omega), dif_neg (by omega), dif_neg (by omega), dif_pos (by omega), dif_pos (by omega)]
  exact congrArg x4 (congrArg (ix2 0) (Fin.ext (by show _ * 128 + d.val = _ * 128 + d.val; omega)))

theorem rows_5 (r : Fin 128) (h : 40 ≤ r.val) (h' : r.val < 48) (d : Fin 128) : val_main_v16 (F := Ideal) x0 x1 x2 x3 x4 x5 x6 x7 x8 (ix2 r d)
    = x5 (ix2 0 ⟨(r.val - 40) * 128 + d.val, by omega⟩) := by
  pointwise [val_main_v16, val_main_v11, val_main_v10]
  rw [dif_neg (by omega), dif_neg (by omega), dif_neg (by omega), dif_neg (by omega), dif_neg (by omega), dif_pos (by omega), dif_pos (by omega)]
  exact congrArg x5 (congrArg (ix2 0) (Fin.ext (by show _ * 128 + d.val = _ * 128 + d.val; omega)))

theorem rows_6 (d : Fin 128) : val_main_v16 (F := Ideal) x0 x1 x2 x3 x4 x5 x6 x7 x8 (ix2 48 d) = x6 (ix2 0 d) := by
  pointwise [val_main_v16, val_main_v12]

theorem rows_7 (d : Fin 128) : val_main_v16 (F := Ideal) x0 x1 x2 x3 x4 x5 x6 x7 x8 (ix2 56 d) = x7 (ix2 0 d) := by
  pointwise [val_main_v16, val_main_v13]

theorem rows_8 (d : Fin 128) : val_main_v16 (F := Ideal) x0 x1 x2 x3 x4 x5 x6 x7 x8 (ix2 64 d) = x8 (ix2 0 d) := by
  pointwise [val_main_v16, val_main_v14]

/-- The rows that fill up a vector of one row. -/
theorem fill (a : Fin 8) (ha : a.val ≠ 0) (d : Fin 128) : val_main_v12 (F := Ideal) x6 (ix2 a d) = 0 := by
  pointwise [val_main_v12, val_main_call6_v0, val_main_c_5]
  rw [dif_neg (by omega)]
  show (((0#32 : BitVec 32).toInt : ℝ) : EReal) = 0
  simp

/-- The rows no vector fills. -/
theorem rows_zero (r : Fin 128) (d : Fin 128) (h : 48 ≤ r.val) (h' : r.val < 72 → r.val % 8 ≠ 0) :
    val_main_v16 (F := Ideal) x0 x1 x2 x3 x4 x5 x6 x7 x8 (ix2 r d) = 0 := by
  pointwise [val_main_v16]
  rw [dif_neg (by omega), dif_neg (by omega), dif_neg (by omega), dif_neg (by omega), dif_neg (by omega), dif_neg (by omega)]
  by_cases h6 : r.val < 56
  · rw [dif_pos (by omega)]
    exact fill x6 _ (by show _ - 8 ≠ 0; omega) d
  by_cases h7 : r.val < 64
  · rw [dif_neg (by omega), dif_pos (by omega)]
    exact fill x7 _ (by show _ - 8 ≠ 0; omega) d
  by_cases h8 : r.val < 72
  · rw [dif_neg (by omega), dif_neg (by omega), dif_pos (by omega)]
    exact fill x8 _ (by show _ - 8 ≠ 0; omega) d
  rw [dif_neg (by omega), dif_neg (by omega), dif_neg (by omega)]
  pointwise [val_main_v15, val_main_cst]

/-- A stored row has a vector's 128 entries from one column on. -/
theorem piece {n : ℕ} (A : Vec Ideal ⟨2, ![1, n]⟩ .f32) (G : S128x128.Idx → EReal) (k e : ℕ) (hk : k < 128) (he : e + 128 ≤ n) (h h')
    (hA : ∀ d : Fin 128, A (ix2 0 ⟨e + d.val, by omega⟩) = G (ix2 ⟨k, hk⟩ d)) (x : (⟨2, ![1, 128]⟩ : Shape).Idx) :
    View.ld A (Rect.unit (s := ⟨2, ![1, n]⟩) ![0, e] ![1, 128] h) x
      = G ((Rect.unit (s := S128x128) ![k, 0] ![1, 128] h').emb x) := by
  have h0 : (x 0).val = 0 := Nat.lt_one_iff.mp (x 0).isLt
  have e1 : (Rect.unit (s := ⟨2, ![1, n]⟩) ![0, e] ![1, 128] h).emb x = ix2 0 ⟨e + (x 1).val, by have : (x 1).val < 128 := (x 1).isLt; omega⟩ := by
    funext a
    refine Fin.ext ?_
    rw [Rect.emb_apply]
    fin_cases a
    · show 0 + 1 * (x 0).val = 0; omega
    · show e + 1 * (x 1).val = e + (x 1).val; omega
  have e2 : (Rect.unit (s := S128x128) ![k, 0] ![1, 128] h').emb x = ix2 ⟨k, hk⟩ (x 1) := by
    funext a
    refine Fin.ext ?_
    rw [Rect.emb_apply]
    fin_cases a
    · show k + 1 * (x 0).val = k; omega
    · show 0 + 1 * (x 1).val = (x 1).val; omega
  rw [e2]
  exact (congrArg A e1).trans (hA (x 1))

/-- The entries of a row's rectangle. -/
theorem in_row (k : ℕ) (h) (r d : Fin 128) (e : r.val = k) : (ix2 r d : S128x128.Idx) ∈ (Rect.unit (s := S128x128) ![k, 0] ![1, 128] h).set := by
  refine Rect.mem_set_unit.mpr fun a => ?_
  match a with
  | ⟨0, _⟩ => exact ⟨e.ge, by show r.val < k + 1; omega⟩
  | ⟨1, _⟩ => exact ⟨Nat.zero_le _, by show d.val < 0 + 128; omega⟩

end Pack

end
-- ==== Proof.Pack.Cases.lean ====
/- The packed vectors: what the call leaves in its one block, row by row the reference's. The call clears the block, then stores each
   vector's rows of 128 entries. -/
module

public import proofs.«01_k».proof.Proof.Pack.Rows

@[expose] public section

noncomputable section

namespace Pack

open Reals
open Idealize.ShloMosaic Idealize.ShloMosaic.Pointwise Idealize.ShloMosaic.Tactic Cert.Kernel15Ideal Cert.Kernel15Ideal.Gen
open Cert.Reference15Ideal.Read (val_main_v16)

variable (x0 x1 x2 x3 x4 x5 : Vec Ideal S1x1024 .f32) (x6 x7 x8 : Vec Ideal S1x128 .f32)

/-- A row of a long vector, stored where the reference has it. -/
theorem row_piece {A : Vec Ideal S1x1024 .f32} {G : S128x128.Idx → EReal} {i : ℕ} (hi : i ≤ 120)
    (hA : ∀ (r : Fin 128) (h : i ≤ r.val) (h' : r.val < i + 8) (d : Fin 128), G (ix2 r d) = A (ix2 0 ⟨(r.val - i) * 128 + d.val, by omega⟩))
    {k e : ℕ} (h0 : i ≤ k) (h1 : k < i + 8) (he : e = (k - i) * 128) (h h')
    (x : (Rect.unit (s := S128x128) ![k, 0] ![1, 128] h').shape.Idx) :
    View.ld A (Rect.unit (s := S1x1024) ![0, e] ![1, 128] h) x = G ((Rect.unit (s := S128x128) ![k, 0] ![1, 128] h').emb x) := by
  subst he
  exact piece A G k _ (by omega) (by omega) h h' (fun d => (hA ⟨k, by omega⟩ h0 h1 d).symm) x

/-- A short vector, stored where the reference has it. -/
theorem short_piece {A : Vec Ideal S1x128 .f32} {G : S128x128.Idx → EReal} {k : ℕ} (hk : k < 128)
    (hA : ∀ d : Fin 128, G (ix2 ⟨k, hk⟩ d) = A (ix2 0 d)) (h h')
    (x : (Rect.unit (s := S128x128) ![k, 0] ![1, 128] h').shape.Idx) :
    View.ld A (Rect.unit (s := S1x128) ![0, 0] ![1, 128] h) x = G ((Rect.unit (s := S128x128) ![k, 0] ![1, 128] h').emb x) :=
  piece A G k 0 hk le_rfl h h' (fun d => by
    rw [hA d]
    exact congrArg (fun j => A (ix2 0 j)) (Fin.ext (Nat.zero_add d.val))) x

theorem not_in_row {k : ℕ} {h} {r d : Fin 128} : (ix2 r d : S128x128.Idx) ∉ (Rect.unit (s := S128x128) ![k, 0] ![1, 128] h).set ↔ r.val ≠ k := by
  refine ⟨fun n e => n (in_row k h r d e), fun n m => n ?_⟩
  have e : k ≤ r.val ∧ r.val < k + 1 := Rect.mem_set_unit.mp m 0
  omega

/-- One block at the end: what the reference packs. -/
theorem at_out (c : Dev nD) (arg0 : Memref sig .tc .vmem S1x1024 .f32) (harg0 : arg0.IsWhole) (arg1 : Memref sig .tc .vmem S1x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .f32) (harg9 : arg9.IsWhole) (r d : Fin 128) :
    out0_A_9 (F := Ideal) c arg0 harg0 arg1 harg1 arg2 harg2 arg3 harg3 arg4 harg4 arg5 harg5 arg6 harg6 arg7 harg7 arg8 harg8 arg9 harg9 x0 x1 x2 x3 x4 x5 x6 x7 x8 (ix2 r d)
      = val_main_v16 (F := Ideal) x0 x1 x2 x3 x4 x5 x6 x7 x8 (ix2 r d) := by
  unfold out0_A_9
  rw [View.read_writes_eq_canon _ _ _ (cover0_A_9 (F := Ideal) c arg0 harg0 arg1 harg1 arg2 harg2 arg3 harg3 arg4 harg4 arg5 harg5 arg6 harg6 arg7 harg7 arg8 harg8 arg9 harg9 x0 x1 x2 x3 x4 x5 x6 x7 x8)]
  let G : S128x128.Idx → EReal := val_main_v16 (F := Ideal) x0 x1 x2 x3 x4 x5 x6 x7 x8
  refine canon_over (e := .f32) G (ix2 r d) _ (List.cons_ne_nil _ _) ?_ ?_
  · unfold kernelRun0_A
    dsimp only
    sl_unfold_words
    simp only [List.dropLast_cons₂, List.dropLast_singleton, List.forall_mem_cons, View.readAt_eq_ld, harg0.read_unread, harg1.read_unread, harg2.read_unread, harg3.read_unread, harg4.read_unread, harg5.read_unread, harg6.read_unread, harg7.read_unread, harg8.read_unread]
    have p0 := @row_piece x0 G 0 (by decide) (rows_0 x0 x1 x2 x3 x4 x5 x6 x7 x8)
    have p1 := @row_piece x1 G 8 (by decide) (rows_1 x0 x1 x2 x3 x4 x5 x6 x7 x8)
    have p2 := @row_piece x2 G 16 (by decide) (rows_2 x0 x1 x2 x3 x4 x5 x6 x7 x8)
    have p3 := @row_piece x3 G 24 (by decide) (rows_3 x0 x1 x2 x3 x4 x5 x6 x7 x8)
    have p4 := @row_piece x4 G 32 (by decide) (rows_4 x0 x1 x2 x3 x4 x5 x6 x7 x8)
    have p5 := @row_piece x5 G 40 (by decide) (rows_5 x0 x1 x2 x3 x4 x5 x6 x7 x8)
    have p6 := @short_piece x6 G 48 (by decide) (rows_6 x0 x1 x2 x3 x4 x5 x6 x7 x8)
    have p7 := @short_piece x7 G 56 (by decide) (rows_7 x0 x1 x2 x3 x4 x5 x6 x7 x8)
    have p8 := @short_piece x8 G 64 (by decide) (rows_8 x0 x1 x2 x3 x4 x5 x6 x7 x8)
    repeat' refine And.intro ?_ ?_
    all_goals first
      | with_reducible exact p6 _ _
      | with_reducible exact p7 _ _
      | with_reducible exact p8 _ _
      | (with_reducible refine p0 ?_ ?_ ?_ _ _) <;> omega
      | (with_reducible refine p1 ?_ ?_ ?_ _ _) <;> omega
      | (with_reducible refine p2 ?_ ?_ ?_ _ _) <;> omega
      | (with_reducible refine p3 ?_ ?_ ?_ _ _) <;> omega
      | (with_reducible refine p4 ?_ ?_ ?_ _ _) <;> omega
      | (with_reducible refine p5 ?_ ?_ ?_ _ _) <;> omega
      | exact fun p hp => absurd hp List.not_mem_nil
  · unfold kernelRun0_A
    dsimp only
    sl_unfold_words
    simp only [List.dropLast_cons₂, List.dropLast_singleton, List.forall_mem_cons, List.getLast_cons_cons, List.getLast_singleton, not_in_row]
    intro n
    rw [View.canon_unit_zero (S := S128x128) hz]
    refine Eq.trans ?_ (rows_zero x0 x1 x2 x3 x4 x5 x6 x7 x8 r d (by omega) (by omega)).symm
    pointwise [k0_pay1]

end Pack

end
-- ==== Proof.Pack.Claim.lean ====
/- Packing the small vectors: the reference's frame, and the array the call leaves equal to the reference's. Nothing here asks the entries to be
   finite. -/
module

public import proofs.«01_k».proof.Defs
public import proofs.«01_k».proof.Proof.Pack.Cases
public import proofs.«01_k».proof.Proof.Dw.Block
public import proofs.«01_k».proof.Proof.Gen.Kernel15Ideal.Value
public import proofs.«01_k».proof.Proof.Gen.Reference15Ideal.Run
public import Idealize.ShloMosaic.Lib.Pipeline.ValueKit

@[expose] public section

noncomputable section

namespace Pack

open Idealize.ShloMosaic Idealize.SL.Sem

section Reference

open Cert.Reference15Ideal Cert.Reference15Ideal.Gen

theorem ref_frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h c).2, funext fun g => nomatch g.2⟩) (Cert.Reference15Ideal.Value.run m ρ)

end Reference

section Array

open Reals Dw
open Idealize.ShloMosaic.Pointwise Idealize.ShloMosaic.Tactic Cert.Kernel15Ideal Cert.Kernel15Ideal.Gen
open Cert.Reference15Ideal.Read (val_main_v16)

variable (m : ∀ ℓ : Loc nD τ sig, Buf (Elt Ideal) ℓ) (c : Dev nD) (t : Fin cfg0.N)

/-- The call's arguments: the six long vectors and the three short ones. -/
abbrev a0 : S1x1024.Idx → EReal := m ((c.tc : Thread nD τ).loc main_arg0)
abbrev a1 : S1x1024.Idx → EReal := m ((c.tc : Thread nD τ).loc main_arg1)
abbrev a2 : S1x1024.Idx → EReal := m ((c.tc : Thread nD τ).loc main_arg2)
abbrev a3 : S1x1024.Idx → EReal := m ((c.tc : Thread nD τ).loc main_arg3)
abbrev a4 : S1x1024.Idx → EReal := m ((c.tc : Thread nD τ).loc main_arg4)
abbrev a5 : S1x1024.Idx → EReal := m ((c.tc : Thread nD τ).loc main_arg5)
abbrev a6 : S1x128.Idx → EReal := m ((c.tc : Thread nD τ).loc main_arg6)
abbrev a7 : S1x128.Idx → EReal := m ((c.tc : Thread nD τ).loc main_arg7)
abbrev a8 : S1x128.Idx → EReal := m ((c.tc : Thread nD τ).loc main_arg8)

theorem at_origin {i n k : ℕ} (h : i = 0) : i * n + k = k := by rw [h, Nat.zero_mul, Nat.zero_add]

/-- Each window shows the kernel a whole vector. -/
theorem iblk_0 : (iblk m c 0 t : Vec Ideal S1x1024 .f32) = a0 m c := by
  funext y
  blk_simp [iblk]
  exact (at_ix2 _ _ (y 0) (y 1) (by blk_simp; rfl) (by blk_simp; exact at_origin rfl)).trans (congrArg _ (eq_ix2 y).symm)

theorem iblk_1 : (iblk m c 1 t : Vec Ideal S1x1024 .f32) = a1 m c := by
  funext y
  blk_simp [iblk]
  exact (at_ix2 _ _ (y 0) (y 1) (by blk_simp; rfl) (by blk_simp; exact at_origin rfl)).trans (congrArg _ (eq_ix2 y).symm)

theorem iblk_2 : (iblk m c 2 t : Vec Ideal S1x1024 .f32) = a2 m c := by
  funext y
  blk_simp [iblk]
  exact (at_ix2 _ _ (y 0) (y 1) (by blk_simp; rfl) (by blk_simp; exact at_origin rfl)).trans (congrArg _ (eq_ix2 y).symm)

theorem iblk_3 : (iblk m c 3 t : Vec Ideal S1x1024 .f32) = a3 m c := by
  funext y
  blk_simp [iblk]
  exact (at_ix2 _ _ (y 0) (y 1) (by blk_simp; rfl) (by blk_simp; exact at_origin rfl)).trans (congrArg _ (eq_ix2 y).symm)

theorem iblk_4 : (iblk m c 4 t : Vec Ideal S1x1024 .f32) = a4 m c := by
  funext y
  blk_simp [iblk]
  exact (at_ix2 _ _ (y 0) (y 1) (by blk_simp; rfl) (by blk_simp; exact at_origin rfl)).trans (congrArg _ (eq_ix2 y).symm)

theorem iblk_5 : (iblk m c 5 t : Vec Ideal S1x1024 .f32) = a5 m c := by
  funext y
  blk_simp [iblk]
  exact (at_ix2 _ _ (y 0) (y 1) (by blk_simp; rfl) (by blk_simp; exact at_origin rfl)).trans (congrArg _ (eq_ix2 y).symm)

theorem iblk_6 : (iblk m c 6 t : Vec Ideal S1x128 .f32) = a6 m c := by
  funext y
  blk_simp [iblk]
  exact (at_ix2 _ _ (y 0) (y 1) (by blk_simp; rfl) (by blk_simp; exact at_origin rfl)).trans (congrArg _ (eq_ix2 y).symm)

theorem iblk_7 : (iblk m c 7 t : Vec Ideal S1x128 .f32) = a7 m c := by
  funext y
  blk_simp [iblk]
  exact (at_ix2 _ _ (y 0) (y 1) (by blk_simp; rfl) (by blk_simp; exact at_origin rfl)).trans (congrArg _ (eq_ix2 y).symm)

theorem iblk_8 : (iblk m c 8 t : Vec Ideal S1x128 .f32) = a8 m c := by
  funext y
  blk_simp [iblk]
  exact (at_ix2 _ _ (y 0) (y 1) (by blk_simp; rfl) (by blk_simp; exact at_origin rfl)).trans (congrArg _ (eq_ix2 y).symm)

/-- What the call leaves. -/
theorem final_o : ((dats m 0 c).arrAt 9 cfg0.N : S128x128.Idx → EReal)
    = val_main_v16 (F := Ideal) (a0 m c) (a1 m c) (a2 m c) (a3 m c) (a4 m c) (a5 m c) (a6 m c) (a7 m c) (a8 m c) := by
  refine (dats m 0 c).arrAt_eq_of_covers 9 _ (by decide +kernel) fun t hf y => ?_
  blk_simp
  obtain ⟨r, d, rfl⟩ : ∃ (r d : Fin 128), y = ix2 r d := ⟨y 0, y 1, eq_ix2 y⟩
  rw [after0_9]
  unfold outsAt0
  rw [iblk_0, iblk_1, iblk_2, iblk_3, iblk_4, iblk_5, iblk_6, iblk_7, iblk_8]
  refine (at_out (a0 m c) (a1 m c) (a2 m c) (a3 m c) (a4 m c) (a5 m c) (a6 m c) (a7 m c) (a8 m c) ..).trans ?_
  exact (at_ix2 _ _ r d (by blk_simp; exact at_origin rfl) (by blk_simp; exact at_origin rfl)).symm

end Array

/-- The one result, from any arguments. -/
theorem algebraic : Cert.algebraic_Kernel15Ideal_Reference15Ideal (hKernel15Ideal := Cert.Kernel15Ideal.Gen.facts)
    (hReference15Ideal := Cert.Reference15Ideal.Gen.facts) := by
  intro m g m' g' _ hagree
  refine ⟨fun c => Cert.Reference15Ideal.Read.val_main_v16 (F := Ideal) (a0 m c) (a1 m c) (a2 m c) (a3 m c) (a4 m c) (a5 m c) (a6 m c) (a7 m c) (a8 m c), ?_, ?_⟩
  · refine (θ_run _ _ _).mono (fun r h c => ?_) (Cert.Kernel15Ideal.Value.run_blocks m g)
    obtain ⟨r0, hargs⟩ := h c
    exact ⟨r0.trans (final_o m c), hargs⟩
  · refine (θ_run _ _ _).mono (fun r h c => ?_) (Cert.Reference15Ideal.Value.run m' g')
    obtain ⟨e0, e1, e2, e3, e4, e5, e6, e7, e8⟩ := hagree c
    obtain ⟨r0, hargs⟩ := h c
    refine ⟨?_, hargs⟩
    refine r0.trans ((Cert.Reference15Ideal.Read.val_main_v16_eq _ _ _ _ _ _ _ _ _).trans ?_)
    rw [e0, e1, e2, e3, e4, e5, e6, e7, e8]

end Pack

end
-- ==== Proof.lean ====
module

public import proofs.«01_k».proof.Defs
public import proofs.«01_k».proof.Proof.Gen.Kernel.Frame
public import proofs.«01_k».proof.Proof.Gen.Pre_finite
public import proofs.«01_k».proof.Proof.Attn.Claim
public import proofs.«01_k».proof.Proof.Gen.Kernel2.Frame
public import proofs.«01_k».proof.Proof.Mlp.Claim
public import proofs.«01_k».proof.Proof.Qkv.Claim
public import proofs.«01_k».proof.Proof.RgIn.Claim
public import proofs.«01_k».proof.Proof.Head.Claim
public import proofs.«01_k».proof.Proof.Prep.Claim
public import proofs.«01_k».proof.Proof.Dw.Claim
public import proofs.«01_k».proof.Proof.RgProj.Claim
public import proofs.«01_k».proof.Proof.MlpFwd.Claim
public import proofs.«01_k».proof.Proof.QkvFwd.Claim
public import proofs.«01_k».proof.Proof.RgDw.Claim
public import proofs.«01_k».proof.Proof.Parts.Claim
public import proofs.«01_k».proof.Proof.Adam.Claim
public import proofs.«01_k».proof.Proof.AdamLayer.Claim
public import proofs.«01_k».proof.Proof.Pack.Claim
public import proofs.«01_k».proof.Proof.Gen.Kernel2Ideal.Value
public import proofs.«01_k».proof.Proof.Gen.Reference2Ideal.Read
public import proofs.«01_k».proof.Proof.Gen.Reference2Ideal.Run
public import proofs.«01_k».proof.Proof.Gen.Pre_finite2
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Pre_finite3
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.Gen.Pre_finite4
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Reference5Ideal.Run
public import proofs.«01_k».proof.Proof.Gen.Pre_finite5
public import proofs.«01_k».proof.Proof.Gen.Kernel6.Frame
public import proofs.«01_k».proof.Proof.Gen.Kernel6Ideal.Value
public import proofs.«01_k».proof.Proof.Gen.Reference6Ideal.Read
public import proofs.«01_k».proof.Proof.Gen.Reference6Ideal.Run
public import proofs.«01_k».proof.Proof.Gen.Pre_finite6
public import proofs.«01_k».proof.Proof.Gen.Kernel7.Frame
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Read
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Read
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Read
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Read
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Read
public import proofs.«01_k».proof.Proof.Gen.Reference12Ideal.Run
public import proofs.«01_k».proof.Proof.Gen.Kernel13.Frame
public import proofs.«01_k».proof.Proof.Gen.Kernel14.Frame
public import proofs.«01_k».proof.Proof.Gen.Kernel15.Frame
public import proofs.«01_k».proof.Proof.Gen.Kernel13Ideal.Value
public import proofs.«01_k».proof.Proof.Gen.Kernel14Ideal.Value
public import proofs.«01_k».proof.Proof.Gen.Kernel15Ideal.Value
public import proofs.«01_k».proof.Proof.Gen.Reference13Ideal.Read
public import proofs.«01_k».proof.Proof.Gen.Reference14Ideal.Read
public import proofs.«01_k».proof.Proof.Gen.Reference15Ideal.Read
public import proofs.«01_k».proof.Proof.Gen.Reference13Ideal.Run
public import proofs.«01_k».proof.Proof.Gen.Reference14Ideal.Run
public import proofs.«01_k».proof.Proof.Gen.Reference15Ideal.Run

@[expose] public section

noncomputable section

namespace Cert.Proof

open Idealize.ShloMosaic

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts,
    Cert.Reference6Ideal.Gen.facts, Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Gen.facts, Cert.Pre_finite2.Gen.facts,
    Cert.Pre_finite3.Gen.facts, Cert.Pre_finite4.Gen.facts, Cert.Pre_finite5.Gen.facts, Cert.Pre_finite6.Gen.facts,
    fun m ρ _ => Cert.Kernel.Gen.frame m ρ,
    fun m ρ _ => Cert.KernelIdeal.Gen.frame m ρ,
    fun m ρ _ => Cert.KernelIdeal.Gen.frame m ρ,
    fun m ρ _ => Attn.ref_frame m ρ,
    fun m ρ _ => Attn.ref_frame m ρ,
    fun m ρ _ => Cert.Kernel2.Gen.frame m ρ,
    fun m ρ _ => Cert.Kernel2Ideal.Gen.frame m ρ,
    fun m ρ _ => Cert.Kernel2Ideal.Gen.frame m ρ,
    fun m ρ _ => Mlp.ref_frame m ρ,
    fun m ρ _ => Mlp.ref_frame m ρ,
    fun m ρ _ => Cert.Kernel3.Gen.frame m ρ,
    fun m ρ _ => Cert.Kernel3Ideal.Gen.frame m ρ,
    fun m ρ _ => Cert.Kernel3Ideal.Gen.frame m ρ,
    fun m ρ _ => Qkv.ref_frame m ρ,
    fun m ρ _ => Qkv.ref_frame m ρ,
    fun m ρ _ => Cert.Kernel4.Gen.frame m ρ,
    fun m ρ _ => Cert.Kernel4Ideal.Gen.frame m ρ,
    fun m ρ _ => Cert.Kernel4Ideal.Gen.frame m ρ,
    fun m ρ _ => RgIn.ref_frame m ρ,
    fun m ρ _ => RgIn.ref_frame m ρ,
    fun m ρ _ => Cert.Kernel5.Gen.frame m ρ,
    fun m ρ _ => Cert.Kernel5Ideal.Gen.frame m ρ,
    fun m ρ _ => Cert.Kernel5Ideal.Gen.frame m ρ,
    fun m ρ _ => Head.ref_frame m ρ,
    fun m ρ _ => Head.ref_frame m ρ,
    fun m ρ _ => Cert.Kernel6.Gen.frame m ρ,
    fun m ρ _ => Cert.Kernel6Ideal.Gen.frame m ρ,
    fun m ρ _ => Cert.Kernel6Ideal.Gen.frame m ρ,
    fun m ρ _ => Prep.ref_frame m ρ,
    fun m ρ _ => Prep.ref_frame m ρ,
    fun m ρ _ => Cert.Kernel7.Gen.frame m ρ,
    fun m ρ _ => Cert.Kernel7Ideal.Gen.frame m ρ,
    fun m ρ _ => Dw.ref_frame m ρ,
    fun m ρ _ => Cert.Kernel8.Gen.frame m ρ,
    fun m ρ _ => Cert.Kernel8Ideal.Gen.frame m ρ,
    fun m ρ _ => RgProj.ref_frame m ρ,
    fun m ρ _ => Cert.Kernel9.Gen.frame m ρ,
    fun m ρ _ => Cert.Kernel9Ideal.Gen.frame m ρ,
    fun m ρ _ => MlpFwd.ref_frame m ρ,
    fun m ρ _ => Cert.Kernel10.Gen.frame m ρ,
    fun m ρ _ => Cert.Kernel10Ideal.Gen.frame m ρ,
    fun m ρ _ => QkvFwd.ref_frame m ρ,
    fun m ρ _ => Cert.Kernel11.Gen.frame m ρ,
    fun m ρ _ => Cert.Kernel11Ideal.Gen.frame m ρ,
    fun m ρ _ => RgDw.ref_frame m ρ,
    fun m ρ _ => Cert.Kernel12.Gen.frame m ρ,
    fun m ρ _ => Cert.Kernel12Ideal.Gen.frame m ρ,
    fun m ρ _ => Parts.ref_frame m ρ,
    fun m ρ _ => Cert.Kernel13.Gen.frame m ρ,
    fun m ρ _ => Cert.Kernel13Ideal.Gen.frame m ρ,
    fun m ρ _ => Adam.ref_frame m ρ,
    fun m ρ _ => Cert.Kernel14.Gen.frame m ρ,
    fun m ρ _ => Cert.Kernel14Ideal.Gen.frame m ρ,
    fun m ρ _ => AdamLayer.ref_frame m ρ,
    fun m ρ _ => Cert.Kernel15.Gen.frame m ρ,
    fun m ρ _ => Cert.Kernel15Ideal.Gen.frame m ρ,
    fun m ρ _ => Pack.ref_frame m ρ,
    IdealRules.named_const.statement Cert.KernelIdeal.κ "scale2" .f32 0x3E0293EE#32 (((Real.log 2)⁻¹ * (11863283 / 134217728) : ℝ) : EReal) rfl,
    Attn.algebraic,
    trivial,
    Mlp.algebraic,
    trivial,
    Qkv.algebraic,
    trivial,
    RgIn.algebraic,
    trivial,
    Head.algebraic,
    trivial,
    Prep.algebraic,
    trivial,
    Dw.algebraic,
    trivial,
    RgProj.algebraic,
    trivial,
    MlpFwd.algebraic,
    trivial,
    QkvFwd.algebraic,
    trivial,
    RgDw.algebraic,
    trivial,
    Parts.algebraic,
    trivial, Adam.algebraic,
    trivial, AdamLayer.algebraic,
    trivial, Pack.algebraic⟩

end Cert.Proof

end
